-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_KernelSampleIdeal_finite_scores [hPre_finite_scores : Cert.Pre_finite_scores.Facts] (m : (ℓ : Loc Cert.KernelSampleIdeal.nD Cert.KernelSampleIdeal.τ Cert.KernelSampleIdeal.sig) → Buf (Elt Ideal) ℓ) : Prop :=
  ∀ c : Dev Cert.KernelSampleIdeal.nD,
    (Cert.Pre_finite_scores.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4)) (m ((c.tc : Thread Cert.KernelSampleIdeal.nD Cert.KernelSampleIdeal.τ).loc Cert.KernelSampleIdeal.main_arg5)) (m ((c.tc : Thread Cert.KernelSampleIdeal.nD Cert.KernelSampleIdeal.τ).loc Cert.KernelSampleIdeal.main_arg6)) (m ((c.tc : Thread Cert.KernelSampleIdeal.nD Cert.KernelSampleIdeal.τ).loc Cert.KernelSampleIdeal.main_arg7)) (m ((c.tc : Thread Cert.KernelSampleIdeal.nD Cert.KernelSampleIdeal.τ).loc Cert.KernelSampleIdeal.main_arg8)) (m ((c.tc : Thread Cert.KernelSampleIdeal.nD Cert.KernelSampleIdeal.τ).loc Cert.KernelSampleIdeal.main_arg9)) (m ((c.tc : Thread Cert.KernelSampleIdeal.nD Cert.KernelSampleIdeal.τ).loc Cert.KernelSampleIdeal.main_arg10))).1 = (fun _ => 1#1)
    ∧ (Cert.Pre_finite_scores.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4)) (m ((c.tc : Thread Cert.KernelSampleIdeal.nD Cert.KernelSampleIdeal.τ).loc Cert.KernelSampleIdeal.main_arg5)) (m ((c.tc : Thread Cert.KernelSampleIdeal.nD Cert.KernelSampleIdeal.τ).loc Cert.KernelSampleIdeal.main_arg6)) (m ((c.tc : Thread Cert.KernelSampleIdeal.nD Cert.KernelSampleIdeal.τ).loc Cert.KernelSampleIdeal.main_arg7)) (m ((c.tc : Thread Cert.KernelSampleIdeal.nD Cert.KernelSampleIdeal.τ).loc Cert.KernelSampleIdeal.main_arg8)) (m ((c.tc : Thread Cert.KernelSampleIdeal.nD Cert.KernelSampleIdeal.τ).loc Cert.KernelSampleIdeal.main_arg9)) (m ((c.tc : Thread Cert.KernelSampleIdeal.nD Cert.KernelSampleIdeal.τ).loc Cert.KernelSampleIdeal.main_arg10))).2.1 = (fun _ => 1#1)
    ∧ (Cert.Pre_finite_scores.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4)) (m ((c.tc : Thread Cert.KernelSampleIdeal.nD Cert.KernelSampleIdeal.τ).loc Cert.KernelSampleIdeal.main_arg5)) (m ((c.tc : Thread Cert.KernelSampleIdeal.nD Cert.KernelSampleIdeal.τ).loc Cert.KernelSampleIdeal.main_arg6)) (m ((c.tc : Thread Cert.KernelSampleIdeal.nD Cert.KernelSampleIdeal.τ).loc Cert.KernelSampleIdeal.main_arg7)) (m ((c.tc : Thread Cert.KernelSampleIdeal.nD Cert.KernelSampleIdeal.τ).loc Cert.KernelSampleIdeal.main_arg8)) (m ((c.tc : Thread Cert.KernelSampleIdeal.nD Cert.KernelSampleIdeal.τ).loc Cert.KernelSampleIdeal.main_arg9)) (m ((c.tc : Thread Cert.KernelSampleIdeal.nD Cert.KernelSampleIdeal.τ).loc Cert.KernelSampleIdeal.main_arg10))).2.2 = (fun _ => 1#1)

def Pre_ReferenceSampleIdeal (m : (ℓ : Loc Cert.ReferenceSampleIdeal.nD Cert.ReferenceSampleIdeal.τ Cert.ReferenceSampleIdeal.sig) → Buf (Elt Ideal) ℓ) : Prop :=
  True

def Pre_ReferenceSampleIdeal_finite_scores [hPre_finite_scores : Cert.Pre_finite_scores.Facts] (m : (ℓ : Loc Cert.ReferenceSampleIdeal.nD Cert.ReferenceSampleIdeal.τ Cert.ReferenceSampleIdeal.sig) → Buf (Elt Ideal) ℓ) : Prop :=
  ∀ c : Dev Cert.ReferenceSampleIdeal.nD,
    (Cert.Pre_finite_scores.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4)) (m ((c.tc : Thread Cert.ReferenceSampleIdeal.nD Cert.ReferenceSampleIdeal.τ).loc Cert.ReferenceSampleIdeal.main_arg5)) (m ((c.tc : Thread Cert.ReferenceSampleIdeal.nD Cert.ReferenceSampleIdeal.τ).loc Cert.ReferenceSampleIdeal.main_arg6)) (m ((c.tc : Thread Cert.ReferenceSampleIdeal.nD Cert.ReferenceSampleIdeal.τ).loc Cert.ReferenceSampleIdeal.main_arg7)) (m ((c.tc : Thread Cert.ReferenceSampleIdeal.nD Cert.ReferenceSampleIdeal.τ).loc Cert.ReferenceSampleIdeal.main_arg8)) (m ((c.tc : Thread Cert.ReferenceSampleIdeal.nD Cert.ReferenceSampleIdeal.τ).loc Cert.ReferenceSampleIdeal.main_arg9)) (m ((c.tc : Thread Cert.ReferenceSampleIdeal.nD Cert.ReferenceSampleIdeal.τ).loc Cert.ReferenceSampleIdeal.main_arg10))).1 = (fun _ => 1#1)
    ∧ (Cert.Pre_finite_scores.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4)) (m ((c.tc : Thread Cert.ReferenceSampleIdeal.nD Cert.ReferenceSampleIdeal.τ).loc Cert.ReferenceSampleIdeal.main_arg5)) (m ((c.tc : Thread Cert.ReferenceSampleIdeal.nD Cert.ReferenceSampleIdeal.τ).loc Cert.ReferenceSampleIdeal.main_arg6)) (m ((c.tc : Thread Cert.ReferenceSampleIdeal.nD Cert.ReferenceSampleIdeal.τ).loc Cert.ReferenceSampleIdeal.main_arg7)) (m ((c.tc : Thread Cert.ReferenceSampleIdeal.nD Cert.ReferenceSampleIdeal.τ).loc Cert.ReferenceSampleIdeal.main_arg8)) (m ((c.tc : Thread Cert.ReferenceSampleIdeal.nD Cert.ReferenceSampleIdeal.τ).loc Cert.ReferenceSampleIdeal.main_arg9)) (m ((c.tc : Thread Cert.ReferenceSampleIdeal.nD Cert.ReferenceSampleIdeal.τ).loc Cert.ReferenceSampleIdeal.main_arg10))).2.1 = (fun _ => 1#1)
    ∧ (Cert.Pre_finite_scores.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4)) (m ((c.tc : Thread Cert.ReferenceSampleIdeal.nD Cert.ReferenceSampleIdeal.τ).loc Cert.ReferenceSampleIdeal.main_arg5)) (m ((c.tc : Thread Cert.ReferenceSampleIdeal.nD Cert.ReferenceSampleIdeal.τ).loc Cert.ReferenceSampleIdeal.main_arg6)) (m ((c.tc : Thread Cert.ReferenceSampleIdeal.nD Cert.ReferenceSampleIdeal.τ).loc Cert.ReferenceSampleIdeal.main_arg7)) (m ((c.tc : Thread Cert.ReferenceSampleIdeal.nD Cert.ReferenceSampleIdeal.τ).loc Cert.ReferenceSampleIdeal.main_arg8)) (m ((c.tc : Thread Cert.ReferenceSampleIdeal.nD Cert.ReferenceSampleIdeal.τ).loc Cert.ReferenceSampleIdeal.main_arg9)) (m ((c.tc : Thread Cert.ReferenceSampleIdeal.nD Cert.ReferenceSampleIdeal.τ).loc Cert.ReferenceSampleIdeal.main_arg10))).2.2 = (fun _ => 1#1)

def Pre_KernelStepIn (m : (ℓ : Loc Cert.KernelStepIn.nD Cert.KernelStepIn.τ Cert.KernelStepIn.sig) → Buf (Elt Bits) ℓ) : Prop :=
  True

def Pre_KernelStepInIdeal (m : (ℓ : Loc Cert.KernelStepInIdeal.nD Cert.KernelStepInIdeal.τ Cert.KernelStepInIdeal.sig) → Buf (Elt Ideal) ℓ) : Prop :=
  True

def Pre_ReferenceStepInIdeal (m : (ℓ : Loc Cert.ReferenceStepInIdeal.nD Cert.ReferenceStepInIdeal.τ Cert.ReferenceStepInIdeal.sig) → Buf (Elt Ideal) ℓ) : Prop :=
  True

def Pre_KernelStepOut (m : (ℓ : Loc Cert.KernelStepOut.nD Cert.KernelStepOut.τ Cert.KernelStepOut.sig) → Buf (Elt Bits) ℓ) : Prop :=
  True

def Pre_KernelStepOutIdeal (m : (ℓ : Loc Cert.KernelStepOutIdeal.nD Cert.KernelStepOutIdeal.τ Cert.KernelStepOutIdeal.sig) → Buf (Elt Ideal) ℓ) : Prop :=
  True

def Pre_ReferenceStepOutIdeal (m : (ℓ : Loc Cert.ReferenceStepOutIdeal.nD Cert.ReferenceStepOutIdeal.τ Cert.ReferenceStepOutIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1)
      ∧ r.2.mem ((c.tc : Thread Cert.KernelSample.nD Cert.KernelSample.τ).loc Cert.KernelSample.main_arg2) = m ((c.tc : Thread Cert.KernelSample.nD Cert.KernelSample.τ).loc Cert.KernelSample.main_arg2)
      ∧ r.2.mem ((c.tc : Thread Cert.KernelSample.nD Cert.KernelSample.τ).loc Cert.KernelSample.main_arg3) = m ((c.tc : Thread Cert.KernelSample.nD Cert.KernelSample.τ).loc Cert.KernelSample.main_arg3)
      ∧ r.2.mem ((c.tc : Thread Cert.KernelSample.nD Cert.KernelSample.τ).loc Cert.KernelSample.main_arg4) = m ((c.tc : Thread Cert.KernelSample.nD Cert.KernelSample.τ).loc Cert.KernelSample.main_arg4)
      ∧ r.2.mem ((c.tc : Thread Cert.KernelSample.nD Cert.KernelSample.τ).loc Cert.KernelSample.main_arg5) = m ((c.tc : Thread Cert.KernelSample.nD Cert.KernelSample.τ).loc Cert.KernelSample.main_arg5)
      ∧ r.2.mem ((c.tc : Thread Cert.KernelSample.nD Cert.KernelSample.τ).loc Cert.KernelSample.main_arg6) = m ((c.tc : Thread Cert.KernelSample.nD Cert.KernelSample.τ).loc Cert.KernelSample.main_arg6)
      ∧ r.2.mem ((c.tc : Thread Cert.KernelSample.nD Cert.KernelSample.τ).loc Cert.KernelSample.main_arg7) = m ((c.tc : Thread Cert.KernelSample.nD Cert.KernelSample.τ).loc Cert.KernelSample.main_arg7)
      ∧ r.2.mem ((c.tc : Thread Cert.KernelSample.nD Cert.KernelSample.τ).loc Cert.KernelSample.main_arg8) = m ((c.tc : Thread Cert.KernelSample.nD Cert.KernelSample.τ).loc Cert.KernelSample.main_arg8)
      ∧ r.2.mem ((c.tc : Thread Cert.KernelSample.nD Cert.KernelSample.τ).loc Cert.KernelSample.main_arg9) = m ((c.tc : Thread Cert.KernelSample.nD Cert.KernelSample.τ).loc Cert.KernelSample.main_arg9)
      ∧ r.2.mem ((c.tc : Thread Cert.KernelSample.nD Cert.KernelSample.τ).loc Cert.KernelSample.main_arg10) = m ((c.tc : Thread Cert.KernelSample.nD Cert.KernelSample.τ).loc Cert.KernelSample.main_arg10))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4)
      ∧ r.2.mem ((c.tc : Thread Cert.KernelSampleIdeal.nD Cert.KernelSampleIdeal.τ).loc Cert.KernelSampleIdeal.main_arg5) = m ((c.tc : Thread Cert.KernelSampleIdeal.nD Cert.KernelSampleIdeal.τ).loc Cert.KernelSampleIdeal.main_arg5)
      ∧ r.2.mem ((c.tc : Thread Cert.KernelSampleIdeal.nD Cert.KernelSampleIdeal.τ).loc Cert.KernelSampleIdeal.main_arg6) = m ((c.tc : Thread Cert.KernelSampleIdeal.nD Cert.KernelSampleIdeal.τ).loc Cert.KernelSampleIdeal.main_arg6)
      ∧ r.2.mem ((c.tc : Thread Cert.KernelSampleIdeal.nD Cert.KernelSampleIdeal.τ).loc Cert.KernelSampleIdeal.main_arg7) = m ((c.tc : Thread Cert.KernelSampleIdeal.nD Cert.KernelSampleIdeal.τ).loc Cert.KernelSampleIdeal.main_arg7)
      ∧ r.2.mem ((c.tc : Thread Cert.KernelSampleIdeal.nD Cert.KernelSampleIdeal.τ).loc Cert.KernelSampleIdeal.main_arg8) = m ((c.tc : Thread Cert.KernelSampleIdeal.nD Cert.KernelSampleIdeal.τ).loc Cert.KernelSampleIdeal.main_arg8)
      ∧ r.2.mem ((c.tc : Thread Cert.KernelSampleIdeal.nD Cert.KernelSampleIdeal.τ).loc Cert.KernelSampleIdeal.main_arg9) = m ((c.tc : Thread Cert.KernelSampleIdeal.nD Cert.KernelSampleIdeal.τ).loc Cert.KernelSampleIdeal.main_arg9)
      ∧ r.2.mem ((c.tc : Thread Cert.KernelSampleIdeal.nD Cert.KernelSampleIdeal.τ).loc Cert.KernelSampleIdeal.main_arg10) = m ((c.tc : Thread Cert.KernelSampleIdeal.nD Cert.KernelSampleIdeal.τ).loc Cert.KernelSampleIdeal.main_arg10))
      ∧ r.2.sem = fun _ => 0)

def quiescent_KernelSampleIdeal_pre_finite_scores [hKernelSampleIdeal : Cert.KernelSampleIdeal.Facts] [hPre_finite_scores : Cert.Pre_finite_scores.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal_finite_scores m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4)
      ∧ r.2.mem ((c.tc : Thread Cert.KernelSampleIdeal.nD Cert.KernelSampleIdeal.τ).loc Cert.KernelSampleIdeal.main_arg5) = m ((c.tc : Thread Cert.KernelSampleIdeal.nD Cert.KernelSampleIdeal.τ).loc Cert.KernelSampleIdeal.main_arg5)
      ∧ r.2.mem ((c.tc : Thread Cert.KernelSampleIdeal.nD Cert.KernelSampleIdeal.τ).loc Cert.KernelSampleIdeal.main_arg6) = m ((c.tc : Thread Cert.KernelSampleIdeal.nD Cert.KernelSampleIdeal.τ).loc Cert.KernelSampleIdeal.main_arg6)
      ∧ r.2.mem ((c.tc : Thread Cert.KernelSampleIdeal.nD Cert.KernelSampleIdeal.τ).loc Cert.KernelSampleIdeal.main_arg7) = m ((c.tc : Thread Cert.KernelSampleIdeal.nD Cert.KernelSampleIdeal.τ).loc Cert.KernelSampleIdeal.main_arg7)
      ∧ r.2.mem ((c.tc : Thread Cert.KernelSampleIdeal.nD Cert.KernelSampleIdeal.τ).loc Cert.KernelSampleIdeal.main_arg8) = m ((c.tc : Thread Cert.KernelSampleIdeal.nD Cert.KernelSampleIdeal.τ).loc Cert.KernelSampleIdeal.main_arg8)
      ∧ r.2.mem ((c.tc : Thread Cert.KernelSampleIdeal.nD Cert.KernelSampleIdeal.τ).loc Cert.KernelSampleIdeal.main_arg9) = m ((c.tc : Thread Cert.KernelSampleIdeal.nD Cert.KernelSampleIdeal.τ).loc Cert.KernelSampleIdeal.main_arg9)
      ∧ r.2.mem ((c.tc : Thread Cert.KernelSampleIdeal.nD Cert.KernelSampleIdeal.τ).loc Cert.KernelSampleIdeal.main_arg10) = m ((c.tc : Thread Cert.KernelSampleIdeal.nD Cert.KernelSampleIdeal.τ).loc Cert.KernelSampleIdeal.main_arg10))
      ∧ r.2.sem = fun _ => 0)

def quiescent_ReferenceSampleIdeal [hReferenceSampleIdeal : Cert.ReferenceSampleIdeal.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4)
      ∧ r.2.mem ((c.tc : Thread Cert.ReferenceSampleIdeal.nD Cert.ReferenceSampleIdeal.τ).loc Cert.ReferenceSampleIdeal.main_arg5) = m ((c.tc : Thread Cert.ReferenceSampleIdeal.nD Cert.ReferenceSampleIdeal.τ).loc Cert.ReferenceSampleIdeal.main_arg5)
      ∧ r.2.mem ((c.tc : Thread Cert.ReferenceSampleIdeal.nD Cert.ReferenceSampleIdeal.τ).loc Cert.ReferenceSampleIdeal.main_arg6) = m ((c.tc : Thread Cert.ReferenceSampleIdeal.nD Cert.ReferenceSampleIdeal.τ).loc Cert.ReferenceSampleIdeal.main_arg6)
      ∧ r.2.mem ((c.tc : Thread Cert.ReferenceSampleIdeal.nD Cert.ReferenceSampleIdeal.τ).loc Cert.ReferenceSampleIdeal.main_arg7) = m ((c.tc : Thread Cert.ReferenceSampleIdeal.nD Cert.ReferenceSampleIdeal.τ).loc Cert.ReferenceSampleIdeal.main_arg7)
      ∧ r.2.mem ((c.tc : Thread Cert.ReferenceSampleIdeal.nD Cert.ReferenceSampleIdeal.τ).loc Cert.ReferenceSampleIdeal.main_arg8) = m ((c.tc : Thread Cert.ReferenceSampleIdeal.nD Cert.ReferenceSampleIdeal.τ).loc Cert.ReferenceSampleIdeal.main_arg8)
      ∧ r.2.mem ((c.tc : Thread Cert.ReferenceSampleIdeal.nD Cert.ReferenceSampleIdeal.τ).loc Cert.ReferenceSampleIdeal.main_arg9) = m ((c.tc : Thread Cert.ReferenceSampleIdeal.nD Cert.ReferenceSampleIdeal.τ).loc Cert.ReferenceSampleIdeal.main_arg9)
      ∧ r.2.mem ((c.tc : Thread Cert.ReferenceSampleIdeal.nD Cert.ReferenceSampleIdeal.τ).loc Cert.ReferenceSampleIdeal.main_arg10) = m ((c.tc : Thread Cert.ReferenceSampleIdeal.nD Cert.ReferenceSampleIdeal.τ).loc Cert.ReferenceSampleIdeal.main_arg10))
      ∧ r.2.sem = fun _ => 0)

def quiescent_ReferenceSampleIdeal_pre_finite_scores [hReferenceSampleIdeal : Cert.ReferenceSampleIdeal.Facts] [hPre_finite_scores : Cert.Pre_finite_scores.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal_finite_scores m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4)
      ∧ r.2.mem ((c.tc : Thread Cert.ReferenceSampleIdeal.nD Cert.ReferenceSampleIdeal.τ).loc Cert.ReferenceSampleIdeal.main_arg5) = m ((c.tc : Thread Cert.ReferenceSampleIdeal.nD Cert.ReferenceSampleIdeal.τ).loc Cert.ReferenceSampleIdeal.main_arg5)
      ∧ r.2.mem ((c.tc : Thread Cert.ReferenceSampleIdeal.nD Cert.ReferenceSampleIdeal.τ).loc Cert.ReferenceSampleIdeal.main_arg6) = m ((c.tc : Thread Cert.ReferenceSampleIdeal.nD Cert.ReferenceSampleIdeal.τ).loc Cert.ReferenceSampleIdeal.main_arg6)
      ∧ r.2.mem ((c.tc : Thread Cert.ReferenceSampleIdeal.nD Cert.ReferenceSampleIdeal.τ).loc Cert.ReferenceSampleIdeal.main_arg7) = m ((c.tc : Thread Cert.ReferenceSampleIdeal.nD Cert.ReferenceSampleIdeal.τ).loc Cert.ReferenceSampleIdeal.main_arg7)
      ∧ r.2.mem ((c.tc : Thread Cert.ReferenceSampleIdeal.nD Cert.ReferenceSampleIdeal.τ).loc Cert.ReferenceSampleIdeal.main_arg8) = m ((c.tc : Thread Cert.ReferenceSampleIdeal.nD Cert.ReferenceSampleIdeal.τ).loc Cert.ReferenceSampleIdeal.main_arg8)
      ∧ r.2.mem ((c.tc : Thread Cert.ReferenceSampleIdeal.nD Cert.ReferenceSampleIdeal.τ).loc Cert.ReferenceSampleIdeal.main_arg9) = m ((c.tc : Thread Cert.ReferenceSampleIdeal.nD Cert.ReferenceSampleIdeal.τ).loc Cert.ReferenceSampleIdeal.main_arg9)
      ∧ r.2.mem ((c.tc : Thread Cert.ReferenceSampleIdeal.nD Cert.ReferenceSampleIdeal.τ).loc Cert.ReferenceSampleIdeal.main_arg10) = m ((c.tc : Thread Cert.ReferenceSampleIdeal.nD Cert.ReferenceSampleIdeal.τ).loc Cert.ReferenceSampleIdeal.main_arg10))
      ∧ r.2.sem = fun _ => 0)

def quiescent_KernelStepIn [hKernelStepIn : Cert.KernelStepIn.Facts] : Prop :=
  ∀ (m : (ℓ : Loc Cert.KernelStepIn.nD Cert.KernelStepIn.τ Cert.KernelStepIn.sig) → Buf (Elt Bits) ℓ) (g : Dev Cert.KernelStepIn.nD → PrngReg), Pre_KernelStepIn m →
    θ_run (Cert.KernelStepIn.defs (F := Bits)) (onTc (τ := Cert.KernelStepIn.τ) (Cert.KernelStepIn.main (F := Bits))) ⟨m, fun _ => 0, g⟩ (fun r => (∀ c : Dev Cert.KernelStepIn.nD,
      r.2.mem ((c.tc : Thread Cert.KernelStepIn.nD Cert.KernelStepIn.τ).loc Cert.KernelStepIn.main_arg0) = m ((c.tc : Thread Cert.KernelStepIn.nD Cert.KernelStepIn.τ).loc Cert.KernelStepIn.main_arg0)
      ∧ r.2.mem ((c.tc : Thread Cert.KernelStepIn.nD Cert.KernelStepIn.τ).loc Cert.KernelStepIn.main_arg1) = m ((c.tc : Thread Cert.KernelStepIn.nD Cert.KernelStepIn.τ).loc Cert.KernelStepIn.main_arg1)
      ∧ r.2.mem ((c.tc : Thread Cert.KernelStepIn.nD Cert.KernelStepIn.τ).loc Cert.KernelStepIn.main_arg2) = m ((c.tc : Thread Cert.KernelStepIn.nD Cert.KernelStepIn.τ).loc Cert.KernelStepIn.main_arg2))
      ∧ r.2.sem = fun _ => 0)

def quiescent_KernelStepInIdeal [hKernelStepInIdeal : Cert.KernelStepInIdeal.Facts] : Prop :=
  ∀ (m : (ℓ : Loc Cert.KernelStepInIdeal.nD Cert.KernelStepInIdeal.τ Cert.KernelStepInIdeal.sig) → Buf (Elt Ideal) ℓ) (g : Dev Cert.KernelStepInIdeal.nD → PrngReg), Pre_KernelStepInIdeal m →
    θ_run (Cert.KernelStepInIdeal.defs (F := Ideal)) (onTc (τ := Cert.KernelStepInIdeal.τ) (Cert.KernelStepInIdeal.main (F := Ideal))) ⟨m, fun _ => 0, g⟩ (fun r => (∀ c : Dev Cert.KernelStepInIdeal.nD,
      r.2.mem ((c.tc : Thread Cert.KernelStepInIdeal.nD Cert.KernelStepInIdeal.τ).loc Cert.KernelStepInIdeal.main_arg0) = m ((c.tc : Thread Cert.KernelStepInIdeal.nD Cert.KernelStepInIdeal.τ).loc Cert.KernelStepInIdeal.main_arg0)
      ∧ r.2.mem ((c.tc : Thread Cert.KernelStepInIdeal.nD Cert.KernelStepInIdeal.τ).loc Cert.KernelStepInIdeal.main_arg1) = m ((c.tc : Thread Cert.KernelStepInIdeal.nD Cert.KernelStepInIdeal.τ).loc Cert.KernelStepInIdeal.main_arg1)
      ∧ r.2.mem ((c.tc : Thread Cert.KernelStepInIdeal.nD Cert.KernelStepInIdeal.τ).loc Cert.KernelStepInIdeal.main_arg2) = m ((c.tc : Thread Cert.KernelStepInIdeal.nD Cert.KernelStepInIdeal.τ).loc Cert.KernelStepInIdeal.main_arg2))
      ∧ r.2.sem = fun _ => 0)

def quiescent_ReferenceStepInIdeal [hReferenceStepInIdeal : Cert.ReferenceStepInIdeal.Facts] : Prop :=
  ∀ (m : (ℓ : Loc Cert.ReferenceStepInIdeal.nD Cert.ReferenceStepInIdeal.τ Cert.ReferenceStepInIdeal.sig) → Buf (Elt Ideal) ℓ) (g : Dev Cert.ReferenceStepInIdeal.nD → PrngReg), Pre_ReferenceStepInIdeal m →
    θ_run (Cert.ReferenceStepInIdeal.defs (F := Ideal)) (onTc (τ := Cert.ReferenceStepInIdeal.τ) (Cert.ReferenceStepInIdeal.main (F := Ideal))) ⟨m, fun _ => 0, g⟩ (fun r => (∀ c : Dev Cert.ReferenceStepInIdeal.nD,
      r.2.mem ((c.tc : Thread Cert.ReferenceStepInIdeal.nD Cert.ReferenceStepInIdeal.τ).loc Cert.ReferenceStepInIdeal.main_arg0) = m ((c.tc : Thread Cert.ReferenceStepInIdeal.nD Cert.ReferenceStepInIdeal.τ).loc Cert.ReferenceStepInIdeal.main_arg0)
      ∧ r.2.mem ((c.tc : Thread Cert.ReferenceStepInIdeal.nD Cert.ReferenceStepInIdeal.τ).loc Cert.ReferenceStepInIdeal.main_arg1) = m ((c.tc : Thread Cert.ReferenceStepInIdeal.nD Cert.ReferenceStepInIdeal.τ).loc Cert.ReferenceStepInIdeal.main_arg1)
      ∧ r.2.mem ((c.tc : Thread Cert.ReferenceStepInIdeal.nD Cert.ReferenceStepInIdeal.τ).loc Cert.ReferenceStepInIdeal.main_arg2) = m ((c.tc : Thread Cert.ReferenceStepInIdeal.nD Cert.ReferenceStepInIdeal.τ).loc Cert.ReferenceStepInIdeal.main_arg2))
      ∧ r.2.sem = fun _ => 0)

def quiescent_KernelStepOut [hKernelStepOut : Cert.KernelStepOut.Facts] : Prop :=
  ∀ (m : (ℓ : Loc Cert.KernelStepOut.nD Cert.KernelStepOut.τ Cert.KernelStepOut.sig) → Buf (Elt Bits) ℓ) (g : Dev Cert.KernelStepOut.nD → PrngReg), Pre_KernelStepOut m →
    θ_run (Cert.KernelStepOut.defs (F := Bits)) (onTc (τ := Cert.KernelStepOut.τ) (Cert.KernelStepOut.main (F := Bits))) ⟨m, fun _ => 0, g⟩ (fun r => (∀ c : Dev Cert.KernelStepOut.nD,
      r.2.mem ((c.tc : Thread Cert.KernelStepOut.nD Cert.KernelStepOut.τ).loc Cert.KernelStepOut.main_arg0) = m ((c.tc : Thread Cert.KernelStepOut.nD Cert.KernelStepOut.τ).loc Cert.KernelStepOut.main_arg0)
      ∧ r.2.mem ((c.tc : Thread Cert.KernelStepOut.nD Cert.KernelStepOut.τ).loc Cert.KernelStepOut.main_arg1) = m ((c.tc : Thread Cert.KernelStepOut.nD Cert.KernelStepOut.τ).loc Cert.KernelStepOut.main_arg1)
      ∧ r.2.mem ((c.tc : Thread Cert.KernelStepOut.nD Cert.KernelStepOut.τ).loc Cert.KernelStepOut.main_arg2) = m ((c.tc : Thread Cert.KernelStepOut.nD Cert.KernelStepOut.τ).loc Cert.KernelStepOut.main_arg2)
      ∧ r.2.mem ((c.tc : Thread Cert.KernelStepOut.nD Cert.KernelStepOut.τ).loc Cert.KernelStepOut.main_arg3) = m ((c.tc : Thread Cert.KernelStepOut.nD Cert.KernelStepOut.τ).loc Cert.KernelStepOut.main_arg3)
      ∧ r.2.mem ((c.tc : Thread Cert.KernelStepOut.nD Cert.KernelStepOut.τ).loc Cert.KernelStepOut.main_arg4) = m ((c.tc : Thread Cert.KernelStepOut.nD Cert.KernelStepOut.τ).loc Cert.KernelStepOut.main_arg4)
      ∧ r.2.mem ((c.tc : Thread Cert.KernelStepOut.nD Cert.KernelStepOut.τ).loc Cert.KernelStepOut.main_arg5) = m ((c.tc : Thread Cert.KernelStepOut.nD Cert.KernelStepOut.τ).loc Cert.KernelStepOut.main_arg5)
      ∧ r.2.mem ((c.tc : Thread Cert.KernelStepOut.nD Cert.KernelStepOut.τ).loc Cert.KernelStepOut.main_arg6) = m ((c.tc : Thread Cert.KernelStepOut.nD Cert.KernelStepOut.τ).loc Cert.KernelStepOut.main_arg6)
      ∧ r.2.mem ((c.tc : Thread Cert.KernelStepOut.nD Cert.KernelStepOut.τ).loc Cert.KernelStepOut.main_arg7) = m ((c.tc : Thread Cert.KernelStepOut.nD Cert.KernelStepOut.τ).loc Cert.KernelStepOut.main_arg7)
      ∧ r.2.mem ((c.tc : Thread Cert.KernelStepOut.nD Cert.KernelStepOut.τ).loc Cert.KernelStepOut.main_arg8) = m ((c.tc : Thread Cert.KernelStepOut.nD Cert.KernelStepOut.τ).loc Cert.KernelStepOut.main_arg8))
      ∧ r.2.sem = fun _ => 0)

def quiescent_KernelStepOutIdeal [hKernelStepOutIdeal : Cert.KernelStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg), Pre_KernelStepOutIdeal m →
    θ_run (Cert.KernelStepOutIdeal.defs (F := Ideal)) (onTc (τ := Cert.KernelStepOutIdeal.τ) (Cert.KernelStepOutIdeal.main (F := Ideal))) ⟨m, fun _ => 0, g⟩ (fun r => (∀ c : Dev Cert.KernelStepOutIdeal.nD,
      r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
      ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
      ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
      ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3)
      ∧ r.2.mem ((c.tc : Thread Cert.KernelStepOutIdeal.nD Cert.KernelStepOutIdeal.τ).loc Cert.KernelStepOutIdeal.main_arg4) = m ((c.tc : Thread Cert.KernelStepOutIdeal.nD Cert.KernelStepOutIdeal.τ).loc Cert.KernelStepOutIdeal.main_arg4)
      ∧ r.2.mem ((c.tc : Thread Cert.KernelStepOutIdeal.nD Cert.KernelStepOutIdeal.τ).loc Cert.KernelStepOutIdeal.main_arg5) = m ((c.tc : Thread Cert.KernelStepOutIdeal.nD Cert.KernelStepOutIdeal.τ).loc Cert.KernelStepOutIdeal.main_arg5)
      ∧ r.2.mem ((c.tc : Thread Cert.KernelStepOutIdeal.nD Cert.KernelStepOutIdeal.τ).loc Cert.KernelStepOutIdeal.main_arg6) = m ((c.tc : Thread Cert.KernelStepOutIdeal.nD Cert.KernelStepOutIdeal.τ).loc Cert.KernelStepOutIdeal.main_arg6)
      ∧ r.2.mem ((c.tc : Thread Cert.KernelStepOutIdeal.nD Cert.KernelStepOutIdeal.τ).loc Cert.KernelStepOutIdeal.main_arg7) = m ((c.tc : Thread Cert.KernelStepOutIdeal.nD Cert.KernelStepOutIdeal.τ).loc Cert.KernelStepOutIdeal.main_arg7)
      ∧ r.2.mem ((c.tc : Thread Cert.KernelStepOutIdeal.nD Cert.KernelStepOutIdeal.τ).loc Cert.KernelStepOutIdeal.main_arg8) = m ((c.tc : Thread Cert.KernelStepOutIdeal.nD Cert.KernelStepOutIdeal.τ).loc Cert.KernelStepOutIdeal.main_arg8))
      ∧ r.2.sem = fun _ => 0)

def quiescent_ReferenceStepOutIdeal [hReferenceStepOutIdeal : Cert.ReferenceStepOutIdeal.Facts] : Prop :=
  ∀ (m : (ℓ : Loc Cert.ReferenceStepOutIdeal.nD Cert.ReferenceStepOutIdeal.τ Cert.ReferenceStepOutIdeal.sig) → Buf (Elt Ideal) ℓ) (g : Dev Cert.ReferenceStepOutIdeal.nD → PrngReg), Pre_ReferenceStepOutIdeal m →
    θ_run (Cert.ReferenceStepOutIdeal.defs (F := Ideal)) (onTc (τ := Cert.ReferenceStepOutIdeal.τ) (Cert.ReferenceStepOutIdeal.main (F := Ideal))) ⟨m, fun _ => 0, g⟩ (fun r => (∀ c : Dev Cert.ReferenceStepOutIdeal.nD,
      r.2.mem ((c.tc : Thread Cert.ReferenceStepOutIdeal.nD Cert.ReferenceStepOutIdeal.τ).loc Cert.ReferenceStepOutIdeal.main_arg0) = m ((c.tc : Thread Cert.ReferenceStepOutIdeal.nD Cert.ReferenceStepOutIdeal.τ).loc Cert.ReferenceStepOutIdeal.main_arg0)
      ∧ r.2.mem ((c.tc : Thread Cert.ReferenceStepOutIdeal.nD Cert.ReferenceStepOutIdeal.τ).loc Cert.ReferenceStepOutIdeal.main_arg1) = m ((c.tc : Thread Cert.ReferenceStepOutIdeal.nD Cert.ReferenceStepOutIdeal.τ).loc Cert.ReferenceStepOutIdeal.main_arg1)
      ∧ r.2.mem ((c.tc : Thread Cert.ReferenceStepOutIdeal.nD Cert.ReferenceStepOutIdeal.τ).loc Cert.ReferenceStepOutIdeal.main_arg2) = m ((c.tc : Thread Cert.ReferenceStepOutIdeal.nD Cert.ReferenceStepOutIdeal.τ).loc Cert.ReferenceStepOutIdeal.main_arg2)
      ∧ r.2.mem ((c.tc : Thread Cert.ReferenceStepOutIdeal.nD Cert.ReferenceStepOutIdeal.τ).loc Cert.ReferenceStepOutIdeal.main_arg3) = m ((c.tc : Thread Cert.ReferenceStepOutIdeal.nD Cert.ReferenceStepOutIdeal.τ).loc Cert.ReferenceStepOutIdeal.main_arg3)
      ∧ r.2.mem ((c.tc : Thread Cert.ReferenceStepOutIdeal.nD Cert.ReferenceStepOutIdeal.τ).loc Cert.ReferenceStepOutIdeal.main_arg4) = m ((c.tc : Thread Cert.ReferenceStepOutIdeal.nD Cert.ReferenceStepOutIdeal.τ).loc Cert.ReferenceStepOutIdeal.main_arg4)
      ∧ r.2.mem ((c.tc : Thread Cert.ReferenceStepOutIdeal.nD Cert.ReferenceStepOutIdeal.τ).loc Cert.ReferenceStepOutIdeal.main_arg5) = m ((c.tc : Thread Cert.ReferenceStepOutIdeal.nD Cert.ReferenceStepOutIdeal.τ).loc Cert.ReferenceStepOutIdeal.main_arg5)
      ∧ r.2.mem ((c.tc : Thread Cert.ReferenceStepOutIdeal.nD Cert.ReferenceStepOutIdeal.τ).loc Cert.ReferenceStepOutIdeal.main_arg6) = m ((c.tc : Thread Cert.ReferenceStepOutIdeal.nD Cert.ReferenceStepOutIdeal.τ).loc Cert.ReferenceStepOutIdeal.main_arg6)
      ∧ r.2.mem ((c.tc : Thread Cert.ReferenceStepOutIdeal.nD Cert.ReferenceStepOutIdeal.τ).loc Cert.ReferenceStepOutIdeal.main_arg7) = m ((c.tc : Thread Cert.ReferenceStepOutIdeal.nD Cert.ReferenceStepOutIdeal.τ).loc Cert.ReferenceStepOutIdeal.main_arg7)
      ∧ r.2.mem ((c.tc : Thread Cert.ReferenceStepOutIdeal.nD Cert.ReferenceStepOutIdeal.τ).loc Cert.ReferenceStepOutIdeal.main_arg8) = m ((c.tc : Thread Cert.ReferenceStepOutIdeal.nD Cert.ReferenceStepOutIdeal.τ).loc Cert.ReferenceStepOutIdeal.main_arg8))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v47_0)) (v1 : (c : Dev Cert.KernelInIdeal.nD) → Buf (Elt Ideal) ((c.tc : Thread Cert.KernelInIdeal.nD Cert.KernelInIdeal.τ).loc Cert.KernelInIdeal.main_v47_1)) (v2 : (c : Dev Cert.KernelInIdeal.nD) → Buf (Elt Ideal) ((c.tc : Thread Cert.KernelInIdeal.nD Cert.KernelInIdeal.τ).loc Cert.KernelInIdeal.main_v47_2)) (v3 : (c : Dev Cert.KernelInIdeal.nD) → Buf (Elt Ideal) ((c.tc : Thread Cert.KernelInIdeal.nD Cert.KernelInIdeal.τ).loc Cert.KernelInIdeal.main_v47_3)) (v4 : (c : Dev Cert.KernelInIdeal.nD) → Buf (Elt Ideal) ((c.tc : Thread Cert.KernelInIdeal.nD Cert.KernelInIdeal.τ).loc Cert.KernelInIdeal.main_v47_4)) (v5 : (c : Dev Cert.KernelInIdeal.nD) → Buf (Elt Ideal) ((c.tc : Thread Cert.KernelInIdeal.nD Cert.KernelInIdeal.τ).loc Cert.KernelInIdeal.main_v47_5)) (v6 : (c : Dev Cert.KernelInIdeal.nD) → Buf (Elt Ideal) ((c.tc : Thread Cert.KernelInIdeal.nD Cert.KernelInIdeal.τ).loc Cert.KernelInIdeal.main_v47_6)) (v7 : (c : Dev Cert.KernelInIdeal.nD) → Buf (Elt Ideal) ((c.tc : Thread Cert.KernelInIdeal.nD Cert.KernelInIdeal.τ).loc Cert.KernelInIdeal.main_v47_7)) (v8 : (c : Dev Cert.KernelInIdeal.nD) → Buf (Elt Ideal) ((c.tc : Thread Cert.KernelInIdeal.nD Cert.KernelInIdeal.τ).loc Cert.KernelInIdeal.main_v47_8)) (v9 : (c : Dev Cert.KernelInIdeal.nD) → Buf (Elt Ideal) ((c.tc : Thread Cert.KernelInIdeal.nD Cert.KernelInIdeal.τ).loc Cert.KernelInIdeal.main_v47_9)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v47_0) = v0 c
          ∧ r.2.mem ((c.tc : Thread Cert.KernelInIdeal.nD Cert.KernelInIdeal.τ).loc Cert.KernelInIdeal.main_v47_1) = v1 c
          ∧ r.2.mem ((c.tc : Thread Cert.KernelInIdeal.nD Cert.KernelInIdeal.τ).loc Cert.KernelInIdeal.main_v47_2) = v2 c
          ∧ r.2.mem ((c.tc : Thread Cert.KernelInIdeal.nD Cert.KernelInIdeal.τ).loc Cert.KernelInIdeal.main_v47_3) = v3 c
          ∧ r.2.mem ((c.tc : Thread Cert.KernelInIdeal.nD Cert.KernelInIdeal.τ).loc Cert.KernelInIdeal.main_v47_4) = v4 c
          ∧ r.2.mem ((c.tc : Thread Cert.KernelInIdeal.nD Cert.KernelInIdeal.τ).loc Cert.KernelInIdeal.main_v47_5) = v5 c
          ∧ r.2.mem ((c.tc : Thread Cert.KernelInIdeal.nD Cert.KernelInIdeal.τ).loc Cert.KernelInIdeal.main_v47_6) = v6 c
          ∧ r.2.mem ((c.tc : Thread Cert.KernelInIdeal.nD Cert.KernelInIdeal.τ).loc Cert.KernelInIdeal.main_v47_7) = v7 c
          ∧ r.2.mem ((c.tc : Thread Cert.KernelInIdeal.nD Cert.KernelInIdeal.τ).loc Cert.KernelInIdeal.main_v47_8) = v8 c
          ∧ r.2.mem ((c.tc : Thread Cert.KernelInIdeal.nD Cert.KernelInIdeal.τ).loc Cert.KernelInIdeal.main_v47_9) = v9 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v177) = v0 c
          ∧ r.2.mem ((c.tc : Thread Cert.ReferenceInIdeal.nD Cert.ReferenceInIdeal.τ).loc Cert.ReferenceInIdeal.main_v178) = v1 c
          ∧ r.2.mem ((c.tc : Thread Cert.ReferenceInIdeal.nD Cert.ReferenceInIdeal.τ).loc Cert.ReferenceInIdeal.main_v179) = v2 c
          ∧ r.2.mem ((c.tc : Thread Cert.ReferenceInIdeal.nD Cert.ReferenceInIdeal.τ).loc Cert.ReferenceInIdeal.main_v180) = v3 c
          ∧ r.2.mem ((c.tc : Thread Cert.ReferenceInIdeal.nD Cert.ReferenceInIdeal.τ).loc Cert.ReferenceInIdeal.main_v183) = v4 c
          ∧ r.2.mem ((c.tc : Thread Cert.ReferenceInIdeal.nD Cert.ReferenceInIdeal.τ).loc Cert.ReferenceInIdeal.main_v186) = v5 c
          ∧ r.2.mem ((c.tc : Thread Cert.ReferenceInIdeal.nD Cert.ReferenceInIdeal.τ).loc Cert.ReferenceInIdeal.main_v188) = v6 c
          ∧ r.2.mem ((c.tc : Thread Cert.ReferenceInIdeal.nD Cert.ReferenceInIdeal.τ).loc Cert.ReferenceInIdeal.main_v190) = v7 c
          ∧ r.2.mem ((c.tc : Thread Cert.ReferenceInIdeal.nD Cert.ReferenceInIdeal.τ).loc Cert.ReferenceInIdeal.main_v193) = v8 c
          ∧ r.2.mem ((c.tc : Thread Cert.ReferenceInIdeal.nD Cert.ReferenceInIdeal.τ).loc Cert.ReferenceInIdeal.main_v196) = v9 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)) →
    ∃ (v0 : (c : Dev Cert.KernelOutIdeal.nD) → Buf (Elt Ideal) ((c.tc : Thread Cert.KernelOutIdeal.nD Cert.KernelOutIdeal.τ).loc Cert.KernelOutIdeal.main_v16_0)) (v1 : (c : Dev Cert.KernelOutIdeal.nD) → Buf (Elt Ideal) ((c.tc : Thread Cert.KernelOutIdeal.nD Cert.KernelOutIdeal.τ).loc Cert.KernelOutIdeal.main_v16_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v16_0) = v0 c
          ∧ r.2.mem ((c.tc : Thread Cert.KernelOutIdeal.nD Cert.KernelOutIdeal.τ).loc Cert.KernelOutIdeal.main_v16_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v54) = v0 c
          ∧ r.2.mem ((c.tc : Thread Cert.ReferenceOutIdeal.nD Cert.ReferenceOutIdeal.τ).loc Cert.ReferenceOutIdeal.main_v57) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8))

def preserves_KernelSample_KernelSampleIdeal : Prop :=
  IdealRules.named_const.Statement Cert.KernelSampleIdeal.κ "mask" .f32 0xF149F2CA#32 ⊥

def algebraic_KernelSampleIdeal_ReferenceSampleIdeal_pre_finite_scores [hKernelSampleIdeal : Cert.KernelSampleIdeal.Facts] [hReferenceSampleIdeal : Cert.ReferenceSampleIdeal.Facts] [hPre_finite_scores : Cert.Pre_finite_scores.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.ReferenceSampleIdeal.nD Cert.ReferenceSampleIdeal.τ Cert.ReferenceSampleIdeal.sig) → Buf (Elt Ideal) ℓ) (g' : Dev Cert.ReferenceSampleIdeal.nD → PrngReg), Pre_KernelSampleIdeal_finite_scores m →
    (∀ c : Dev Cert.KernelSampleIdeal.nD,
      m' ((c.tc : Thread Cert.ReferenceSampleIdeal.nD Cert.ReferenceSampleIdeal.τ).loc Cert.ReferenceSampleIdeal.main_arg0) = m ((c.tc : Thread Cert.KernelSampleIdeal.nD Cert.KernelSampleIdeal.τ).loc Cert.KernelSampleIdeal.main_arg0)
      ∧ m' ((c.tc : Thread Cert.ReferenceSampleIdeal.nD Cert.ReferenceSampleIdeal.τ).loc Cert.ReferenceSampleIdeal.main_arg1) = m ((c.tc : Thread Cert.KernelSampleIdeal.nD Cert.KernelSampleIdeal.τ).loc Cert.KernelSampleIdeal.main_arg1)
      ∧ m' ((c.tc : Thread Cert.ReferenceSampleIdeal.nD Cert.ReferenceSampleIdeal.τ).loc Cert.ReferenceSampleIdeal.main_arg2) = m ((c.tc : Thread Cert.KernelSampleIdeal.nD Cert.KernelSampleIdeal.τ).loc Cert.KernelSampleIdeal.main_arg2)
      ∧ m' ((c.tc : Thread Cert.ReferenceSampleIdeal.nD Cert.ReferenceSampleIdeal.τ).loc Cert.ReferenceSampleIdeal.main_arg3) = m ((c.tc : Thread Cert.KernelSampleIdeal.nD Cert.KernelSampleIdeal.τ).loc Cert.KernelSampleIdeal.main_arg3)
      ∧ m' ((c.tc : Thread Cert.ReferenceSampleIdeal.nD Cert.ReferenceSampleIdeal.τ).loc Cert.ReferenceSampleIdeal.main_arg4) = m ((c.tc : Thread Cert.KernelSampleIdeal.nD Cert.KernelSampleIdeal.τ).loc Cert.KernelSampleIdeal.main_arg4)
      ∧ m' ((c.tc : Thread Cert.ReferenceSampleIdeal.nD Cert.ReferenceSampleIdeal.τ).loc Cert.ReferenceSampleIdeal.main_arg5) = m ((c.tc : Thread Cert.KernelSampleIdeal.nD Cert.KernelSampleIdeal.τ).loc Cert.KernelSampleIdeal.main_arg5)
      ∧ m' ((c.tc : Thread Cert.ReferenceSampleIdeal.nD Cert.ReferenceSampleIdeal.τ).loc Cert.ReferenceSampleIdeal.main_arg6) = m ((c.tc : Thread Cert.KernelSampleIdeal.nD Cert.KernelSampleIdeal.τ).loc Cert.KernelSampleIdeal.main_arg6)
      ∧ m' ((c.tc : Thread Cert.ReferenceSampleIdeal.nD Cert.ReferenceSampleIdeal.τ).loc Cert.ReferenceSampleIdeal.main_arg7) = m ((c.tc : Thread Cert.KernelSampleIdeal.nD Cert.KernelSampleIdeal.τ).loc Cert.KernelSampleIdeal.main_arg7)
      ∧ m' ((c.tc : Thread Cert.ReferenceSampleIdeal.nD Cert.ReferenceSampleIdeal.τ).loc Cert.ReferenceSampleIdeal.main_arg8) = m ((c.tc : Thread Cert.KernelSampleIdeal.nD Cert.KernelSampleIdeal.τ).loc Cert.KernelSampleIdeal.main_arg8)
      ∧ m' ((c.tc : Thread Cert.ReferenceSampleIdeal.nD Cert.ReferenceSampleIdeal.τ).loc Cert.ReferenceSampleIdeal.main_arg9) = m ((c.tc : Thread Cert.KernelSampleIdeal.nD Cert.KernelSampleIdeal.τ).loc Cert.KernelSampleIdeal.main_arg9)
      ∧ m' ((c.tc : Thread Cert.ReferenceSampleIdeal.nD Cert.ReferenceSampleIdeal.τ).loc Cert.ReferenceSampleIdeal.main_arg10) = m ((c.tc : Thread Cert.KernelSampleIdeal.nD Cert.KernelSampleIdeal.τ).loc Cert.KernelSampleIdeal.main_arg10)) →
    ∃ (v0 : (c : Dev Cert.KernelSampleIdeal.nD) → Buf (Elt Ideal) ((c.tc : Thread Cert.KernelSampleIdeal.nD Cert.KernelSampleIdeal.τ).loc Cert.KernelSampleIdeal.main_v15_0)) (v1 : (c : Dev Cert.KernelSampleIdeal.nD) → Buf (Elt Ideal) ((c.tc : Thread Cert.KernelSampleIdeal.nD Cert.KernelSampleIdeal.τ).loc Cert.KernelSampleIdeal.main_v15_1)) (v2 : (c : Dev Cert.KernelSampleIdeal.nD) → Buf (Elt Ideal) ((c.tc : Thread Cert.KernelSampleIdeal.nD Cert.KernelSampleIdeal.τ).loc Cert.KernelSampleIdeal.main_v15_2)) (v3 : (c : Dev Cert.KernelSampleIdeal.nD) → Buf (Elt Ideal) ((c.tc : Thread Cert.KernelSampleIdeal.nD Cert.KernelSampleIdeal.τ).loc Cert.KernelSampleIdeal.main_v15_3)) (v4 : (c : Dev Cert.KernelSampleIdeal.nD) → Buf (Elt Ideal) ((c.tc : Thread Cert.KernelSampleIdeal.nD Cert.KernelSampleIdeal.τ).loc Cert.KernelSampleIdeal.main_v15_4)) (v5 : (c : Dev Cert.KernelSampleIdeal.nD) → Buf (Elt Ideal) ((c.tc : Thread Cert.KernelSampleIdeal.nD Cert.KernelSampleIdeal.τ).loc Cert.KernelSampleIdeal.main_v15_5)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v15_0) = v0 c
          ∧ r.2.mem ((c.tc : Thread Cert.KernelSampleIdeal.nD Cert.KernelSampleIdeal.τ).loc Cert.KernelSampleIdeal.main_v15_1) = v1 c
          ∧ r.2.mem ((c.tc : Thread Cert.KernelSampleIdeal.nD Cert.KernelSampleIdeal.τ).loc Cert.KernelSampleIdeal.main_v15_2) = v2 c
          ∧ r.2.mem ((c.tc : Thread Cert.KernelSampleIdeal.nD Cert.KernelSampleIdeal.τ).loc Cert.KernelSampleIdeal.main_v15_3) = v3 c
          ∧ r.2.mem ((c.tc : Thread Cert.KernelSampleIdeal.nD Cert.KernelSampleIdeal.τ).loc Cert.KernelSampleIdeal.main_v15_4) = v4 c
          ∧ r.2.mem ((c.tc : Thread Cert.KernelSampleIdeal.nD Cert.KernelSampleIdeal.τ).loc Cert.KernelSampleIdeal.main_v15_5) = v5 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
          ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
          ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
          ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4)
          ∧ r.2.mem ((c.tc : Thread Cert.KernelSampleIdeal.nD Cert.KernelSampleIdeal.τ).loc Cert.KernelSampleIdeal.main_arg5) = m ((c.tc : Thread Cert.KernelSampleIdeal.nD Cert.KernelSampleIdeal.τ).loc Cert.KernelSampleIdeal.main_arg5)
          ∧ r.2.mem ((c.tc : Thread Cert.KernelSampleIdeal.nD Cert.KernelSampleIdeal.τ).loc Cert.KernelSampleIdeal.main_arg6) = m ((c.tc : Thread Cert.KernelSampleIdeal.nD Cert.KernelSampleIdeal.τ).loc Cert.KernelSampleIdeal.main_arg6)
          ∧ r.2.mem ((c.tc : Thread Cert.KernelSampleIdeal.nD Cert.KernelSampleIdeal.τ).loc Cert.KernelSampleIdeal.main_arg7) = m ((c.tc : Thread Cert.KernelSampleIdeal.nD Cert.KernelSampleIdeal.τ).loc Cert.KernelSampleIdeal.main_arg7)
          ∧ r.2.mem ((c.tc : Thread Cert.KernelSampleIdeal.nD Cert.KernelSampleIdeal.τ).loc Cert.KernelSampleIdeal.main_arg8) = m ((c.tc : Thread Cert.KernelSampleIdeal.nD Cert.KernelSampleIdeal.τ).loc Cert.KernelSampleIdeal.main_arg8)
          ∧ r.2.mem ((c.tc : Thread Cert.KernelSampleIdeal.nD Cert.KernelSampleIdeal.τ).loc Cert.KernelSampleIdeal.main_arg9) = m ((c.tc : Thread Cert.KernelSampleIdeal.nD Cert.KernelSampleIdeal.τ).loc Cert.KernelSampleIdeal.main_arg9)
          ∧ r.2.mem ((c.tc : Thread Cert.KernelSampleIdeal.nD Cert.KernelSampleIdeal.τ).loc Cert.KernelSampleIdeal.main_arg10) = m ((c.tc : Thread Cert.KernelSampleIdeal.nD Cert.KernelSampleIdeal.τ).loc Cert.KernelSampleIdeal.main_arg10))
      ∧ θ_run (Cert.ReferenceSampleIdeal.defs (F := Ideal)) (onTc (τ := Cert.ReferenceSampleIdeal.τ) (Cert.ReferenceSampleIdeal.main (F := Ideal))) ⟨m', fun _ => 0, g'⟩ (fun r => ∀ c : Dev Cert.ReferenceSampleIdeal.nD,
          r.2.mem ((c.tc : Thread Cert.ReferenceSampleIdeal.nD Cert.ReferenceSampleIdeal.τ).loc Cert.ReferenceSampleIdeal.main_v107) = v0 c
          ∧ r.2.mem ((c.tc : Thread Cert.ReferenceSampleIdeal.nD Cert.ReferenceSampleIdeal.τ).loc Cert.ReferenceSampleIdeal.main_v108) = v1 c
          ∧ r.2.mem ((c.tc : Thread Cert.ReferenceSampleIdeal.nD Cert.ReferenceSampleIdeal.τ).loc Cert.ReferenceSampleIdeal.main_v111) = v2 c
          ∧ r.2.mem ((c.tc : Thread Cert.ReferenceSampleIdeal.nD Cert.ReferenceSampleIdeal.τ).loc Cert.ReferenceSampleIdeal.main_v114) = v3 c
          ∧ r.2.mem ((c.tc : Thread Cert.ReferenceSampleIdeal.nD Cert.ReferenceSampleIdeal.τ).loc Cert.ReferenceSampleIdeal.main_v117) = v4 c
          ∧ r.2.mem ((c.tc : Thread Cert.ReferenceSampleIdeal.nD Cert.ReferenceSampleIdeal.τ).loc Cert.ReferenceSampleIdeal.main_v120) = v5 c
          ∧ r.2.mem ((c.tc : Thread Cert.ReferenceSampleIdeal.nD Cert.ReferenceSampleIdeal.τ).loc Cert.ReferenceSampleIdeal.main_arg0) = m' ((c.tc : Thread Cert.ReferenceSampleIdeal.nD Cert.ReferenceSampleIdeal.τ).loc Cert.ReferenceSampleIdeal.main_arg0)
          ∧ r.2.mem ((c.tc : Thread Cert.ReferenceSampleIdeal.nD Cert.ReferenceSampleIdeal.τ).loc Cert.ReferenceSampleIdeal.main_arg1) = m' ((c.tc : Thread Cert.ReferenceSampleIdeal.nD Cert.ReferenceSampleIdeal.τ).loc Cert.ReferenceSampleIdeal.main_arg1)
          ∧ r.2.mem ((c.tc : Thread Cert.ReferenceSampleIdeal.nD Cert.ReferenceSampleIdeal.τ).loc Cert.ReferenceSampleIdeal.main_arg2) = m' ((c.tc : Thread Cert.ReferenceSampleIdeal.nD Cert.ReferenceSampleIdeal.τ).loc Cert.ReferenceSampleIdeal.main_arg2)
          ∧ r.2.mem ((c.tc : Thread Cert.ReferenceSampleIdeal.nD Cert.ReferenceSampleIdeal.τ).loc Cert.ReferenceSampleIdeal.main_arg3) = m' ((c.tc : Thread Cert.ReferenceSampleIdeal.nD Cert.ReferenceSampleIdeal.τ).loc Cert.ReferenceSampleIdeal.main_arg3)
          ∧ r.2.mem ((c.tc : Thread Cert.ReferenceSampleIdeal.nD Cert.ReferenceSampleIdeal.τ).loc Cert.ReferenceSampleIdeal.main_arg4) = m' ((c.tc : Thread Cert.ReferenceSampleIdeal.nD Cert.ReferenceSampleIdeal.τ).loc Cert.ReferenceSampleIdeal.main_arg4)
          ∧ r.2.mem ((c.tc : Thread Cert.ReferenceSampleIdeal.nD Cert.ReferenceSampleIdeal.τ).loc Cert.ReferenceSampleIdeal.main_arg5) = m' ((c.tc : Thread Cert.ReferenceSampleIdeal.nD Cert.ReferenceSampleIdeal.τ).loc Cert.ReferenceSampleIdeal.main_arg5)
          ∧ r.2.mem ((c.tc : Thread Cert.ReferenceSampleIdeal.nD Cert.ReferenceSampleIdeal.τ).loc Cert.ReferenceSampleIdeal.main_arg6) = m' ((c.tc : Thread Cert.ReferenceSampleIdeal.nD Cert.ReferenceSampleIdeal.τ).loc Cert.ReferenceSampleIdeal.main_arg6)
          ∧ r.2.mem ((c.tc : Thread Cert.ReferenceSampleIdeal.nD Cert.ReferenceSampleIdeal.τ).loc Cert.ReferenceSampleIdeal.main_arg7) = m' ((c.tc : Thread Cert.ReferenceSampleIdeal.nD Cert.ReferenceSampleIdeal.τ).loc Cert.ReferenceSampleIdeal.main_arg7)
          ∧ r.2.mem ((c.tc : Thread Cert.ReferenceSampleIdeal.nD Cert.ReferenceSampleIdeal.τ).loc Cert.ReferenceSampleIdeal.main_arg8) = m' ((c.tc : Thread Cert.ReferenceSampleIdeal.nD Cert.ReferenceSampleIdeal.τ).loc Cert.ReferenceSampleIdeal.main_arg8)
          ∧ r.2.mem ((c.tc : Thread Cert.ReferenceSampleIdeal.nD Cert.ReferenceSampleIdeal.τ).loc Cert.ReferenceSampleIdeal.main_arg9) = m' ((c.tc : Thread Cert.ReferenceSampleIdeal.nD Cert.ReferenceSampleIdeal.τ).loc Cert.ReferenceSampleIdeal.main_arg9)
          ∧ r.2.mem ((c.tc : Thread Cert.ReferenceSampleIdeal.nD Cert.ReferenceSampleIdeal.τ).loc Cert.ReferenceSampleIdeal.main_arg10) = m' ((c.tc : Thread Cert.ReferenceSampleIdeal.nD Cert.ReferenceSampleIdeal.τ).loc Cert.ReferenceSampleIdeal.main_arg10))

def preserves_KernelStepIn_KernelStepInIdeal : Prop :=
  True

def algebraic_KernelStepInIdeal_ReferenceStepInIdeal [hKernelStepInIdeal : Cert.KernelStepInIdeal.Facts] [hReferenceStepInIdeal : Cert.ReferenceStepInIdeal.Facts] : Prop :=
  ∀ (m : (ℓ : Loc Cert.KernelStepInIdeal.nD Cert.KernelStepInIdeal.τ Cert.KernelStepInIdeal.sig) → Buf (Elt Ideal) ℓ) (g : Dev Cert.KernelStepInIdeal.nD → PrngReg)
    (m' : (ℓ : Loc Cert.ReferenceStepInIdeal.nD Cert.ReferenceStepInIdeal.τ Cert.ReferenceStepInIdeal.sig) → Buf (Elt Ideal) ℓ) (g' : Dev Cert.ReferenceStepInIdeal.nD → PrngReg), Pre_KernelStepInIdeal m →
    (∀ c : Dev Cert.KernelStepInIdeal.nD,
      m' ((c.tc : Thread Cert.ReferenceStepInIdeal.nD Cert.ReferenceStepInIdeal.τ).loc Cert.ReferenceStepInIdeal.main_arg0) = m ((c.tc : Thread Cert.KernelStepInIdeal.nD Cert.KernelStepInIdeal.τ).loc Cert.KernelStepInIdeal.main_arg0)
      ∧ m' ((c.tc : Thread Cert.ReferenceStepInIdeal.nD Cert.ReferenceStepInIdeal.τ).loc Cert.ReferenceStepInIdeal.main_arg1) = m ((c.tc : Thread Cert.KernelStepInIdeal.nD Cert.KernelStepInIdeal.τ).loc Cert.KernelStepInIdeal.main_arg1)
      ∧ m' ((c.tc : Thread Cert.ReferenceStepInIdeal.nD Cert.ReferenceStepInIdeal.τ).loc Cert.ReferenceStepInIdeal.main_arg2) = m ((c.tc : Thread Cert.KernelStepInIdeal.nD Cert.KernelStepInIdeal.τ).loc Cert.KernelStepInIdeal.main_arg2)) →
    ∃ (v0 : (c : Dev Cert.KernelStepInIdeal.nD) → Buf (Elt Ideal) ((c.tc : Thread Cert.KernelStepInIdeal.nD Cert.KernelStepInIdeal.τ).loc Cert.KernelStepInIdeal.main_v32_0)) (v1 : (c : Dev Cert.KernelStepInIdeal.nD) → Buf (Elt Ideal) ((c.tc : Thread Cert.KernelStepInIdeal.nD Cert.KernelStepInIdeal.τ).loc Cert.KernelStepInIdeal.main_v32_1)) (v2 : (c : Dev Cert.KernelStepInIdeal.nD) → Buf (Elt Ideal) ((c.tc : Thread Cert.KernelStepInIdeal.nD Cert.KernelStepInIdeal.τ).loc Cert.KernelStepInIdeal.main_v32_2)) (v3 : (c : Dev Cert.KernelStepInIdeal.nD) → Buf (Elt Ideal) ((c.tc : Thread Cert.KernelStepInIdeal.nD Cert.KernelStepInIdeal.τ).loc Cert.KernelStepInIdeal.main_v32_3)) (v4 : (c : Dev Cert.KernelStepInIdeal.nD) → Buf (Elt Ideal) ((c.tc : Thread Cert.KernelStepInIdeal.nD Cert.KernelStepInIdeal.τ).loc Cert.KernelStepInIdeal.main_v32_4)) (v5 : (c : Dev Cert.KernelStepInIdeal.nD) → Buf (Elt Ideal) ((c.tc : Thread Cert.KernelStepInIdeal.nD Cert.KernelStepInIdeal.τ).loc Cert.KernelStepInIdeal.main_v32_5)),
      θ_run (Cert.KernelStepInIdeal.defs (F := Ideal)) (onTc (τ := Cert.KernelStepInIdeal.τ) (Cert.KernelStepInIdeal.main (F := Ideal))) ⟨m, fun _ => 0, g⟩ (fun r => ∀ c : Dev Cert.KernelStepInIdeal.nD,
          r.2.mem ((c.tc : Thread Cert.KernelStepInIdeal.nD Cert.KernelStepInIdeal.τ).loc Cert.KernelStepInIdeal.main_v32_0) = v0 c
          ∧ r.2.mem ((c.tc : Thread Cert.KernelStepInIdeal.nD Cert.KernelStepInIdeal.τ).loc Cert.KernelStepInIdeal.main_v32_1) = v1 c
          ∧ r.2.mem ((c.tc : Thread Cert.KernelStepInIdeal.nD Cert.KernelStepInIdeal.τ).loc Cert.KernelStepInIdeal.main_v32_2) = v2 c
          ∧ r.2.mem ((c.tc : Thread Cert.KernelStepInIdeal.nD Cert.KernelStepInIdeal.τ).loc Cert.KernelStepInIdeal.main_v32_3) = v3 c
          ∧ r.2.mem ((c.tc : Thread Cert.KernelStepInIdeal.nD Cert.KernelStepInIdeal.τ).loc Cert.KernelStepInIdeal.main_v32_4) = v4 c
          ∧ r.2.mem ((c.tc : Thread Cert.KernelStepInIdeal.nD Cert.KernelStepInIdeal.τ).loc Cert.KernelStepInIdeal.main_v32_5) = v5 c
          ∧ r.2.mem ((c.tc : Thread Cert.KernelStepInIdeal.nD Cert.KernelStepInIdeal.τ).loc Cert.KernelStepInIdeal.main_arg0) = m ((c.tc : Thread Cert.KernelStepInIdeal.nD Cert.KernelStepInIdeal.τ).loc Cert.KernelStepInIdeal.main_arg0)
          ∧ r.2.mem ((c.tc : Thread Cert.KernelStepInIdeal.nD Cert.KernelStepInIdeal.τ).loc Cert.KernelStepInIdeal.main_arg1) = m ((c.tc : Thread Cert.KernelStepInIdeal.nD Cert.KernelStepInIdeal.τ).loc Cert.KernelStepInIdeal.main_arg1)
          ∧ r.2.mem ((c.tc : Thread Cert.KernelStepInIdeal.nD Cert.KernelStepInIdeal.τ).loc Cert.KernelStepInIdeal.main_arg2) = m ((c.tc : Thread Cert.KernelStepInIdeal.nD Cert.KernelStepInIdeal.τ).loc Cert.KernelStepInIdeal.main_arg2))
      ∧ θ_run (Cert.ReferenceStepInIdeal.defs (F := Ideal)) (onTc (τ := Cert.ReferenceStepInIdeal.τ) (Cert.ReferenceStepInIdeal.main (F := Ideal))) ⟨m', fun _ => 0, g'⟩ (fun r => ∀ c : Dev Cert.ReferenceStepInIdeal.nD,
          r.2.mem ((c.tc : Thread Cert.ReferenceStepInIdeal.nD Cert.ReferenceStepInIdeal.τ).loc Cert.ReferenceStepInIdeal.main_v175) = v0 c
          ∧ r.2.mem ((c.tc : Thread Cert.ReferenceStepInIdeal.nD Cert.ReferenceStepInIdeal.τ).loc Cert.ReferenceStepInIdeal.main_v176) = v1 c
          ∧ r.2.mem ((c.tc : Thread Cert.ReferenceStepInIdeal.nD Cert.ReferenceStepInIdeal.τ).loc Cert.ReferenceStepInIdeal.main_v177) = v2 c
          ∧ r.2.mem ((c.tc : Thread Cert.ReferenceStepInIdeal.nD Cert.ReferenceStepInIdeal.τ).loc Cert.ReferenceStepInIdeal.main_v178) = v3 c
          ∧ r.2.mem ((c.tc : Thread Cert.ReferenceStepInIdeal.nD Cert.ReferenceStepInIdeal.τ).loc Cert.ReferenceStepInIdeal.main_v179) = v4 c
          ∧ r.2.mem ((c.tc : Thread Cert.ReferenceStepInIdeal.nD Cert.ReferenceStepInIdeal.τ).loc Cert.ReferenceStepInIdeal.main_v180) = v5 c
          ∧ r.2.mem ((c.tc : Thread Cert.ReferenceStepInIdeal.nD Cert.ReferenceStepInIdeal.τ).loc Cert.ReferenceStepInIdeal.main_arg0) = m' ((c.tc : Thread Cert.ReferenceStepInIdeal.nD Cert.ReferenceStepInIdeal.τ).loc Cert.ReferenceStepInIdeal.main_arg0)
          ∧ r.2.mem ((c.tc : Thread Cert.ReferenceStepInIdeal.nD Cert.ReferenceStepInIdeal.τ).loc Cert.ReferenceStepInIdeal.main_arg1) = m' ((c.tc : Thread Cert.ReferenceStepInIdeal.nD Cert.ReferenceStepInIdeal.τ).loc Cert.ReferenceStepInIdeal.main_arg1)
          ∧ r.2.mem ((c.tc : Thread Cert.ReferenceStepInIdeal.nD Cert.ReferenceStepInIdeal.τ).loc Cert.ReferenceStepInIdeal.main_arg2) = m' ((c.tc : Thread Cert.ReferenceStepInIdeal.nD Cert.ReferenceStepInIdeal.τ).loc Cert.ReferenceStepInIdeal.main_arg2))

def preserves_KernelStepOut_KernelStepOutIdeal : Prop :=
  True

def algebraic_KernelStepOutIdeal_ReferenceStepOutIdeal [hKernelStepOutIdeal : Cert.KernelStepOutIdeal.Facts] [hReferenceStepOutIdeal : Cert.ReferenceStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg)
    (m' : (ℓ : Loc Cert.ReferenceStepOutIdeal.nD Cert.ReferenceStepOutIdeal.τ Cert.ReferenceStepOutIdeal.sig) → Buf (Elt Ideal) ℓ) (g' : Dev Cert.ReferenceStepOutIdeal.nD → PrngReg), Pre_KernelStepOutIdeal m →
    (∀ c : Dev Cert.KernelStepOutIdeal.nD,
      m' ((c.tc : Thread Cert.ReferenceStepOutIdeal.nD Cert.ReferenceStepOutIdeal.τ).loc Cert.ReferenceStepOutIdeal.main_arg0) = m ((c.tc : Thread Cert.KernelStepOutIdeal.nD Cert.KernelStepOutIdeal.τ).loc Cert.KernelStepOutIdeal.main_arg0)
      ∧ m' ((c.tc : Thread Cert.ReferenceStepOutIdeal.nD Cert.ReferenceStepOutIdeal.τ).loc Cert.ReferenceStepOutIdeal.main_arg1) = m ((c.tc : Thread Cert.KernelStepOutIdeal.nD Cert.KernelStepOutIdeal.τ).loc Cert.KernelStepOutIdeal.main_arg1)
      ∧ m' ((c.tc : Thread Cert.ReferenceStepOutIdeal.nD Cert.ReferenceStepOutIdeal.τ).loc Cert.ReferenceStepOutIdeal.main_arg2) = m ((c.tc : Thread Cert.KernelStepOutIdeal.nD Cert.KernelStepOutIdeal.τ).loc Cert.KernelStepOutIdeal.main_arg2)
      ∧ m' ((c.tc : Thread Cert.ReferenceStepOutIdeal.nD Cert.ReferenceStepOutIdeal.τ).loc Cert.ReferenceStepOutIdeal.main_arg3) = m ((c.tc : Thread Cert.KernelStepOutIdeal.nD Cert.KernelStepOutIdeal.τ).loc Cert.KernelStepOutIdeal.main_arg3)
      ∧ m' ((c.tc : Thread Cert.ReferenceStepOutIdeal.nD Cert.ReferenceStepOutIdeal.τ).loc Cert.ReferenceStepOutIdeal.main_arg4) = m ((c.tc : Thread Cert.KernelStepOutIdeal.nD Cert.KernelStepOutIdeal.τ).loc Cert.KernelStepOutIdeal.main_arg4)
      ∧ m' ((c.tc : Thread Cert.ReferenceStepOutIdeal.nD Cert.ReferenceStepOutIdeal.τ).loc Cert.ReferenceStepOutIdeal.main_arg5) = m ((c.tc : Thread Cert.KernelStepOutIdeal.nD Cert.KernelStepOutIdeal.τ).loc Cert.KernelStepOutIdeal.main_arg5)
      ∧ m' ((c.tc : Thread Cert.ReferenceStepOutIdeal.nD Cert.ReferenceStepOutIdeal.τ).loc Cert.ReferenceStepOutIdeal.main_arg6) = m ((c.tc : Thread Cert.KernelStepOutIdeal.nD Cert.KernelStepOutIdeal.τ).loc Cert.KernelStepOutIdeal.main_arg6)
      ∧ m' ((c.tc : Thread Cert.ReferenceStepOutIdeal.nD Cert.ReferenceStepOutIdeal.τ).loc Cert.ReferenceStepOutIdeal.main_arg7) = m ((c.tc : Thread Cert.KernelStepOutIdeal.nD Cert.KernelStepOutIdeal.τ).loc Cert.KernelStepOutIdeal.main_arg7)
      ∧ m' ((c.tc : Thread Cert.ReferenceStepOutIdeal.nD Cert.ReferenceStepOutIdeal.τ).loc Cert.ReferenceStepOutIdeal.main_arg8) = m ((c.tc : Thread Cert.KernelStepOutIdeal.nD Cert.KernelStepOutIdeal.τ).loc Cert.KernelStepOutIdeal.main_arg8)) →
    ∃ (v0 : (c : Dev Cert.KernelStepOutIdeal.nD) → Buf (Elt Ideal) ((c.tc : Thread Cert.KernelStepOutIdeal.nD Cert.KernelStepOutIdeal.τ).loc Cert.KernelStepOutIdeal.main_v16_0)) (v1 : (c : Dev Cert.KernelStepOutIdeal.nD) → Buf (Elt Ideal) ((c.tc : Thread Cert.KernelStepOutIdeal.nD Cert.KernelStepOutIdeal.τ).loc Cert.KernelStepOutIdeal.main_v16_1)),
      θ_run (Cert.KernelStepOutIdeal.defs (F := Ideal)) (onTc (τ := Cert.KernelStepOutIdeal.τ) (Cert.KernelStepOutIdeal.main (F := Ideal))) ⟨m, fun _ => 0, g⟩ (fun r => ∀ c : Dev Cert.KernelStepOutIdeal.nD,
          r.2.mem ((c.tc : Thread Cert.KernelStepOutIdeal.nD Cert.KernelStepOutIdeal.τ).loc Cert.KernelStepOutIdeal.main_v16_0) = v0 c
          ∧ r.2.mem ((c.tc : Thread Cert.KernelStepOutIdeal.nD Cert.KernelStepOutIdeal.τ).loc Cert.KernelStepOutIdeal.main_v16_1) = v1 c
          ∧ r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
          ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
          ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
          ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3)
          ∧ r.2.mem ((c.tc : Thread Cert.KernelStepOutIdeal.nD Cert.KernelStepOutIdeal.τ).loc Cert.KernelStepOutIdeal.main_arg4) = m ((c.tc : Thread Cert.KernelStepOutIdeal.nD Cert.KernelStepOutIdeal.τ).loc Cert.KernelStepOutIdeal.main_arg4)
          ∧ r.2.mem ((c.tc : Thread Cert.KernelStepOutIdeal.nD Cert.KernelStepOutIdeal.τ).loc Cert.KernelStepOutIdeal.main_arg5) = m ((c.tc : Thread Cert.KernelStepOutIdeal.nD Cert.KernelStepOutIdeal.τ).loc Cert.KernelStepOutIdeal.main_arg5)
          ∧ r.2.mem ((c.tc : Thread Cert.KernelStepOutIdeal.nD Cert.KernelStepOutIdeal.τ).loc Cert.KernelStepOutIdeal.main_arg6) = m ((c.tc : Thread Cert.KernelStepOutIdeal.nD Cert.KernelStepOutIdeal.τ).loc Cert.KernelStepOutIdeal.main_arg6)
          ∧ r.2.mem ((c.tc : Thread Cert.KernelStepOutIdeal.nD Cert.KernelStepOutIdeal.τ).loc Cert.KernelStepOutIdeal.main_arg7) = m ((c.tc : Thread Cert.KernelStepOutIdeal.nD Cert.KernelStepOutIdeal.τ).loc Cert.KernelStepOutIdeal.main_arg7)
          ∧ r.2.mem ((c.tc : Thread Cert.KernelStepOutIdeal.nD Cert.KernelStepOutIdeal.τ).loc Cert.KernelStepOutIdeal.main_arg8) = m ((c.tc : Thread Cert.KernelStepOutIdeal.nD Cert.KernelStepOutIdeal.τ).loc Cert.KernelStepOutIdeal.main_arg8))
      ∧ θ_run (Cert.ReferenceStepOutIdeal.defs (F := Ideal)) (onTc (τ := Cert.ReferenceStepOutIdeal.τ) (Cert.ReferenceStepOutIdeal.main (F := Ideal))) ⟨m', fun _ => 0, g'⟩ (fun r => ∀ c : Dev Cert.ReferenceStepOutIdeal.nD,
          r.2.mem ((c.tc : Thread Cert.ReferenceStepOutIdeal.nD Cert.ReferenceStepOutIdeal.τ).loc Cert.ReferenceStepOutIdeal.main_v54) = v0 c
          ∧ r.2.mem ((c.tc : Thread Cert.ReferenceStepOutIdeal.nD Cert.ReferenceStepOutIdeal.τ).loc Cert.ReferenceStepOutIdeal.main_v57) = v1 c
          ∧ r.2.mem ((c.tc : Thread Cert.ReferenceStepOutIdeal.nD Cert.ReferenceStepOutIdeal.τ).loc Cert.ReferenceStepOutIdeal.main_arg0) = m' ((c.tc : Thread Cert.ReferenceStepOutIdeal.nD Cert.ReferenceStepOutIdeal.τ).loc Cert.ReferenceStepOutIdeal.main_arg0)
          ∧ r.2.mem ((c.tc : Thread Cert.ReferenceStepOutIdeal.nD Cert.ReferenceStepOutIdeal.τ).loc Cert.ReferenceStepOutIdeal.main_arg1) = m' ((c.tc : Thread Cert.ReferenceStepOutIdeal.nD Cert.ReferenceStepOutIdeal.τ).loc Cert.ReferenceStepOutIdeal.main_arg1)
          ∧ r.2.mem ((c.tc : Thread Cert.ReferenceStepOutIdeal.nD Cert.ReferenceStepOutIdeal.τ).loc Cert.ReferenceStepOutIdeal.main_arg2) = m' ((c.tc : Thread Cert.ReferenceStepOutIdeal.nD Cert.ReferenceStepOutIdeal.τ).loc Cert.ReferenceStepOutIdeal.main_arg2)
          ∧ r.2.mem ((c.tc : Thread Cert.ReferenceStepOutIdeal.nD Cert.ReferenceStepOutIdeal.τ).loc Cert.ReferenceStepOutIdeal.main_arg3) = m' ((c.tc : Thread Cert.ReferenceStepOutIdeal.nD Cert.ReferenceStepOutIdeal.τ).loc Cert.ReferenceStepOutIdeal.main_arg3)
          ∧ r.2.mem ((c.tc : Thread Cert.ReferenceStepOutIdeal.nD Cert.ReferenceStepOutIdeal.τ).loc Cert.ReferenceStepOutIdeal.main_arg4) = m' ((c.tc : Thread Cert.ReferenceStepOutIdeal.nD Cert.ReferenceStepOutIdeal.τ).loc Cert.ReferenceStepOutIdeal.main_arg4)
          ∧ r.2.mem ((c.tc : Thread Cert.ReferenceStepOutIdeal.nD Cert.ReferenceStepOutIdeal.τ).loc Cert.ReferenceStepOutIdeal.main_arg5) = m' ((c.tc : Thread Cert.ReferenceStepOutIdeal.nD Cert.ReferenceStepOutIdeal.τ).loc Cert.ReferenceStepOutIdeal.main_arg5)
          ∧ r.2.mem ((c.tc : Thread Cert.ReferenceStepOutIdeal.nD Cert.ReferenceStepOutIdeal.τ).loc Cert.ReferenceStepOutIdeal.main_arg6) = m' ((c.tc : Thread Cert.ReferenceStepOutIdeal.nD Cert.ReferenceStepOutIdeal.τ).loc Cert.ReferenceStepOutIdeal.main_arg6)
          ∧ r.2.mem ((c.tc : Thread Cert.ReferenceStepOutIdeal.nD Cert.ReferenceStepOutIdeal.τ).loc Cert.ReferenceStepOutIdeal.main_arg7) = m' ((c.tc : Thread Cert.ReferenceStepOutIdeal.nD Cert.ReferenceStepOutIdeal.τ).loc Cert.ReferenceStepOutIdeal.main_arg7)
          ∧ r.2.mem ((c.tc : Thread Cert.ReferenceStepOutIdeal.nD Cert.ReferenceStepOutIdeal.τ).loc Cert.ReferenceStepOutIdeal.main_arg8) = m' ((c.tc : Thread Cert.ReferenceStepOutIdeal.nD Cert.ReferenceStepOutIdeal.τ).loc Cert.ReferenceStepOutIdeal.main_arg8))

def Claim : Prop :=
  ∃ (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelSample : Cert.KernelSample.Facts) (hKernelSampleIdeal : Cert.KernelSampleIdeal.Facts) (hReferenceSampleIdeal : Cert.ReferenceSampleIdeal.Facts) (hKernelStepIn : Cert.KernelStepIn.Facts) (hKernelStepInIdeal : Cert.KernelStepInIdeal.Facts) (hReferenceStepInIdeal : Cert.ReferenceStepInIdeal.Facts) (hKernelStepOut : Cert.KernelStepOut.Facts) (hKernelStepOutIdeal : Cert.KernelStepOutIdeal.Facts) (hReferenceStepOutIdeal : Cert.ReferenceStepOutIdeal.Facts) (hPre_finite_scores : Cert.Pre_finite_scores.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelSample (hKernelSample := hKernelSample)
    ∧ quiescent_KernelSampleIdeal (hKernelSampleIdeal := hKernelSampleIdeal)
    ∧ quiescent_KernelSampleIdeal_pre_finite_scores (hKernelSampleIdeal := hKernelSampleIdeal) (hPre_finite_scores := hPre_finite_scores)
    ∧ quiescent_ReferenceSampleIdeal (hReferenceSampleIdeal := hReferenceSampleIdeal)
    ∧ quiescent_ReferenceSampleIdeal_pre_finite_scores (hReferenceSampleIdeal := hReferenceSampleIdeal) (hPre_finite_scores := hPre_finite_scores)
    ∧ quiescent_KernelStepIn (hKernelStepIn := hKernelStepIn)
    ∧ quiescent_KernelStepInIdeal (hKernelStepInIdeal := hKernelStepInIdeal)
    ∧ quiescent_ReferenceStepInIdeal (hReferenceStepInIdeal := hReferenceStepInIdeal)
    ∧ quiescent_KernelStepOut (hKernelStepOut := hKernelStepOut)
    ∧ quiescent_KernelStepOutIdeal (hKernelStepOutIdeal := hKernelStepOutIdeal)
    ∧ quiescent_ReferenceStepOutIdeal (hReferenceStepOutIdeal := hReferenceStepOutIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelSample_KernelSampleIdeal
    ∧ algebraic_KernelSampleIdeal_ReferenceSampleIdeal_pre_finite_scores (hKernelSampleIdeal := hKernelSampleIdeal) (hReferenceSampleIdeal := hReferenceSampleIdeal) (hPre_finite_scores := hPre_finite_scores)
    ∧ preserves_KernelStepIn_KernelStepInIdeal
    ∧ algebraic_KernelStepInIdeal_ReferenceStepInIdeal (hKernelStepInIdeal := hKernelStepInIdeal) (hReferenceStepInIdeal := hReferenceStepInIdeal)
    ∧ preserves_KernelStepOut_KernelStepOutIdeal
    ∧ algebraic_KernelStepOutIdeal_ReferenceStepOutIdeal (hKernelStepOutIdeal := hKernelStepOutIdeal) (hReferenceStepOutIdeal := hReferenceStepOutIdeal)
-- ==== Pre_finite_scores.lean ====
abbrev S128x512 : Shape := ⟨2, ![128, 512]⟩
abbrev S128x128 : Shape := ⟨2, ![128, 128]⟩
abbrev S8 : Shape := ⟨1, ![8]⟩
abbrev S128x2048x8x64 : Shape := ⟨4, ![128, 2048, 8, 64]⟩
abbrev S128x128x2x64 : Shape := ⟨4, ![128, 128, 2, 64]⟩
abbrev S_ : Shape := ⟨0, ![]⟩

class Facts : Prop where
  bcast_S_S128x512 : S_.BroadcastsInDim S128x512 (![] : Fin 0 → Fin S128x512.rank)
  bcast_S_S128x2048x8x64 : S_.BroadcastsInDim S128x2048x8x64 (![] : Fin 0 → Fin S128x2048x8x64.rank)

variable [Facts]

def fn {F : FTy → Type} [FloatOps F] (main_arg0 : FVec F S128x512 .f32) (main_arg1 : FVec F S128x512 .f32) (main_arg2 : FVec F S128x512 .f32) (main_arg3 : FVec F S128x512 .f32) (main_arg4 : FVec F S128x128 .f32) (main_arg5 : FVec F S128x128 .f32) (main_arg6 : FVec F S8 .f32) (main_arg7 : FVec F S128x2048x8x64 .f32) (main_arg8 : FVec F S128x2048x8x64 .f32) (main_arg9 : FVec F S128x128x2x64 .f32) (main_arg10 : FVec F S128x128x2x64 .f32) : IVec S128x512 1 × IVec S128x512 1 × IVec S128x2048x8x64 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_v3 : FVec F S128x512 .f32 := Host.absf main_arg1
  let main_cst_0 : FVec F S_ .f32 := constant S_ .f32 0x7F800000#32
  let main_v4 : FVec F S128x512 .f32 := broadcastInDim S128x512 ![] bcast_S_S128x512 main_cst_0
  let main_v5 : IVec S128x512 1 := cmpf .olt main_v3 main_v4
  let main_v6 : FVec F S128x2048x8x64 .f32 := Host.absf main_arg7
  let main_cst_1 : FVec F S_ .f32 := constant S_ .f32 0x7F800000#32
  let main_v7 : FVec F S128x2048x8x64 .f32 := broadcastInDim S128x2048x8x64 ![] bcast_S_S128x2048x8x64 main_cst_1
  let main_v8 : IVec S128x2048x8x64 1 := cmpf .olt main_v6 main_v7
  (main_v2, main_v5, main_v8)
-- ==== KernelIn.lean ====
abbrev S8x2048x1024 : Shape := ⟨3, ![8, 2048, 1024]⟩
abbrev S1024 : Shape := ⟨1, ![1024]⟩
abbrev S1024x4352 : Shape := ⟨2, ![1024, 4352]⟩
abbrev S256 : Shape := ⟨1, ![256]⟩
abbrev S1024x2304 : Shape := ⟨2, ![1024, 2304]⟩
abbrev S16384x1024 : Shape := ⟨2, ![16384, 1024]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1024x2048 : Shape := ⟨2, ![1024, 2048]⟩
abbrev S256x1 : Shape := ⟨2, ![256, 1]⟩
abbrev S1024x256 : Shape := ⟨2, ![1024, 256]⟩
abbrev S1024x2560 : Shape := ⟨2, ![1024, 2560]⟩
abbrev S1x1024 : Shape := ⟨2, ![1, 1024]⟩
abbrev S16384x512 : Shape := ⟨2, ![16384, 512]⟩
abbrev S16384x256 : Shape := ⟨2, ![16384, 256]⟩
abbrev S8x512x2048 : Shape := ⟨3, ![8, 512, 2048]⟩
abbrev S8x128x128 : Shape := ⟨3, ![8, 128, 128]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S1x512x512 : Shape := ⟨3, ![1, 512, 512]⟩
abbrev S1x128x128 : Shape := ⟨3, ![1, 128, 128]⟩
abbrev S512 : Shape := ⟨1, ![512]⟩
abbrev S512x1 : Shape := ⟨2, ![512, 1]⟩
abbrev S1024x512 : Shape := ⟨2, ![1024, 512]⟩
abbrev S1x128 : Shape := ⟨2, ![1, 128]⟩
abbrev S128x256 : Shape := ⟨2, ![128, 256]⟩
abbrev S128x128 : Shape := ⟨2, ![128, 128]⟩

abbrev nBuf : Space → Nat
  | .hbm => 70
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4352, .f32⟩
  | .hbm, ⟨3, _⟩ => ⟨S256, .i32⟩
  | .hbm, ⟨4, _⟩ => ⟨S256, .i1⟩
  | .hbm, ⟨5, _⟩ => ⟨S256, .i32⟩
  | .hbm, ⟨6, _⟩ => ⟨S256, .i1⟩
  | .hbm, ⟨7, _⟩ => ⟨S1024x4352, .bf16⟩
  | .hbm, ⟨8, _⟩ => ⟨S1024x2304, .bf16⟩
  | .hbm, ⟨9, _⟩ => ⟨S16384x1024, .f32⟩
  | .hbm, ⟨10, _⟩ => ⟨S2048, .i32⟩
  | .hbm, ⟨11, _⟩ => ⟨S1x2048, .i32⟩
  | .hbm, ⟨12, _⟩ => ⟨S8x2048, .i32⟩
  | .hbm, ⟨13, _⟩ => ⟨S16384, .i32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S16384, .f32⟩
  | .hbm, ⟨29, _⟩ => ⟨S16384x1, .f32⟩
  | .hbm, ⟨30, _⟩ => ⟨S1x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S16384x64, .f32⟩
  | .hbm, ⟨37, _⟩ => ⟨S1x16384x1x64, .f32⟩
  | .hbm, ⟨38, _⟩ => ⟨S1x16384x2x64, .f32⟩
  | .hbm, ⟨39, _⟩ => ⟨S16384x128, .f32⟩
  | .hbm, ⟨40, _⟩ => ⟨S16384x32, .f32⟩
  | .hbm, ⟨41, _⟩ => ⟨S16384x64, .f32⟩
  | .hbm, ⟨42, _⟩ => ⟨S1x16384x1x64, .f32⟩
  | .hbm, ⟨43, _⟩ => ⟨S1x16384x2x64, .f32⟩
  | .hbm, ⟨44, _⟩ => ⟨S16384x128, .f32⟩
  | .hbm, ⟨45, _⟩ => ⟨S1024x2048, .bf16⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S1024x256, .bf16⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S256x1, .i32⟩
  | .hbm, ⟨57, _⟩ => ⟨S1024x256, .bf16⟩
  | .hbm, ⟨58, _⟩ => ⟨S1024x2560, .bf16⟩
  | .hbm, ⟨59, _⟩ => ⟨S1x1024, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x256, .f32⟩
  | .hbm, ⟨65, _⟩ => ⟨S16384x256, .f32⟩
  | .hbm, ⟨66, _⟩ => ⟨S8x512x2048, .f32⟩
  | .hbm, ⟨67, _⟩ => ⟨S8x512x2048, .f32⟩
  | .hbm, ⟨68, _⟩ => ⟨S8x128x128, .f32⟩
  | .hbm, ⟨69, _⟩ => ⟨S8x128x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev main_v47_3 : Ref sig .tc := ⟨.hbm, 63, rfl⟩
abbrev main_v47_4 : Ref sig .tc := ⟨.hbm, 64, rfl⟩
abbrev main_v47_5 : Ref sig .tc := ⟨.hbm, 65, rfl⟩
abbrev main_v47_6 : Ref sig .tc := ⟨.hbm, 66, rfl⟩
abbrev main_v47_7 : Ref sig .tc := ⟨.hbm, 67, rfl⟩
abbrev main_v47_8 : Ref sig .tc := ⟨.hbm, 68, rfl⟩
abbrev main_v47_9 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceInIdeal.lean ====
abbrev S8x2048x1024 : Shape := ⟨3, ![8, 2048, 1024]⟩
abbrev S1024 : Shape := ⟨1, ![1024]⟩
abbrev S1024x4352 : Shape := ⟨2, ![1024, 4352]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4352 : Shape := ⟨3, ![8, 2048, 4352]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x2048x2x64 : Shape := ⟨4, ![8, 2048, 2, 64]⟩
abbrev S8x2048x2x32 : Shape := ⟨4, ![8, 2048, 2, 32]⟩
abbrev S16384x512 : Shape := ⟨2, ![16384, 512]⟩
abbrev S8x2048x2x1x64 : Shape := ⟨5, ![8, 2048, 2, 1, 64]⟩
abbrev S8x2048x2x2x64 : Shape := ⟨5, ![8, 2048, 2, 2, 64]⟩
abbrev S16384x256 : Shape := ⟨2, ![16384, 256]⟩
abbrev S8x8x64x2048 : Shape := ⟨4, ![8, 8, 64, 2048]⟩
abbrev S8x512x2048 : Shape := ⟨3, ![8, 512, 2048]⟩
abbrev S8x128x2x64 : Shape := ⟨4, ![8, 128, 2, 64]⟩
abbrev S8x2x64x128 : Shape := ⟨4, ![8, 2, 64, 128]⟩
abbrev S8x128x128 : Shape := ⟨3, ![8, 128, 128]⟩

abbrev nBuf : Space → Nat
  | .hbm => 219
  | .vmem => 0
  | .smem => 0
  | _ => 0

abbrev hbmTy0_0 (i : Nat) : BufTy := match i % 128 with
  | 0 => ⟨S8x2048x1024, .f32⟩
  | 1 => ⟨S1024, .f32⟩
  | 2 => ⟨S1024x4352, .f32⟩
  | 3 => ⟨S2048, .i32⟩
  | 4 => ⟨S8x2048x1024, .f32⟩
  | 5 => ⟨S_, .f32⟩
  | 6 => ⟨S8x2048, .f32⟩
  | 7 => ⟨S8x2048x1, .f32⟩
  | 8 => ⟨S_, .f32⟩
  | 9 => ⟨S8x2048x1, .f32⟩
  | 10 => ⟨S8x2048x1, .f32⟩
  | 11 => ⟨S_, .f32⟩
  | 12 => ⟨S8x2048x1, .f32⟩
  | 13 => ⟨S8x2048x1, .f32⟩
  | 14 => ⟨S8x2048x1, .f32⟩
  | 15 => ⟨S8x2048x1024, .f32⟩
  | 16 => ⟨S8x2048x1024, .f32⟩
  | 17 => ⟨S1x1x1024, .f32⟩
  | 18 => ⟨S8x2048x1024, .f32⟩
  | 19 => ⟨S8x2048x1024, .f32⟩
  | 20 => ⟨S8x2048x4352, .f32⟩
  | 21 => ⟨S8x2048x512, .f32⟩
  | 22 => ⟨S8x2048x512, .f32⟩
  | 23 => ⟨S8x2048x512, .f32⟩
  | 24 => ⟨S8x2048x512, .f32⟩
  | 25 => ⟨S8x2048x128, .f32⟩
  | 26 => ⟨S8x2048x128, .f32⟩
  | 27 => ⟨S8x2048x1024, .f32⟩
  | 28 => ⟨S8x2048x1024, .f32⟩
  | 29 => ⟨S8x2048x8x64, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S2048, .f32⟩
  | 45 => ⟨S2048x1, .f32⟩
  | 46 => ⟨S1x32, .f32⟩
  | 47 => ⟨S2048x32, .f32⟩
  | 48 => ⟨S2048x32, .f32⟩
  | 49 => ⟨S2048x32, .f32⟩
  | 50 => ⟨S2048x32, .f32⟩
  | 51 => ⟨S2048x1x32, .f32⟩
  | 52 => ⟨S2048x32, .f32⟩
  | 53 => ⟨S2048x1x32, .f32⟩
  | 54 => ⟨S8x2048x8x32, .f32⟩
  | 55 => ⟨S8x2048x8x32, .f32⟩
  | 56 => ⟨S1x2048x1x32, .f32⟩
  | 57 => ⟨S8x2048x8x32, .f32⟩
  | 58 => ⟨S8x2048x8x32, .f32⟩
  | 59 => ⟨S1x2048x1x32, .f32⟩
  | 60 => ⟨S8x2048x8x32, .f32⟩
  | 61 => ⟨S8x2048x8x32, .f32⟩
  | 62 => ⟨S8x2048x8x32, .f32⟩
  | 63 => ⟨S1x2048x1x32, .f32⟩
  | 64 => ⟨S8x2048x8x32, .f32⟩
  | 65 => ⟨S8x2048x8x32, .f32⟩
  | 66 => ⟨S1x2048x1x32, .f32⟩
  | 67 => ⟨S8x2048x8x32, .f32⟩
  | 68 => ⟨S8x2048x8x32, .f32⟩
  | 69 => ⟨S8x2048x8x32, .f32⟩
  | 70 => ⟨S8x2048x8x64, .f32⟩
  | 71 => ⟨S8x2048x8x64, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S2048, .f32⟩
  | 87 => ⟨S2048x1, .f32⟩
  | 88 => ⟨S1x32, .f32⟩
  | 89 => ⟨S2048x32, .f32⟩
  | 90 => ⟨S2048x32, .f32⟩
  | 91 => ⟨S2048x32, .f32⟩
  | 92 => ⟨S2048x32, .f32⟩
  | 93 => ⟨S2048x1x32, .f32⟩
  | 94 => ⟨S2048x32, .f32⟩
  | 95 => ⟨S2048x1x32, .f32⟩
  | 96 => ⟨S8x2048x8x32, .f32⟩
  | 97 => ⟨S8x2048x8x32, .f32⟩
  | 98 => ⟨S1x2048x1x32, .f32⟩
  | 99 => ⟨S8x2048x8x32, .f32⟩
  | 100 => ⟨S8x2048x8x32, .f32⟩
  | 101 => ⟨S1x2048x1x32, .f32⟩
  | 102 => ⟨S8x2048x8x32, .f32⟩
  | 103 => ⟨S8x2048x8x32, .f32⟩
  | 104 => ⟨S8x2048x8x32, .f32⟩
  | 105 => ⟨S1x2048x1x32, .f32⟩
  | 106 => ⟨S8x2048x8x32, .f32⟩
  | 107 => ⟨S8x2048x8x32, .f32⟩
  | 108 => ⟨S1x2048x1x32, .f32⟩
  | 109 => ⟨S8x2048x8x32, .f32⟩
  | 110 => ⟨S8x2048x8x32, .f32⟩
  | 111 => ⟨S8x2048x8x32, .f32⟩
  | 112 => ⟨S8x2048x8x64, .f32⟩
  | 113 => ⟨S8x2048x8x64, .f32⟩
  | 114 => ⟨S8x2048x8x64, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S8x2048x1024, .f32⟩

abbrev hbmTy0_1 (i : Nat) : BufTy := match i % 128 with
  | 0 => ⟨S32, .f32⟩
  | 1 => ⟨S2048, .f32⟩
  | 2 => ⟨S2048x1, .f32⟩
  | 3 => ⟨S1x32, .f32⟩
  | 4 => ⟨S2048x32, .f32⟩
  | 5 => ⟨S2048x32, .f32⟩
  | 6 => ⟨S2048x32, .f32⟩
  | 7 => ⟨S2048x32, .f32⟩
  | 8 => ⟨S2048x1x32, .f32⟩
  | 9 => ⟨S2048x32, .f32⟩
  | 10 => ⟨S2048x1x32, .f32⟩
  | 11 => ⟨S8x2048x8x32, .f32⟩
  | 12 => ⟨S8x2048x8x32, .f32⟩
  | 13 => ⟨S1x2048x1x32, .f32⟩
  | 14 => ⟨S8x2048x8x32, .f32⟩
  | 15 => ⟨S8x2048x8x32, .f32⟩
  | 16 => ⟨S1x2048x1x32, .f32⟩
  | 17 => ⟨S8x2048x8x32, .f32⟩
  | 18 => ⟨S8x2048x8x32, .f32⟩
  | 19 => ⟨S8x2048x8x32, .f32⟩
  | 20 => ⟨S1x2048x1x32, .f32⟩
  | 21 => ⟨S8x2048x8x32, .f32⟩
  | 22 => ⟨S8x2048x8x32, .f32⟩
  | 23 => ⟨S1x2048x1x32, .f32⟩
  | 24 => ⟨S8x2048x8x32, .f32⟩
  | 25 => ⟨S8x2048x8x32, .f32⟩
  | 26 => ⟨S8x2048x8x32, .f32⟩
  | 27 => ⟨S8x2048x8x64, .f32⟩
  | 28 => ⟨S8x2048x2x64, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S2048, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S2048x1x32, .f32⟩
  | 51 => ⟨S2048x32, .f32⟩
  | 52 => ⟨S2048x1x32, .f32⟩
  | 53 => ⟨S8x2048x2x32, .f32⟩
  | 54 => ⟨S8x2048x2x32, .f32⟩
  | 55 => ⟨S1x2048x1x32, .f32⟩
  | 56 => ⟨S8x2048x2x32, .f32⟩
  | 57 => ⟨S8x2048x2x32, .f32⟩
  | 58 => ⟨S1x2048x1x32, .f32⟩
  | 59 => ⟨S8x2048x2x32, .f32⟩
  | 60 => ⟨S8x2048x2x32, .f32⟩
  | 61 => ⟨S8x2048x2x32, .f32⟩
  | 62 => ⟨S1x2048x1x32, .f32⟩
  | 63 => ⟨S8x2048x2x32, .f32⟩
  | 64 => ⟨S8x2048x2x32, .f32⟩
  | 65 => ⟨S1x2048x1x32, .f32⟩
  | 66 => ⟨S8x2048x2x32, .f32⟩
  | 67 => ⟨S8x2048x2x32, .f32⟩
  | 68 => ⟨S8x2048x2x32, .f32⟩
  | 69 => ⟨S8x2048x2x64, .f32⟩
  | 70 => ⟨S8x2048x2x64, .f32⟩
  | 71 => ⟨S16384x512, .f32⟩
  | 72 => ⟨S16384x512, .f32⟩
  | 73 => ⟨S16384x512, .f32⟩
  | 74 => ⟨S16384x512, .f32⟩
  | 75 => ⟨S8x2048x2x1x64, .f32⟩
  | 76 => ⟨S8x2048x2x2x64, .f32⟩
  | 77 => ⟨S16384x256, .f32⟩
  | 78 => ⟨S8x2048x2x1x64, .f32⟩
  | 79 => ⟨S8x2048x2x2x64, .f32⟩
  | 80 => ⟨S16384x256, .f32⟩
  | 81 => ⟨S8x8x64x2048, .f32⟩
  | 82 => ⟨S8x512x2048, .f32⟩
  | 83 => ⟨S8x8x64x2048, .f32⟩
  | 84 => ⟨S8x512x2048, .f32⟩
  | 85 => ⟨S8x128x2x64, .f32⟩
  | 86 => ⟨S8x2x64x128, .f32⟩
  | 87 => ⟨S8x128x128, .f32⟩
  | 88 => ⟨S8x128x2x64, .f32⟩
  | 89 => ⟨S8x2x64x128, .f32⟩
  | 90 => ⟨S8x128x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_10 : Ref sig .tc := ⟨.hbm, 116, rfl⟩
abbrev main_v102 : Ref sig .tc := ⟨.hbm, 117, rfl⟩
abbrev main_v103 : Ref sig .tc := ⟨.hbm, 118, rfl⟩
abbrev main_cst_11 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_12 : Ref sig .tc := ⟨.hbm, 123, rfl⟩
abbrev main_v107 : Ref sig .tc := ⟨.hbm, 124, rfl⟩
abbrev main_v108 : Ref sig .tc := ⟨.hbm, 125, rfl⟩
abbrev main_cst_13 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_cst_14 : Ref sig .tc := ⟨.hbm, 158, rfl⟩
abbrev main_v140 : Ref sig .tc := ⟨.hbm, 159, rfl⟩
abbrev main_v141 : Ref sig .tc := ⟨.hbm, 160, rfl⟩
abbrev main_cst_15 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_cst_16 : Ref sig .tc := ⟨.hbm, 165, rfl⟩
abbrev main_v145 : Ref sig .tc := ⟨.hbm, 166, rfl⟩
abbrev main_v146 : Ref sig .tc := ⟨.hbm, 167, rfl⟩
abbrev main_cst_17 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩

abbrev nD : Nat := 1
abbrev τ : Topo := Topo.v7x

variable {F : FTy → Type} [FloatOps F]
-- ==== KernelOut.lean ====
abbrev S8x2048x1024 : Shape := ⟨3, ![8, 2048, 1024]⟩
abbrev S8x2048x512 : Shape := ⟨3, ![8, 2048, 512]⟩
abbrev S1x1024 : Shape := ⟨2, ![1, 1024]⟩
abbrev S1x1024x4352 : Shape := ⟨3, ![1, 1024, 4352]⟩
abbrev S1x512x1024 : Shape := ⟨3, ![1, 512, 1024]⟩
abbrev S1x1024x1024 : Shape := ⟨3, ![1, 1024, 1024]⟩
abbrev S1024x4352 : Shape := ⟨2, ![1024, 4352]⟩
abbrev S1024x2048 : Shape := ⟨2, ![1024, 2048]⟩
abbrev S1024 : Shape := ⟨1, ![1024]⟩
abbrev S512x1024 : Shape := ⟨2, ![512, 1024]⟩
abbrev S1024x1024 : Shape := ⟨2, ![1024, 1024]⟩
abbrev S16384x1024 : Shape := ⟨2, ![16384, 1024]⟩
abbrev S16384x512 : Shape := ⟨2, ![16384, 512]⟩
abbrev S1024x16384 : Shape := ⟨2, ![1024, 16384]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 27
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1x1024, .f32⟩
  | .hbm, ⟨4, _⟩ => ⟨S1x1024x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1024x4352, .f32⟩
  | .hbm, ⟨10, _⟩ => ⟨S1024x4352, .bf16⟩
  | .hbm, ⟨11, _⟩ => ⟨S1024x2048, .bf16⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1024x512, .bf16⟩
  | .local _ .vmem, ⟨15, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOutIdeal.lean ====
abbrev S8x2048x1024 : Shape := ⟨3, ![8, 2048, 1024]⟩
abbrev S8x2048x512 : Shape := ⟨3, ![8, 2048, 512]⟩
abbrev S1x1024 : Shape := ⟨2, ![1, 1024]⟩
abbrev S1x1024x4352 : Shape := ⟨3, ![1, 1024, 4352]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4352 : Shape := ⟨2, ![1024, 4352]⟩
abbrev S8x2048x4352 : Shape := ⟨3, ![8, 2048, 4352]⟩
abbrev S512x1024 : Shape := ⟨2, ![512, 1024]⟩
abbrev S1024x1024 : Shape := ⟨2, ![1024, 1024]⟩
abbrev S16384x1024 : Shape := ⟨2, ![16384, 1024]⟩
abbrev S1024x16384 : Shape := ⟨2, ![1024, 16384]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1x1024, .f32⟩
  | .hbm, ⟨4, _⟩ => ⟨S1x1024x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1024x4352, .f32⟩
  | .hbm, ⟨27, _⟩ => ⟨S8x2048x4352, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S512x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048x1024, .f32⟩
  | .hbm, ⟨48, _⟩ => ⟨S8x2048x1024, .f32⟩
  | .hbm, ⟨49, _⟩ => ⟨S512x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S1024x1024, .f32⟩
  | .hbm, ⟨54, _⟩ => ⟨S8x2048x1024, .f32⟩
  | .hbm, ⟨55, _⟩ => ⟨S8x2048x1024, .f32⟩
  | .hbm, ⟨56, _⟩ => ⟨S1024, .f32⟩
  | .hbm, ⟨57, _⟩ => ⟨S8x2048x1024, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S1x1x1024, .f32⟩
  | .hbm, ⟨71, _⟩ => ⟨S8x2048x1024, .f32⟩
  | .hbm, ⟨72, _⟩ => ⟨S8x2048x1024, .f32⟩
  | .hbm, ⟨73, _⟩ => ⟨S16384x1024, .f32⟩
  | .hbm, ⟨74, _⟩ => ⟨S16384x1024, .f32⟩
  | .hbm, ⟨75, _⟩ => ⟨S1024x16384, .f32⟩
  | .hbm, ⟨76, _⟩ => ⟨S1024x16384, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== KernelSample.lean ====
abbrev S128x512 : Shape := ⟨2, ![128, 512]⟩
abbrev S128x128 : Shape := ⟨2, ![128, 128]⟩
abbrev S8 : Shape := ⟨1, ![8]⟩
abbrev S128x2048x8x64 : Shape := ⟨4, ![128, 2048, 8, 64]⟩
abbrev S128x128x2x64 : Shape := ⟨4, ![128, 128, 2, 64]⟩
abbrev S128x1x512 : Shape := ⟨3, ![128, 1, 512]⟩
abbrev S128x1x128 : Shape := ⟨3, ![128, 1, 128]⟩
abbrev S8x1 : Shape := ⟨2, ![8, 1]⟩
abbrev S128x8x64x2048 : Shape := ⟨4, ![128, 8, 64, 2048]⟩
abbrev S128x512x2048 : Shape := ⟨3, ![128, 512, 2048]⟩
abbrev S128x2x64x128 : Shape := ⟨4, ![128, 2, 64, 128]⟩
abbrev S128x128x128 : Shape := ⟨3, ![128, 128, 128]⟩
abbrev S1x1x512 : Shape := ⟨3, ![1, 1, 512]⟩
abbrev S1x1x128 : Shape := ⟨3, ![1, 1, 128]⟩
abbrev S1x256x2048 : Shape := ⟨3, ![1, 256, 2048]⟩
abbrev S1x128x128 : Shape := ⟨3, ![1, 128, 128]⟩
abbrev S1x512x2048 : Shape := ⟨3, ![1, 512, 2048]⟩
abbrev S8x2048 : Shape := ⟨2, ![8, 2048]⟩
abbrev S512x128 : Shape := ⟨2, ![512, 128]⟩
abbrev S1x128 : Shape := ⟨2, ![1, 128]⟩
abbrev S1x512 : Shape := ⟨2, ![1, 512]⟩
abbrev S8x512 : Shape := ⟨2, ![8, 512]⟩
abbrev S64x128 : Shape := ⟨2, ![64, 128]⟩
abbrev S1x64x128 : Shape := ⟨3, ![1, 64, 128]⟩
abbrev S128 : Shape := ⟨1, ![128]⟩
abbrev S64 : Shape := ⟨1, ![64]⟩
abbrev S64x1 : Shape := ⟨2, ![64, 1]⟩
abbrev S512 : Shape := ⟨1, ![512]⟩
abbrev S8x128 : Shape := ⟨2, ![8, 128]⟩

abbrev nBuf : Space → Nat
  | .hbm => 32
  | .vmem => 39
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S8, .f32⟩
  | .hbm, ⟨7, _⟩ => ⟨S128x2048x8x64, .f32⟩
  | .hbm, ⟨8, _⟩ => ⟨S128x2048x8x64, .f32⟩
  | .hbm, ⟨9, _⟩ => ⟨S128x128x2x64, .f32⟩
  | .hbm, ⟨10, _⟩ => ⟨S128x128x2x64, .f32⟩
  | .hbm, ⟨11, _⟩ => ⟨S128x1x512, .f32⟩
  | .hbm, ⟨12, _⟩ => ⟨S128x1x512, .f32⟩
  | .hbm, ⟨13, _⟩ => ⟨S128x1x512, .f32⟩
  | .hbm, ⟨14, _⟩ => ⟨S128x1x512, .f32⟩
  | .hbm, ⟨15, _⟩ => ⟨S128x1x128, .f32⟩
  | .hbm, ⟨16, _⟩ => ⟨S128x1x128, .f32⟩
  | .hbm, ⟨17, _⟩ => ⟨S8x1, .f32⟩
  | .hbm, ⟨18, _⟩ => ⟨S128x8x64x2048, .f32⟩
  | .hbm, ⟨19, _⟩ => ⟨S128x512x2048, .f32⟩
  | .hbm, ⟨20, _⟩ => ⟨S128x8x64x2048, .f32⟩
  | .hbm, ⟨21, _⟩ => ⟨S128x512x2048, .f32⟩
  | .hbm, ⟨22, _⟩ => ⟨S128x2x64x128, .f32⟩
  | .hbm, ⟨23, _⟩ => ⟨S128x128x128, .f32⟩
  | .hbm, ⟨24, _⟩ => ⟨S128x2x64x128, .f32⟩
  | .hbm, ⟨25, _⟩ => ⟨S128x128x128, .f32⟩
  | .hbm, ⟨26, _⟩ => ⟨S128x1x512, .f32⟩
  | .hbm, ⟨27, _⟩ => ⟨S128x1x512, .f32⟩
  | .hbm, ⟨28, _⟩ => ⟨S128x512x2048, .f32⟩
  | .hbm, ⟨29, _⟩ => ⟨S128x512x2048, .f32⟩
  | .hbm, ⟨30, _⟩ => ⟨S128x128x128, .f32⟩
  | .hbm, ⟨31, _⟩ => ⟨S128x128x128, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S8x1, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x512x2048, .f32⟩
  | .local _ .vmem, ⟨30, _⟩ => ⟨S1x512x2048, .f32⟩
  | .local _ .vmem, ⟨31, _⟩ => ⟨S1x512x2048, .f32⟩
  | .local _ .vmem, ⟨32, _⟩ => ⟨S1x512x2048, .f32⟩
  | .local _ .vmem, ⟨33, _⟩ => ⟨S1x128x128, .f32⟩
  | .local _ .vmem, ⟨34, _⟩ => ⟨S1x128x128, .f32⟩
  | .local _ .vmem, ⟨35, _⟩ => ⟨S1x128x128, .f32⟩
  | .local _ .vmem, ⟨36, _⟩ => ⟨S1x128x128, .f32⟩
  | .local _ .vmem, ⟨37, _⟩ => ⟨S8x2048, .f32⟩
  | .local _ .vmem, ⟨38, _⟩ => ⟨S512x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelSampleIdeal.lean ====
variable {F : FTy → Type} [FloatOps F] [Named F]
def κ : String → Option EReal := fun
  | "mask" => some ⊥
  | _ => none
-- ==== ReferenceSampleIdeal.lean ====
abbrev S128x512 : Shape := ⟨2, ![128, 512]⟩
abbrev S128x128 : Shape := ⟨2, ![128, 128]⟩
abbrev S8 : Shape := ⟨1, ![8]⟩
abbrev S128x2048x8x64 : Shape := ⟨4, ![128, 2048, 8, 64]⟩
abbrev S128x128x2x64 : Shape := ⟨4, ![128, 128, 2, 64]⟩
abbrev S128x1x8x64 : Shape := ⟨4, ![128, 1, 8, 64]⟩
abbrev S128x2049x8x64 : Shape := ⟨4, ![128, 2049, 8, 64]⟩
abbrev S128x1x2x64 : Shape := ⟨4, ![128, 1, 2, 64]⟩
abbrev S128x129x2x64 : Shape := ⟨4, ![128, 129, 2, 64]⟩
abbrev S128x8x1x64 : Shape := ⟨4, ![128, 8, 1, 64]⟩
abbrev S128x129x8x64 : Shape := ⟨4, ![128, 129, 8, 64]⟩
abbrev S128x8x1x129 : Shape := ⟨4, ![128, 8, 1, 129]⟩
abbrev S_ : Shape := ⟨0, ![]⟩
abbrev S128x8x1 : Shape := ⟨3, ![128, 8, 1]⟩
abbrev S128x8x1x1 : Shape := ⟨4, ![128, 8, 1, 1]⟩
abbrev S1x128x8x1 : Shape := ⟨4, ![1, 128, 8, 1]⟩
abbrev S3x128x8x1 : Shape := ⟨4, ![3, 128, 8, 1]⟩
abbrev S1x128x8x1x64 : Shape := ⟨5, ![1, 128, 8, 1, 64]⟩
abbrev S3x128x8x1x64 : Shape := ⟨5, ![3, 128, 8, 1, 64]⟩
abbrev S128x2x4x64 : Shape := ⟨4, ![128, 2, 4, 64]⟩
abbrev S2x4 : Shape := ⟨2, ![2, 4]⟩
abbrev S128x2x4x129 : Shape := ⟨4, ![128, 2, 4, 129]⟩
abbrev S128x2x4 : Shape := ⟨3, ![128, 2, 4]⟩
abbrev S1x2x4 : Shape := ⟨3, ![1, 2, 4]⟩
abbrev S128x2x4x1 : Shape := ⟨4, ![128, 2, 4, 1]⟩
abbrev S128x1x512 : Shape := ⟨3, ![128, 1, 512]⟩
abbrev S128x8x64x2048 : Shape := ⟨4, ![128, 8, 64, 2048]⟩
abbrev S128x512x2048 : Shape := ⟨3, ![128, 512, 2048]⟩
abbrev S128x2x64x128 : Shape := ⟨4, ![128, 2, 64, 128]⟩
abbrev S128x128x128 : Shape := ⟨3, ![128, 128, 128]⟩

abbrev nBuf : Space → Nat
  | .hbm => 147
  | .vmem => 0
  | .smem => 0
  | _ => 0

abbrev hbmTy0_0 (i : Nat) : BufTy := match i % 128 with
  | 0 => ⟨S128x512, .f32⟩
  | 1 => ⟨S128x512, .f32⟩
  | 2 => ⟨S128x512, .f32⟩
  | 3 => ⟨S128x512, .f32⟩
  | 4 => ⟨S128x128, .f32⟩
  | 5 => ⟨S128x128, .f32⟩
  | 6 => ⟨S8, .f32⟩
  | 7 => ⟨S128x2048x8x64, .f32⟩
  | 8 => ⟨S128x2048x8x64, .f32⟩
  | 9 => ⟨S128x128x2x64, .f32⟩
  | 10 => ⟨S128x128x2x64, .f32⟩
  | 11 => ⟨S128x1x8x64, .f32⟩
  | 12 => ⟨S128x2049x8x64, .f32⟩
  | 13 => ⟨S128x1x8x64, .f32⟩
  | 14 => ⟨S128x2049x8x64, .f32⟩
  | 15 => ⟨S128x1x2x64, .f32⟩
  | 16 => ⟨S128x129x2x64, .f32⟩
  | 17 => ⟨S128x1x2x64, .f32⟩
  | 18 => ⟨S128x129x2x64, .f32⟩
  | 19 => ⟨S128x8x1x64, .f32⟩
  | 20 => ⟨S128x129x8x64, .f32⟩
  | 21 => ⟨S128x129x8x64, .f32⟩
  | 22 => ⟨S128x8x1x129, .f32⟩
  | 23 => ⟨S_, .f32⟩
  | 24 => ⟨S128x8x1x129, .f32⟩
  | 25 => ⟨S128x8x1x129, .f32⟩
  | 26 => ⟨S_, .f32⟩
  | 27 => ⟨S128x8x1, .f32⟩
  | 28 => ⟨S128x8x1x1, .f32⟩
  | 29 => ⟨S128x8x1x129, .f32⟩
  | 30 => ⟨S128x8x1x129, .f32⟩
  | 31 => ⟨S128x8x1x129, .f32⟩
  | 32 => ⟨S_, .f32⟩
  | 33 => ⟨S128x8x1, .f32⟩
  | 34 => ⟨S128x8x1x1, .f32⟩
  | 35 => ⟨S128x8x1x129, .f32⟩
  | 36 => ⟨S128x8x1x129, .f32⟩
  | 37 => ⟨S128x8x1x64, .f32⟩
  | 38 => ⟨S128x8x1, .f32⟩
  | 39 => ⟨S128x8x1, .f32⟩
  | 40 => ⟨S128x8x1x64, .f32⟩
  | 41 => ⟨S128x129x8x64, .f32⟩
  | 42 => ⟨S128x129x8x64, .f32⟩
  | 43 => ⟨S128x8x1x129, .f32⟩
  | 44 => ⟨S_, .f32⟩
  | 45 => ⟨S128x8x1x129, .f32⟩
  | 46 => ⟨S128x8x1x129, .f32⟩
  | 47 => ⟨S_, .f32⟩
  | 48 => ⟨S128x8x1, .f32⟩
  | 49 => ⟨S128x8x1x1, .f32⟩
  | 50 => ⟨S128x8x1x129, .f32⟩
  | 51 => ⟨S128x8x1x129, .f32⟩
  | 52 => ⟨S128x8x1x129, .f32⟩
  | 53 => ⟨S_, .f32⟩
  | 54 => ⟨S128x8x1, .f32⟩
  | 55 => ⟨S128x8x1x1, .f32⟩
  | 56 => ⟨S128x8x1x129, .f32⟩
  | 57 => ⟨S128x8x1x129, .f32⟩
  | 58 => ⟨S128x8x1x64, .f32⟩
  | 59 => ⟨S128x8x1, .f32⟩
  | 60 => ⟨S128x8x1, .f32⟩
  | 61 => ⟨S128x8x1x64, .f32⟩
  | 62 => ⟨S128x129x8x64, .f32⟩
  | 63 => ⟨S128x129x8x64, .f32⟩
  | 64 => ⟨S128x8x1x129, .f32⟩
  | 65 => ⟨S_, .f32⟩
  | 66 => ⟨S128x8x1x129, .f32⟩
  | 67 => ⟨S128x8x1x129, .f32⟩
  | 68 => ⟨S_, .f32⟩
  | 69 => ⟨S128x8x1, .f32⟩
  | 70 => ⟨S128x8x1x1, .f32⟩
  | 71 => ⟨S128x8x1x129, .f32⟩
  | 72 => ⟨S128x8x1x129, .f32⟩
  | 73 => ⟨S128x8x1x129, .f32⟩
  | 74 => ⟨S_, .f32⟩
  | 75 => ⟨S128x8x1, .f32⟩
  | 76 => ⟨S128x8x1x1, .f32⟩
  | 77 => ⟨S128x8x1x129, .f32⟩
  | 78 => ⟨S128x8x1x129, .f32⟩
  | 79 => ⟨S128x8x1x64, .f32⟩
  | 80 => ⟨S128x8x1, .f32⟩
  | 81 => ⟨S128x8x1, .f32⟩
  | 82 => ⟨S1x128x8x1, .f32⟩
  | 83 => ⟨S1x128x8x1, .f32⟩
  | 84 => ⟨S1x128x8x1, .f32⟩
  | 85 => ⟨S3x128x8x1, .f32⟩
  | 86 => ⟨S_, .f32⟩
  | 87 => ⟨S128x8x1, .f32⟩
  | 88 => ⟨S_, .f32⟩
  | 89 => ⟨S128x8x1, .f32⟩
  | 90 => ⟨S128x8x1, .f32⟩
  | 91 => ⟨S1x128x8x1, .f32⟩
  | 92 => ⟨S3x128x8x1, .f32⟩
  | 93 => ⟨S3x128x8x1, .f32⟩
  | 94 => ⟨S3x128x8x1, .f32⟩
  | 95 => ⟨S_, .f32⟩
  | 96 => ⟨S128x8x1, .f32⟩
  | 97 => ⟨S1x128x8x1, .f32⟩
  | 98 => ⟨S3x128x8x1, .f32⟩
  | 99 => ⟨S3x128x8x1, .f32⟩
  | 100 => ⟨S1x128x8x1x64, .f32⟩
  | 101 => ⟨S1x128x8x1x64, .f32⟩
  | 102 => ⟨S1x128x8x1x64, .f32⟩
  | 103 => ⟨S3x128x8x1x64, .f32⟩
  | 104 => ⟨S128x8x1x64, .f32⟩
  | 105 => ⟨S128x2x4x64, .f32⟩
  | 106 => ⟨S2x4, .f32⟩
  | 107 => ⟨S128x2x4x129, .f32⟩
  | 108 => ⟨S_, .f32⟩
  | 109 => ⟨S128x2x4x129, .f32⟩
  | 110 => ⟨S128x2x4x129, .f32⟩
  | 111 => ⟨S_, .f32⟩
  | 112 => ⟨S128x2x4, .f32⟩
  | 113 => ⟨S1x2x4, .f32⟩
  | 114 => ⟨S128x2x4, .f32⟩
  | 115 => ⟨S128x2x4, .f32⟩
  | 116 => ⟨S128x2x4x1, .f32⟩
  | 117 => ⟨S128x2x4x129, .f32⟩
  | 118 => ⟨S128x2x4x129, .f32⟩
  | 119 => ⟨S128x2x4x129, .f32⟩
  | 120 => ⟨S_, .f32⟩
  | 121 => ⟨S128x2x4, .f32⟩
  | 122 => ⟨S1x2x4, .f32⟩
  | 123 => ⟨S128x2x4, .f32⟩
  | 124 => ⟨S128x2x4, .f32⟩
  | 125 => ⟨S128x2x4, .f32⟩
  | 126 => ⟨S128x2x4, .f32⟩
  | 127 => ⟨S128x2x4x1, .f32⟩
  | _ => ⟨S128x512, .f32⟩

abbrev hbmTy0_1 (i : Nat) : BufTy := match i % 128 with
  | 0 => ⟨S128x2x4x129, .f32⟩
  | 1 => ⟨S128x2x4x129, .f32⟩
  | 2 => ⟨S128x2x4x64, .f32⟩
  | 3 => ⟨S128x2x4, .f32⟩
  | 4 => ⟨S128x2x4, .f32⟩
  | 5 => ⟨S128x1x512, .f32⟩
  | 6 => ⟨S128x1x512, .f32⟩
  | 7 => ⟨S128x2048x8x64, .f32⟩
  | 8 => ⟨S128x8x64x2048, .f32⟩
  | 9 => ⟨S128x512x2048, .f32⟩
  | 10 => ⟨S128x2048x8x64, .f32⟩
  | 11 => ⟨S128x8x64x2048, .f32⟩
  | 12 => ⟨S128x512x2048, .f32⟩
  | 13 => ⟨S128x128x2x64, .f32⟩
  | 14 => ⟨S128x2x64x128, .f32⟩
  | 15 => ⟨S128x128x128, .f32⟩
  | 16 => ⟨S128x128x2x64, .f32⟩
  | 17 => ⟨S128x2x64x128, .f32⟩
  | 18 => ⟨S128x128x128, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_13 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩

abbrev nD : Nat := 1
abbrev τ : Topo := Topo.v7x

variable {F : FTy → Type} [FloatOps F]
-- ==== KernelStepIn.lean ====
abbrev S128x1x1024 : Shape := ⟨3, ![128, 1, 1024]⟩
abbrev S1024 : Shape := ⟨1, ![1024]⟩
abbrev S1024x4352 : Shape := ⟨2, ![1024, 4352]⟩
abbrev S1024x2304 : Shape := ⟨2, ![1024, 2304]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S128x1024 : Shape := ⟨2, ![128, 1024]⟩
abbrev S1x1024 : Shape := ⟨2, ![1, 1024]⟩
abbrev S128x512 : Shape := ⟨2, ![128, 512]⟩
abbrev S1024x512 : Shape := ⟨2, ![1024, 512]⟩
abbrev S1x128 : Shape := ⟨2, ![1, 128]⟩
abbrev S1024x128 : Shape := ⟨2, ![1024, 128]⟩

abbrev nBuf : Space → Nat
  | .hbm => 46
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x4352, .f32⟩
  | .hbm, ⟨3, _⟩ => ⟨S1024x4352, .bf16⟩
  | .hbm, ⟨4, _⟩ => ⟨S1024x2304, .bf16⟩
  | .hbm, ⟨5, _⟩ => ⟨S_, .i32⟩
  | .hbm, ⟨6, _⟩ => ⟨S128, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S128, .f32⟩
  | .hbm, ⟨22, _⟩ => ⟨S128x1, .f32⟩
  | .hbm, ⟨23, _⟩ => ⟨S1x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x64, .f32⟩
  | .hbm, ⟨30, _⟩ => ⟨S1x128x1x64, .f32⟩
  | .hbm, ⟨31, _⟩ => ⟨S1x128x2x64, .f32⟩
  | .hbm, ⟨32, _⟩ => ⟨S128x128, .f32⟩
  | .hbm, ⟨33, _⟩ => ⟨S128x32, .f32⟩
  | .hbm, ⟨34, _⟩ => ⟨S128x64, .f32⟩
  | .hbm, ⟨35, _⟩ => ⟨S1x128x1x64, .f32⟩
  | .hbm, ⟨36, _⟩ => ⟨S1x128x2x64, .f32⟩
  | .hbm, ⟨37, _⟩ => ⟨S128x128, .f32⟩
  | .hbm, ⟨38, _⟩ => ⟨S128x1024, .f32⟩
  | .hbm, ⟨39, _⟩ => ⟨S1x1024, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x128, .f32⟩
  | .hbm, ⟨45, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x2304, .bf16⟩
  | .local _ .vmem, ⟨3, _⟩ => ⟨S128x128, .f32⟩
  | .local _ .vmem, ⟨4, _⟩ => ⟨S128x128, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x128, .f32⟩
  | .local _ .vmem, ⟨10, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev main_v32_3 : Ref sig .tc := ⟨.hbm, 43, rfl⟩
abbrev main_v32_4 : Ref sig .tc := ⟨.hbm, 44, rfl⟩
abbrev main_v32_5 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== ReferenceStepInIdeal.lean ====
abbrev S128x1x1024 : Shape := ⟨3, ![128, 1, 1024]⟩
abbrev S1024 : Shape := ⟨1, ![1024]⟩
abbrev S1024x4352 : Shape := ⟨2, ![1024, 4352]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x4352 : Shape := ⟨3, ![128, 1, 4352]⟩
abbrev S128x1x512 : Shape := ⟨3, ![128, 1, 512]⟩
abbrev S128x1x128 : Shape := ⟨3, ![128, 1, 128]⟩
abbrev S128x1x8x64 : Shape := ⟨4, ![128, 1, 8, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x8x32 : Shape := ⟨4, ![128, 1, 8, 32]⟩
abbrev S1x1x1x32 : Shape := ⟨4, ![1, 1, 1, 32]⟩
abbrev S128x1x2x64 : Shape := ⟨4, ![128, 1, 2, 64]⟩
abbrev S128x1x2x32 : Shape := ⟨4, ![128, 1, 2, 32]⟩
abbrev S128x512 : Shape := ⟨2, ![128, 512]⟩
abbrev S128x128 : Shape := ⟨2, ![128, 128]⟩

abbrev nBuf : Space → Nat
  | .hbm => 204
  | .vmem => 0
  | .smem => 0
  | _ => 0

abbrev hbmTy0_0 (i : Nat) : BufTy := match i % 128 with
  | 0 => ⟨S128x1x1024, .f32⟩
  | 1 => ⟨S1024, .f32⟩
  | 2 => ⟨S1024x4352, .f32⟩
  | 3 => ⟨S1, .i32⟩
  | 4 => ⟨S_, .i32⟩
  | 5 => ⟨S1, .i32⟩
  | 6 => ⟨S1, .i32⟩
  | 7 => ⟨S128x1x1024, .f32⟩
  | 8 => ⟨S_, .f32⟩
  | 9 => ⟨S128x1, .f32⟩
  | 10 => ⟨S128x1x1, .f32⟩
  | 11 => ⟨S_, .f32⟩
  | 12 => ⟨S128x1x1, .f32⟩
  | 13 => ⟨S128x1x1, .f32⟩
  | 14 => ⟨S_, .f32⟩
  | 15 => ⟨S128x1x1, .f32⟩
  | 16 => ⟨S128x1x1, .f32⟩
  | 17 => ⟨S128x1x1, .f32⟩
  | 18 => ⟨S128x1x1024, .f32⟩
  | 19 => ⟨S128x1x1024, .f32⟩
  | 20 => ⟨S1x1x1024, .f32⟩
  | 21 => ⟨S128x1x1024, .f32⟩
  | 22 => ⟨S128x1x1024, .f32⟩
  | 23 => ⟨S128x1x4352, .f32⟩
  | 24 => ⟨S128x1x512, .f32⟩
  | 25 => ⟨S128x1x512, .f32⟩
  | 26 => ⟨S128x1x512, .f32⟩
  | 27 => ⟨S128x1x512, .f32⟩
  | 28 => ⟨S128x1x128, .f32⟩
  | 29 => ⟨S128x1x128, .f32⟩
  | 30 => ⟨S128x1x1024, .f32⟩
  | 31 => ⟨S128x1x1024, .f32⟩
  | 32 => ⟨S128x1x8x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S1, .f32⟩
  | 48 => ⟨S1x1, .f32⟩
  | 49 => ⟨S1x32, .f32⟩
  | 50 => ⟨S1x32, .f32⟩
  | 51 => ⟨S1x32, .f32⟩
  | 52 => ⟨S1x32, .f32⟩
  | 53 => ⟨S1x1x32, .f32⟩
  | 54 => ⟨S1x32, .f32⟩
  | 55 => ⟨S1x1x32, .f32⟩
  | 56 => ⟨S128x1x8x32, .f32⟩
  | 57 => ⟨S128x1x8x32, .f32⟩
  | 58 => ⟨S1x1x1x32, .f32⟩
  | 59 => ⟨S128x1x8x32, .f32⟩
  | 60 => ⟨S128x1x8x32, .f32⟩
  | 61 => ⟨S1x1x1x32, .f32⟩
  | 62 => ⟨S128x1x8x32, .f32⟩
  | 63 => ⟨S128x1x8x32, .f32⟩
  | 64 => ⟨S128x1x8x32, .f32⟩
  | 65 => ⟨S1x1x1x32, .f32⟩
  | 66 => ⟨S128x1x8x32, .f32⟩
  | 67 => ⟨S128x1x8x32, .f32⟩
  | 68 => ⟨S1x1x1x32, .f32⟩
  | 69 => ⟨S128x1x8x32, .f32⟩
  | 70 => ⟨S128x1x8x32, .f32⟩
  | 71 => ⟨S128x1x8x32, .f32⟩
  | 72 => ⟨S128x1x8x64, .f32⟩
  | 73 => ⟨S128x1x8x64, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S1, .f32⟩
  | 89 => ⟨S1x1, .f32⟩
  | 90 => ⟨S1x32, .f32⟩
  | 91 => ⟨S1x32, .f32⟩
  | 92 => ⟨S1x32, .f32⟩
  | 93 => ⟨S1x32, .f32⟩
  | 94 => ⟨S1x1x32, .f32⟩
  | 95 => ⟨S1x32, .f32⟩
  | 96 => ⟨S1x1x32, .f32⟩
  | 97 => ⟨S128x1x8x32, .f32⟩
  | 98 => ⟨S128x1x8x32, .f32⟩
  | 99 => ⟨S1x1x1x32, .f32⟩
  | 100 => ⟨S128x1x8x32, .f32⟩
  | 101 => ⟨S128x1x8x32, .f32⟩
  | 102 => ⟨S1x1x1x32, .f32⟩
  | 103 => ⟨S128x1x8x32, .f32⟩
  | 104 => ⟨S128x1x8x32, .f32⟩
  | 105 => ⟨S128x1x8x32, .f32⟩
  | 106 => ⟨S1x1x1x32, .f32⟩
  | 107 => ⟨S128x1x8x32, .f32⟩
  | 108 => ⟨S128x1x8x32, .f32⟩
  | 109 => ⟨S1x1x1x32, .f32⟩
  | 110 => ⟨S128x1x8x32, .f32⟩
  | 111 => ⟨S128x1x8x32, .f32⟩
  | 112 => ⟨S128x1x8x32, .f32⟩
  | 113 => ⟨S128x1x8x64, .f32⟩
  | 114 => ⟨S128x1x8x64, .f32⟩
  | 115 => ⟨S128x1x8x64, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S128x1x1024, .f32⟩

abbrev hbmTy0_1 (i : Nat) : BufTy := match i % 128 with
  | 0 => ⟨S32, .f32⟩
  | 1 => ⟨S32, .f32⟩
  | 2 => ⟨S1, .f32⟩
  | 3 => ⟨S1x1, .f32⟩
  | 4 => ⟨S1x32, .f32⟩
  | 5 => ⟨S1x32, .f32⟩
  | 6 => ⟨S1x32, .f32⟩
  | 7 => ⟨S1x32, .f32⟩
  | 8 => ⟨S1x1x32, .f32⟩
  | 9 => ⟨S1x32, .f32⟩
  | 10 => ⟨S1x1x32, .f32⟩
  | 11 => ⟨S128x1x8x32, .f32⟩
  | 12 => ⟨S128x1x8x32, .f32⟩
  | 13 => ⟨S1x1x1x32, .f32⟩
  | 14 => ⟨S128x1x8x32, .f32⟩
  | 15 => ⟨S128x1x8x32, .f32⟩
  | 16 => ⟨S1x1x1x32, .f32⟩
  | 17 => ⟨S128x1x8x32, .f32⟩
  | 18 => ⟨S128x1x8x32, .f32⟩
  | 19 => ⟨S128x1x8x32, .f32⟩
  | 20 => ⟨S1x1x1x32, .f32⟩
  | 21 => ⟨S128x1x8x32, .f32⟩
  | 22 => ⟨S128x1x8x32, .f32⟩
  | 23 => ⟨S1x1x1x32, .f32⟩
  | 24 => ⟨S128x1x8x32, .f32⟩
  | 25 => ⟨S128x1x8x32, .f32⟩
  | 26 => ⟨S128x1x8x32, .f32⟩
  | 27 => ⟨S128x1x8x64, .f32⟩
  | 28 => ⟨S128x1x2x64, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S1, .f32⟩
  | 44 => ⟨S1x1, .f32⟩
  | 45 => ⟨S1x32, .f32⟩
  | 46 => ⟨S1x32, .f32⟩
  | 47 => ⟨S1x32, .f32⟩
  | 48 => ⟨S1x32, .f32⟩
  | 49 => ⟨S1x1x32, .f32⟩
  | 50 => ⟨S1x32, .f32⟩
  | 51 => ⟨S1x1x32, .f32⟩
  | 52 => ⟨S128x1x2x32, .f32⟩
  | 53 => ⟨S128x1x2x32, .f32⟩
  | 54 => ⟨S1x1x1x32, .f32⟩
  | 55 => ⟨S128x1x2x32, .f32⟩
  | 56 => ⟨S128x1x2x32, .f32⟩
  | 57 => ⟨S1x1x1x32, .f32⟩
  | 58 => ⟨S128x1x2x32, .f32⟩
  | 59 => ⟨S128x1x2x32, .f32⟩
  | 60 => ⟨S128x1x2x32, .f32⟩
  | 61 => ⟨S1x1x1x32, .f32⟩
  | 62 => ⟨S128x1x2x32, .f32⟩
  | 63 => ⟨S128x1x2x32, .f32⟩
  | 64 => ⟨S1x1x1x32, .f32⟩
  | 65 => ⟨S128x1x2x32, .f32⟩
  | 66 => ⟨S128x1x2x32, .f32⟩
  | 67 => ⟨S128x1x2x32, .f32⟩
  | 68 => ⟨S128x1x2x64, .f32⟩
  | 69 => ⟨S128x1x2x64, .f32⟩
  | 70 => ⟨S128x512, .f32⟩
  | 71 => ⟨S128x512, .f32⟩
  | 72 => ⟨S128x512, .f32⟩
  | 73 => ⟨S128x512, .f32⟩
  | 74 => ⟨S128x128, .f32⟩
  | 75 => ⟨S128x128, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_6 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_10 : Ref sig .tc := ⟨.hbm, 117, rfl⟩
abbrev main_v102 : Ref sig .tc := ⟨.hbm, 118, rfl⟩
abbrev main_v103 : Ref sig .tc := ⟨.hbm, 119, rfl⟩
abbrev main_cst_11 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_12 : Ref sig .tc := ⟨.hbm, 124, rfl⟩
abbrev main_v107 : Ref sig .tc := ⟨.hbm, 125, rfl⟩
abbrev main_v108 : Ref sig .tc := ⟨.hbm, 126, rfl⟩
abbrev main_cst_13 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_cst_14 : Ref sig .tc := ⟨.hbm, 158, rfl⟩
abbrev main_v139 : Ref sig .tc := ⟨.hbm, 159, rfl⟩
abbrev main_v140 : Ref sig .tc := ⟨.hbm, 160, rfl⟩
abbrev main_cst_15 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_cst_16 : Ref sig .tc := ⟨.hbm, 165, rfl⟩
abbrev main_v144 : Ref sig .tc := ⟨.hbm, 166, rfl⟩
abbrev main_v145 : Ref sig .tc := ⟨.hbm, 167, rfl⟩
abbrev main_cst_17 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩

abbrev nD : Nat := 1
abbrev τ : Topo := Topo.v7x

variable {F : FTy → Type} [FloatOps F]
-- ==== KernelStepOut.lean ====
abbrev S128x1x1024 : Shape := ⟨3, ![128, 1, 1024]⟩
abbrev S128x1x512 : Shape := ⟨3, ![128, 1, 512]⟩
abbrev S1x1024 : Shape := ⟨2, ![1, 1024]⟩
abbrev S1x1024x4352 : Shape := ⟨3, ![1, 1024, 4352]⟩
abbrev S1x512x1024 : Shape := ⟨3, ![1, 512, 1024]⟩
abbrev S1x1024x1024 : Shape := ⟨3, ![1, 1024, 1024]⟩
abbrev S1024x4352 : Shape := ⟨2, ![1024, 4352]⟩
abbrev S1024x2048 : Shape := ⟨2, ![1024, 2048]⟩
abbrev S1024 : Shape := ⟨1, ![1024]⟩
abbrev S512x1024 : Shape := ⟨2, ![512, 1024]⟩
abbrev S1024x1024 : Shape := ⟨2, ![1024, 1024]⟩
abbrev S128x1024 : Shape := ⟨2, ![128, 1024]⟩
abbrev S128x512 : Shape := ⟨2, ![128, 512]⟩
abbrev S1024x128 : Shape := ⟨2, ![1024, 128]⟩
abbrev S128 : Shape := ⟨1, ![128]⟩
abbrev S128x1 : Shape := ⟨2, ![128, 1]⟩

abbrev nBuf : Space → Nat
  | .hbm => 27
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S1x1024, .f32⟩
  | .hbm, ⟨4, _⟩ => ⟨S1x1024x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1024x4352, .f32⟩
  | .hbm, ⟨10, _⟩ => ⟨S1024x4352, .bf16⟩
  | .hbm, ⟨11, _⟩ => ⟨S1024x2048, .bf16⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S128x1024, .f32⟩
  | .hbm, ⟨21, _⟩ => ⟨S128x512, .f32⟩
  | .hbm, ⟨22, _⟩ => ⟨S128x512, .f32⟩
  | .hbm, ⟨23, _⟩ => ⟨S1x1024, .f32⟩
  | .hbm, ⟨24, _⟩ => ⟨S1x1024, .f32⟩
  | .hbm, ⟨25, _⟩ => ⟨S128x1024, .f32⟩
  | .hbm, ⟨26, _⟩ => ⟨S1024x128, .bf16⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S1x1024, .f32⟩
  | .local _ .vmem, ⟨4, _⟩ => ⟨S1024x2048, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S128x1024, .f32⟩
  | .local _ .vmem, ⟨10, _⟩ => ⟨S1024x128, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== ReferenceStepOutIdeal.lean ====
abbrev S128x1x1024 : Shape := ⟨3, ![128, 1, 1024]⟩
abbrev S128x1x512 : Shape := ⟨3, ![128, 1, 512]⟩
abbrev S1x1024 : Shape := ⟨2, ![1, 1024]⟩
abbrev S1x1024x4352 : Shape := ⟨3, ![1, 1024, 4352]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x4352 : Shape := ⟨2, ![1024, 4352]⟩
abbrev S128x1x4352 : Shape := ⟨3, ![128, 1, 4352]⟩
abbrev S512x1024 : Shape := ⟨2, ![512, 1024]⟩
abbrev S1024x1024 : Shape := ⟨2, ![1024, 1024]⟩
abbrev S128x1024 : Shape := ⟨2, ![128, 1024]⟩
abbrev S1024x128 : Shape := ⟨2, ![1024, 128]⟩

abbrev nBuf : Space → Nat
  | .hbm => 77
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S1x1024, .f32⟩
  | .hbm, ⟨4, _⟩ => ⟨S1x1024x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S128x1x1024, .f32⟩
  | .hbm, ⟨11, _⟩ => ⟨S_, .f32⟩
  | .hbm, ⟨12, _⟩ => ⟨S128x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S1024x4352, .f32⟩
  | .hbm, ⟨27, _⟩ => ⟨S128x1x4352, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S_, .f32⟩
  | .hbm, ⟨33, _⟩ => ⟨S128x1x1024, .f32⟩
  | .hbm, ⟨34, _⟩ => ⟨S128x1x1024, .f32⟩
  | .hbm, ⟨35, _⟩ => ⟨S_, .f32⟩
  | .hbm, ⟨36, _⟩ => ⟨S128x1x1024, .f32⟩
  | .hbm, ⟨37, _⟩ => ⟨S128x1x1024, .f32⟩
  | .hbm, ⟨38, _⟩ => ⟨S512x1024, .f32⟩
  | .hbm, ⟨39, _⟩ => ⟨S128x1x1024, .f32⟩
  | .hbm, ⟨40, _⟩ => ⟨S128x1x1024, .f32⟩
  | .hbm, ⟨41, _⟩ => ⟨S128x1x1024, .f32⟩
  | .hbm, ⟨42, _⟩ => ⟨S128x1x1024, .f32⟩
  | .hbm, ⟨43, _⟩ => ⟨S_, .f32⟩
  | .hbm, ⟨44, _⟩ => ⟨S128x1x1024, .f32⟩
  | .hbm, ⟨45, _⟩ => ⟨S128x1x1024, .f32⟩
  | .hbm, ⟨46, _⟩ => ⟨S_, .f32⟩
  | .hbm, ⟨47, _⟩ => ⟨S128x1x1024, .f32⟩
  | .hbm, ⟨48, _⟩ => ⟨S128x1x1024, .f32⟩
  | .hbm, ⟨49, _⟩ => ⟨S512x1024, .f32⟩
  | .hbm, ⟨50, _⟩ => ⟨S128x1x1024, .f32⟩
  | .hbm, ⟨51, _⟩ => ⟨S128x1x1024, .f32⟩
  | .hbm, ⟨52, _⟩ => ⟨S128x1x1024, .f32⟩
  | .hbm, ⟨53, _⟩ => ⟨S1024x1024, .f32⟩
  | .hbm, ⟨54, _⟩ => ⟨S128x1x1024, .f32⟩
  | .hbm, ⟨55, _⟩ => ⟨S128x1x1024, .f32⟩
  | .hbm, ⟨56, _⟩ => ⟨S1024, .f32⟩
  | .hbm, ⟨57, _⟩ => ⟨S128x1x1024, .f32⟩
  | .hbm, ⟨58, _⟩ => ⟨S_, .f32⟩
  | .hbm, ⟨59, _⟩ => ⟨S128x1, .f32⟩
  | .hbm, ⟨60, _⟩ => ⟨S128x1x1, .f32⟩
  | .hbm, ⟨61, _⟩ => ⟨S_, .f32⟩
  | .hbm, ⟨62, _⟩ => ⟨S128x1x1, .f32⟩
  | .hbm, ⟨63, _⟩ => ⟨S128x1x1, .f32⟩
  | .hbm, ⟨64, _⟩ => ⟨S_, .f32⟩
  | .hbm, ⟨65, _⟩ => ⟨S128x1x1, .f32⟩
  | .hbm, ⟨66, _⟩ => ⟨S128x1x1, .f32⟩
  | .hbm, ⟨67, _⟩ => ⟨S128x1x1, .f32⟩
  | .hbm, ⟨68, _⟩ => ⟨S128x1x1024, .f32⟩
  | .hbm, ⟨69, _⟩ => ⟨S128x1x1024, .f32⟩
  | .hbm, ⟨70, _⟩ => ⟨S1x1x1024, .f32⟩
  | .hbm, ⟨71, _⟩ => ⟨S128x1x1024, .f32⟩
  | .hbm, ⟨72, _⟩ => ⟨S128x1x1024, .f32⟩
  | .hbm, ⟨73, _⟩ => ⟨S128x1024, .f32⟩
  | .hbm, ⟨74, _⟩ => ⟨S128x1024, .f32⟩
  | .hbm, ⟨75, _⟩ => ⟨S1024x128, .f32⟩
  | .hbm, ⟨76, _⟩ => ⟨S1024x128, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Proof.Rows.lean ====
/-
  The mathematics of one token, on plain functions of extended reals: the root mean square norm of a row, and the
  output projection of one token from its input row, its two attention rows and the weights.
-/
module
public import Idealize.ShloMosaic.PureOps.Ideal
@[expose] public section
noncomputable section
namespace Cert.Rows
open Idealize.ShloMosaic

/-- A row divided by its root mean square (the mean plus the small constant), times the gain. -/
def rms (x g : Fin 1024 → EReal) (k : Fin 1024) : EReal :=
  x k * Ideal.rsqrt (Ideal.div (∑ j, x j * x j) (Ideal.ofBits .f32 1149239296#32) + Ideal.ofBits .f32 897988541#32) * g k

/-- A normed row times one column of a weight. -/
def proj {n : Nat} (x g : Fin 1024 → EReal) (w : Fin 1024 → Fin n → EReal) (j : Fin n) : EReal :=
  ∑ k, rms x g k * w k j

/-- The two attention rows, each through its own weight, each under its own gate, added. -/
def merged (x g : Fin 1024 → EReal) (oa ob : Fin 512 → EReal) (ga gb : Fin 1024 → Fin 1024 → EReal)
    (wa wb : Fin 512 → Fin 1024 → EReal) (n : Fin 1024) : EReal :=
  Ideal.logistic (proj x g ga n) * ∑ d, oa d * wa d n + Ideal.logistic (proj x g gb n) * ∑ d, ob d * wb d n

/-- The token's row after the layer's first half: its input row plus the merged row through the output weight. -/
def hidden (x g : Fin 1024 → EReal) (oa ob : Fin 512 → EReal) (ga gb : Fin 1024 → Fin 1024 → EReal)
    (wa wb : Fin 512 → Fin 1024 → EReal) (wo : Fin 1024 → Fin 1024 → EReal) (n : Fin 1024) : EReal :=
  x n + ∑ k, merged x g oa ob ga gb wa wb k * wo k n

/-- The angle of position `s` at frequency `k` of the rotary embedding: the position times ten thousand to the power
    minus `2 k / 64`. -/
def angle (s : Nat) (k : Nat) : EReal :=
  (FloatOps.sitofp (F := Ideal) .f32 (BitVec.ofNat 32 s) : EReal) * Ideal.pow (Ideal.ofBits .f32 1176256512#32)
    (Ideal.div (-(Ideal.ofBits .f32 1073741824#32 * (FloatOps.sitofp (F := Ideal) .f32 (BitVec.ofNat 32 k) : EReal))) (Ideal.ofBits .f32 1115684864#32))

/-- The lane a lane is paired with: 32 lanes on in the first half of a head, 32 back in the second. -/
def swap (l : ℕ) : ℕ := if l % 64 < 32 then l + 32 else l - 32

theorem swap_lt {l n : ℕ} (h : l < 64 * n) : swap l < 64 * n := by unfold swap; split <;> omega

/-- A rotated lane: a channel times the cosine, plus its partner channel times the sine, the sine's sign turned in the
    first half of a head. -/
def spun {N : Nat} (z : Fin N → EReal) (s : Nat) (a b : Fin N) (l : Nat) : EReal :=
  z a * Ideal.cos (angle s (l % 32))
    + z b * (if l % 64 < 32 then -Ideal.sin (angle s (l % 32)) else Ideal.sin (angle s (l % 32)))

end Cert.Rows
-- ==== Proof.InBlock.lean ====
/-
  What one grid point of the prompt's input projection leaves in its output blocks, read at an index.
-/
module
public import proofs.«01_k».proof.Proof.Gen.KernelInIdeal.Value
public import proofs.«01_k».proof.Proof.Rows
public import Idealize.ShloMosaic.Lib.Pointwise
public import Idealize.ShloMosaic.Lib.ValueIdx
@[expose] public section
noncomputable section
namespace Cert.KernelInIdeal.Hand
open Idealize.ShloMosaic Cert.KernelInIdeal Cert.KernelInIdeal.Gen Cert.Rows

/-- The lane test of the rotary rotation, as the body spells it. -/
def low : IVec S1x128 1 := k0_pay14

theorem low_apply : ∀ l : Fin 128, low (ix2 0 l) = if l.val % 64 < 32 then 1#1 else 0#1 := by
  decide +kernel

/-- One slab of 128 lanes after the rotation. -/
def turn (cs sn z : FVec Ideal S512x128 .f32) : FVec Ideal S512x128 .f32 :=
  addf (mulf z cs) (mulf (select (broadcastTo S512x128 (shapeCast S1x128 low shapeCasts_S1x128_S1x128) broadcasts_S1x128_S512x128)
    (dynamicRotate 1 96#32 none z rotates_S512x128_d1) (dynamicRotate 1 32#32 none z rotates_S512x128_d1)) sn)

theorem turn_apply (cs sn z : FVec Ideal S512x128 .f32) (i : Fin 512) (l : Fin 128) :
    turn cs sn z (ix2 i l) = z (ix2 i l) * cs (ix2 i l)
      + z (ix2 i ⟨swap l.val, swap_lt (n := 2) l.isLt⟩) * sn (ix2 i l) := by
  unfold turn
  pointwise
  rw [low_apply]
  by_cases h : l.val % 64 < 32
  · rw [if_pos h, show ∀ a b : EReal, Scalar.select (1#1) a b = a from fun _ _ => rfl]
    congr 5
    show (l.val + 128 - 96) % 128 = swap l.val
    unfold swap; rw [if_pos h]; omega
  · rw [if_neg h, show ∀ a b : EReal, Scalar.select (0#1) a b = b from fun _ _ => rfl]
    congr 5
    show (l.val + 128 - 32) % 128 = swap l.val
    unfold swap; rw [if_neg h]; omega

theorem slab_congr {N : ℕ} (cs sn : FVec Ideal S512x128 .f32) (z : FVec Ideal ⟨2, ![512, N]⟩ .f32) (i : Fin 512)
    (a a' b b' : Fin N) (l l' : Fin 128) (ha : a.val = a'.val) (hl : l.val = l'.val) (hb : b.val = b'.val) :
    z (ix2 i a) * cs (ix2 i l) + z (ix2 i b) * sn (ix2 i l) = z (ix2 i a') * cs (ix2 i l') + z (ix2 i b') * sn (ix2 i l') := by
  rw [Fin.ext ha, Fin.ext hl, Fin.ext hb]

/-- Four slabs side by side. -/
def turns (cs sn : FVec Ideal S512x128 .f32) (z : FVec Ideal S512x512 .f32) : FVec Ideal S512x512 .f32 :=
  concatenate S512x512 1 [⟨S512x128, turn cs sn (extractStridedSlice S512x128 ![0, 0] z slices_S512x512_o0_0_S512x128)⟩,
    ⟨S512x128, turn cs sn (extractStridedSlice S512x128 ![0, 128] z slices_S512x512_o0_128_S512x128)⟩,
    ⟨S512x128, turn cs sn (extractStridedSlice S512x128 ![0, 256] z slices_S512x512_o0_256_S512x128)⟩,
    ⟨S512x128, turn cs sn (extractStridedSlice S512x128 ![0, 384] z slices_S512x512_o0_384_S512x128)⟩]
    concatenates_S512x128_S512x128_S512x128_S512x128_S512x512_d1

theorem turns_apply (cs sn : FVec Ideal S512x128 .f32) (z : FVec Ideal S512x512 .f32) (i : Fin 512) (j : Fin 512) :
    turns cs sn z (ix2 i j) = z (ix2 i j) * cs (ix2 i ⟨j.val % 128, by omega⟩)
      + z (ix2 i ⟨swap j.val, swap_lt (n := 8) j.isLt⟩) * sn (ix2 i ⟨j.val % 128, by omega⟩) := by
  unfold turns
  pointwise [turn_apply]
  have hs := swap_lt (n := 8) j.isLt
  by_cases h1 : j.val < 128
  · rw [dif_pos h1]
    exact slab_congr cs sn z _ _ _ _ _ _ _ rfl (by dsimp only; omega) rfl
  rw [dif_neg h1]
  by_cases h2 : j.val - 128 < 128
  · rw [dif_pos h2]
    exact slab_congr cs sn z _ _ _ _ _ _ _ (by dsimp only; omega) (by dsimp only; omega) (by dsimp only; unfold swap; split <;> split <;> omega)
  rw [dif_neg h2]
  by_cases h3 : j.val - 128 - 128 < 128
  · rw [dif_pos h3]
    exact slab_congr cs sn z _ _ _ _ _ _ _ (by dsimp only; omega) (by dsimp only; omega) (by dsimp only; unfold swap; split <;> split <;> omega)
  rw [dif_neg h3]
  exact slab_congr cs sn z _ _ _ _ _ _ _ (by dsimp only; omega) (by dsimp only; omega) (by dsimp only; unfold swap; split <;> split <;> omega)

/-- Two slabs side by side. -/
def turns2 (cs sn : FVec Ideal S512x128 .f32) (z : FVec Ideal S512x256 .f32) : FVec Ideal S512x256 .f32 :=
  concatenate S512x256 1 [⟨S512x128, turn cs sn (extractStridedSlice S512x128 ![0, 0] z slices_S512x256_o0_0_S512x128)⟩,
    ⟨S512x128, turn cs sn (extractStridedSlice S512x128 ![0, 128] z slices_S512x256_o0_128_S512x128)⟩]
    concatenates_S512x128_S512x128_S512x256_d1

theorem turns2_apply (cs sn : FVec Ideal S512x128 .f32) (z : FVec Ideal S512x256 .f32) (i : Fin 512) (j : Fin 256) :
    turns2 cs sn z (ix2 i j) = z (ix2 i j) * cs (ix2 i ⟨j.val % 128, by omega⟩)
      + z (ix2 i ⟨swap j.val, swap_lt (n := 4) j.isLt⟩) * sn (ix2 i ⟨j.val % 128, by omega⟩) := by
  unfold turns2
  pointwise [turn_apply]
  have hs := swap_lt (n := 4) j.isLt
  by_cases h1 : j.val < 128
  · rw [dif_pos h1]
    exact slab_congr cs sn z _ _ _ _ _ _ _ rfl (by dsimp only; omega) rfl
  rw [dif_neg h1]
  exact slab_congr cs sn z _ _ _ _ _ _ _ (by dsimp only; omega) (by dsimp only; omega) (by dsimp only; unfold swap; split <;> split <;> omega)

variable (x0 : Vec Ideal S512x1024 .f32) (x1 : Vec Ideal S1x1024 .f32) (x2 : Vec Ideal S1024x2560 .bf16)
  (x3 : Vec Ideal S512x128 .f32) (x4 : Vec Ideal S512x128 .f32)

/-- Columns `o`, `o + 1`, … of the projection of a row. -/
theorem proj5 (i j : Fin 512) : k0_pay54 (F := Ideal) x0 x1 x2 x3 x4 (ix2 i j)
    = proj (fun k => x0 (ix2 i k)) (fun k => x1 (ix2 0 k)) (fun k (n : Fin 512) => x2 (ix2 k ⟨n.val, by omega⟩)) j := by
  unfold k0_pay54
  unfold_payloads
  pointwise [dot_S512x1024_S1024x512_S512x512_1_0_0_1_n_n]
  rfl
theorem proj6 (i j : Fin 512) : k0_pay55 (F := Ideal) x0 x1 x2 x3 x4 (ix2 i j)
    = proj (fun k => x0 (ix2 i k)) (fun k => x1 (ix2 0 k)) (fun k (n : Fin 512) => x2 (ix2 k ⟨512 + n.val, by omega⟩)) j := by
  unfold k0_pay55 k0_pay51
  unfold_payloads
  pointwise [dot_S512x1024_S1024x512_S512x512_1_0_0_1_n_n]
  rfl
theorem proj7 (i j : Fin 512) : k0_pay57 (F := Ideal) x0 x1 x2 x3 x4 (ix2 i j)
    = proj (fun k => x0 (ix2 i k)) (fun k => x1 (ix2 0 k)) (fun k (n : Fin 512) => x2 (ix2 k ⟨1024 + n.val, by omega⟩)) j := by
  unfold k0_pay57 k0_pay51
  unfold_payloads
  pointwise [dot_S512x1024_S1024x512_S512x512_1_0_0_1_n_n]
  rfl
theorem proj8 (i j : Fin 512) : k0_pay58 (F := Ideal) x0 x1 x2 x3 x4 (ix2 i j)
    = proj (fun k => x0 (ix2 i k)) (fun k => x1 (ix2 0 k)) (fun k (n : Fin 512) => x2 (ix2 k ⟨1536 + n.val, by omega⟩)) j := by
  unfold k0_pay58 k0_pay51
  unfold_payloads
  pointwise [dot_S512x1024_S1024x512_S512x512_1_0_0_1_n_n]
  rfl
/-- The doubled key columns before the rotation. -/
def keys : FVec Ideal S512x256 .f32 := k0_pay40 (F := Ideal) (k0_pay51 x0 x1 x2 x3 x4) (View.ld x2 r0_7)
theorem proj9 (i : Fin 512) (j : Fin 256) : keys x0 x1 x2 x3 x4 (ix2 i j)
    = proj (fun k => x0 (ix2 i k)) (fun k => x1 (ix2 0 k)) (fun k (n : Fin 256) => x2 (ix2 k ⟨2048 + n.val, by omega⟩)) j := by
  unfold keys k0_pay51
  unfold_payloads
  pointwise [dot_S512x1024_S1024x256_S512x256_1_0_0_1_n_n]
  rfl
theorem proj10 (i : Fin 512) (j : Fin 256) : k0_pay60 (F := Ideal) x0 x1 x2 x3 x4 (ix2 i j)
    = proj (fun k => x0 (ix2 i k)) (fun k => x1 (ix2 0 k)) (fun k (n : Fin 256) => x2 (ix2 k ⟨2304 + n.val, by omega⟩)) j := by
  unfold k0_pay60 k0_pay51
  unfold_payloads
  pointwise [dot_S512x1024_S1024x256_S512x256_1_0_0_1_n_n]
  rfl

theorem cs_eq : k0_pay52 (F := Ideal) x0 x1 x2 x3 x4 = x3 := by
  funext y
  obtain ⟨a, b, rfl⟩ : ∃ a b, y = ix2 a b := ⟨_, _, ValueIdx.eq_ix2 (n0 := 512) (n1 := 128) y⟩
  unfold k0_pay52; unfold_payloads
  pointwise
theorem sn_eq : k0_pay53 (F := Ideal) x0 x1 x2 x3 x4 = x4 := by
  funext y
  obtain ⟨a, b, rfl⟩ : ∃ a b, y = ix2 a b := ⟨_, _, ValueIdx.eq_ix2 (n0 := 512) (n1 := 128) y⟩
  unfold k0_pay53; unfold_payloads
  pointwise

theorem out5_eq : out0_5 (F := Ideal) x0 x1 x2 x3 x4 = turns x3 x4 (k0_pay54 x0 x1 x2 x3 x4) := by
  unfold out0_5
  rw [View.canon_unit_zero (by funext a; fin_cases a <;> rfl)]
  exact (show _ = turns (k0_pay52 x0 x1 x2 x3 x4) (k0_pay53 x0 x1 x2 x3 x4) (k0_pay54 x0 x1 x2 x3 x4) from rfl).trans
    (by rw [cs_eq, sn_eq])

theorem pay56_eq : k0_pay56 (F := Ideal) x0 x1 x2 x3 x4 = turns x3 x4 (k0_pay55 x0 x1 x2 x3 x4) :=
  (show _ = turns (k0_pay52 x0 x1 x2 x3 x4) (k0_pay53 x0 x1 x2 x3 x4) (k0_pay55 x0 x1 x2 x3 x4) from rfl).trans
    (by rw [cs_eq, sn_eq])

theorem out8_eq : out0_8 (F := Ideal) x0 x1 x2 x3 x4 = turns x3 x4 (k0_pay58 x0 x1 x2 x3 x4) := by
  unfold out0_8
  rw [View.canon_unit_zero (by funext a; fin_cases a <;> rfl)]
  exact (show _ = turns (k0_pay52 x0 x1 x2 x3 x4) (k0_pay53 x0 x1 x2 x3 x4) (k0_pay58 x0 x1 x2 x3 x4) from rfl).trans
    (by rw [cs_eq, sn_eq])

theorem pay59_eq : k0_pay59 (F := Ideal) x0 x1 x2 x3 x4
    = turns2 x3 x4 (keys x0 x1 x2 x3 x4) :=
  (show _ = turns2 (k0_pay52 x0 x1 x2 x3 x4) (k0_pay53 x0 x1 x2 x3 x4) (keys x0 x1 x2 x3 x4) from rfl).trans
    (by rw [cs_eq, sn_eq])

end Cert.KernelInIdeal.Hand
-- ==== Proof.Reads.lean ====
/-
  Reading a reshaped array at an index: the source index with the same position in row-major order.
-/
module
public import Idealize.ShloMosaic.Lib.Pointwise
public import Idealize.ShloMosaic.Lib.ValueIdx
public import Idealize.ShloMosaic.Lib.Pipeline.Value
@[expose] public section
noncomputable section
namespace Cert.Reads
open Idealize.ShloMosaic

variable {α : Type}

theorem cast_3_2 {a b c d e : Nat} (x : (⟨3, ![a, b, c]⟩ : Shape).Idx → α)
    (h : (⟨3, ![a, b, c]⟩ : Shape).ShapeCasts ⟨2, ![d, e]⟩) (i : Fin d) (j : Fin e) (p : Fin a) (q : Fin b) (r : Fin c)
    (hv : (p.val * b + q.val) * c + r.val = i.val * e + j.val) :
    shapeCast ⟨2, ![d, e]⟩ x h (ix2 i j) = x (ix3 p q r) := by
  refine shapeCast_apply _ _ (ix2 i j) _ ?_
  rewrite [Shape.rowMajor_val_three, Shape.rowMajor_val_two]
  exact hv

theorem cast_4_2 {a b c d e f : Nat} (x : (⟨4, ![a, b, c, d]⟩ : Shape).Idx → α)
    (h : (⟨4, ![a, b, c, d]⟩ : Shape).ShapeCasts ⟨2, ![e, f]⟩) (i : Fin e) (j : Fin f) (p : Fin a) (q : Fin b) (r : Fin c) (s : Fin d)
    (hv : ((p.val * b + q.val) * c + r.val) * d + s.val = i.val * f + j.val) :
    shapeCast ⟨2, ![e, f]⟩ x h (ix2 i j) = x (ix4 p q r s) := by
  refine shapeCast_apply _ _ (ix2 i j) _ ?_
  rewrite [Shape.rowMajor_val_four, Shape.rowMajor_val_two]
  exact hv

theorem cast_2_3 {a b c e f : Nat} (x : (⟨2, ![e, f]⟩ : Shape).Idx → α)
    (h : (⟨2, ![e, f]⟩ : Shape).ShapeCasts ⟨3, ![a, b, c]⟩) (p : Fin a) (q : Fin b) (r : Fin c) (i : Fin e) (j : Fin f)
    (hv : i.val * f + j.val = (p.val * b + q.val) * c + r.val) :
    shapeCast ⟨3, ![a, b, c]⟩ x h (ix3 p q r) = x (ix2 i j) := by
  refine shapeCast_apply _ _ (ix3 p q r) _ ?_
  rw [Shape.rowMajor_val_three, Shape.rowMajor_val_two]
  exact hv

theorem cast_2_4 {a b c d e f : Nat} (x : (⟨2, ![e, f]⟩ : Shape).Idx → α)
    (h : (⟨2, ![e, f]⟩ : Shape).ShapeCasts ⟨4, ![a, b, c, d]⟩) (p : Fin a) (q : Fin b) (r : Fin c) (s : Fin d) (i : Fin e) (j : Fin f)
    (hv : i.val * f + j.val = ((p.val * b + q.val) * c + r.val) * d + s.val) :
    shapeCast ⟨4, ![a, b, c, d]⟩ x h (ix4 p q r s) = x (ix2 i j) := by
  refine shapeCast_apply _ _ (ix4 p q r s) _ ?_
  rewrite [Shape.rowMajor_val_four, Shape.rowMajor_val_two]
  exact hv

theorem cast_3_4 {a b c d e f g : Nat} (x : (⟨3, ![e, f, g]⟩ : Shape).Idx → α)
    (h : (⟨3, ![e, f, g]⟩ : Shape).ShapeCasts ⟨4, ![a, b, c, d]⟩) (p : Fin a) (q : Fin b) (r : Fin c) (s : Fin d)
    (i : Fin e) (j : Fin f) (k : Fin g)
    (hv : (i.val * f + j.val) * g + k.val = ((p.val * b + q.val) * c + r.val) * d + s.val) :
    shapeCast ⟨4, ![a, b, c, d]⟩ x h (ix4 p q r s) = x (ix3 i j k) := by
  refine shapeCast_apply _ _ (ix4 p q r s) _ ?_
  rewrite [Shape.rowMajor_val_four, Shape.rowMajor_val_three]
  exact hv

theorem cast_4_3 {a b c d e f g : Nat} (x : (⟨4, ![a, b, c, d]⟩ : Shape).Idx → α)
    (h : (⟨4, ![a, b, c, d]⟩ : Shape).ShapeCasts ⟨3, ![e, f, g]⟩) (i : Fin e) (j : Fin f) (k : Fin g)
    (p : Fin a) (q : Fin b) (r : Fin c) (s : Fin d)
    (hv : ((p.val * b + q.val) * c + r.val) * d + s.val = (i.val * f + j.val) * g + k.val) :
    shapeCast ⟨3, ![e, f, g]⟩ x h (ix3 i j k) = x (ix4 p q r s) := by
  refine shapeCast_apply _ _ (ix3 i j k) _ ?_
  rewrite [Shape.rowMajor_val_four, Shape.rowMajor_val_three]
  exact hv

theorem cast_5_2 {a b c d e f g : Nat} (x : (⟨5, ![a, b, c, d, e]⟩ : Shape).Idx → α)
    (h : (⟨5, ![a, b, c, d, e]⟩ : Shape).ShapeCasts ⟨2, ![f, g]⟩) (i : Fin f) (j : Fin g)
    (p : Fin a) (q : Fin b) (r : Fin c) (s : Fin d) (t : Fin e)
    (hv : (((p.val * b + q.val) * c + r.val) * d + s.val) * e + t.val = i.val * g + j.val) :
    shapeCast ⟨2, ![f, g]⟩ x h (ix2 i j) = x (ix5 p q r s t) := by
  refine shapeCast_apply _ _ (ix2 i j) _ ?_
  rewrite [Shape.rowMajor_val_five, Shape.rowMajor_val_two]
  exact hv

end Cert.Reads
-- ==== Proof.InHost.lean ====
/-
  What the host operations before the input projection leave: the token rows, the rotary tables, and the weight's columns
  with each key and value column of the second attention laid out twice.
-/
module
public import proofs.«01_k».proof.Proof.InBlock
public import proofs.«01_k».proof.Proof.Reads
@[expose] public section
noncomputable section
namespace Cert.KernelInIdeal.Hand
open Idealize.ShloMosaic Idealize.ShloMosaic.TcCoe Cert.KernelInIdeal Cert.KernelInIdeal.Gen Cert.Rows

/-- A gather of whole columns, read at a row and a column. -/
theorem take_cols {α : Type} (x : S1024x2304.Idx → α) (idx : IVec S256x1 32) (r : Fin 1024) (j : Fin 256) :
    Host.gather gather_S1024x2304_S256x1_S1024x256_0_1_n_n_1_1_10241 x idx (ix2 r j)
      = x (ix2 r ⟨min (idx (ix2 j 0)).toInt.toNat 2303, by omega⟩) := by
  unfold Host.gather
  congr 1
  funext a
  apply Fin.ext
  show GatherDims.start gather_S1024x2304_S256x1_S1024x256_0_1_n_n_1_1_10241 (ix2 r j) idx a
    + GatherDims.batchCoord gather_S1024x2304_S256x1_S1024x256_0_1_n_n_1_1_10241 (ix2 r j) a
    + GatherDims.offCoord gather_S1024x2304_S256x1_S1024x256_0_1_n_n_1_1_10241 (ix2 r j) a = _
  rw [GatherDims.batchCoord_eq_zero _ _ _ (show a ∉ ([] : List (Fin 2)) from List.not_mem_nil)]
  match a with
  | ⟨0, _⟩ =>
    unfold GatherDims.start
    rw [dif_neg (show ¬ (⟨0, by decide⟩ : Fin S1024x2304.rank) ∈ gather_S1024x2304_S256x1_S1024x256_0_1_n_n_1_1_10241.startIndexMap from
      (by decide : ¬ (0 : Fin 2) ∈ [(1 : Fin 2)]))]
    show 0 + 0 + r.val = r.val
    omega
  | ⟨1, _⟩ =>
    unfold GatherDims.start
    rw [dif_pos (show (⟨1, by decide⟩ : Fin S1024x2304.rank) ∈ gather_S1024x2304_S256x1_S1024x256_0_1_n_n_1_1_10241.startIndexMap from
        (by decide : (1 : Fin 2) ∈ [(1 : Fin 2)])),
      GatherDims.offCoord_eq_zero _ _ _ (fun h => ((GatherDims.mem_sKept _ _).mp h).1 (List.mem_singleton.mpr rfl))]
    have hs : GatherDims.siIdx gather_S1024x2304_S256x1_S1024x256_0_1_n_n_1_1_10241 (ix2 r j)
        ⟨List.idxOf (1 : Fin 2) [(1 : Fin 2)], by decide⟩ = ix2 j 0 := by
      funext b
      apply Fin.ext
      match b with
      | ⟨0, _⟩ => rfl
      | ⟨1, _⟩ => rfl
    show min (idx (GatherDims.siIdx gather_S1024x2304_S256x1_S1024x256_0_1_n_n_1_1_10241 (ix2 r j)
        ⟨List.idxOf (1 : Fin 2) [(1 : Fin 2)], by decide⟩)).toInt.toNat 2303 + 0 + 0 = _
    rw [hs]
    rfl

theorem lit0_val : ∀ j : Fin 256, min (lit0 j).toInt.toNat 2303 = 2048 + 64 * (j.val / 128) + j.val % 64 := by decide +kernel
theorem lit1_val : ∀ j : Fin 256, min (lit1 j).toInt.toNat 2303 = 2176 + 64 * (j.val / 128) + j.val % 64 := by decide +kernel

variable (m : (ℓ : Loc nD τ sig) → Buf (Elt Ideal) ℓ) (c : Dev nD)

theorem host_x (r : Fin 16384) (k : Fin 1024) : V m c main_v2 (ix2 r k)
    = m ((c : Thread nD τ).loc main_arg0) (ix3 ⟨r.val / 2048, by omega⟩ ⟨r.val % 2048, by omega⟩ k) := by
  have h : V m c main_v2 = shapeCast S16384x1024 (m ((c : Thread nD τ).loc main_arg0)) shapeCasts_S8x2048x1024_S16384x1024 := by
    unfold V hostOps0
    after_results
    rfl
  rw [h]
  exact Reads.cast_3_2 _ _ _ _ _ _ _ (by dsimp only; omega)

theorem host_g (k : Fin 1024) : V m c main_v46 (ix2 0 k) = m ((c : Thread nD τ).loc main_arg1) (ix1 k) := by
  have h : V m c main_v46 = shapeCast S1x1024 (m ((c : Thread nD τ).loc main_arg1)) shapeCasts_S1024_S1x1024 := by
    unfold V hostOps0
    after_results
    rfl
  rw [h]
  refine shapeCast_apply _ _ (ix2 0 k) (ix1 k) ?_
  rw [Shape.rowMajor_val_one, Shape.rowMajor_val_two]
  show k.val = 0 * 1024 + k.val
  omega

/-- The weight's projection columns. -/
def qkv : FVec Ideal S1024x2304 .bf16 :=
  extractStridedSlice S1024x2304 ![0, 0] (truncf .bf16 (m ((c : Thread nD τ).loc main_arg2)) bitsLt_bf16_f32) slices_S1024x4352_S1024x2304_0_0

theorem qkv_apply (r : Fin 1024) (n : Fin 2304) :
    qkv m c (ix2 r n) = m ((c : Thread nD τ).loc main_arg2) (ix2 r ⟨n.val, by omega⟩) := by
  unfold qkv
  pointwise

theorem host_w (r : Fin 1024) (n : Fin 2560) : V m c main_v45 (ix2 r n)
    = if n.val < 2048 then m ((c : Thread nD τ).loc main_arg2) (ix2 r ⟨n.val, by omega⟩)
      else if n.val < 2304 then m ((c : Thread nD τ).loc main_arg2) (ix2 r ⟨2048 + 64 * ((n.val - 2048) / 128) + (n.val - 2048) % 64, by omega⟩)
      else m ((c : Thread nD τ).loc main_arg2) (ix2 r ⟨2176 + 64 * ((n.val - 2304) / 128) + (n.val - 2304) % 64, by omega⟩) := by
  have h : V m c main_v45 = concatenate S1024x2560 1
      [⟨S1024x2048, extractStridedSlice S1024x2048 ![0, 0] (qkv m c) slices_S1024x2304_S1024x2048_0_0⟩,
       ⟨S1024x256, Host.gather gather_S1024x2304_S256x1_S1024x256_0_1_n_n_1_1_10241 (qkv m c)
          (broadcastInDim S256x1 ![0] bcast_S256_S256x1_0 (fun i => lit0 (S256.rowMajor i)))⟩,
       ⟨S1024x256, Host.gather gather_S1024x2304_S256x1_S1024x256_0_1_n_n_1_1_10241 (qkv m c)
          (broadcastInDim S256x1 ![0] bcast_S256_S256x1_0 (fun i => lit1 (S256.rowMajor i)))⟩]
      concatenates_S1024x2048_S1024x256_S1024x256_S1024x2560_d1 := by
    unfold V hostOps0
    after_results
    rfl
  rw [h]
  obtain ⟨t0, e0, h0⟩ : ∃ t : IVec S256 32, (fun i => lit0 (S256.rowMajor i)) = t
      ∧ ∀ j : Fin 256, min (t (ix1 j)).toInt.toNat 2303 = 2048 + 64 * (j.val / 128) + j.val % 64 :=
    ⟨_, rfl, fun j => (congrArg (fun v => min (lit0 v).toInt.toNat 2303) (Fin.ext (Shape.rowMajor_val_one _))).trans (lit0_val j)⟩
  obtain ⟨t1, e1, h1⟩ : ∃ t : IVec S256 32, (fun i => lit1 (S256.rowMajor i)) = t
      ∧ ∀ j : Fin 256, min (t (ix1 j)).toInt.toNat 2303 = 2176 + 64 * (j.val / 128) + j.val % 64 :=
    ⟨_, rfl, fun j => (congrArg (fun v => min (lit1 v).toInt.toNat 2303) (Fin.ext (Shape.rowMajor_val_one _))).trans (lit1_val j)⟩
  rw [e0, e1]
  generalize hq : qkv m c = q
  have hqa : ∀ (r : Fin 1024) (n : Fin 2304), q (ix2 r n) = m ((c : Thread nD τ).loc main_arg2) (ix2 r ⟨n.val, by omega⟩) :=
    fun r n => hq ▸ qkv_apply m c r n
  pointwise [take_cols, hqa, h0, h1]
  by_cases h2 : n.val < 2048
  · rw [dif_pos h2, if_pos h2]
  refine (dif_neg h2).trans (Eq.trans ?_ (if_neg h2).symm)
  by_cases h3 : n.val < 2304
  · refine (dif_pos (show n.val - 2048 < 256 by omega)).trans (if_pos h3).symm
  · refine (dif_neg (show ¬ n.val - 2048 < 256 by omega)).trans (Eq.trans ?_ (if_neg h3).symm)
    simp only [Nat.sub_sub, Nat.reduceAdd]

/-- The angles: token row `r` stands at position `r mod 2048` of its sequence. -/
def angles : FVec Ideal S16384x32 .f32 :=
  mulf (broadcastInDim S16384x32 ![0, 1] bcast_S16384x1_S16384x32_0_1 (broadcastInDim S16384x1 ![0] bcast_S16384_S16384x1_0
      (sitofp .f32 (shapeCast S16384 (broadcastInDim S8x2048 ![0, 1] bcast_S1x2048_S8x2048_0_1
        (shapeCast S1x2048 (iotaInDim S2048 32 0) shapeCasts_S2048_S1x2048)) shapeCasts_S8x2048_S16384))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))

theorem positions (r : Fin 16384) : shapeCast S16384 (broadcastInDim S8x2048 ![0, 1] bcast_S1x2048_S8x2048_0_1
    (shapeCast S1x2048 (iotaInDim S2048 32 0) shapeCasts_S2048_S1x2048)) shapeCasts_S8x2048_S16384 (ix1 r)
      = BitVec.ofNat 32 (r.val % 2048) := by
  refine (shapeCast_apply _ _ (ix1 r) (ix2 ⟨r.val / 2048, by omega⟩ ⟨r.val % 2048, by omega⟩) ?_).trans ?_
  · rw [Shape.rowMajor_val_one, Shape.rowMajor_val_two]
    show r.val / 2048 * 2048 + r.val % 2048 = r.val
    omega
  · pointwise

theorem angles_apply (r : Fin 16384) (k : Fin 32) : angles (ix2 r k) = angle (r.val % 2048) k.val := by
  unfold angles
  pointwise [positions]
  rfl

/-- A table of 32 lanes, then 32 more, laid out twice. -/
theorem tiled (a b : FVec Ideal S16384x32 .f32) (r : Fin 16384) (l : Fin 128) :
    shapeCast S16384x128 (broadcastInDim S1x16384x2x64 ![0, 1, 2, 3] bcast_S1x16384x1x64_S1x16384x2x64_0_1_2_3
      (shapeCast S1x16384x1x64 (concatenate S16384x64 1 [⟨S16384x32, a⟩, ⟨S16384x32, b⟩] concatenates_S16384x32_S16384x32_S16384x64_d1)
        shapeCasts_S16384x64_S1x16384x1x64)) shapeCasts_S1x16384x2x64_S16384x128 (ix2 r l)
      = if l.val % 64 < 32 then a (ix2 r ⟨l.val % 32, by omega⟩) else b (ix2 r ⟨l.val % 32, by omega⟩) := by
  refine (Reads.cast_4_2 _ _ r l 0 r ⟨l.val / 64, by omega⟩ ⟨l.val % 64, by omega⟩ (by simp; omega)).trans ?_
  have h := fun (s : Fin 64) => Reads.cast_2_4 (a := 1) (b := 16384) (c := 1) (d := 64)
    (concatenate S16384x64 1 [⟨S16384x32, a⟩, ⟨S16384x32, b⟩] concatenates_S16384x32_S16384x32_S16384x64_d1)
    shapeCasts_S16384x64_S1x16384x1x64 0 r 0 s r s (by simp)
  generalize shapeCast S1x16384x1x64 _ _ = y at h ⊢
  pointwise
  refine (h _).trans ?_
  pointwise
  by_cases hl : l.val % 64 < 32
  · rw [dif_pos hl, if_pos hl]
    congr 2; apply Fin.ext; dsimp only; omega
  · rw [dif_neg hl, if_neg hl]
    congr 2; apply Fin.ext; dsimp only; omega

theorem host_cos (r : Fin 16384) (l : Fin 128) :
    V m c main_v28 (ix2 r l) = Ideal.cos (angle (r.val % 2048) (l.val % 32)) := by
  have h : V m c main_v28 = shapeCast S16384x128 (broadcastInDim S1x16384x2x64 ![0, 1, 2, 3] bcast_S1x16384x1x64_S1x16384x2x64_0_1_2_3
      (shapeCast S1x16384x1x64 (concatenate S16384x64 1 [⟨S16384x32, Host.cos angles⟩, ⟨S16384x32, Host.cos angles⟩]
        concatenates_S16384x32_S16384x32_S16384x64_d1) shapeCasts_S16384x64_S1x16384x1x64)) shapeCasts_S1x16384x2x64_S16384x128 := by
    unfold V hostOps0
    after_results
    rfl
  rw [h]
  refine (tiled _ _ r l).trans ?_
  rw [ite_self]
  pointwise [angles_apply]

theorem host_sin (r : Fin 16384) (l : Fin 128) :
    V m c main_v33 (ix2 r l) = if l.val % 64 < 32 then -Ideal.sin (angle (r.val % 2048) (l.val % 32))
      else Ideal.sin (angle (r.val % 2048) (l.val % 32)) := by
  have h : V m c main_v33 = shapeCast S16384x128 (broadcastInDim S1x16384x2x64 ![0, 1, 2, 3] bcast_S1x16384x1x64_S1x16384x2x64_0_1_2_3
      (shapeCast S1x16384x1x64 (concatenate S16384x64 1 [⟨S16384x32, Host.negf (Host.sin angles)⟩, ⟨S16384x32, Host.sin angles⟩]
        concatenates_S16384x32_S16384x32_S16384x64_d1) shapeCasts_S16384x64_S1x16384x1x64)) shapeCasts_S1x16384x2x64_S16384x128 := by
    unfold V hostOps0
    after_results
    rfl
  rw [h]
  refine (tiled _ _ r l).trans ?_
  pointwise [angles_apply]

end Cert.KernelInIdeal.Hand
-- ==== Proof.InRows.lean ====
/-
  The rows each grid point of the prompt's input projection writes, as functions of the arguments. Each of the 32 grid points handles
  512 tokens; four points make one sequence, and the two window arrays of the second attention keep the last one's.
-/
module
public import proofs.«01_k».proof.Proof.InHost
@[expose] public section
noncomputable section
namespace Cert.KernelInIdeal.Hand
open Idealize.ShloMosaic Idealize.ShloMosaic.TcCoe Cert.KernelInIdeal Cert.KernelInIdeal.Gen Cert.Rows

variable (m : (ℓ : Loc nD τ sig) → Buf (Elt Ideal) ℓ) (c : Dev nD)

theorem npoints (t : Fin cfg0.N) : t.val < 32 := by have := t.isLt; have h : cfg0.N = 32 := N_0; omega

/-- The array row of row `i` of point `t`'s block. -/
abbrev row (t : Fin cfg0.N) (i : Fin 512) : Fin 16384 := ⟨t.val * 512 + i.val, by have := npoints t; omega⟩

theorem in_facts : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) := by decide +kernel

theorem row_facts : ∀ t : Fin grid0.N,
    (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0) := by decide +kernel

theorem col_facts : ∀ t : Fin grid0.N,
    (win0_11.index t 0 = t.val / 4 ∧ win0_11.index t 1 = 0 ∧ win0_11.index t 2 = t.val % 4)
    ∧ (win0_12.index t 0 = t.val / 4 ∧ win0_12.index t 1 = 0 ∧ win0_12.index t 2 = t.val % 4)
    ∧ (win0_13.index t 0 = t.val / 4 ∧ win0_13.index t 1 = 0 ∧ win0_13.index t 2 = 0)
    ∧ (win0_14.index t 0 = t.val / 4 ∧ win0_14.index t 1 = 0 ∧ win0_14.index t 2 = 0) := by decide +kernel

theorem blk0 (t : Fin cfg0.N) (i : Fin 512) (k : Fin 1024) : iblk m c 0 t (ix2 i k) = V m c main_v2 (ix2 (row t i) k) := by
  have hi := (in_facts t).1
  unfold iblk
  rw [View.read_apply]
  show V m c main_v2 _ = V m c main_v2 _
  congr 1
  funext a
  apply Fin.ext
  match a with
  | ⟨0, _⟩ => show win0_0.index t 0 * 512 + 1 * i.val = t.val * 512 + i.val; rw [hi.1]; omega
  | ⟨1, _⟩ => show win0_0.index t 1 * 1024 + 1 * k.val = k.val; rw [hi.2]; omega

theorem blk1 (t : Fin cfg0.N) (i : Fin 1) (k : Fin 1024) : iblk m c 1 t (ix2 i k) = V m c main_v46 (ix2 i k) := by
  have hi := (in_facts t).2.1
  unfold iblk
  rw [View.read_apply]
  show V m c main_v46 _ = V m c main_v46 _
  congr 1
  funext a
  apply Fin.ext
  match a with
  | ⟨0, _⟩ => show win0_1.index t 0 * 1 + 1 * i.val = i.val; rw [hi.1]; omega
  | ⟨1, _⟩ => show win0_1.index t 1 * 1024 + 1 * k.val = k.val; rw [hi.2]; omega

theorem blk2 (t : Fin cfg0.N) (i : Fin 1024) (k : Fin 2560) : iblk m c 2 t (ix2 i k) = V m c main_v45 (ix2 i k) := by
  have hi := (in_facts t).2.2.1
  unfold iblk
  rw [View.read_apply]
  show V m c main_v45 _ = V m c main_v45 _
  congr 1
  funext a
  apply Fin.ext
  match a with
  | ⟨0, _⟩ => show win0_2.index t 0 * 1024 + 1 * i.val = i.val; rw [hi.1]; omega
  | ⟨1, _⟩ => show win0_2.index t 1 * 2560 + 1 * k.val = k.val; rw [hi.2]; omega

theorem blk3 (t : Fin cfg0.N) (i : Fin 512) (k : Fin 128) : iblk m c 3 t (ix2 i k) = V m c main_v28 (ix2 (row t i) k) := by
  have hi := (in_facts t).2.2.2.1
  unfold iblk
  rw [View.read_apply]
  show V m c main_v28 _ = V m c main_v28 _
  congr 1
  funext a
  apply Fin.ext
  match a with
  | ⟨0, _⟩ => show win0_3.index t 0 * 512 + 1 * i.val = t.val * 512 + i.val; rw [hi.1]; omega
  | ⟨1, _⟩ => show win0_3.index t 1 * 128 + 1 * k.val = k.val; rw [hi.2]; omega

theorem blk4 (t : Fin cfg0.N) (i : Fin 512) (k : Fin 128) : iblk m c 4 t (ix2 i k) = V m c main_v33 (ix2 (row t i) k) := by
  have hi := (in_facts t).2.2.2.2
  unfold iblk
  rw [View.read_apply]
  show V m c main_v33 _ = V m c main_v33 _
  congr 1
  funext a
  apply Fin.ext
  match a with
  | ⟨0, _⟩ => show win0_4.index t 0 * 512 + 1 * i.val = t.val * 512 + i.val; rw [hi.1]; omega
  | ⟨1, _⟩ => show win0_4.index t 1 * 128 + 1 * k.val = k.val; rw [hi.2]; omega

/-! ## The blocks, from the arguments -/

/-- A token's sequence and position. -/
abbrev seqOf (r : Fin 16384) : Fin 8 := ⟨r.val / 2048, by omega⟩
abbrev posOf (r : Fin 16384) : Fin 2048 := ⟨r.val % 2048, by omega⟩

theorem read0 (t : Fin cfg0.N) (i : Fin 512) (k : Fin 1024) : iblk m c 0 t (ix2 i k)
    = m ((c : Thread nD τ).loc main_arg0) (ix3 (seqOf (row t i)) (posOf (row t i)) k) :=
  (blk0 m c t i k).trans (host_x m c _ _)
theorem read1 (t : Fin cfg0.N) (k : Fin 1024) : iblk m c 1 t (ix2 0 k) = m ((c : Thread nD τ).loc main_arg1) (ix1 k) :=
  (blk1 m c t 0 k).trans (host_g m c _)
theorem read2_low (t : Fin cfg0.N) (r : Fin 1024) (n : Fin 2560) (h : n.val < 2048) :
    iblk m c 2 t (ix2 r n) = m ((c : Thread nD τ).loc main_arg2) (ix2 r ⟨n.val, by omega⟩) :=
  (blk2 m c t r n).trans ((host_w m c _ _).trans (if_pos h))
theorem read2_key (t : Fin cfg0.N) (r : Fin 1024) (n : Fin 256) : iblk m c 2 t (ix2 r ⟨2048 + n.val, by omega⟩)
    = m ((c : Thread nD τ).loc main_arg2) (ix2 r ⟨2048 + (64 * (n.val / 128) + n.val % 64), by omega⟩) := by
  refine (blk2 m c t r _).trans ((host_w m c _ _).trans ((if_neg (by dsimp only; omega)).trans ((if_pos (by dsimp only; omega)).trans ?_)))
  refine congrArg (fun v => m ((c : Thread nD τ).loc main_arg2) (ix2 r v)) (Fin.ext ?_)
  dsimp only
  omega
theorem read2_val (t : Fin cfg0.N) (r : Fin 1024) (n : Fin 256) : iblk m c 2 t (ix2 r ⟨2304 + n.val, by omega⟩)
    = m ((c : Thread nD τ).loc main_arg2) (ix2 r ⟨2176 + (64 * (n.val / 128) + n.val % 64), by omega⟩) := by
  refine (blk2 m c t r _).trans ((host_w m c _ _).trans ((if_neg (by dsimp only; omega)).trans ((if_neg (by dsimp only; omega)).trans ?_)))
  refine congrArg (fun v => m ((c : Thread nD τ).loc main_arg2) (ix2 r v)) (Fin.ext ?_)
  dsimp only
  omega
theorem read3 (t : Fin cfg0.N) (i : Fin 512) (l : Fin 128) : iblk m c 3 t (ix2 i l)
    = Ideal.cos (angle (posOf (row t i)).val (l.val % 32)) := (blk3 m c t i l).trans (host_cos m c _ _)
theorem read4 (t : Fin cfg0.N) (i : Fin 512) (l : Fin 128) : iblk m c 4 t (ix2 i l)
    = if l.val % 64 < 32 then -Ideal.sin (angle (posOf (row t i)).val (l.val % 32)) else Ideal.sin (angle (posOf (row t i)).val (l.val % 32)) :=
  (blk4 m c t i l).trans (host_sin m c _ _)

/-- A token's projections, one for each column of the weight. -/
def zrow (b : Fin 8) (s : Fin 2048) : Fin 4352 → EReal :=
  proj (fun j => m ((c : Thread nD τ).loc main_arg0) (ix3 b s j)) (fun j => m ((c : Thread nD τ).loc main_arg1) (ix1 j))
    (fun k n => m ((c : Thread nD τ).loc main_arg2) (ix2 k n))

/-- The key or value channel behind one of the 256 doubled lanes. -/
def dup (j : Fin 256) : Nat := 64 * (j.val / 128) + j.val % 64
theorem dup_lt (j : Fin 256) : dup j < 128 := by unfold dup; omega
theorem dup_swap (j : Fin 256) : dup ⟨swap j.val, swap_lt (n := 4) j.isLt⟩ = swap (dup j) := by
  unfold dup swap; dsimp only; split <;> split <;> omega

theorem z5 (t : Fin cfg0.N) (i j : Fin 512) : k0_pay54 (F := Ideal) (iblk m c 0 t) (iblk m c 1 t) (iblk m c 2 t) (iblk m c 3 t) (iblk m c 4 t) (ix2 i j)
    = zrow m c (seqOf (row t i)) (posOf (row t i)) ⟨0 + j.val, by omega⟩ := by
  rw [proj5]
  simp only [read0, read1]
  unfold zrow proj
  refine Finset.sum_congr rfl fun k _ => congrArg _ ?_
  refine (read2_low m c t k _ (by dsimp only; omega)).trans ?_
  exact congrArg (fun v => m ((c : Thread nD τ).loc main_arg2) (ix2 k v)) (Fin.ext (by dsimp only; omega))

theorem z6 (t : Fin cfg0.N) (i j : Fin 512) : k0_pay55 (F := Ideal) (iblk m c 0 t) (iblk m c 1 t) (iblk m c 2 t) (iblk m c 3 t) (iblk m c 4 t) (ix2 i j)
    = zrow m c (seqOf (row t i)) (posOf (row t i)) ⟨512 + j.val, by omega⟩ := by
  rw [proj6]
  simp only [read0, read1]
  unfold zrow proj
  refine Finset.sum_congr rfl fun k _ => congrArg _ ?_
  refine (read2_low m c t k _ (by dsimp only; omega)).trans ?_
  exact congrArg (fun v => m ((c : Thread nD τ).loc main_arg2) (ix2 k v)) (Fin.ext rfl)

theorem z7 (t : Fin cfg0.N) (i j : Fin 512) : k0_pay57 (F := Ideal) (iblk m c 0 t) (iblk m c 1 t) (iblk m c 2 t) (iblk m c 3 t) (iblk m c 4 t) (ix2 i j)
    = zrow m c (seqOf (row t i)) (posOf (row t i)) ⟨1024 + j.val, by omega⟩ := by
  rw [proj7]
  simp only [read0, read1]
  unfold zrow proj
  refine Finset.sum_congr rfl fun k _ => congrArg _ ?_
  refine (read2_low m c t k _ (by dsimp only; omega)).trans ?_
  exact congrArg (fun v => m ((c : Thread nD τ).loc main_arg2) (ix2 k v)) (Fin.ext rfl)

theorem z8 (t : Fin cfg0.N) (i j : Fin 512) : k0_pay58 (F := Ideal) (iblk m c 0 t) (iblk m c 1 t) (iblk m c 2 t) (iblk m c 3 t) (iblk m c 4 t) (ix2 i j)
    = zrow m c (seqOf (row t i)) (posOf (row t i)) ⟨1536 + j.val, by omega⟩ := by
  rw [proj8]
  simp only [read0, read1]
  unfold zrow proj
  refine Finset.sum_congr rfl fun k _ => congrArg _ ?_
  refine (read2_low m c t k _ (by dsimp only; omega)).trans ?_
  exact congrArg (fun v => m ((c : Thread nD τ).loc main_arg2) (ix2 k v)) (Fin.ext rfl)

theorem z9 (t : Fin cfg0.N) (i : Fin 512) (j : Fin 256) : keys (iblk m c 0 t) (iblk m c 1 t) (iblk m c 2 t) (iblk m c 3 t) (iblk m c 4 t) (ix2 i j)
    = zrow m c (seqOf (row t i)) (posOf (row t i)) ⟨2048 + dup j, by have := dup_lt j; omega⟩ := by
  rw [proj9]
  simp only [read0, read1, read2_key]
  rfl

theorem z10 (t : Fin cfg0.N) (i : Fin 512) (j : Fin 256) : k0_pay60 (F := Ideal) (iblk m c 0 t) (iblk m c 1 t) (iblk m c 2 t) (iblk m c 3 t) (iblk m c 4 t) (ix2 i j)
    = zrow m c (seqOf (row t i)) (posOf (row t i)) ⟨2176 + dup j, by have := dup_lt j; omega⟩ := by
  rw [proj10]
  simp only [read0, read1, read2_val]
  rfl

/-! ## The ten arrays -/

def at5 (r : Fin 16384) (j : Fin 512) : EReal :=
  spun (zrow m c (seqOf r) (posOf r)) (posOf r).val ⟨0 + j.val, by omega⟩ ⟨0 + swap j.val, by have := swap_lt (n := 8) j.isLt; omega⟩ j.val
def arr5 : Buf (Elt Ideal) ((c : Thread nD τ).loc main_v47_0) := fun i : S16384x512.Idx => at5 m c (i 0) (i 1)

def at6 (r : Fin 16384) (j : Fin 512) : EReal :=
  spun (zrow m c (seqOf r) (posOf r)) (posOf r).val ⟨512 + j.val, by omega⟩ ⟨512 + swap j.val, by have := swap_lt (n := 8) j.isLt; omega⟩ j.val
def arr6 : Buf (Elt Ideal) ((c : Thread nD τ).loc main_v47_1) := fun i : S16384x512.Idx => at6 m c (i 0) (i 1)

def at7 (r : Fin 16384) (j : Fin 512) : EReal :=
  zrow m c (seqOf r) (posOf r) ⟨1024 + j.val, by omega⟩
def arr7 : Buf (Elt Ideal) ((c : Thread nD τ).loc main_v47_2) := fun i : S16384x512.Idx => at7 m c (i 0) (i 1)

def at8 (r : Fin 16384) (j : Fin 512) : EReal :=
  spun (zrow m c (seqOf r) (posOf r)) (posOf r).val ⟨1536 + j.val, by omega⟩ ⟨1536 + swap j.val, by have := swap_lt (n := 8) j.isLt; omega⟩ j.val
def arr8 : Buf (Elt Ideal) ((c : Thread nD τ).loc main_v47_3) := fun i : S16384x512.Idx => at8 m c (i 0) (i 1)

def at9 (r : Fin 16384) (j : Fin 256) : EReal :=
  spun (zrow m c (seqOf r) (posOf r)) (posOf r).val ⟨2048 + dup j, by have := dup_lt j; omega⟩ ⟨2048 + swap (dup j), by have := swap_lt (n := 2) (dup_lt j); omega⟩ j.val
def arr9 : Buf (Elt Ideal) ((c : Thread nD τ).loc main_v47_4) := fun i : S16384x256.Idx => at9 m c (i 0) (i 1)

def at10 (r : Fin 16384) (j : Fin 256) : EReal :=
  zrow m c (seqOf r) (posOf r) ⟨2176 + dup j, by have := dup_lt j; omega⟩
def arr10 : Buf (Elt Ideal) ((c : Thread nD τ).loc main_v47_5) := fun i : S16384x256.Idx => at10 m c (i 0) (i 1)

def at11 (b : Fin 8) (j : Fin 512) (s : Fin 2048) : EReal :=
  spun (zrow m c b s) s.val ⟨512 + j.val, by omega⟩ ⟨512 + swap j.val, by have := swap_lt (n := 8) j.isLt; omega⟩ j.val
def arr11 : Buf (Elt Ideal) ((c : Thread nD τ).loc main_v47_6) := fun i : S8x512x2048.Idx => at11 m c (i 0) (i 1) (i 2)

def at12 (b : Fin 8) (j : Fin 512) (s : Fin 2048) : EReal :=
  zrow m c b s ⟨1024 + j.val, by omega⟩
def arr12 : Buf (Elt Ideal) ((c : Thread nD τ).loc main_v47_7) := fun i : S8x512x2048.Idx => at12 m c (i 0) (i 1) (i 2)

def at13 (b : Fin 8) (j : Fin 128) (s : Fin 128) : EReal :=
  spun (zrow m c b ⟨1920 + s.val, by omega⟩) (1920 + s.val) ⟨2048 + j.val, by omega⟩ ⟨2048 + swap j.val, by have := swap_lt (n := 2) j.isLt; omega⟩ j.val
def arr13 : Buf (Elt Ideal) ((c : Thread nD τ).loc main_v47_8) := fun i : S8x128x128.Idx => at13 m c (i 0) (i 1) (i 2)

def at14 (b : Fin 8) (j : Fin 128) (s : Fin 128) : EReal :=
  zrow m c b ⟨1920 + s.val, by omega⟩ ⟨2176 + j.val, by omega⟩
def arr14 : Buf (Elt Ideal) ((c : Thread nD τ).loc main_v47_9) := fun i : S8x128x128.Idx => at14 m c (i 0) (i 1) (i 2)

theorem block5 (t : Fin cfg0.N) (i : Fin 512) (j : Fin 512) : out0_5 (F := Ideal) (iblk m c 0 t) (iblk m c 1 t) (iblk m c 2 t) (iblk m c 3 t) (iblk m c 4 t) (ix2 i j) = at5 m c (row t i) j := by
  rw [out5_eq, turns_apply]
  simp only [z5, read3, read4]
  unfold at5 spun
  rw [show j.val % 128 % 32 = j.val % 32 by omega, show j.val % 128 % 64 = j.val % 64 by omega]

theorem block8 (t : Fin cfg0.N) (i : Fin 512) (j : Fin 512) : out0_8 (F := Ideal) (iblk m c 0 t) (iblk m c 1 t) (iblk m c 2 t) (iblk m c 3 t) (iblk m c 4 t) (ix2 i j) = at8 m c (row t i) j := by
  rw [out8_eq, turns_apply]
  simp only [z8, read3, read4]
  unfold at8 spun
  rw [show j.val % 128 % 32 = j.val % 32 by omega, show j.val % 128 % 64 = j.val % 64 by omega]

theorem rows6 (t : Fin cfg0.N) (i : Fin 512) (j : Fin 512) : k0_pay56 (F := Ideal) (iblk m c 0 t) (iblk m c 1 t) (iblk m c 2 t) (iblk m c 3 t) (iblk m c 4 t) (ix2 i j) = at6 m c (row t i) j := by
  rw [pay56_eq, turns_apply]
  simp only [z6, read3, read4]
  unfold at6 spun
  rw [show j.val % 128 % 32 = j.val % 32 by omega, show j.val % 128 % 64 = j.val % 64 by omega]

theorem rows7 (t : Fin cfg0.N) (i : Fin 512) (j : Fin 512) : k0_pay57 (F := Ideal) (iblk m c 0 t) (iblk m c 1 t) (iblk m c 2 t) (iblk m c 3 t) (iblk m c 4 t) (ix2 i j) = at7 m c (row t i) j :=
  z7 m c t i j

theorem rows9 (t : Fin cfg0.N) (i : Fin 512) (j : Fin 256) : k0_pay59 (F := Ideal) (iblk m c 0 t) (iblk m c 1 t) (iblk m c 2 t) (iblk m c 3 t) (iblk m c 4 t) (ix2 i j) = at9 m c (row t i) j := by
  rw [pay59_eq, turns2_apply]
  simp only [z9, read3, read4]
  unfold at9 spun
  rw [show j.val % 128 % 32 = j.val % 32 by omega, show j.val % 128 % 64 = j.val % 64 by omega]
  simp only [dup_swap]

theorem rows10 (t : Fin cfg0.N) (i : Fin 512) (j : Fin 256) : k0_pay60 (F := Ideal) (iblk m c 0 t) (iblk m c 1 t) (iblk m c 2 t) (iblk m c 3 t) (iblk m c 4 t) (ix2 i j) = at10 m c (row t i) j :=
  z10 m c t i j

theorem block6 (t : Fin cfg0.N) (i : Fin 512) (j : Fin 512) : out0_6 (F := Ideal) (iblk m c 0 t) (iblk m c 1 t) (iblk m c 2 t) (iblk m c 3 t) (iblk m c 4 t) (ix2 i j) = at6 m c (row t i) j := by
  unfold out0_6
  rw [View.canon_unit_zero (by funext a; fin_cases a <;> rfl)]
  exact rows6 m c t i j

theorem block7 (t : Fin cfg0.N) (i : Fin 512) (j : Fin 512) : out0_7 (F := Ideal) (iblk m c 0 t) (iblk m c 1 t) (iblk m c 2 t) (iblk m c 3 t) (iblk m c 4 t) (ix2 i j) = at7 m c (row t i) j := by
  unfold out0_7
  rw [View.canon_unit_zero (by funext a; fin_cases a <;> rfl)]
  exact rows7 m c t i j

theorem block9 (t : Fin cfg0.N) (i : Fin 512) (j : Fin 256) : out0_9 (F := Ideal) (iblk m c 0 t) (iblk m c 1 t) (iblk m c 2 t) (iblk m c 3 t) (iblk m c 4 t) (ix2 i j) = at9 m c (row t i) j := by
  unfold out0_9
  rw [View.canon_unit_zero (by funext a; fin_cases a <;> rfl)]
  exact rows9 m c t i j

theorem block10 (t : Fin cfg0.N) (i : Fin 512) (j : Fin 256) : out0_10 (F := Ideal) (iblk m c 0 t) (iblk m c 1 t) (iblk m c 2 t) (iblk m c 3 t) (iblk m c 4 t) (ix2 i j) = at10 m c (row t i) j := by
  unfold out0_10
  rw [View.canon_unit_zero (by funext a; fin_cases a <;> rfl)]
  exact rows10 m c t i j

theorem block11 (t : Fin cfg0.N) (i : Fin 512) (j : Fin 512) : out0_11 (F := Ideal) (iblk m c 0 t) (iblk m c 1 t) (iblk m c 2 t) (iblk m c 3 t) (iblk m c 4 t) (ix3 0 j i)
    = at11 m c ⟨t.val / 4, by have := npoints t; omega⟩ j ⟨t.val % 4 * 512 + i.val, by omega⟩ := by
  unfold out0_11
  rw [View.canon_unit_zero (by funext a; fin_cases a <;> rfl)]
  have h := rows6 m c t i j
  generalize k0_pay56 (F := Ideal) (iblk m c 0 t) (iblk m c 1 t) (iblk m c 2 t) (iblk m c 3 t) (iblk m c 4 t) = y at h ⊢
  unfold_payloads
  pointwise [h]
  unfold at11 at6
  have hs : seqOf (row t i) = ⟨t.val / 4, by have := npoints t; omega⟩ := Fin.ext (by dsimp only; omega)
  have hp : posOf (row t i) = ⟨t.val % 4 * 512 + i.val, by omega⟩ := Fin.ext (by dsimp only; omega)
  rw [hs, hp]

theorem block12 (t : Fin cfg0.N) (i : Fin 512) (j : Fin 512) : out0_12 (F := Ideal) (iblk m c 0 t) (iblk m c 1 t) (iblk m c 2 t) (iblk m c 3 t) (iblk m c 4 t) (ix3 0 j i)
    = at12 m c ⟨t.val / 4, by have := npoints t; omega⟩ j ⟨t.val % 4 * 512 + i.val, by omega⟩ := by
  unfold out0_12
  rw [View.canon_unit_zero (by funext a; fin_cases a <;> rfl)]
  have h := rows7 m c t i j
  generalize k0_pay57 (F := Ideal) (iblk m c 0 t) (iblk m c 1 t) (iblk m c 2 t) (iblk m c 3 t) (iblk m c 4 t) = y at h ⊢
  unfold_payloads
  pointwise [h]
  unfold at12 at7
  have hs : seqOf (row t i) = ⟨t.val / 4, by have := npoints t; omega⟩ := Fin.ext (by dsimp only; omega)
  have hp : posOf (row t i) = ⟨t.val % 4 * 512 + i.val, by omega⟩ := Fin.ext (by dsimp only; omega)
  rw [hs, hp]

/-- The lane test that picks the first head's columns from the first half and the second head's from the second. -/
theorem pick_apply : ∀ l : Fin 128, k0_pay48 (ix2 0 l) = if l.val < 64 then 1#1 else 0#1 := by decide +kernel

theorem block13 (t : Fin cfg0.N) (ht : t.val % 4 = 3) (i : Fin 128) (j : Fin 128) : out0_13 (F := Ideal) (iblk m c 0 t) (iblk m c 1 t) (iblk m c 2 t) (iblk m c 3 t) (iblk m c 4 t) (ix3 0 j i)
    = at13 m c ⟨t.val / 4, by have := npoints t; omega⟩ j i := by
  unfold out0_13
  rw [View.canon_unit_zero (by funext a; fin_cases a <;> rfl)]
  have h := rows9 m c t
  generalize k0_pay59 (F := Ideal) (iblk m c 0 t) (iblk m c 1 t) (iblk m c 2 t) (iblk m c 3 t) (iblk m c 4 t) = y at h ⊢
  unfold k0_pay49
  pointwise [h, pick_apply]
  have hp : posOf (row t ⟨384 + i.val, by omega⟩) = ⟨1920 + i.val, by omega⟩ := Fin.ext (by dsimp only; omega)
  have hs : seqOf (row t ⟨384 + i.val, by omega⟩) = ⟨t.val / 4, by have := npoints t; omega⟩ := Fin.ext (by dsimp only; omega)
  unfold at13 at9
  rw [hs, hp]
  by_cases hj : j.val < 64
  · have hd : dup ⟨j.val, by omega⟩ = j.val := by unfold dup; dsimp only; omega
    rw [if_pos hj, show ∀ a b : EReal, Scalar.select (1#1) a b = a from fun _ _ => rfl]
    simp only [hd]
  · have hd : dup ⟨128 + j.val, by omega⟩ = j.val := by unfold dup; dsimp only; omega
    rw [if_neg hj, show ∀ a b : EReal, Scalar.select (0#1) a b = b from fun _ _ => rfl]
    simp only [hd]
    unfold spun
    rw [show (128 + j.val) % 32 = j.val % 32 by omega, show (128 + j.val) % 64 = j.val % 64 by omega]

theorem block14 (t : Fin cfg0.N) (ht : t.val % 4 = 3) (i : Fin 128) (j : Fin 128) : out0_14 (F := Ideal) (iblk m c 0 t) (iblk m c 1 t) (iblk m c 2 t) (iblk m c 3 t) (iblk m c 4 t) (ix3 0 j i)
    = at14 m c ⟨t.val / 4, by have := npoints t; omega⟩ j i := by
  unfold out0_14
  rw [View.canon_unit_zero (by funext a; fin_cases a <;> rfl)]
  have h := rows10 m c t
  generalize k0_pay60 (F := Ideal) (iblk m c 0 t) (iblk m c 1 t) (iblk m c 2 t) (iblk m c 3 t) (iblk m c 4 t) = y at h ⊢
  unfold k0_pay50 k0_pay1
  pointwise [h, pick_apply]
  have hp : posOf (row t ⟨384 + i.val, by omega⟩) = ⟨1920 + i.val, by omega⟩ := Fin.ext (by dsimp only; omega)
  have hs : seqOf (row t ⟨384 + i.val, by omega⟩) = ⟨t.val / 4, by have := npoints t; omega⟩ := Fin.ext (by dsimp only; omega)
  unfold at14 at10
  rw [hs, hp]
  by_cases hj : j.val < 64
  · have hd : dup ⟨j.val, by omega⟩ = j.val := by unfold dup; dsimp only; omega
    rw [if_pos hj, show ∀ a b : EReal, Scalar.select (1#1) a b = a from fun _ _ => rfl]
    simp only [hd]
  · have hd : dup ⟨128 + j.val, by omega⟩ = j.val := by unfold dup; dsimp only; omega
    rw [if_neg hj, show ∀ a b : EReal, Scalar.select (0#1) a b = b from fun _ _ => rfl]
    simp only [hd]

end Cert.KernelInIdeal.Hand
-- ==== Proof.InArray.lean ====
/-
  The ten output arrays of the prompt's input projection: each is the function of InRows.lean that its blocks are read from.
-/
module
public import proofs.«01_k».proof.Proof.InRows
@[expose] public section
noncomputable section
namespace Cert.KernelInIdeal.Hand
open Idealize.ShloMosaic Idealize.ShloMosaic.TcCoe Cert.KernelInIdeal Cert.KernelInIdeal.Gen Cert.Rows

variable (m : (ℓ : Loc nD τ sig) → Buf (Elt Ideal) ℓ) (c : Dev nD)

theorem flushed5_eq (t : Fin cfg0.N) : (dats m 0 c).flushed 5 t = ((cfg0.win 5).blk t).view.read (Elt Ideal) (arr5 m c) := by
  rw [Value.flushed5]
  funext y
  refine (congrArg _ (eq_ix2 (n0 := 512) (n1 := 512) y)).trans ((block5 m c t (y 0) (y 1)).trans ?_)
  rw [View.read_apply]
  have hi := (row_facts t).1
  show arr5 m c (ix2 (row t (y 0)) (y 1)) = arr5 m c _
  congr 1
  funext a
  apply Fin.ext
  match a with
  | ⟨0, _⟩ => show t.val * 512 + (y 0).val = win0_5.index t 0 * 512 + 1 * (y 0).val; rw [hi.1]; omega
  | ⟨1, _⟩ => show (y 1).val = win0_5.index t 1 * 512 + 1 * (y 1).val; rw [hi.2]; omega

theorem cover5 (i : S16384x512.Idx) : ∃ t : Fin cfg0.N, (cfg0.win 5).flush t = true ∧ i ∈ ((cfg0.win 5).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_5 _, ?_⟩
  show i ∈ ((View.whole main_v47_0).slice (win0_5.rect t)).set
  rw [View.set_slice_whole, Rect.mem_set_unit]
  have hi := (row_facts t).1
  intro a
  match a with
  | ⟨0, _⟩ => show win0_5.index t 0 * 512 ≤ (i 0).val ∧ (i 0).val < win0_5.index t 0 * 512 + 512
              rw [hi.1]; show (i 0).val / 512 * 512 ≤ (i 0).val ∧ (i 0).val < (i 0).val / 512 * 512 + 512; omega
  | ⟨1, _⟩ => show win0_5.index t 1 * 512 ≤ (i 1).val ∧ (i 1).val < win0_5.index t 1 * 512 + 512; rw [hi.2]; omega

theorem final5 : (dats m 0 c).arrAt 5 cfg0.N = arr5 m c :=
  (dats m 0 c).arrAt_eq_of_cover 5 (arr5 m c) (fun t _ => flushed5_eq m c t) cover5

theorem flushed6_eq (t : Fin cfg0.N) : (dats m 0 c).flushed 6 t = ((cfg0.win 6).blk t).view.read (Elt Ideal) (arr6 m c) := by
  rw [Value.flushed6]
  funext y
  refine (congrArg _ (eq_ix2 (n0 := 512) (n1 := 512) y)).trans ((block6 m c t (y 0) (y 1)).trans ?_)
  rw [View.read_apply]
  have hi := (row_facts t).2.1
  show arr6 m c (ix2 (row t (y 0)) (y 1)) = arr6 m c _
  congr 1
  funext a
  apply Fin.ext
  match a with
  | ⟨0, _⟩ => show t.val * 512 + (y 0).val = win0_6.index t 0 * 512 + 1 * (y 0).val; rw [hi.1]; omega
  | ⟨1, _⟩ => show (y 1).val = win0_6.index t 1 * 512 + 1 * (y 1).val; rw [hi.2]; omega

theorem cover6 (i : S16384x512.Idx) : ∃ t : Fin cfg0.N, (cfg0.win 6).flush t = true ∧ i ∈ ((cfg0.win 6).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_6 _, ?_⟩
  show i ∈ ((View.whole main_v47_1).slice (win0_6.rect t)).set
  rw [View.set_slice_whole, Rect.mem_set_unit]
  have hi := (row_facts t).2.1
  intro a
  match a with
  | ⟨0, _⟩ => show win0_6.index t 0 * 512 ≤ (i 0).val ∧ (i 0).val < win0_6.index t 0 * 512 + 512
              rw [hi.1]; show (i 0).val / 512 * 512 ≤ (i 0).val ∧ (i 0).val < (i 0).val / 512 * 512 + 512; omega
  | ⟨1, _⟩ => show win0_6.index t 1 * 512 ≤ (i 1).val ∧ (i 1).val < win0_6.index t 1 * 512 + 512; rw [hi.2]; omega

theorem final6 : (dats m 0 c).arrAt 6 cfg0.N = arr6 m c :=
  (dats m 0 c).arrAt_eq_of_cover 6 (arr6 m c) (fun t _ => flushed6_eq m c t) cover6

theorem flushed7_eq (t : Fin cfg0.N) : (dats m 0 c).flushed 7 t = ((cfg0.win 7).blk t).view.read (Elt Ideal) (arr7 m c) := by
  rw [Value.flushed7]
  funext y
  refine (congrArg _ (eq_ix2 (n0 := 512) (n1 := 512) y)).trans ((block7 m c t (y 0) (y 1)).trans ?_)
  rw [View.read_apply]
  have hi := (row_facts t).2.2.1
  show arr7 m c (ix2 (row t (y 0)) (y 1)) = arr7 m c _
  congr 1
  funext a
  apply Fin.ext
  match a with
  | ⟨0, _⟩ => show t.val * 512 + (y 0).val = win0_7.index t 0 * 512 + 1 * (y 0).val; rw [hi.1]; omega
  | ⟨1, _⟩ => show (y 1).val = win0_7.index t 1 * 512 + 1 * (y 1).val; rw [hi.2]; omega

theorem cover7 (i : S16384x512.Idx) : ∃ t : Fin cfg0.N, (cfg0.win 7).flush t = true ∧ i ∈ ((cfg0.win 7).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_7 _, ?_⟩
  show i ∈ ((View.whole main_v47_2).slice (win0_7.rect t)).set
  rw [View.set_slice_whole, Rect.mem_set_unit]
  have hi := (row_facts t).2.2.1
  intro a
  match a with
  | ⟨0, _⟩ => show win0_7.index t 0 * 512 ≤ (i 0).val ∧ (i 0).val < win0_7.index t 0 * 512 + 512
              rw [hi.1]; show (i 0).val / 512 * 512 ≤ (i 0).val ∧ (i 0).val < (i 0).val / 512 * 512 + 512; omega
  | ⟨1, _⟩ => show win0_7.index t 1 * 512 ≤ (i 1).val ∧ (i 1).val < win0_7.index t 1 * 512 + 512; rw [hi.2]; omega

theorem final7 : (dats m 0 c).arrAt 7 cfg0.N = arr7 m c :=
  (dats m 0 c).arrAt_eq_of_cover 7 (arr7 m c) (fun t _ => flushed7_eq m c t) cover7

theorem flushed8_eq (t : Fin cfg0.N) : (dats m 0 c).flushed 8 t = ((cfg0.win 8).blk t).view.read (Elt Ideal) (arr8 m c) := by
  rw [Value.flushed8]
  funext y
  refine (congrArg _ (eq_ix2 (n0 := 512) (n1 := 512) y)).trans ((block8 m c t (y 0) (y 1)).trans ?_)
  rw [View.read_apply]
  have hi := (row_facts t).2.2.2.1
  show arr8 m c (ix2 (row t (y 0)) (y 1)) = arr8 m c _
  congr 1
  funext a
  apply Fin.ext
  match a with
  | ⟨0, _⟩ => show t.val * 512 + (y 0).val = win0_8.index t 0 * 512 + 1 * (y 0).val; rw [hi.1]; omega
  | ⟨1, _⟩ => show (y 1).val = win0_8.index t 1 * 512 + 1 * (y 1).val; rw [hi.2]; omega

theorem cover8 (i : S16384x512.Idx) : ∃ t : Fin cfg0.N, (cfg0.win 8).flush t = true ∧ i ∈ ((cfg0.win 8).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_8 _, ?_⟩
  show i ∈ ((View.whole main_v47_3).slice (win0_8.rect t)).set
  rw [View.set_slice_whole, Rect.mem_set_unit]
  have hi := (row_facts t).2.2.2.1
  intro a
  match a with
  | ⟨0, _⟩ => show win0_8.index t 0 * 512 ≤ (i 0).val ∧ (i 0).val < win0_8.index t 0 * 512 + 512
              rw [hi.1]; show (i 0).val / 512 * 512 ≤ (i 0).val ∧ (i 0).val < (i 0).val / 512 * 512 + 512; omega
  | ⟨1, _⟩ => show win0_8.index t 1 * 512 ≤ (i 1).val ∧ (i 1).val < win0_8.index t 1 * 512 + 512; rw [hi.2]; omega

theorem final8 : (dats m 0 c).arrAt 8 cfg0.N = arr8 m c :=
  (dats m 0 c).arrAt_eq_of_cover 8 (arr8 m c) (fun t _ => flushed8_eq m c t) cover8

theorem flushed9_eq (t : Fin cfg0.N) : (dats m 0 c).flushed 9 t = ((cfg0.win 9).blk t).view.read (Elt Ideal) (arr9 m c) := by
  rw [Value.flushed9]
  funext y
  refine (congrArg _ (eq_ix2 (n0 := 512) (n1 := 256) y)).trans ((block9 m c t (y 0) (y 1)).trans ?_)
  rw [View.read_apply]
  have hi := (row_facts t).2.2.2.2.1
  show arr9 m c (ix2 (row t (y 0)) (y 1)) = arr9 m c _
  congr 1
  funext a
  apply Fin.ext
  match a with
  | ⟨0, _⟩ => show t.val * 512 + (y 0).val = win0_9.index t 0 * 512 + 1 * (y 0).val; rw [hi.1]; omega
  | ⟨1, _⟩ => show (y 1).val = win0_9.index t 1 * 256 + 1 * (y 1).val; rw [hi.2]; omega

theorem cover9 (i : S16384x256.Idx) : ∃ t : Fin cfg0.N, (cfg0.win 9).flush t = true ∧ i ∈ ((cfg0.win 9).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_9 _, ?_⟩
  show i ∈ ((View.whole main_v47_4).slice (win0_9.rect t)).set
  rw [View.set_slice_whole, Rect.mem_set_unit]
  have hi := (row_facts t).2.2.2.2.1
  intro a
  match a with
  | ⟨0, _⟩ => show win0_9.index t 0 * 512 ≤ (i 0).val ∧ (i 0).val < win0_9.index t 0 * 512 + 512
              rw [hi.1]; show (i 0).val / 512 * 512 ≤ (i 0).val ∧ (i 0).val < (i 0).val / 512 * 512 + 512; omega
  | ⟨1, _⟩ => show win0_9.index t 1 * 256 ≤ (i 1).val ∧ (i 1).val < win0_9.index t 1 * 256 + 256; rw [hi.2]; omega

theorem final9 : (dats m 0 c).arrAt 9 cfg0.N = arr9 m c :=
  (dats m 0 c).arrAt_eq_of_cover 9 (arr9 m c) (fun t _ => flushed9_eq m c t) cover9

theorem flushed10_eq (t : Fin cfg0.N) : (dats m 0 c).flushed 10 t = ((cfg0.win 10).blk t).view.read (Elt Ideal) (arr10 m c) := by
  rw [Value.flushed10]
  funext y
  refine (congrArg _ (eq_ix2 (n0 := 512) (n1 := 256) y)).trans ((block10 m c t (y 0) (y 1)).trans ?_)
  rw [View.read_apply]
  have hi := (row_facts t).2.2.2.2.2
  show arr10 m c (ix2 (row t (y 0)) (y 1)) = arr10 m c _
  congr 1
  funext a
  apply Fin.ext
  match a with
  | ⟨0, _⟩ => show t.val * 512 + (y 0).val = win0_10.index t 0 * 512 + 1 * (y 0).val; rw [hi.1]; omega
  | ⟨1, _⟩ => show (y 1).val = win0_10.index t 1 * 256 + 1 * (y 1).val; rw [hi.2]; omega

theorem cover10 (i : S16384x256.Idx) : ∃ t : Fin cfg0.N, (cfg0.win 10).flush t = true ∧ i ∈ ((cfg0.win 10).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_10 _, ?_⟩
  show i ∈ ((View.whole main_v47_5).slice (win0_10.rect t)).set
  rw [View.set_slice_whole, Rect.mem_set_unit]
  have hi := (row_facts t).2.2.2.2.2
  intro a
  match a with
  | ⟨0, _⟩ => show win0_10.index t 0 * 512 ≤ (i 0).val ∧ (i 0).val < win0_10.index t 0 * 512 + 512
              rw [hi.1]; show (i 0).val / 512 * 512 ≤ (i 0).val ∧ (i 0).val < (i 0).val / 512 * 512 + 512; omega
  | ⟨1, _⟩ => show win0_10.index t 1 * 256 ≤ (i 1).val ∧ (i 1).val < win0_10.index t 1 * 256 + 256; rw [hi.2]; omega

theorem final10 : (dats m 0 c).arrAt 10 cfg0.N = arr10 m c :=
  (dats m 0 c).arrAt_eq_of_cover 10 (arr10 m c) (fun t _ => flushed10_eq m c t) cover10

theorem flushed11_eq (t : Fin cfg0.N) : (dats m 0 c).flushed 11 t = ((cfg0.win 11).blk t).view.read (Elt Ideal) (arr11 m c) := by
  rw [Value.flushed11]
  funext y
  have hy : y = ix3 (0 : Fin 1) (y 1) (y 2) := by
    refine (eq_ix3 (n0 := 1) (n1 := 512) (n2 := 512) y).trans ?_
    exact congrArg (fun v => ix3 v (y 1) (y 2)) (Subsingleton.elim (α := Fin 1) _ _)
  refine (congrArg _ hy).trans ((block11 m c t (y 2) (y 1)).trans ?_)
  rw [View.read_apply]
  have hi := (col_facts t).1
  show arr11 m c (ix3 ⟨t.val / 4, by have := npoints t; omega⟩ (y 1) ⟨t.val % 4 * 512 + (y 2).val, by have : (y 2).val < 512 := (y 2).isLt; omega⟩) = arr11 m c _
  congr 1
  funext a
  apply Fin.ext
  match a with
  | ⟨0, _⟩ => show t.val / 4 = win0_11.index t 0 * 1 + 1 * (y 0).val; rw [hi.1]; have h0 : (y 0).val < 1 := (y 0).isLt; omega
  | ⟨1, _⟩ => show (y 1).val = win0_11.index t 1 * 512 + 1 * (y 1).val; rw [hi.2.1]; omega
  | ⟨2, _⟩ => show t.val % 4 * 512 + (y 2).val = win0_11.index t 2 * 512 + 1 * (y 2).val; rw [hi.2.2]; omega

theorem cover11 (i : S8x512x2048.Idx) : ∃ t : Fin cfg0.N, (cfg0.win 11).flush t = true ∧ i ∈ ((cfg0.win 11).blk t).view.set := by
  have h0 : (i 0).val < 8 := (i 0).isLt
  have h1 : (i 1).val < 512 := (i 1).isLt
  have h2 : (i 2).val < 2048 := (i 2).isLt
  have hN : cfg0.N = 32 := N_0
  let t : Fin cfg0.N := ⟨(i 0).val * 4 + (i 2).val / 512, by omega⟩
  refine ⟨t, flush0_11 _, ?_⟩
  show i ∈ ((View.whole main_v47_6).slice (win0_11.rect t)).set
  rw [View.set_slice_whole, Rect.mem_set_unit]
  have hi := (col_facts t).1
  intro a
  match a with
  | ⟨0, _⟩ => show win0_11.index t 0 * 1 ≤ (i 0).val ∧ (i 0).val < win0_11.index t 0 * 1 + 1
              rw [hi.1]; show ((i 0).val * 4 + (i 2).val / 512) / 4 * 1 ≤ (i 0).val ∧ (i 0).val < ((i 0).val * 4 + (i 2).val / 512) / 4 * 1 + 1; omega
  | ⟨1, _⟩ => show win0_11.index t 1 * 512 ≤ (i 1).val ∧ (i 1).val < win0_11.index t 1 * 512 + 512; rw [hi.2.1]; omega
  | ⟨2, _⟩ => show win0_11.index t 2 * 512 ≤ (i 2).val ∧ (i 2).val < win0_11.index t 2 * 512 + 512
              rw [hi.2.2]; show ((i 0).val * 4 + (i 2).val / 512) % 4 * 512 ≤ (i 2).val ∧ (i 2).val < ((i 0).val * 4 + (i 2).val / 512) % 4 * 512 + 512; omega

theorem final11 : (dats m 0 c).arrAt 11 cfg0.N = arr11 m c :=
  (dats m 0 c).arrAt_eq_of_cover 11 (arr11 m c) (fun t _ => flushed11_eq m c t) cover11

theorem flushed12_eq (t : Fin cfg0.N) : (dats m 0 c).flushed 12 t = ((cfg0.win 12).blk t).view.read (Elt Ideal) (arr12 m c) := by
  rw [Value.flushed12]
  funext y
  have hy : y = ix3 (0 : Fin 1) (y 1) (y 2) := by
    refine (eq_ix3 (n0 := 1) (n1 := 512) (n2 := 512) y).trans ?_
    exact congrArg (fun v => ix3 v (y 1) (y 2)) (Subsingleton.elim (α := Fin 1) _ _)
  refine (congrArg _ hy).trans ((block12 m c t (y 2) (y 1)).trans ?_)
  rw [View.read_apply]
  have hi := (col_facts t).2.1
  show arr12 m c (ix3 ⟨t.val / 4, by have := npoints t; omega⟩ (y 1) ⟨t.val % 4 * 512 + (y 2).val, by have : (y 2).val < 512 := (y 2).isLt; omega⟩) = arr12 m c _
  congr 1
  funext a
  apply Fin.ext
  match a with
  | ⟨0, _⟩ => show t.val / 4 = win0_12.index t 0 * 1 + 1 * (y 0).val; rw [hi.1]; have h0 : (y 0).val < 1 := (y 0).isLt; omega
  | ⟨1, _⟩ => show (y 1).val = win0_12.index t 1 * 512 + 1 * (y 1).val; rw [hi.2.1]; omega
  | ⟨2, _⟩ => show t.val % 4 * 512 + (y 2).val = win0_12.index t 2 * 512 + 1 * (y 2).val; rw [hi.2.2]; omega

theorem cover12 (i : S8x512x2048.Idx) : ∃ t : Fin cfg0.N, (cfg0.win 12).flush t = true ∧ i ∈ ((cfg0.win 12).blk t).view.set := by
  have h0 : (i 0).val < 8 := (i 0).isLt
  have h1 : (i 1).val < 512 := (i 1).isLt
  have h2 : (i 2).val < 2048 := (i 2).isLt
  have hN : cfg0.N = 32 := N_0
  let t : Fin cfg0.N := ⟨(i 0).val * 4 + (i 2).val / 512, by omega⟩
  refine ⟨t, flush0_12 _, ?_⟩
  show i ∈ ((View.whole main_v47_7).slice (win0_12.rect t)).set
  rw [View.set_slice_whole, Rect.mem_set_unit]
  have hi := (col_facts t).2.1
  intro a
  match a with
  | ⟨0, _⟩ => show win0_12.index t 0 * 1 ≤ (i 0).val ∧ (i 0).val < win0_12.index t 0 * 1 + 1
              rw [hi.1]; show ((i 0).val * 4 + (i 2).val / 512) / 4 * 1 ≤ (i 0).val ∧ (i 0).val < ((i 0).val * 4 + (i 2).val / 512) / 4 * 1 + 1; omega
  | ⟨1, _⟩ => show win0_12.index t 1 * 512 ≤ (i 1).val ∧ (i 1).val < win0_12.index t 1 * 512 + 512; rw [hi.2.1]; omega
  | ⟨2, _⟩ => show win0_12.index t 2 * 512 ≤ (i 2).val ∧ (i 2).val < win0_12.index t 2 * 512 + 512
              rw [hi.2.2]; show ((i 0).val * 4 + (i 2).val / 512) % 4 * 512 ≤ (i 2).val ∧ (i 2).val < ((i 0).val * 4 + (i 2).val / 512) % 4 * 512 + 512; omega

theorem final12 : (dats m 0 c).arrAt 12 cfg0.N = arr12 m c :=
  (dats m 0 c).arrAt_eq_of_cover 12 (arr12 m c) (fun t _ => flushed12_eq m c t) cover12

theorem flushed13_eq (t : Fin cfg0.N) (ht : (cfg0.win 13).flush t = true) : (dats m 0 c).flushed 13 t = ((cfg0.win 13).blk t).view.read (Elt Ideal) (arr13 m c) := by
  rw [Value.flushed13]
  funext y
  have hy : y = ix3 (0 : Fin 1) (y 1) (y 2) := by
    refine (eq_ix3 (n0 := 1) (n1 := 128) (n2 := 128) y).trans ?_
    exact congrArg (fun v => ix3 v (y 1) (y 2)) (Subsingleton.elim (α := Fin 1) _ _)
  refine (congrArg _ hy).trans ((block13 m c t ((flush0_13 t).mp ht) (y 2) (y 1)).trans ?_)
  rw [View.read_apply]
  have hi := (col_facts t).2.2.1
  show arr13 m c (ix3 ⟨t.val / 4, by have := npoints t; omega⟩ (y 1) (y 2)) = arr13 m c _
  congr 1
  funext a
  apply Fin.ext
  match a with
  | ⟨0, _⟩ => show t.val / 4 = win0_13.index t 0 * 1 + 1 * (y 0).val; rw [hi.1]; have h0 : (y 0).val < 1 := (y 0).isLt; omega
  | ⟨1, _⟩ => show (y 1).val = win0_13.index t 1 * 128 + 1 * (y 1).val; rw [hi.2.1]; omega
  | ⟨2, _⟩ => show (y 2).val = win0_13.index t 2 * 128 + 1 * (y 2).val; rw [hi.2.2]; omega

theorem cover13 (i : S8x128x128.Idx) : ∃ t : Fin cfg0.N, (cfg0.win 13).flush t = true ∧ i ∈ ((cfg0.win 13).blk t).view.set := by
  have h0 : (i 0).val < 8 := (i 0).isLt
  have h1 : (i 1).val < 128 := (i 1).isLt
  have h2 : (i 2).val < 128 := (i 2).isLt
  have hN : cfg0.N = 32 := N_0
  let t : Fin cfg0.N := ⟨(i 0).val * 4 + 3, by omega⟩
  refine ⟨t, (flush0_13 _).mpr (by show ((i 0).val * 4 + 3) % 4 = 3; omega), ?_⟩
  show i ∈ ((View.whole main_v47_8).slice (win0_13.rect t)).set
  rw [View.set_slice_whole, Rect.mem_set_unit]
  have hi := (col_facts t).2.2.1
  intro a
  match a with
  | ⟨0, _⟩ => show win0_13.index t 0 * 1 ≤ (i 0).val ∧ (i 0).val < win0_13.index t 0 * 1 + 1
              rw [hi.1]; show ((i 0).val * 4 + 3) / 4 * 1 ≤ (i 0).val ∧ (i 0).val < ((i 0).val * 4 + 3) / 4 * 1 + 1; omega
  | ⟨1, _⟩ => show win0_13.index t 1 * 128 ≤ (i 1).val ∧ (i 1).val < win0_13.index t 1 * 128 + 128; rw [hi.2.1]; omega
  | ⟨2, _⟩ => show win0_13.index t 2 * 128 ≤ (i 2).val ∧ (i 2).val < win0_13.index t 2 * 128 + 128; rw [hi.2.2]; omega

theorem final13 : (dats m 0 c).arrAt 13 cfg0.N = arr13 m c :=
  (dats m 0 c).arrAt_eq_of_cover 13 (arr13 m c) (fun t ht => flushed13_eq m c t ht) cover13

theorem flushed14_eq (t : Fin cfg0.N) (ht : (cfg0.win 14).flush t = true) : (dats m 0 c).flushed 14 t = ((cfg0.win 14).blk t).view.read (Elt Ideal) (arr14 m c) := by
  rw [Value.flushed14]
  funext y
  have hy : y = ix3 (0 : Fin 1) (y 1) (y 2) := by
    refine (eq_ix3 (n0 := 1) (n1 := 128) (n2 := 128) y).trans ?_
    exact congrArg (fun v => ix3 v (y 1) (y 2)) (Subsingleton.elim (α := Fin 1) _ _)
  refine (congrArg _ hy).trans ((block14 m c t ((flush0_14 t).mp ht) (y 2) (y 1)).trans ?_)
  rw [View.read_apply]
  have hi := (col_facts t).2.2.2
  show arr14 m c (ix3 ⟨t.val / 4, by have := npoints t; omega⟩ (y 1) (y 2)) = arr14 m c _
  congr 1
  funext a
  apply Fin.ext
  match a with
  | ⟨0, _⟩ => show t.val / 4 = win0_14.index t 0 * 1 + 1 * (y 0).val; rw [hi.1]; have h0 : (y 0).val < 1 := (y 0).isLt; omega
  | ⟨1, _⟩ => show (y 1).val = win0_14.index t 1 * 128 + 1 * (y 1).val; rw [hi.2.1]; omega
  | ⟨2, _⟩ => show (y 2).val = win0_14.index t 2 * 128 + 1 * (y 2).val; rw [hi.2.2]; omega

theorem cover14 (i : S8x128x128.Idx) : ∃ t : Fin cfg0.N, (cfg0.win 14).flush t = true ∧ i ∈ ((cfg0.win 14).blk t).view.set := by
  have h0 : (i 0).val < 8 := (i 0).isLt
  have h1 : (i 1).val < 128 := (i 1).isLt
  have h2 : (i 2).val < 128 := (i 2).isLt
  have hN : cfg0.N = 32 := N_0
  let t : Fin cfg0.N := ⟨(i 0).val * 4 + 3, by omega⟩
  refine ⟨t, (flush0_14 _).mpr (by show ((i 0).val * 4 + 3) % 4 = 3; omega), ?_⟩
  show i ∈ ((View.whole main_v47_9).slice (win0_14.rect t)).set
  rw [View.set_slice_whole, Rect.mem_set_unit]
  have hi := (col_facts t).2.2.2
  intro a
  match a with
  | ⟨0, _⟩ => show win0_14.index t 0 * 1 ≤ (i 0).val ∧ (i 0).val < win0_14.index t 0 * 1 + 1
              rw [hi.1]; show ((i 0).val * 4 + 3) / 4 * 1 ≤ (i 0).val ∧ (i 0).val < ((i 0).val * 4 + 3) / 4 * 1 + 1; omega
  | ⟨1, _⟩ => show win0_14.index t 1 * 128 ≤ (i 1).val ∧ (i 1).val < win0_14.index t 1 * 128 + 128; rw [hi.2.1]; omega
  | ⟨2, _⟩ => show win0_14.index t 2 * 128 ≤ (i 2).val ∧ (i 2).val < win0_14.index t 2 * 128 + 128; rw [hi.2.2]; omega

theorem final14 : (dats m 0 c).arrAt 14 cfg0.N = arr14 m c :=
  (dats m 0 c).arrAt_eq_of_cover 14 (arr14 m c) (fun t ht => flushed14_eq m c t ht) cover14

end Cert.KernelInIdeal.Hand
-- ==== Proof.InRef.lean ====
/-
  The reference's input projection, result by result: each entry is a token's projection of Rows.lean, rotated where the
  layer rotates it.
-/
module
public import proofs.«01_k».proof.Proof.Gen.ReferenceInIdeal.Read
public import proofs.«01_k».proof.Proof.Rows
public import proofs.«01_k».proof.Proof.Reads
public import Idealize.ShloMosaic.Lib.Pointwise
public import Idealize.ShloMosaic.Lib.ValueIdx
@[expose] public section
noncomputable section
namespace Cert.ReferenceInIdeal.Hand
open Idealize.ShloMosaic Cert.ReferenceInIdeal Cert.ReferenceInIdeal.Gen Cert.Rows
open Cert.ReferenceInIdeal.Read

variable (x0 : (⟨S8x2048x1024, .f32⟩ : BufTy).Contents (Elt Ideal)) (x1 : (⟨S1024, .f32⟩ : BufTy).Contents (Elt Ideal))
  (x2 : (⟨S1024x4352, .f32⟩ : BufTy).Contents (Elt Ideal))

theorem normed (b : Fin 8) (s : Fin 2048) (k : Fin 1024) :
    val_main_v13 (F := Ideal) x0 x1 (ix3 b s k) = rms (fun j => x0 (ix3 b s j)) (fun j => x1 (ix1 j)) k := by
  unfold val_main_v13 val_main_v12 val_main_v11 val_main_v10 val_main_v9 val_main_v8 val_main_v7 val_main_v6 val_main_v5 val_main_v4 val_main_v3 val_main_v2 val_main_v1 val_main_cst val_main_cst_0 val_main_cst_1
  pointwise
  rfl

/-- A token's projections, one for each column of the weight. -/
def zrow (b : Fin 8) (s : Fin 2048) : Fin 4352 → EReal :=
  proj (fun j => x0 (ix3 b s j)) (fun j => x1 (ix1 j)) (fun k n => x2 (ix2 k n))

theorem projected (b : Fin 8) (s : Fin 2048) (n : Fin 4352) : val_main_v14 (F := Ideal) x0 x1 x2 (ix3 b s n) = zrow x0 x1 x2 b s n := by
  unfold val_main_v14
  pointwise [normed, dot_S8x2048x1024_S1024x4352_S8x2048x4352_2_0_01_1_n_n]
  rfl

theorem heads23 (b : Fin 8) (s : Fin 2048) (h : Fin 8) (d : Fin 64) : val_main_v23 (F := Ideal) x0 x1 x2 (ix4 b s h d)
    = zrow x0 x1 x2 b s ⟨0 + (64 * h.val + d.val), by omega⟩ := by
  unfold val_main_v23
  refine (Reads.cast_3_4 _ _ b s h d b s ⟨64 * h.val + d.val, by omega⟩ (by dsimp only; omega)).trans ?_
  unfold val_main_v15
  pointwise [projected]

theorem heads61 (b : Fin 8) (s : Fin 2048) (h : Fin 8) (d : Fin 64) : val_main_v61 (F := Ideal) x0 x1 x2 (ix4 b s h d)
    = zrow x0 x1 x2 b s ⟨512 + (64 * h.val + d.val), by omega⟩ := by
  unfold val_main_v61
  refine (Reads.cast_3_4 _ _ b s h d b s ⟨64 * h.val + d.val, by omega⟩ (by dsimp only; omega)).trans ?_
  unfold val_main_v16
  pointwise [projected]

theorem heads99 (b : Fin 8) (s : Fin 2048) (h : Fin 8) (d : Fin 64) : val_main_v99 (F := Ideal) x0 x1 x2 (ix4 b s h d)
    = zrow x0 x1 x2 b s ⟨1024 + (64 * h.val + d.val), by omega⟩ := by
  unfold val_main_v99
  refine (Reads.cast_3_4 _ _ b s h d b s ⟨64 * h.val + d.val, by omega⟩ (by dsimp only; omega)).trans ?_
  unfold val_main_v17
  pointwise [projected]

theorem heads100 (b : Fin 8) (s : Fin 2048) (h : Fin 8) (d : Fin 64) : val_main_v100 (F := Ideal) x0 x1 x2 (ix4 b s h d)
    = zrow x0 x1 x2 b s ⟨1536 + (64 * h.val + d.val), by omega⟩ := by
  unfold val_main_v100
  refine (Reads.cast_3_4 _ _ b s h d b s ⟨64 * h.val + d.val, by omega⟩ (by dsimp only; omega)).trans ?_
  unfold val_main_v18
  pointwise [projected]

theorem heads138 (b : Fin 8) (s : Fin 2048) (h : Fin 2) (d : Fin 64) : val_main_v138 (F := Ideal) x0 x1 x2 (ix4 b s h d)
    = zrow x0 x1 x2 b s ⟨2048 + (64 * h.val + d.val), by omega⟩ := by
  unfold val_main_v138
  refine (Reads.cast_3_4 _ _ b s h d b s ⟨64 * h.val + d.val, by omega⟩ (by dsimp only; omega)).trans ?_
  unfold val_main_v19
  pointwise [projected]

theorem heads176 (b : Fin 8) (s : Fin 2048) (h : Fin 2) (d : Fin 64) : val_main_v176 (F := Ideal) x0 x1 x2 (ix4 b s h d)
    = zrow x0 x1 x2 b s ⟨2176 + (64 * h.val + d.val), by omega⟩ := by
  unfold val_main_v176
  refine (Reads.cast_3_4 _ _ b s h d b s ⟨64 * h.val + d.val, by omega⟩ (by dsimp only; omega)).trans ?_
  unfold val_main_v20
  pointwise [projected]

theorem angle39 (s : Fin 2048) (k : Fin 32) : val_main_v39 (F := Ideal) (ix2 s k) = angle s.val k.val := by
  unfold val_main_v39 val_main_v38 val_main_v37 val_main_v36 val_main_v35 val_main_v34 val_main_v0 val_main_v33 val_main_v32 val_main_v31 val_main_v30 val_main_v29 val_main_v28 val_main_v27 val_main_v26 val_main_v25 val_main_v24 val_main_cst_2 val_main_cst_3 val_main_cst_4 val_main_cst_5
  pointwise
  rfl

theorem rotated60 (b : Fin 8) (s : Fin 2048) (h : Fin 8) (d : Fin 64) : val_main_v60 (F := Ideal) x0 x1 x2 (ix4 b s h d)
    = val_main_v23 (F := Ideal) x0 x1 x2 (ix4 b s h d) * Ideal.cos (angle s.val (d.val % 32))
      + val_main_v23 (F := Ideal) x0 x1 x2 (ix4 b s h ⟨swap d.val, swap_lt (n := 1) d.isLt⟩)
        * (if d.val < 32 then -Ideal.sin (angle s.val (d.val % 32)) else Ideal.sin (angle s.val (d.val % 32))) := by
  unfold val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40
  generalize val_main_v23 (F := Ideal) x0 x1 x2 = z
  pointwise [angle39]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun60 (b : Fin 8) (s : Fin 2048) (h : Fin 8) (d : Fin 64) (j l : ℕ) (hj : j = 64 * h.val + d.val) (hl : l % 64 = d.val) :
    val_main_v60 (F := Ideal) x0 x1 x2 (ix4 b s h d)
      = spun (zrow x0 x1 x2 b s) s.val ⟨0 + j, by omega⟩ ⟨0 + swap j, by unfold swap; split <;> omega⟩ l := by
  rw [rotated60]
  simp only [heads23]
  unfold spun
  have e1 : l % 32 = d.val % 32 := by omega
  rw [e1, hl]
  subst hj
  have e2 : 64 * h.val + swap d.val = swap (64 * h.val + d.val) := by unfold swap; split <;> split <;> omega
  simp only [e2]

theorem angle77 (s : Fin 2048) (k : Fin 32) : val_main_v77 (F := Ideal) (ix2 s k) = angle s.val k.val := by
  unfold val_main_v77 val_main_v76 val_main_v75 val_main_v74 val_main_v73 val_main_v72 val_main_v0 val_main_v71 val_main_v70 val_main_v69 val_main_v68 val_main_v67 val_main_v66 val_main_v65 val_main_v64 val_main_v63 val_main_v62 val_main_cst_6 val_main_cst_7 val_main_cst_8 val_main_cst_9
  pointwise
  rfl

theorem rotated98 (b : Fin 8) (s : Fin 2048) (h : Fin 8) (d : Fin 64) : val_main_v98 (F := Ideal) x0 x1 x2 (ix4 b s h d)
    = val_main_v61 (F := Ideal) x0 x1 x2 (ix4 b s h d) * Ideal.cos (angle s.val (d.val % 32))
      + val_main_v61 (F := Ideal) x0 x1 x2 (ix4 b s h ⟨swap d.val, swap_lt (n := 1) d.isLt⟩)
        * (if d.val < 32 then -Ideal.sin (angle s.val (d.val % 32)) else Ideal.sin (angle s.val (d.val % 32))) := by
  unfold val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78
  generalize val_main_v61 (F := Ideal) x0 x1 x2 = z
  pointwise [angle77]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun98 (b : Fin 8) (s : Fin 2048) (h : Fin 8) (d : Fin 64) (j l : ℕ) (hj : j = 64 * h.val + d.val) (hl : l % 64 = d.val) :
    val_main_v98 (F := Ideal) x0 x1 x2 (ix4 b s h d)
      = spun (zrow x0 x1 x2 b s) s.val ⟨512 + j, by omega⟩ ⟨512 + swap j, by unfold swap; split <;> omega⟩ l := by
  rw [rotated98]
  simp only [heads61]
  unfold spun
  have e1 : l % 32 = d.val % 32 := by omega
  rw [e1, hl]
  subst hj
  have e2 : 64 * h.val + swap d.val = swap (64 * h.val + d.val) := by unfold swap; split <;> split <;> omega
  simp only [e2]

theorem angle116 (s : Fin 2048) (k : Fin 32) : val_main_v116 (F := Ideal) (ix2 s k) = angle s.val k.val := by
  unfold val_main_v116 val_main_v115 val_main_v114 val_main_v113 val_main_v112 val_main_v111 val_main_v0 val_main_v110 val_main_v109 val_main_v108 val_main_v107 val_main_v106 val_main_v105 val_main_v104 val_main_v103 val_main_v102 val_main_v101 val_main_cst_10 val_main_cst_11 val_main_cst_12 val_main_cst_13
  pointwise
  rfl

theorem rotated137 (b : Fin 8) (s : Fin 2048) (h : Fin 8) (d : Fin 64) : val_main_v137 (F := Ideal) x0 x1 x2 (ix4 b s h d)
    = val_main_v100 (F := Ideal) x0 x1 x2 (ix4 b s h d) * Ideal.cos (angle s.val (d.val % 32))
      + val_main_v100 (F := Ideal) x0 x1 x2 (ix4 b s h ⟨swap d.val, swap_lt (n := 1) d.isLt⟩)
        * (if d.val < 32 then -Ideal.sin (angle s.val (d.val % 32)) else Ideal.sin (angle s.val (d.val % 32))) := by
  unfold val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117
  generalize val_main_v100 (F := Ideal) x0 x1 x2 = z
  pointwise [angle116]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun137 (b : Fin 8) (s : Fin 2048) (h : Fin 8) (d : Fin 64) (j l : ℕ) (hj : j = 64 * h.val + d.val) (hl : l % 64 = d.val) :
    val_main_v137 (F := Ideal) x0 x1 x2 (ix4 b s h d)
      = spun (zrow x0 x1 x2 b s) s.val ⟨1536 + j, by omega⟩ ⟨1536 + swap j, by unfold swap; split <;> omega⟩ l := by
  rw [rotated137]
  simp only [heads100]
  unfold spun
  have e1 : l % 32 = d.val % 32 := by omega
  rw [e1, hl]
  subst hj
  have e2 : 64 * h.val + swap d.val = swap (64 * h.val + d.val) := by unfold swap; split <;> split <;> omega
  simp only [e2]

theorem angle154 (s : Fin 2048) (k : Fin 32) : val_main_v154 (F := Ideal) (ix2 s k) = angle s.val k.val := by
  unfold val_main_v154 val_main_v153 val_main_v152 val_main_v151 val_main_v150 val_main_v149 val_main_v0 val_main_v148 val_main_v147 val_main_v146 val_main_v145 val_main_v144 val_main_v143 val_main_v142 val_main_v141 val_main_v140 val_main_v139 val_main_cst_14 val_main_cst_15 val_main_cst_16 val_main_cst_17
  pointwise
  rfl

theorem rotated175 (b : Fin 8) (s : Fin 2048) (h : Fin 2) (d : Fin 64) : val_main_v175 (F := Ideal) x0 x1 x2 (ix4 b s h d)
    = val_main_v138 (F := Ideal) x0 x1 x2 (ix4 b s h d) * Ideal.cos (angle s.val (d.val % 32))
      + val_main_v138 (F := Ideal) x0 x1 x2 (ix4 b s h ⟨swap d.val, swap_lt (n := 1) d.isLt⟩)
        * (if d.val < 32 then -Ideal.sin (angle s.val (d.val % 32)) else Ideal.sin (angle s.val (d.val % 32))) := by
  unfold val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155
  generalize val_main_v138 (F := Ideal) x0 x1 x2 = z
  pointwise [angle154]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun175 (b : Fin 8) (s : Fin 2048) (h : Fin 2) (d : Fin 64) (j l : ℕ) (hj : j = 64 * h.val + d.val) (hl : l % 64 = d.val) :
    val_main_v175 (F := Ideal) x0 x1 x2 (ix4 b s h d)
      = spun (zrow x0 x1 x2 b s) s.val ⟨2048 + j, by omega⟩ ⟨2048 + swap j, by unfold swap; split <;> omega⟩ l := by
  rw [rotated175]
  simp only [heads138]
  unfold spun
  have e1 : l % 32 = d.val % 32 := by omega
  rw [e1, hl]
  subst hj
  have e2 : 64 * h.val + swap d.val = swap (64 * h.val + d.val) := by unfold swap; split <;> split <;> omega
  simp only [e2]

theorem result177 (r : Fin 16384) (j : Fin 512) : val_main_v177 (F := Ideal) x0 x1 x2 (ix2 r j)
    = spun (zrow x0 x1 x2 ⟨r.val / 2048, by omega⟩ ⟨r.val % 2048, by omega⟩) (r.val % 2048) ⟨0 + j.val, by omega⟩ ⟨0 + swap j.val, by have := swap_lt (n := 8) j.isLt; omega⟩ j.val := by
  unfold val_main_v177
  refine (Reads.cast_4_2 _ _ r j ⟨r.val / 2048, by omega⟩ ⟨r.val % 2048, by omega⟩ ⟨j.val / 64, by omega⟩ ⟨j.val % 64, by omega⟩
    (by dsimp only; omega)).trans ?_
  exact spun60 x0 x1 x2 _ _ _ _ j.val j.val (by dsimp only; omega) rfl

theorem result178 (r : Fin 16384) (j : Fin 512) : val_main_v178 (F := Ideal) x0 x1 x2 (ix2 r j)
    = spun (zrow x0 x1 x2 ⟨r.val / 2048, by omega⟩ ⟨r.val % 2048, by omega⟩) (r.val % 2048) ⟨512 + j.val, by omega⟩ ⟨512 + swap j.val, by have := swap_lt (n := 8) j.isLt; omega⟩ j.val := by
  unfold val_main_v178
  refine (Reads.cast_4_2 _ _ r j ⟨r.val / 2048, by omega⟩ ⟨r.val % 2048, by omega⟩ ⟨j.val / 64, by omega⟩ ⟨j.val % 64, by omega⟩
    (by dsimp only; omega)).trans ?_
  exact spun98 x0 x1 x2 _ _ _ _ j.val j.val (by dsimp only; omega) rfl

theorem result179 (r : Fin 16384) (j : Fin 512) : val_main_v179 (F := Ideal) x0 x1 x2 (ix2 r j)
    = zrow x0 x1 x2 ⟨r.val / 2048, by omega⟩ ⟨r.val % 2048, by omega⟩ ⟨1024 + j.val, by omega⟩ := by
  unfold val_main_v179
  refine (Reads.cast_4_2 _ _ r j ⟨r.val / 2048, by omega⟩ ⟨r.val % 2048, by omega⟩ ⟨j.val / 64, by omega⟩ ⟨j.val % 64, by omega⟩
    (by dsimp only; omega)).trans ?_
  refine (heads99 x0 x1 x2 _ _ _ _).trans (congrArg _ (Fin.ext ?_))
  dsimp only; omega

theorem result180 (r : Fin 16384) (j : Fin 512) : val_main_v180 (F := Ideal) x0 x1 x2 (ix2 r j)
    = spun (zrow x0 x1 x2 ⟨r.val / 2048, by omega⟩ ⟨r.val % 2048, by omega⟩) (r.val % 2048) ⟨1536 + j.val, by omega⟩ ⟨1536 + swap j.val, by have := swap_lt (n := 8) j.isLt; omega⟩ j.val := by
  unfold val_main_v180
  refine (Reads.cast_4_2 _ _ r j ⟨r.val / 2048, by omega⟩ ⟨r.val % 2048, by omega⟩ ⟨j.val / 64, by omega⟩ ⟨j.val % 64, by omega⟩
    (by dsimp only; omega)).trans ?_
  exact spun137 x0 x1 x2 _ _ _ _ j.val j.val (by dsimp only; omega) rfl

/-- The key or value channel behind one of the 256 doubled lanes. -/
def dup (j : Fin 256) : Nat := 64 * (j.val / 128) + j.val % 64
theorem dup_lt (j : Fin 256) : dup j < 128 := by unfold dup; omega

theorem result183 (r : Fin 16384) (j : Fin 256) : val_main_v183 (F := Ideal) x0 x1 x2 (ix2 r j)
    = spun (zrow x0 x1 x2 ⟨r.val / 2048, by omega⟩ ⟨r.val % 2048, by omega⟩) (r.val % 2048)
        ⟨2048 + dup j, by have := dup_lt j; omega⟩ ⟨2048 + swap (dup j), by have := swap_lt (n := 2) (dup_lt j); omega⟩ j.val := by
  unfold val_main_v183
  refine (Reads.cast_5_2 _ _ r j ⟨r.val / 2048, by omega⟩ ⟨r.val % 2048, by omega⟩ ⟨j.val / 128, by omega⟩ ⟨j.val / 64 % 2, by omega⟩
    ⟨j.val % 64, by omega⟩ (by dsimp only; omega)).trans ?_
  unfold val_main_v182 val_main_v181
  generalize hz : val_main_v175 (F := Ideal) x0 x1 x2 = z
  pointwise
  rw [← hz]
  exact spun175 x0 x1 x2 _ _ _ _ (dup j) j.val (by unfold dup; dsimp only) rfl

theorem result186 (r : Fin 16384) (j : Fin 256) : val_main_v186 (F := Ideal) x0 x1 x2 (ix2 r j)
    = zrow x0 x1 x2 ⟨r.val / 2048, by omega⟩ ⟨r.val % 2048, by omega⟩ ⟨2176 + dup j, by have := dup_lt j; omega⟩ := by
  unfold val_main_v186
  refine (Reads.cast_5_2 _ _ r j ⟨r.val / 2048, by omega⟩ ⟨r.val % 2048, by omega⟩ ⟨j.val / 128, by omega⟩ ⟨j.val / 64 % 2, by omega⟩
    ⟨j.val % 64, by omega⟩ (by dsimp only; omega)).trans ?_
  unfold val_main_v185 val_main_v184
  generalize hz : val_main_v176 (F := Ideal) x0 x1 x2 = z
  pointwise
  rw [← hz]
  exact heads176 x0 x1 x2 _ _ _ _

theorem result188 (b : Fin 8) (j : Fin 512) (s : Fin 2048) : val_main_v188 (F := Ideal) x0 x1 x2 (ix3 b j s)
    = spun (zrow x0 x1 x2 b s) s.val ⟨512 + j.val, by omega⟩ ⟨512 + swap j.val, by have := swap_lt (n := 8) j.isLt; omega⟩ j.val := by
  unfold val_main_v188
  refine (Reads.cast_4_3 _ _ b j s b ⟨j.val / 64, by omega⟩ ⟨j.val % 64, by omega⟩ s (by dsimp only; omega)).trans ?_
  unfold val_main_v187
  generalize hz : val_main_v98 (F := Ideal) x0 x1 x2 = z
  pointwise
  rw [← hz]
  exact spun98 x0 x1 x2 _ _ _ _ j.val j.val (by dsimp only; omega) rfl

theorem result190 (b : Fin 8) (j : Fin 512) (s : Fin 2048) : val_main_v190 (F := Ideal) x0 x1 x2 (ix3 b j s)
    = zrow x0 x1 x2 b s ⟨1024 + j.val, by omega⟩ := by
  unfold val_main_v190
  refine (Reads.cast_4_3 _ _ b j s b ⟨j.val / 64, by omega⟩ ⟨j.val % 64, by omega⟩ s (by dsimp only; omega)).trans ?_
  unfold val_main_v189
  generalize hz : val_main_v99 (F := Ideal) x0 x1 x2 = z
  pointwise
  rw [← hz]
  refine (heads99 x0 x1 x2 _ _ _ _).trans (congrArg _ (Fin.ext ?_))
  dsimp only; omega

theorem result193 (b : Fin 8) (j : Fin 128) (s : Fin 128) : val_main_v193 (F := Ideal) x0 x1 x2 (ix3 b j s)
    = spun (zrow x0 x1 x2 b ⟨1920 + s.val, by omega⟩) (1920 + s.val) ⟨2048 + j.val, by omega⟩ ⟨2048 + swap j.val, by have := swap_lt (n := 2) j.isLt; omega⟩ j.val := by
  unfold val_main_v193
  refine (Reads.cast_4_3 _ _ b j s b ⟨j.val / 64, by omega⟩ ⟨j.val % 64, by omega⟩ s (by dsimp only; omega)).trans ?_
  unfold val_main_v192 val_main_v191
  generalize hz : val_main_v175 (F := Ideal) x0 x1 x2 = z
  pointwise
  rw [← hz]
  exact spun175 x0 x1 x2 _ _ _ _ j.val j.val (by dsimp only; omega) rfl

theorem result196 (b : Fin 8) (j : Fin 128) (s : Fin 128) : val_main_v196 (F := Ideal) x0 x1 x2 (ix3 b j s)
    = zrow x0 x1 x2 b ⟨1920 + s.val, by omega⟩ ⟨2176 + j.val, by omega⟩ := by
  unfold val_main_v196
  refine (Reads.cast_4_3 _ _ b j s b ⟨j.val / 64, by omega⟩ ⟨j.val % 64, by omega⟩ s (by dsimp only; omega)).trans ?_
  unfold val_main_v195 val_main_v194
  generalize hz : val_main_v176 (F := Ideal) x0 x1 x2 = z
  pointwise
  rw [← hz]
  refine (heads176 x0 x1 x2 _ _ _ _).trans (congrArg _ (Fin.ext ?_))
  dsimp only; omega

end Cert.ReferenceInIdeal.Hand
-- ==== Proof.InClaim.lean ====
/-
  The input projection: the kernel's ten arrays and the reference's are the same functions of the arguments.
-/
module
public import proofs.«01_k».proof.Defs
public import proofs.«01_k».proof.Proof.InArray
public import proofs.«01_k».proof.Proof.InRef
public import proofs.«01_k».proof.Proof.Gen.KernelInIdeal
public import proofs.«01_k».proof.Proof.Gen.ReferenceInIdeal
public import proofs.«01_k».proof.Proof.Gen.ReferenceInIdeal.Run
@[expose] public section
noncomputable section
namespace Cert.InClaim
open Idealize.ShloMosaic Idealize.ShloMosaic.TcCoe Idealize.SL.Sem

theorem array5 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v177 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr5 m c := by
  funext i
  exact (congrArg _ (ValueIdx.eq_ix2 (n0:=16384) (n1:=512) i)).trans (Cert.ReferenceInIdeal.Hand.result177 _ _ _ _ _ )

theorem array6 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v178 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr6 m c := by
  funext i
  exact (congrArg _ (ValueIdx.eq_ix2 (n0:=16384) (n1:=512) i)).trans (Cert.ReferenceInIdeal.Hand.result178 _ _ _ _ _ )

theorem array7 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v179 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr7 m c := by
  funext i
  exact (congrArg _ (ValueIdx.eq_ix2 (n0:=16384) (n1:=512) i)).trans (Cert.ReferenceInIdeal.Hand.result179 _ _ _ _ _ )

theorem array8 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v180 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr8 m c := by
  funext i
  exact (congrArg _ (ValueIdx.eq_ix2 (n0:=16384) (n1:=512) i)).trans (Cert.ReferenceInIdeal.Hand.result180 _ _ _ _ _ )

theorem array9 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v183 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr9 m c := by
  funext i
  exact (congrArg _ (ValueIdx.eq_ix2 (n0:=16384) (n1:=256) i)).trans (Cert.ReferenceInIdeal.Hand.result183 _ _ _ _ _ )

theorem array10 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v186 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr10 m c := by
  funext i
  exact (congrArg _ (ValueIdx.eq_ix2 (n0:=16384) (n1:=256) i)).trans (Cert.ReferenceInIdeal.Hand.result186 _ _ _ _ _ )

theorem array11 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v188 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr11 m c := by
  funext i
  exact (congrArg _ (ValueIdx.eq_ix3 (n0:=8) (n1:=512) (n2:=2048) i)).trans (Cert.ReferenceInIdeal.Hand.result188 _ _ _ _ _ _ )

theorem array12 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v190 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr12 m c := by
  funext i
  exact (congrArg _ (ValueIdx.eq_ix3 (n0:=8) (n1:=512) (n2:=2048) i)).trans (Cert.ReferenceInIdeal.Hand.result190 _ _ _ _ _ _ )

theorem array13 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v193 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr13 m c := by
  funext i
  exact (congrArg _ (ValueIdx.eq_ix3 (n0:=8) (n1:=128) (n2:=128) i)).trans (Cert.ReferenceInIdeal.Hand.result193 _ _ _ _ _ _ )

theorem array14 (m : (ℓ : Loc Cert.KernelInIdeal.nD Cert.KernelInIdeal.τ Cert.KernelInIdeal.sig) → Buf (Elt Ideal) ℓ) (c : Dev Cert.KernelInIdeal.nD) :
    Cert.ReferenceInIdeal.Read.val_main_v196 (F := Ideal) (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2)) = Cert.KernelInIdeal.Hand.arr14 m c := by
  funext i
  exact (congrArg _ (ValueIdx.eq_ix3 (n0:=8) (n1:=128) (n2:=128) i)).trans (Cert.ReferenceInIdeal.Hand.result196 _ _ _ _ _ _ )

theorem algebraic : Cert.algebraic_KernelInIdeal_ReferenceInIdeal
    (hKernelInIdeal := Cert.KernelInIdeal.Gen.facts) (hReferenceInIdeal := Cert.ReferenceInIdeal.Gen.facts) := by
  intro m g m' g' _ hagree
  refine ⟨fun c => Cert.KernelInIdeal.Hand.arr5 m c, fun c => Cert.KernelInIdeal.Hand.arr6 m c, fun c => Cert.KernelInIdeal.Hand.arr7 m c, fun c => Cert.KernelInIdeal.Hand.arr8 m c, fun c => Cert.KernelInIdeal.Hand.arr9 m c, fun c => Cert.KernelInIdeal.Hand.arr10 m c, fun c => Cert.KernelInIdeal.Hand.arr11 m c, fun c => Cert.KernelInIdeal.Hand.arr12 m c, fun c => Cert.KernelInIdeal.Hand.arr13 m c, fun c => Cert.KernelInIdeal.Hand.arr14 m c, ?_, ?_⟩
  · refine (θ_run Cert.KernelInIdeal.defs _ _).mono (fun r h c => ?_) (Cert.KernelInIdeal.Value.run_blocks (F := Ideal) m g)
    obtain ⟨h5, h6, h7, h8, h9, h10, h11, h12, h13, h14, hrest⟩ := h c
    exact ⟨h5.trans (Cert.KernelInIdeal.Hand.final5 m c),
      h6.trans (Cert.KernelInIdeal.Hand.final6 m c),
      h7.trans (Cert.KernelInIdeal.Hand.final7 m c),
      h8.trans (Cert.KernelInIdeal.Hand.final8 m c),
      h9.trans (Cert.KernelInIdeal.Hand.final9 m c),
      h10.trans (Cert.KernelInIdeal.Hand.final10 m c),
      h11.trans (Cert.KernelInIdeal.Hand.final11 m c),
      h12.trans (Cert.KernelInIdeal.Hand.final12 m c),
      h13.trans (Cert.KernelInIdeal.Hand.final13 m c),
      h14.trans (Cert.KernelInIdeal.Hand.final14 m c), hrest⟩
  · refine (θ_run Cert.ReferenceInIdeal.defs _ _).mono (fun r h c => ?_) (Cert.ReferenceInIdeal.Value.run (F := Ideal) m' g')
    obtain ⟨h5, h6, h7, h8, h9, h10, h11, h12, h13, h14, hrest⟩ := h c
    obtain ⟨e0, e1, e2⟩ := hagree c
    refine ⟨h5.trans ?_, h6.trans ?_, h7.trans ?_, h8.trans ?_, h9.trans ?_, h10.trans ?_, h11.trans ?_, h12.trans ?_, h13.trans ?_, h14.trans ?_, hrest⟩
    · refine (Cert.ReferenceInIdeal.Read.val_main_v177_eq (Idealize.ShloMosaic.StableHlo.launchContents m' c)).trans ?_
      exact (congr (congr (congrArg (Cert.ReferenceInIdeal.Read.val_main_v177 (F := Ideal)) e0) e1) e2).trans (array5 m c)
    · refine (Cert.ReferenceInIdeal.Read.val_main_v178_eq (Idealize.ShloMosaic.StableHlo.launchContents m' c)).trans ?_
      exact (congr (congr (congrArg (Cert.ReferenceInIdeal.Read.val_main_v178 (F := Ideal)) e0) e1) e2).trans (array6 m c)
    · refine (Cert.ReferenceInIdeal.Read.val_main_v179_eq (Idealize.ShloMosaic.StableHlo.launchContents m' c)).trans ?_
      exact (congr (congr (congrArg (Cert.ReferenceInIdeal.Read.val_main_v179 (F := Ideal)) e0) e1) e2).trans (array7 m c)
    · refine (Cert.ReferenceInIdeal.Read.val_main_v180_eq (Idealize.ShloMosaic.StableHlo.launchContents m' c)).trans ?_
      exact (congr (congr (congrArg (Cert.ReferenceInIdeal.Read.val_main_v180 (F := Ideal)) e0) e1) e2).trans (array8 m c)
    · refine (Cert.ReferenceInIdeal.Read.val_main_v183_eq (Idealize.ShloMosaic.StableHlo.launchContents m' c)).trans ?_
      exact (congr (congr (congrArg (Cert.ReferenceInIdeal.Read.val_main_v183 (F := Ideal)) e0) e1) e2).trans (array9 m c)
    · refine (Cert.ReferenceInIdeal.Read.val_main_v186_eq (Idealize.ShloMosaic.StableHlo.launchContents m' c)).trans ?_
      exact (congr (congr (congrArg (Cert.ReferenceInIdeal.Read.val_main_v186 (F := Ideal)) e0) e1) e2).trans (array10 m c)
    · refine (Cert.ReferenceInIdeal.Read.val_main_v188_eq (Idealize.ShloMosaic.StableHlo.launchContents m' c)).trans ?_
      exact (congr (congr (congrArg (Cert.ReferenceInIdeal.Read.val_main_v188 (F := Ideal)) e0) e1) e2).trans (array11 m c)
    · refine (Cert.ReferenceInIdeal.Read.val_main_v190_eq (Idealize.ShloMosaic.StableHlo.launchContents m' c)).trans ?_
      exact (congr (congr (congrArg (Cert.ReferenceInIdeal.Read.val_main_v190 (F := Ideal)) e0) e1) e2).trans (array12 m c)
    · refine (Cert.ReferenceInIdeal.Read.val_main_v193_eq (Idealize.ShloMosaic.StableHlo.launchContents m' c)).trans ?_
      exact (congr (congr (congrArg (Cert.ReferenceInIdeal.Read.val_main_v193 (F := Ideal)) e0) e1) e2).trans (array13 m c)
    · refine (Cert.ReferenceInIdeal.Read.val_main_v196_eq (Idealize.ShloMosaic.StableHlo.launchContents m' c)).trans ?_
      exact (congr (congr (congrArg (Cert.ReferenceInIdeal.Read.val_main_v196 (F := Ideal)) e0) e1) e2).trans (array14 m c)

end Cert.InClaim
-- ==== Proof.OutBlock.lean ====
/-
  What one grid point of the output projection leaves in its two output blocks, row by row: the hidden row of
  Rows.lean, and its norm laid out by columns.
-/
module
public import proofs.«01_k».proof.Proof.Gen.KernelOutIdeal.Value
public import proofs.«01_k».proof.Proof.Rows
public import Idealize.ShloMosaic.Lib.Pointwise
public import Idealize.ShloMosaic.Lib.ValueIdx
@[expose] public section
noncomputable section
namespace Cert.KernelOutIdeal.Hand
open Idealize.ShloMosaic Cert.KernelOutIdeal Cert.KernelOutIdeal.Gen Cert.Rows

variable (x0 : Vec Ideal S512x1024 .f32) (x1 : Vec Ideal S512x512 .f32) (x2 : Vec Ideal S512x512 .f32) (x3 : Vec Ideal S1x1024 .f32)
  (x4 : Vec Ideal S1024x2048 .bf16) (x5 : Vec Ideal S512x1024 .bf16) (x6 : Vec Ideal S512x1024 .bf16) (x7 : Vec Ideal S1024x1024 .bf16)
  (x8 : Vec Ideal S1x1024 .f32)

/-- The first output block, at a row and a column. -/
theorem out9_apply (i : Fin 512) (k : Fin 1024) :
    out0_9 (F := Ideal) x0 x1 x2 x3 x4 x5 x6 x7 x8 (ix2 i k)
      = hidden (fun j => x0 (ix2 i j)) (fun j => x3 (ix2 0 j)) (fun d => x1 (ix2 i d)) (fun d => x2 (ix2 i d))
          (fun a b => x4 (ix2 a ⟨b.val, by omega⟩)) (fun a b => x4 (ix2 a ⟨1024 + b.val, by omega⟩))
          (fun a b => x5 (ix2 a b)) (fun a b => x6 (ix2 a b)) (fun a b => x7 (ix2 a b)) k := by
  unfold_out out0_9
  rw [View.canon_unit_zero (by funext a; fin_cases a <;> rfl)]
  unfold_payloads
  pointwise [dot_S512x1024_S1024x1024_S512x1024_1_0_0_1_n_n, dot_S512x512_S512x1024_S512x1024_1_0_0_1_n_n]
  rfl

/-- The second output block is the norm of the first one's rows, transposed. -/
theorem out10_apply (i : Fin 512) (k : Fin 1024) :
    out0_10 (F := Ideal) x0 x1 x2 x3 x4 x5 x6 x7 x8 (ix2 k i)
      = rms (fun j => out0_9 (F := Ideal) x0 x1 x2 x3 x4 x5 x6 x7 x8 (ix2 i j)) (fun j => x8 (ix2 0 j)) k := by
  unfold out0_10 out0_9
  rw [View.canon_unit_zero (by funext a; fin_cases a <;> rfl), View.canon_unit_zero (by funext a; fin_cases a <;> rfl)]
  unfold k0_pay2
  generalize k0_pay1 (F := Ideal) _ _ _ _ _ _ _ = H
  pointwise
  rfl

end Cert.KernelOutIdeal.Hand
-- ==== Proof.OutArray.lean ====
/-
  The two arrays the output projection leaves, as functions of the arguments. Each of the 32 grid points handles 512
  tokens: its blocks of the token arrays are 512 consecutive rows, its blocks of the weights are the weights.
-/
module
public import proofs.«01_k».proof.Proof.OutBlock
public import proofs.«01_k».proof.Proof.Reads
@[expose] public section
noncomputable section
namespace Cert.KernelOutIdeal.Hand
open Idealize.ShloMosaic Idealize.ShloMosaic.TcCoe Cert.KernelOutIdeal Cert.KernelOutIdeal.Gen Cert.Rows

variable (m : (ℓ : Loc nD τ sig) → Buf (Elt Ideal) ℓ) (c : Dev nD)

theorem npoints (t : Fin cfg0.N) : t.val < 32 := by have := t.isLt; have h : cfg0.N = 32 := N_0; omega

/-- The array row of row `i` of point `t`'s block. -/
abbrev row (t : Fin cfg0.N) (i : Fin 512) : Fin 16384 := ⟨t.val * 512 + i.val, by have := npoints t; omega⟩

theorem index_facts : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0)
    ∧ (win0_10.index t 0 = 0 ∧ win0_10.index t 1 = t.val) := by decide +kernel

theorem blk0 (t : Fin cfg0.N) (i : Fin 512) (k : Fin 1024) : iblk m c 0 t (ix2 i k) = V m c main_v11 (ix2 (row t i) k) := by
  have hi := (index_facts t).1
  unfold iblk
  rw [View.read_apply]
  show V m c main_v11 _ = V m c main_v11 _
  congr 1
  funext a
  apply Fin.ext
  match a with
  | ⟨0, _⟩ => show win0_0.index t 0 * 512 + 1 * i.val = t.val * 512 + i.val; rw [hi.1]; omega
  | ⟨1, _⟩ => show win0_0.index t 1 * 1024 + 1 * k.val = k.val; rw [hi.2]; omega

theorem blk1 (t : Fin cfg0.N) (i : Fin 512) (k : Fin 512) : iblk m c 1 t (ix2 i k) = V m c main_v12 (ix2 (row t i) k) := by
  have hi := (index_facts t).2.1
  unfold iblk
  rw [View.read_apply]
  show V m c main_v12 _ = V m c main_v12 _
  congr 1
  funext a
  apply Fin.ext
  match a with
  | ⟨0, _⟩ => show win0_1.index t 0 * 512 + 1 * i.val = t.val * 512 + i.val; rw [hi.1]; omega
  | ⟨1, _⟩ => show win0_1.index t 1 * 512 + 1 * k.val = k.val; rw [hi.2]; omega

theorem blk2 (t : Fin cfg0.N) (i : Fin 512) (k : Fin 512) : iblk m c 2 t (ix2 i k) = V m c main_v13 (ix2 (row t i) k) := by
  have hi := (index_facts t).2.2.1
  unfold iblk
  rw [View.read_apply]
  show V m c main_v13 _ = V m c main_v13 _
  congr 1
  funext a
  apply Fin.ext
  match a with
  | ⟨0, _⟩ => show win0_2.index t 0 * 512 + 1 * i.val = t.val * 512 + i.val; rw [hi.1]; omega
  | ⟨1, _⟩ => show win0_2.index t 1 * 512 + 1 * k.val = k.val; rw [hi.2]; omega

theorem blk3 (t : Fin cfg0.N) (i : Fin 1) (k : Fin 1024) : iblk m c 3 t (ix2 i k) = V m c main_v14 (ix2 i k) := by
  have hi := (index_facts t).2.2.2.1
  unfold iblk
  rw [View.read_apply]
  show V m c main_v14 _ = V m c main_v14 _
  congr 1
  funext a
  apply Fin.ext
  match a with
  | ⟨0, _⟩ => show win0_3.index t 0 * 1 + 1 * i.val = i.val; rw [hi.1]; omega
  | ⟨1, _⟩ => show win0_3.index t 1 * 1024 + 1 * k.val = k.val; rw [hi.2]; omega

theorem blk4 (t : Fin cfg0.N) (i : Fin 1024) (k : Fin 2048) : iblk m c 4 t (ix2 i k) = V m c main_v2 (ix2 i k) := by
  have hi := (index_facts t).2.2.2.2.1
  unfold iblk
  rw [View.read_apply]
  show V m c main_v2 _ = V m c main_v2 _
  congr 1
  funext a
  apply Fin.ext
  match a with
  | ⟨0, _⟩ => show win0_4.index t 0 * 1024 + 1 * i.val = i.val; rw [hi.1]; omega
  | ⟨1, _⟩ => show win0_4.index t 1 * 2048 + 1 * k.val = k.val; rw [hi.2]; omega

theorem blk5 (t : Fin cfg0.N) (i : Fin 512) (k : Fin 1024) : iblk m c 5 t (ix2 i k) = V m c main_v5 (ix2 i k) := by
  have hi := (index_facts t).2.2.2.2.2.1
  unfold iblk
  rw [View.read_apply]
  show V m c main_v5 _ = V m c main_v5 _
  congr 1
  funext a
  apply Fin.ext
  match a with
  | ⟨0, _⟩ => show win0_5.index t 0 * 512 + 1 * i.val = i.val; rw [hi.1]; omega
  | ⟨1, _⟩ => show win0_5.index t 1 * 1024 + 1 * k.val = k.val; rw [hi.2]; omega

theorem blk6 (t : Fin cfg0.N) (i : Fin 512) (k : Fin 1024) : iblk m c 6 t (ix2 i k) = V m c main_v7 (ix2 i k) := by
  have hi := (index_facts t).2.2.2.2.2.2.1
  unfold iblk
  rw [View.read_apply]
  show V m c main_v7 _ = V m c main_v7 _
  congr 1
  funext a
  apply Fin.ext
  match a with
  | ⟨0, _⟩ => show win0_6.index t 0 * 512 + 1 * i.val = i.val; rw [hi.1]; omega
  | ⟨1, _⟩ => show win0_6.index t 1 * 1024 + 1 * k.val = k.val; rw [hi.2]; omega

theorem blk7 (t : Fin cfg0.N) (i : Fin 1024) (k : Fin 1024) : iblk m c 7 t (ix2 i k) = V m c main_v9 (ix2 i k) := by
  have hi := (index_facts t).2.2.2.2.2.2.2.1
  unfold iblk
  rw [View.read_apply]
  show V m c main_v9 _ = V m c main_v9 _
  congr 1
  funext a
  apply Fin.ext
  match a with
  | ⟨0, _⟩ => show win0_7.index t 0 * 1024 + 1 * i.val = i.val; rw [hi.1]; omega
  | ⟨1, _⟩ => show win0_7.index t 1 * 1024 + 1 * k.val = k.val; rw [hi.2]; omega

theorem blk8 (t : Fin cfg0.N) (i : Fin 1) (k : Fin 1024) : iblk m c 8 t (ix2 i k) = V m c main_v15 (ix2 i k) := by
  have hi := (index_facts t).2.2.2.2.2.2.2.2.1
  unfold iblk
  rw [View.read_apply]
  show V m c main_v15 _ = V m c main_v15 _
  congr 1
  funext a
  apply Fin.ext
  match a with
  | ⟨0, _⟩ => show win0_8.index t 0 * 1 + 1 * i.val = i.val; rw [hi.1]; omega
  | ⟨1, _⟩ => show win0_8.index t 1 * 1024 + 1 * k.val = k.val; rw [hi.2]; omega

/-! ## What the host operations before the launch leave -/

theorem host_x (r : Fin 16384) (k : Fin 1024) : V m c main_v11 (ix2 r k)
    = m ((c : Thread nD τ).loc main_arg0) (ix3 ⟨r.val / 2048, by omega⟩ ⟨r.val % 2048, by omega⟩ k) := by
  have h : V m c main_v11 = shapeCast S16384x1024 (m ((c : Thread nD τ).loc main_arg0)) shapeCasts_S8x2048x1024_S16384x1024 := by
    unfold V hostOps0
    after_results
    rfl
  rw [h]
  exact Reads.cast_3_2 _ _ _ _ _ _ _ (by dsimp only; omega)

theorem host_oa (r : Fin 16384) (k : Fin 512) : V m c main_v12 (ix2 r k)
    = m ((c : Thread nD τ).loc main_arg1) (ix3 ⟨r.val / 2048, by omega⟩ ⟨r.val % 2048, by omega⟩ k) := by
  have h : V m c main_v12 = shapeCast S16384x512 (m ((c : Thread nD τ).loc main_arg1)) shapeCasts_S8x2048x512_S16384x512 := by
    unfold V hostOps0
    after_results
    rfl
  rw [h]
  exact Reads.cast_3_2 _ _ _ _ _ _ _ (by dsimp only; omega)

theorem host_ob (r : Fin 16384) (k : Fin 512) : V m c main_v13 (ix2 r k)
    = m ((c : Thread nD τ).loc main_arg2) (ix3 ⟨r.val / 2048, by omega⟩ ⟨r.val % 2048, by omega⟩ k) := by
  have h : V m c main_v13 = shapeCast S16384x512 (m ((c : Thread nD τ).loc main_arg2)) shapeCasts_S8x2048x512_S16384x512 := by
    unfold V hostOps0
    after_results
    rfl
  rw [h]
  exact Reads.cast_3_2 _ _ _ _ _ _ _ (by dsimp only; omega)

theorem host_wg (r : Fin 1024) (k : Fin 2048) : V m c main_v2 (ix2 r k)
    = m ((c : Thread nD τ).loc main_arg4) (ix3 0 r ⟨2304 + k.val, by omega⟩) := by
  have h : V m c main_v2 = extractStridedSlice S1024x2048 ![0, 2304]
      (shapeCast S1024x4352 (m ((c : Thread nD τ).loc main_arg4)) shapeCasts_S1x1024x4352_S1024x4352)
      slices_S1024x4352_S1024x2048_0_2304 := by
    unfold V hostOps0
    after_results
    rfl
  rw [h]
  refine (extractStridedSlice_apply ![0, 2304] _ _ (ix2 r k) (ix2 r ⟨2304 + k.val, by omega⟩)
    (fun a => match a with
      | ⟨0, _⟩ => by show r.val = 0 + r.val; omega
      | ⟨1, _⟩ => rfl)).trans ?_
  exact Reads.cast_3_2 _ _ _ _ _ _ _ (by dsimp only; omega)

theorem host_wa (r : Fin 512) (k : Fin 1024) : V m c main_v5 (ix2 r k) = m ((c : Thread nD τ).loc main_arg5) (ix3 0 r k) := by
  have h : V m c main_v5 = shapeCast S512x1024 (m ((c : Thread nD τ).loc main_arg5)) shapeCasts_S1x512x1024_S512x1024 := by
    unfold V hostOps0
    after_results
    rfl
  rw [h]
  exact Reads.cast_3_2 _ _ _ _ _ _ _ (by simp)

theorem host_wb (r : Fin 512) (k : Fin 1024) : V m c main_v7 (ix2 r k) = m ((c : Thread nD τ).loc main_arg6) (ix3 0 r k) := by
  have h : V m c main_v7 = shapeCast S512x1024 (m ((c : Thread nD τ).loc main_arg6)) shapeCasts_S1x512x1024_S512x1024 := by
    unfold V hostOps0
    after_results
    rfl
  rw [h]
  exact Reads.cast_3_2 _ _ _ _ _ _ _ (by simp)

theorem host_wo (r : Fin 1024) (k : Fin 1024) : V m c main_v9 (ix2 r k) = m ((c : Thread nD τ).loc main_arg7) (ix3 0 r k) := by
  have h : V m c main_v9 = shapeCast S1024x1024 (m ((c : Thread nD τ).loc main_arg7)) shapeCasts_S1x1024x1024_S1024x1024 := by
    unfold V hostOps0
    after_results
    rfl
  rw [h]
  exact Reads.cast_3_2 _ _ _ _ _ _ _ (by simp)

theorem host_gm (k : Fin 1024) : V m c main_v14 (ix2 0 k) = m ((c : Thread nD τ).loc main_arg3) (ix2 0 k) := by
  have h : V m c main_v14 = shapeCast S1x1024 (shapeCast S1024 (m ((c : Thread nD τ).loc main_arg3)) shapeCasts_S1x1024_S1024)
      shapeCasts_S1024_S1x1024 := by
    unfold V hostOps0
    after_results
    rfl
  rw [h, shapeCast_shapeCast]

theorem host_gf (k : Fin 1024) : V m c main_v15 (ix2 0 k) = m ((c : Thread nD τ).loc main_arg8) (ix2 0 k) := by
  have h : V m c main_v15 = shapeCast S1x1024 (shapeCast S1024 (m ((c : Thread nD τ).loc main_arg8)) shapeCasts_S1x1024_S1024)
      shapeCasts_S1024_S1x1024 := by
    unfold V hostOps0
    after_results
    rfl
  rw [h, shapeCast_shapeCast]

/-! ## The blocks, from the arguments -/

theorem read0 (t : Fin cfg0.N) (i : Fin 512) (k : Fin 1024) : iblk m c 0 t (ix2 i k)
    = m ((c : Thread nD τ).loc main_arg0) (ix3 ⟨(row t i).val / 2048, by omega⟩ ⟨(row t i).val % 2048, by omega⟩ k) :=
  (blk0 m c t i k).trans (host_x m c _ _)
theorem read1 (t : Fin cfg0.N) (i : Fin 512) (k : Fin 512) : iblk m c 1 t (ix2 i k)
    = m ((c : Thread nD τ).loc main_arg1) (ix3 ⟨(row t i).val / 2048, by omega⟩ ⟨(row t i).val % 2048, by omega⟩ k) :=
  (blk1 m c t i k).trans (host_oa m c _ _)
theorem read2 (t : Fin cfg0.N) (i : Fin 512) (k : Fin 512) : iblk m c 2 t (ix2 i k)
    = m ((c : Thread nD τ).loc main_arg2) (ix3 ⟨(row t i).val / 2048, by omega⟩ ⟨(row t i).val % 2048, by omega⟩ k) :=
  (blk2 m c t i k).trans (host_ob m c _ _)
theorem read3 (t : Fin cfg0.N) (k : Fin 1024) : iblk m c 3 t (ix2 0 k) = m ((c : Thread nD τ).loc main_arg3) (ix2 0 k) :=
  (blk3 m c t 0 k).trans (host_gm m c _)
theorem read4 (t : Fin cfg0.N) (r : Fin 1024) (k : Fin 2048) : iblk m c 4 t (ix2 r k)
    = m ((c : Thread nD τ).loc main_arg4) (ix3 0 r ⟨2304 + k.val, by omega⟩) :=
  (blk4 m c t r k).trans (host_wg m c _ _)
theorem read5 (t : Fin cfg0.N) (r : Fin 512) (k : Fin 1024) : iblk m c 5 t (ix2 r k) = m ((c : Thread nD τ).loc main_arg5) (ix3 0 r k) :=
  (blk5 m c t r k).trans (host_wa m c _ _)
theorem read6 (t : Fin cfg0.N) (r : Fin 512) (k : Fin 1024) : iblk m c 6 t (ix2 r k) = m ((c : Thread nD τ).loc main_arg6) (ix3 0 r k) :=
  (blk6 m c t r k).trans (host_wb m c _ _)
theorem read7 (t : Fin cfg0.N) (r : Fin 1024) (k : Fin 1024) : iblk m c 7 t (ix2 r k) = m ((c : Thread nD τ).loc main_arg7) (ix3 0 r k) :=
  (blk7 m c t r k).trans (host_wo m c _ _)
theorem read8 (t : Fin cfg0.N) (k : Fin 1024) : iblk m c 8 t (ix2 0 k) = m ((c : Thread nD τ).loc main_arg8) (ix2 0 k) :=
  (blk8 m c t 0 k).trans (host_gf m c _)

/-! ## The two arrays -/

/-- A token's hidden row, from the arguments. -/
def tokenHidden (b : Fin 8) (s : Fin 2048) (n : Fin 1024) : EReal :=
  hidden (fun j => m ((c : Thread nD τ).loc main_arg0) (ix3 b s j)) (fun j => m ((c : Thread nD τ).loc main_arg3) (ix2 0 j))
    (fun d => m ((c : Thread nD τ).loc main_arg1) (ix3 b s d)) (fun d => m ((c : Thread nD τ).loc main_arg2) (ix3 b s d))
    (fun k n => m ((c : Thread nD τ).loc main_arg4) (ix3 0 k ⟨2304 + n.val, by omega⟩))
    (fun k n => m ((c : Thread nD τ).loc main_arg4) (ix3 0 k ⟨3328 + n.val, by omega⟩))
    (fun d n => m ((c : Thread nD τ).loc main_arg5) (ix3 0 d n)) (fun d n => m ((c : Thread nD τ).loc main_arg6) (ix3 0 d n))
    (fun k n => m ((c : Thread nD τ).loc main_arg7) (ix3 0 k n)) n

/-- The hidden array: one row a token, the sequences one after another. -/
def hArr : Buf (Elt Ideal) ((c : Thread nD τ).loc main_v16_0) := fun i : S16384x1024.Idx =>
  tokenHidden m c ⟨(i 0).val / 2048, by have := Idealize.ShloMosaic.ValueIdx.idx2_lt0 i; omega⟩ ⟨(i 0).val % 2048, by omega⟩ (i 1)

/-- The normed array: one column a token. -/
def hnArr : Buf (Elt Ideal) ((c : Thread nD τ).loc main_v16_1) := fun i : S1024x16384.Idx =>
  rms (tokenHidden m c ⟨(i 1).val / 2048, by have := Idealize.ShloMosaic.ValueIdx.idx2_lt1 i; omega⟩ ⟨(i 1).val % 2048, by omega⟩)
    (fun j => m ((c : Thread nD τ).loc main_arg8) (ix2 0 j)) (i 0)

theorem block9 (t : Fin cfg0.N) (i : Fin 512) (k : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 i k)
      = hArr m c (ix2 (row t i) k) := by
  rw [out9_apply]
  simp only [read0, read1, read2, read3, read4, read5, read6, read7]
  unfold hArr tokenHidden
  congr 1
  funext a b
  congr 2
  apply Fin.ext
  show 2304 + (1024 + b.val) = 3328 + b.val
  omega

theorem block10 (t : Fin cfg0.N) (i : Fin 512) (k : Fin 1024) :
    out0_10 (F := Ideal) (iblk m c 0 t) (iblk m c 1 t) (iblk m c 2 t) (iblk m c 3 t) (iblk m c 4 t) (iblk m c 5 t) (iblk m c 6 t) (iblk m c 7 t) (iblk m c 8 t) (ix2 k i)
      = hnArr m c (ix2 k (row t i)) := by
  rw [out10_apply]
  simp only [block9, read8]
  rfl

theorem flushed9_eq (t : Fin cfg0.N) : (dats m 0 c).flushed 9 t = ((cfg0.win 9).blk t).view.read (Elt Ideal) (hArr m c) := by
  rw [Value.flushed9]
  funext y
  refine (congrArg _ (eq_ix2 (n0 := 512) (n1 := 1024) y)).trans ((block9 m c t (y 0) (y 1)).trans ?_)
  rw [View.read_apply]
  have hi := (index_facts t).2.2.2.2.2.2.2.2.2.1
  congr 1
  funext a
  apply Fin.ext
  match a with
  | ⟨0, _⟩ => show t.val * 512 + (y 0).val = win0_9.index t 0 * 512 + 1 * (y 0).val; rw [hi.1]; omega
  | ⟨1, _⟩ => show (y 1).val = win0_9.index t 1 * 1024 + 1 * (y 1).val; rw [hi.2]; omega

theorem flushed10_eq (t : Fin cfg0.N) : (dats m 0 c).flushed 10 t = ((cfg0.win 10).blk t).view.read (Elt Ideal) (hnArr m c) := by
  rw [Value.flushed10]
  funext y
  refine (congrArg _ (eq_ix2 (n0 := 1024) (n1 := 512) y)).trans ((block10 m c t (y 1) (y 0)).trans ?_)
  rw [View.read_apply]
  have hi := (index_facts t).2.2.2.2.2.2.2.2.2.2
  congr 1
  funext a
  apply Fin.ext
  match a with
  | ⟨0, _⟩ => show (y 0).val = win0_10.index t 0 * 1024 + 1 * (y 0).val; rw [hi.1]; omega
  | ⟨1, _⟩ => show t.val * 512 + (y 1).val = win0_10.index t 1 * 512 + 1 * (y 1).val; rw [hi.2]; omega

theorem cover9 (i : S16384x1024.Idx) : ∃ t : Fin cfg0.N, (cfg0.win 9).flush t = true ∧ i ∈ ((cfg0.win 9).blk t).view.set := by
  have h0 := Idealize.ShloMosaic.ValueIdx.idx2_lt0 i
  have h1 := Idealize.ShloMosaic.ValueIdx.idx2_lt1 i
  have hN : cfg0.N = 32 := N_0
  let t : Fin cfg0.N := ⟨(i 0).val / 512, by omega⟩
  refine ⟨t, flush0_9 _, ?_⟩
  show i ∈ ((View.whole main_v16_0).slice (win0_9.rect t)).set
  rw [View.set_slice_whole, Rect.mem_set_unit]
  have hi := (index_facts t).2.2.2.2.2.2.2.2.2.1
  intro a
  match a with
  | ⟨0, _⟩ => show win0_9.index t 0 * 512 ≤ (i 0).val ∧ (i 0).val < win0_9.index t 0 * 512 + 512
              rw [hi.1]; show (i 0).val / 512 * 512 ≤ (i 0).val ∧ (i 0).val < (i 0).val / 512 * 512 + 512; omega
  | ⟨1, _⟩ => show win0_9.index t 1 * 1024 ≤ (i 1).val ∧ (i 1).val < win0_9.index t 1 * 1024 + 1024; rw [hi.2]; omega

theorem cover10 (i : S1024x16384.Idx) : ∃ t : Fin cfg0.N, (cfg0.win 10).flush t = true ∧ i ∈ ((cfg0.win 10).blk t).view.set := by
  have h0 := Idealize.ShloMosaic.ValueIdx.idx2_lt0 i
  have h1 := Idealize.ShloMosaic.ValueIdx.idx2_lt1 i
  have hN : cfg0.N = 32 := N_0
  let t : Fin cfg0.N := ⟨(i 1).val / 512, by omega⟩
  refine ⟨t, flush0_10 _, ?_⟩
  show i ∈ ((View.whole main_v16_1).slice (win0_10.rect t)).set
  rw [View.set_slice_whole, Rect.mem_set_unit]
  have hi := (index_facts t).2.2.2.2.2.2.2.2.2.2
  intro a
  match a with
  | ⟨0, _⟩ => show win0_10.index t 0 * 1024 ≤ (i 0).val ∧ (i 0).val < win0_10.index t 0 * 1024 + 1024; rw [hi.1]; omega
  | ⟨1, _⟩ => show win0_10.index t 1 * 512 ≤ (i 1).val ∧ (i 1).val < win0_10.index t 1 * 512 + 512
              rw [hi.2]; show (i 1).val / 512 * 512 ≤ (i 1).val ∧ (i 1).val < (i 1).val / 512 * 512 + 512; omega

theorem final9 : (dats m 0 c).arrAt 9 cfg0.N = hArr m c :=
  (dats m 0 c).arrAt_eq_of_cover 9 (hArr m c) (fun t _ => flushed9_eq m c t) cover9

theorem final10 : (dats m 0 c).arrAt 10 cfg0.N = hnArr m c :=
  (dats m 0 c).arrAt_eq_of_cover 10 (hnArr m c) (fun t _ => flushed10_eq m c t) cover10

end Cert.KernelOutIdeal.Hand
-- ==== Proof.OutRef.lean ====
/-
  The reference's two arrays, token by token: the hidden row of Rows.lean and its norm.
-/
module
public import proofs.«01_k».proof.Proof.Gen.ReferenceOutIdeal.Read
public import proofs.«01_k».proof.Proof.Rows
public import proofs.«01_k».proof.Proof.Reads
@[expose] public section
noncomputable section
namespace Cert.ReferenceOutIdeal.Hand
open Idealize.ShloMosaic Cert.ReferenceOutIdeal Cert.ReferenceOutIdeal.Gen Cert.Rows
open Cert.ReferenceOutIdeal.Read

variable (x0 : (⟨S8x2048x1024, .f32⟩ : BufTy).Contents (Elt Ideal)) (x1 x2 : (⟨S8x2048x512, .f32⟩ : BufTy).Contents (Elt Ideal))
  (x3 : (⟨S1x1024, .f32⟩ : BufTy).Contents (Elt Ideal)) (x4 : (⟨S1x1024x4352, .f32⟩ : BufTy).Contents (Elt Ideal))
  (x5 x6 : (⟨S1x512x1024, .f32⟩ : BufTy).Contents (Elt Ideal)) (x7 : (⟨S1x1024x1024, .f32⟩ : BufTy).Contents (Elt Ideal))
  (x8 : (⟨S1x1024, .f32⟩ : BufTy).Contents (Elt Ideal))

theorem normed (b : Fin 8) (s : Fin 2048) (k : Fin 1024) :
    val_main_v13 (F := Ideal) x0 x3 (ix3 b s k) = rms (fun j => x0 (ix3 b s j)) (fun j => x3 (ix2 0 j)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem projected (b : Fin 8) (s : Fin 2048) (n : Fin 4352) :
    val_main_v15 (F := Ideal) x0 x3 x4 (ix3 b s n) = proj (fun j => x0 (ix3 b s j)) (fun j => x3 (ix2 0 j)) (fun a b => x4 (ix3 0 a b)) n := by
  unfold val_main_v15 val_main_v14
  pointwise [normed, dot_S8x2048x1024_S1024x4352_S8x2048x4352_2_0_01_1_n_n]
  rfl

/-- The reference's token row, from its arguments. -/
def tokenHidden (b : Fin 8) (s : Fin 2048) (n : Fin 1024) : EReal :=
  hidden (fun j => x0 (ix3 b s j)) (fun j => x3 (ix2 0 j)) (fun d => x1 (ix3 b s d)) (fun d => x2 (ix3 b s d))
    (fun k n => x4 (ix3 0 k ⟨2304 + n.val, by omega⟩)) (fun k n => x4 (ix3 0 k ⟨3328 + n.val, by omega⟩))
    (fun d n => x5 (ix3 0 d n)) (fun d n => x6 (ix3 0 d n)) (fun k n => x7 (ix3 0 k n)) n

theorem gate_a (b : Fin 8) (s : Fin 2048) (n : Fin 1024) :
    val_main_v23 (F := Ideal) x0 x3 x4 (ix3 b s n)
      = Ideal.logistic (proj (fun j => x0 (ix3 b s j)) (fun j => x3 (ix2 0 j)) (fun k n => x4 (ix3 0 k ⟨2304 + n.val, by omega⟩)) n) := by
  unfold val_main_v23 val_main_v22 val_main_v21 val_main_v20 val_main_v19 val_main_v18 val_main_v16 val_main_cst_2 val_main_cst_3
  pointwise [projected]
  rfl

theorem gate_b (b : Fin 8) (s : Fin 2048) (n : Fin 1024) :
    val_main_v32 (F := Ideal) x0 x3 x4 (ix3 b s n)
      = Ideal.logistic (proj (fun j => x0 (ix3 b s j)) (fun j => x3 (ix2 0 j)) (fun k n => x4 (ix3 0 k ⟨3328 + n.val, by omega⟩)) n) := by
  unfold val_main_v32 val_main_v31 val_main_v30 val_main_v29 val_main_v28 val_main_v27 val_main_v17 val_main_cst_4 val_main_cst_5
  pointwise [projected]
  rfl

theorem hidden_apply (b : Fin 8) (s : Fin 2048) (n : Fin 1024) :
    val_main_v39 (F := Ideal) x0 x1 x2 x3 x4 x5 x6 x7 (ix3 b s n) = tokenHidden x0 x1 x2 x3 x4 x5 x6 x7 b s n := by
  unfold val_main_v39 val_main_v38 val_main_v37 val_main_v36 val_main_v35 val_main_v34 val_main_v33 val_main_v26 val_main_v25 val_main_v24
  pointwise [gate_a, gate_b, dot_S8x2048x1024_S1024x1024_S8x2048x1024_2_0_01_1_n_n, dot_S8x2048x512_S512x1024_S8x2048x1024_2_0_01_1_n_n]
  rfl

theorem hidden_normed (b : Fin 8) (s : Fin 2048) (n : Fin 1024) :
    val_main_v53 (F := Ideal) x0 x1 x2 x3 x4 x5 x6 x7 x8 (ix3 b s n)
      = rms (tokenHidden x0 x1 x2 x3 x4 x5 x6 x7 b s) (fun j => x8 (ix2 0 j)) n := by
  unfold val_main_v53 val_main_v52 val_main_v51 val_main_v50 val_main_v49 val_main_v48 val_main_v47 val_main_v46 val_main_v45 val_main_v44 val_main_v43 val_main_v42 val_main_v41 val_main_v40 val_main_cst_6 val_main_cst_7 val_main_cst_8
  pointwise [hidden_apply]
  rfl

theorem result_h (i : Fin 16384) (n : Fin 1024) :
    val_main_v54 (F := Ideal) x0 x1 x2 x3 x4 x5 x6 x7 (ix2 i n)
      = tokenHidden x0 x1 x2 x3 x4 x5 x6 x7 ⟨i.val / 2048, by omega⟩ ⟨i.val % 2048, by omega⟩ n :=
  (Reads.cast_3_2 _ _ _ _ _ _ _ (by dsimp only; omega)).trans (hidden_apply _ _ _ _ _ _ _ _ _ _ _)

theorem result_hn (n : Fin 1024) (i : Fin 16384) :
    val_main_v57 (F := Ideal) x0 x1 x2 x3 x4 x5 x6 x7 x8 (ix2 n i)
      = rms (tokenHidden x0 x1 x2 x3 x4 x5 x6 x7 ⟨i.val / 2048, by omega⟩ ⟨i.val % 2048, by omega⟩) (fun j => x8 (ix2 0 j)) n := by
  unfold val_main_v57 val_main_v56
  pointwise
  exact (Reads.cast_3_2 _ _ _ _ _ _ _ (by dsimp only; omega)).trans (hidden_normed _ _ _ _ _ _ _ _ _ _ _ _)

end Cert.ReferenceOutIdeal.Hand
-- ==== Proof.OutClaim.lean ====
/-
  The output projection: the kernel's two arrays and the reference's are the same functions of the arguments.
-/
module
public import proofs.«01_k».proof.Defs
public import proofs.«01_k».proof.Proof.OutArray
public import proofs.«01_k».proof.Proof.OutRef
public import proofs.«01_k».proof.Proof.Gen.KernelOutIdeal
public import proofs.«01_k».proof.Proof.Gen.ReferenceOutIdeal
public import proofs.«01_k».proof.Proof.Gen.ReferenceOutIdeal.Run
@[expose] public section
noncomputable section
namespace Cert.OutClaim
open Idealize.ShloMosaic Idealize.ShloMosaic.TcCoe Idealize.SL.Sem

theorem algebraic : Cert.algebraic_KernelOutIdeal_ReferenceOutIdeal
    (hKernelOutIdeal := Cert.KernelOutIdeal.Gen.facts) (hReferenceOutIdeal := Cert.ReferenceOutIdeal.Gen.facts) := by
  intro m g m' g' _ hagree
  refine ⟨fun c => Cert.KernelOutIdeal.Hand.hArr m c, fun c => Cert.KernelOutIdeal.Hand.hnArr m c, ?_, ?_⟩
  · refine (θ_run Cert.KernelOutIdeal.defs _ _).mono (fun r h c => ?_) (Cert.KernelOutIdeal.Value.run_blocks (F := Ideal) m g)
    obtain ⟨h1, h2, hrest⟩ := h c
    exact ⟨h1.trans (Cert.KernelOutIdeal.Hand.final9 m c), h2.trans (Cert.KernelOutIdeal.Hand.final10 m c), hrest⟩
  · refine (θ_run Cert.ReferenceOutIdeal.defs _ _).mono (fun r h c => ?_) (Cert.ReferenceOutIdeal.Value.run (F := Ideal) m' g')
    obtain ⟨h1, h2, hrest⟩ := h c
    obtain ⟨e0, e1, e2, e3, e4, e5, e6, e7, e8⟩ := hagree c
    refine ⟨h1.trans ?_, h2.trans ?_, hrest⟩
    · refine (Cert.ReferenceOutIdeal.Read.val_main_v54_eq _ _ _ _ _ _ _ _).trans ?_
      rw [e0, e1, e2, e3, e4, e5, e6, e7]
      funext i
      exact (congrArg _ (ValueIdx.eq_ix2 (n0 := 16384) (n1 := 1024) i)).trans (Cert.ReferenceOutIdeal.Hand.result_h _ _ _ _ _ _ _ _ _ _)
    · refine (Cert.ReferenceOutIdeal.Read.val_main_v57_eq m' c).trans ?_
      rw [e0, e1, e2, e3, e4, e5, e6, e7, e8]
      funext i
      exact (congrArg _ (ValueIdx.eq_ix2 (n0 := 1024) (n1 := 16384) i)).trans (Cert.ReferenceOutIdeal.Hand.result_hn _ _ _ _ _ _ _ _ _ _ _)

end Cert.OutClaim
-- ==== Proof.SampMath.lean ====
module

public import Idealize.ShloMosaic.Lib.Pointwise
public import Idealize.ShloMosaic.PureOps.Ideal

@[expose] public section

/-! Extended-real facts about a softmax over a reach of kept positions and one new position: a masked
    position carries no weight, so the sums over the whole window are the sums over the reach; and the
    three softmaxes of the dilated heads may be mixed before or after they meet the values. -/

namespace Cert.Samp

open Idealize.ShloMosaic
open scoped BigOperators

/-- A weight: not negative and not infinite. -/
def Weight (x : EReal) : Prop := 0 ≤ x ∧ x ≠ ⊤

theorem Weight.zero : Weight 0 := ⟨le_refl _, EReal.zero_ne_top⟩

theorem Weight.add {x y : EReal} (hx : Weight x) (hy : Weight y) : Weight (x + y) :=
  ⟨add_nonneg hx.1 hy.1, EReal.add_ne_top hx.2 hy.2⟩

theorem Weight.sum {ι : Type} (s : Finset ι) (f : ι → EReal) (h : ∀ i, Weight (f i)) : Weight (∑ i ∈ s, f i) := by
  classical
  induction s using Finset.induction_on with
  | empty => simpa using Weight.zero
  | insert a s ha ih => rw [Finset.sum_insert ha]; exact (h a).add ih

/-- A weight is a real number. -/
theorem Weight.real {x : EReal} (h : Weight x) : ∃ r : ℝ, x = (r : EReal) ∧ 0 ≤ r := by
  obtain ⟨h0, ht⟩ := h
  induction x using EReal.rec with
  | bot => simp at h0
  | top => exact absurd rfl ht
  | coe r => exact ⟨r, rfl, EReal.coe_nonneg.mp h0⟩

theorem Weight.mul {x y : EReal} (hx : Weight x) (hy : Weight y) : Weight (x * y) := by
  obtain ⟨a, rfl, ha⟩ := hx.real
  obtain ⟨b, rfl, hb⟩ := hy.real
  rw [← EReal.coe_mul]
  exact ⟨EReal.coe_nonneg.mpr (mul_nonneg ha hb), EReal.coe_ne_top _⟩

/-- A weight passes through any sum. -/
theorem Weight.mul_sum {ι : Type} {w : EReal} (hw : Weight w) (s : Finset ι) (f : ι → EReal) :
    w * ∑ i ∈ s, f i = ∑ i ∈ s, w * f i := by
  classical
  induction s using Finset.induction_on with
  | empty => simp
  | insert a s ha ih =>
    rw [Finset.sum_insert ha, Finset.sum_insert ha, EReal.left_distrib_of_nonneg_of_ne_top hw.1 hw.2, ih]

theorem exp_bot : Ideal.exp ⊥ = 0 := rfl

theorem exp_coe (r : ℝ) : Ideal.exp (r : EReal) = (Real.exp r : EReal) := rfl

theorem exp_weight {x : EReal} (h : x ≠ ⊤) : Weight (Ideal.exp x) := by
  induction x using EReal.rec with
  | bot => exact Weight.zero
  | top => exact absurd rfl h
  | coe r => exact ⟨EReal.coe_nonneg.mpr (Real.exp_pos r).le, EReal.coe_ne_top _⟩

theorem exp_coe_pos (r : ℝ) : 0 < Ideal.exp (r : EReal) := EReal.coe_pos.mpr (Real.exp_pos r)

theorem div_eq {x y : EReal} (h : y ≠ 0) : Ideal.div x y = x * y⁻¹ := if_neg h

theorem zero_div {y : EReal} (h : y ≠ 0) : Ideal.div 0 y = 0 := by rw [div_eq h, zero_mul]

theorem div_weight {x y : EReal} (hx : Weight x) (hy : Weight y) (h : y ≠ 0) : Weight (Ideal.div x y) := by
  obtain ⟨a, rfl, ha⟩ := hx.real
  obtain ⟨b, rfl, hb⟩ := hy.real
  rw [div_eq h, ← EReal.coe_inv, ← EReal.coe_mul]
  exact ⟨EReal.coe_nonneg.mpr (mul_nonneg ha (inv_nonneg.mpr hb)), EReal.coe_ne_top _⟩

/-- The weight of a share is the share of the whole times one over the whole. -/
theorem div_eq_mul_div_one {x y : EReal} (h : y ≠ 0) : Ideal.div x y = x * Ideal.div 1 y := by
  rw [div_eq h, div_eq h, one_mul]

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, rfl⟩

theorem IsReal.add {x y : EReal} (hx : IsReal x) (hy : IsReal y) : IsReal (x + y) := by
  obtain ⟨a, rfl⟩ := hx; obtain ⟨b, rfl⟩ := hy; exact ⟨a + b, rfl⟩

theorem IsReal.sub {x y : EReal} (hx : IsReal x) (hy : IsReal y) : IsReal (x - y) := by
  obtain ⟨a, rfl⟩ := hx; obtain ⟨b, rfl⟩ := hy; exact ⟨a - b, rfl⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.max {x y : EReal} (hx : IsReal x) (hy : IsReal y) : IsReal (max x y) := by
  rcases max_choice x y with h | h <;> rw [h] <;> assumption

/-- What is not past the infinite in size is a real number. -/
theorem isReal_of_abs_lt {x : EReal} (h : max x (-x) < ⊤) : IsReal x := by
  refine isReal_of_ne ?_ ?_
  · rintro rfl; simp at h
  · rintro rfl; simp at h

/-- The largest of a kept window's entries is not infinite upward when none of them is. -/
theorem sup_ne_top {ι : Type} (s : Finset ι) (f : ι → EReal) (h : ∀ i, f i ≠ ⊤) : s.sup f ≠ ⊤ := by
  refine ne_of_lt ((Finset.sup_lt_iff (by simp)).mpr fun i _ => lt_top_iff_ne_top.mpr (h i))

section Reach

variable {n k : ℕ} (reach : Fin n → Prop) [DecidablePred reach] (pos : Fin k → Fin n)
  (hinj : Function.Injective pos) (hreach : ∀ p, reach p ↔ ∃ j, pos j = p)

include hinj hreach in
/-- A sum over the window that leaves out what is not reached is the sum over the reach. -/
theorem sum_reach (f : Fin n → EReal) : (∑ p, if reach p then f p else 0) = ∑ j, f (pos j) := by
  classical
  rw [← Finset.sum_filter]
  refine (Finset.sum_bij (fun j _ => pos j) ?_ ?_ ?_ ?_).symm
  · intro j _; simp only [Finset.mem_filter, Finset.mem_univ, true_and]; exact (hreach _).mpr ⟨j, rfl⟩
  · intro a _ b _ h; exact hinj h
  · intro p hp
    obtain ⟨j, hj⟩ := (hreach p).mp (Finset.mem_filter.mp hp).2
    exact ⟨j, Finset.mem_univ _, hj⟩
  · intro j _; rfl

include hreach in
/-- The largest over the window with the rest put at the lowest is the largest over the reach. -/
theorem sup_reach (f : Fin n → EReal) :
    (Finset.univ.sup fun p => if reach p then f p else ⊥) = Finset.univ.sup fun j => f (pos j) := by
  refine le_antisymm (Finset.sup_le fun p _ => ?_) (Finset.sup_le fun j _ => ?_)
  · by_cases h : reach p
    · rw [if_pos h]; obtain ⟨j, rfl⟩ := (hreach p).mp h
      exact Finset.le_sup (f := fun j => f (pos j)) (Finset.mem_univ j)
    · rw [if_neg h]; exact bot_le
  · have := Finset.le_sup (f := fun p => if reach p then f p else ⊥) (Finset.mem_univ (pos j))
    rwa [if_pos ((hreach _).mpr ⟨j, rfl⟩)] at this

end Reach

/-- Softmax over kept scores `s` and one new score `z`: the top, the weights' sum, the log of it. -/
noncomputable def top {n : ℕ} (s : Fin n → EReal) (z : EReal) : EReal := max (Finset.univ.sup s) z

noncomputable def total {n : ℕ} (s : Fin n → EReal) (z : EReal) : EReal :=
  (∑ p, Ideal.exp (s p - top s z)) + Ideal.exp (z - top s z)

noncomputable def share {n : ℕ} (s : Fin n → EReal) (z : EReal) (p : Fin n) : EReal :=
  Ideal.div (Ideal.exp (s p - top s z)) (total s z)

noncomputable def shareNew {n : ℕ} (s : Fin n → EReal) (z : EReal) : EReal :=
  Ideal.div (Ideal.exp (z - top s z)) (total s z)

noncomputable def lse {n : ℕ} (s : Fin n → EReal) (z : EReal) : EReal := top s z + Ideal.log (total s z)

/-- The scores with what is not reached put at the lowest. -/
noncomputable def masked {n : ℕ} (reach : Fin n → Prop) [DecidablePred reach] (s : Fin n → EReal) (p : Fin n) : EReal :=
  if reach p then s p else ⊥

section Real

variable {n : ℕ} (s : Fin n → EReal) (z : EReal) (hs : ∀ p, s p ≠ ⊤) (hz : IsReal z)

include hs hz in
theorem top_real : IsReal (top s z) :=
  isReal_of_ne (fun h => hz.ne_bot (le_bot_iff.mp (h ▸ le_max_right _ _)))
    (by
      unfold top
      rcases max_choice (Finset.univ.sup s) z with h | h <;> rw [h]
      · exact sup_ne_top _ _ hs
      · exact hz.ne_top)

include hs hz in
theorem exp_sub_weight (p : Fin n) : Weight (Ideal.exp (s p - top s z)) := by
  refine exp_weight ?_
  obtain ⟨m, hm⟩ := top_real s z hs hz
  rw [hm, sub_eq_add_neg, ← EReal.coe_neg]
  exact EReal.add_ne_top (hs p) (EReal.coe_ne_top _)

include hs hz in
theorem expNew_weight : Weight (Ideal.exp (z - top s z)) :=
  exp_weight (hz.sub (top_real s z hs hz)).ne_top

include hs hz in
theorem total_weight : Weight (total s z) :=
  (Weight.sum _ _ (exp_sub_weight s z hs hz)).add (expNew_weight s z hs hz)

include hs hz in
theorem total_pos : 0 < total s z := by
  obtain ⟨r, hr⟩ := hz.sub (top_real s z hs hz)
  have h1 : 0 < Ideal.exp (z - top s z) := hr ▸ exp_coe_pos r
  exact lt_of_lt_of_le h1 (le_add_of_nonneg_left (Weight.sum _ _ (exp_sub_weight s z hs hz)).1)

include hs hz in
theorem share_weight (p : Fin n) : Weight (share s z p) :=
  div_weight (exp_sub_weight s z hs hz p) (total_weight s z hs hz) (total_pos s z hs hz).ne'

include hs hz in
theorem shareNew_weight : Weight (shareNew s z) :=
  div_weight (expNew_weight s z hs hz) (total_weight s z hs hz) (total_pos s z hs hz).ne'

include hs hz in
theorem lse_real : IsReal (lse s z) := by
  refine (top_real s z hs hz).add ?_
  obtain ⟨r, hr, _⟩ := (total_weight s z hs hz).real
  have hp := total_pos s z hs hz
  rw [hr] at hp ⊢
  have hp' : 0 < r := EReal.coe_pos.mp hp
  exact ⟨Real.log r, by show (if r ≤ 0 then (⊥ : EReal) else _) = _; rw [if_neg (not_le.mpr hp')]⟩

end Real

section Masked

variable {n k : ℕ} (reach : Fin n → Prop) [DecidablePred reach] (pos : Fin k → Fin n)
  (hinj : Function.Injective pos) (hreach : ∀ p, reach p ↔ ∃ j, pos j = p)
  (s : Fin n → EReal) (z : EReal)

include hreach in
theorem top_masked : top (masked reach s) z = top (fun j => s (pos j)) z :=
  congrArg (fun v => max v z) (sup_reach reach pos hreach s)

/-- What is left out weighs nothing. -/
theorem exp_masked (m : EReal) (p : Fin n) :
    Ideal.exp (masked reach s p - m) = if reach p then Ideal.exp (s p - m) else 0 := by
  unfold masked
  by_cases h : reach p
  · rw [if_pos h, if_pos h]
  · rw [if_neg h, if_neg h, sub_eq_add_neg, EReal.bot_add]; rfl

include hinj hreach in
theorem total_masked : total (masked reach s) z = total (fun j => s (pos j)) z := by
  unfold total
  rw [top_masked reach pos hreach s z]
  congr 1
  rw [← sum_reach reach pos hinj hreach fun p => Ideal.exp (s p - top (fun j => s (pos j)) z)]
  exact Finset.sum_congr rfl fun p _ => exp_masked reach s _ p

include hinj hreach in
theorem lse_masked : lse (masked reach s) z = lse (fun j => s (pos j)) z := by
  unfold lse; rw [total_masked reach pos hinj hreach s z, top_masked reach pos hreach s z]

include hinj hreach in
theorem shareNew_masked : shareNew (masked reach s) z = shareNew (fun j => s (pos j)) z := by
  unfold shareNew; rw [total_masked reach pos hinj hreach s z, top_masked reach pos hreach s z]

include hinj hreach in
/-- The shares met with the values: the whole window or the reach alone. -/
theorem sum_share_masked (hs : ∀ p, s p ≠ ⊤) (hz : IsReal z) (v : Fin n → EReal) :
    (∑ p, share (masked reach s) z p * v p) = ∑ j, share (fun j => s (pos j)) z j * v (pos j) := by
  have h0 : total (fun j => s (pos j)) z ≠ 0 := (total_pos _ z (fun j => hs (pos j)) hz).ne'
  unfold share
  rw [total_masked reach pos hinj hreach s z, top_masked reach pos hreach s z]
  refine Eq.trans ?_ (sum_reach reach pos hinj hreach fun p =>
    Ideal.div (Ideal.exp (s p - top (fun j => s (pos j)) z)) (total (fun j => s (pos j)) z) * v p)
  refine Finset.sum_congr rfl fun p _ => ?_
  rw [exp_masked]
  by_cases h : reach p
  · rw [if_pos h, if_pos h]
  · rw [if_neg h, if_neg h, zero_div h0, zero_mul]

theorem masked_ne_top (hs : ∀ p, s p ≠ ⊤) (p : Fin n) : masked reach s p ≠ ⊤ := by
  unfold masked
  by_cases h : reach p
  · rw [if_pos h]; exact hs p
  · rw [if_neg h]; exact bot_ne_top

end Masked

/-- Mixing three weightings first, then meeting the value: the value meets each of them. -/
theorem mix_mul {w0 w1 w2 p0 p1 p2 i v : EReal} (h0 : Weight w0) (h1 : Weight w1) (h2 : Weight w2)
    (g0 : Weight p0) (g1 : Weight p1) (g2 : Weight p2) (hi : Weight i) :
    v * ((w0 * p0 + w1 * p1 + w2 * p2) * i) = w0 * i * (p0 * v) + w1 * i * (p1 * v) + w2 * i * (p2 * v) := by
  have a0 := (h0.mul g0).1
  have a1 := (h1.mul g1).1
  have a2 := (h2.mul g2).1
  rw [EReal.right_distrib_of_nonneg (add_nonneg a0 a1) a2, EReal.right_distrib_of_nonneg a0 a1,
    mul_comm v,
    EReal.right_distrib_of_nonneg (add_nonneg (mul_nonneg a0 hi.1) (mul_nonneg a1 hi.1)) (mul_nonneg a2 hi.1),
    EReal.right_distrib_of_nonneg (mul_nonneg a0 hi.1) (mul_nonneg a1 hi.1)]
  have e : ∀ w p : EReal, w * p * i * v = w * i * (p * v) := fun w p => by
    rw [mul_assoc w p i, mul_comm p i, ← mul_assoc w i p, mul_assoc (w * i) p v]
  rw [e, e, e]

/-- The same over a window of positions and the new one. -/
theorem mix_sum {n : ℕ} {w0 w1 w2 i : EReal} (h0 : Weight w0) (h1 : Weight w1) (h2 : Weight w2) (hi : Weight i)
    (p0 p1 p2 : Fin n → EReal) (g0 : ∀ p, Weight (p0 p)) (g1 : ∀ p, Weight (p1 p)) (g2 : ∀ p, Weight (p2 p))
    {q0 q1 q2 : EReal} (k0 : Weight q0) (k1 : Weight q1) (k2 : Weight q2) (v : Fin n → EReal) (u : EReal) :
    (∑ p, v p * ((w0 * p0 p + w1 * p1 p + w2 * p2 p) * i)) + ((w0 * q0 + w1 * q1 + w2 * q2) * i) * u
      = w0 * i * ((∑ p, p0 p * v p) + q0 * u) + w1 * i * ((∑ p, p1 p * v p) + q1 * u)
        + w2 * i * ((∑ p, p2 p * v p) + q2 * u) := by
  have m0 := h0.mul hi
  have m1 := h1.mul hi
  have m2 := h2.mul hi
  rw [EReal.left_distrib_of_nonneg_of_ne_top m0.1 m0.2, EReal.left_distrib_of_nonneg_of_ne_top m1.1 m1.2,
    EReal.left_distrib_of_nonneg_of_ne_top m2.1 m2.2, m0.mul_sum, m1.mul_sum, m2.mul_sum,
    mul_comm _ u, mix_mul h0 h1 h2 k0 k1 k2 hi,
    Finset.sum_congr rfl fun p _ => mix_mul (v := v p) h0 h1 h2 (g0 p) (g1 p) (g2 p) hi,
    Finset.sum_add_distrib, Finset.sum_add_distrib]
  ac_rfl

/-- Three real numbers' exponentials under their largest, and the sum of them. -/
noncomputable def expTop (a b c x : EReal) : EReal := Ideal.exp (x - max (max a b) c)

noncomputable def expSum (a b c : EReal) : EReal := expTop a b c a + expTop a b c b + expTop a b c c

section Three

variable {a b c : EReal} (ha : IsReal a) (hb : IsReal b) (hc : IsReal c)

include ha hb hc in
theorem expTop_weight {x : EReal} (hx : IsReal x) : Weight (expTop a b c x) :=
  exp_weight (hx.sub ((ha.max hb).max hc)).ne_top

include ha hb hc in
theorem expSum_pos : 0 < expSum a b c := by
  obtain ⟨r, hr⟩ := hc.sub ((ha.max hb).max hc)
  have h1 : 0 < expTop a b c c := by unfold expTop; rw [hr]; exact exp_coe_pos r
  exact lt_of_lt_of_le h1 (le_add_of_nonneg_left
    (add_nonneg (expTop_weight ha hb hc ha).1 (expTop_weight ha hb hc hb).1))

include ha hb hc in
theorem expSum_weight : Weight (expSum a b c) :=
  ((expTop_weight ha hb hc ha).add (expTop_weight ha hb hc hb)).add (expTop_weight ha hb hc hc)

include ha hb hc in
theorem inv_weight : Weight (Ideal.div 1 (expSum a b c)) :=
  div_weight ⟨zero_le_one, EReal.coe_ne_top 1⟩ (expSum_weight ha hb hc) (expSum_pos ha hb hc).ne'

end Three

/-- A running maximum from the lowest is the largest. -/
theorem fold_max_bot {ι : Type} (s : Finset ι) (f : ι → EReal) : Finset.fold max ⊥ f s = s.sup f := rfl

theorem lowest : Ideal.ofBits FTy.f32 4286578688#32 = ⊥ := by simp [Ideal.ofBits, Ideal.ieee]

/-- The largest over the reach and the new position together. -/
theorem sup_last {n : ℕ} (f : Fin (n + 1) → EReal) :
    Finset.univ.sup f = top (fun j : Fin n => f j.castSucc) (f (Fin.last n)) := by
  unfold top
  refine le_antisymm (Finset.sup_le fun j _ => ?_) (max_le (Finset.sup_le fun j _ => ?_) ?_)
  · refine Fin.lastCases ?_ (fun j => ?_) j
    · exact le_max_right _ _
    · exact le_max_of_le_left (Finset.le_sup (f := fun j : Fin n => f j.castSucc) (Finset.mem_univ j))
  · exact Finset.le_sup (f := f) (Finset.mem_univ _)
  · exact Finset.le_sup (f := f) (Finset.mem_univ _)

theorem sum_last {n : ℕ} (f : Fin (n + 1) → EReal) :
    (∑ j, Ideal.exp (f j - top (fun j : Fin n => f j.castSucc) (f (Fin.last n))))
      = total (fun j : Fin n => f j.castSucc) (f (Fin.last n)) := Fin.sum_univ_castSucc _

theorem sup_three (f : Fin 3 → EReal) : Finset.univ.sup f = max (max (f 0) (f 1)) (f 2) := by
  refine le_antisymm (Finset.sup_le fun j _ => ?_) (max_le (max_le ?_ ?_) ?_)
  · match j with
    | 0 => exact le_max_of_le_left (le_max_left _ _)
    | 1 => exact le_max_of_le_left (le_max_right _ _)
    | 2 => exact le_max_right _ _
  all_goals exact Finset.le_sup (f := f) (Finset.mem_univ _)

end Cert.Samp
-- ==== Proof.SampTiles.lean ====
/-
  The decode kernel's tiles of the long windows: what one load of a part of a window is, the column after each of its
  columns, and the tiles that the shifted window and the scores are stored in.
-/
module
public import proofs.«01_k».proof.Proof.Gen.KernelSampleIdeal.Value
public import proofs.«01_k».proof.Proof.SampMath
public import proofs.«01_k».proof.Proof.Reads
public import Idealize.ShloMosaic.Lib.Pointwise
public import Idealize.ShloMosaic.Lib.ValueIdx
public import Idealize.ShloMosaic.Lib.Pipeline.Value
@[expose] public section
noncomputable section
namespace Cert.KernelSampleIdeal.Hand
open Idealize.ShloMosaic Idealize.SL.Sem Cert.KernelSampleIdeal Cert.KernelSampleIdeal.Gen Cert.Samp

theorem fits_part {a b : ℕ} (ha : a + 64 ≤ 256) (hb : b + 128 ≤ 2048) (i : Fin S1x256x2048.rank) :
    (![0, a, b] : Fin 3 → ℕ) i + S1x64x128.size i ≤ S1x256x2048.size i := by
  match i with
  | ⟨0, _⟩ => exact Nat.le_refl 1
  | ⟨1, _⟩ => exact ha
  | ⟨2, _⟩ => exact hb

theorem fits_window {a b : ℕ} (ha : a + 64 ≤ 512) (hb : b + 128 ≤ 2048) (i : Fin S1x512x2048.rank) :
    (![0, a, b] : Fin 3 → ℕ) i + S1x64x128.size i ≤ S1x512x2048.size i := by
  match i with
  | ⟨0, _⟩ => exact Nat.le_refl 1
  | ⟨1, _⟩ => exact ha
  | ⟨2, _⟩ => exact hb

theorem fits_scores {h b : ℕ} (hh : h + 1 ≤ 8) (hb : b + 128 ≤ 2048) (i : Fin S8x2048.rank) :
    (![h, b] : Fin 2 → ℕ) i + S1x128.size i ≤ S8x2048.size i := by
  match i with
  | ⟨0, _⟩ => exact hh
  | ⟨1, _⟩ => exact hb

section Tile

variable (arg : Memref sig .tc .vmem S1x256x2048 .f32) (harg : arg.IsWhole) (x : Vec Ideal S1x256x2048 .f32)

/-- 64 rows by 128 columns of a part of a window, from row `a` and column `b` on. -/
def tile (a b : ℕ) (ha : a + 64 ≤ 256) (hb : b + 128 ≤ 2048) : FVec Ideal S64x128 .f32 :=
  shapeCast S64x128 (View.readAt (Elt Ideal) arg.view (Rect.unit (s := S1x256x2048) ![0, a, b] S1x64x128.size (fits_part ha hb)).toLoadRect (harg.unread x)) shapeCasts_S1x64x128_S64x128

theorem tile_apply {a b : ℕ} (ha : a + 64 ≤ 256) (hb : b + 128 ≤ 2048) (r : Fin 64) (l : Fin 128) :
    tile arg harg x a b ha hb (ix2 r l) = x (ix3 0 ⟨a + r.val, by omega⟩ ⟨b + l.val, by omega⟩) := by
  unfold tile
  refine (Reads.cast_3_2 (a := 1) (b := 64) (c := 128) _ _ r l 0 r l (by simp)).trans ?_
  refine (congrFun (harg.read_unread x) _).trans ?_
  refine congrArg x ?_
  funext i
  refine Fin.ext ?_
  match i with
  | ⟨0, _⟩ => simp [LoadRect.idx]
  | ⟨1, _⟩ => simp [LoadRect.idx]
  | ⟨2, _⟩ => simp [LoadRect.idx]

theorem lane_lt (l : Fin 128) : IntOp.cmpi CmpIPredicate.slt (BitVec.ofNat 32 l.val) 127#32 = if l.val < 127 then 1#1 else 0#1 :=
  (by decide +kernel : ∀ l : Fin 128, IntOp.cmpi CmpIPredicate.slt (BitVec.ofNat 32 l.val) 127#32 = if l.val < 127 then 1#1 else 0#1) l

/-- The same columns, each taken one to the right, the first one last. -/
def turned (v : FVec Ideal S64x128 .f32) : FVec Ideal S64x128 .f32 := dynamicRotate 1 127#32 none v rotates_S64x128_d1

theorem turned_apply (v : FVec Ideal S64x128 .f32) (r : Fin 64) (l : Fin 128) :
    turned v (ix2 r l) = v (ix2 r ⟨(l.val + 1) % 128, by omega⟩) := by
  unfold turned
  pointwise
  refine congrArg (fun q => v (ix2 r q)) (Fin.ext ?_)
  show (l.val + 128 - 127) % 128 = (l.val + 1) % 128
  omega

/-- A tile of the shifted window: the next column where the tile has it, else `left`. -/
def shiftedTile (v left : FVec Ideal S64x128 .f32) : Vec Ideal S1x64x128 .f32 :=
  shapeCast S1x64x128 (select (broadcastTo S64x128 (shapeCast S1x128 (cmpi .slt (iota .tc S1x128 32 [1] iota_S1x128_d1_w32) (broadcast S1x128 127#32)) shapeCasts_S1x128_S1x128) broadcasts_S1x128_S64x128) (turned v) left) shapeCasts_S64x128_S1x64x128

theorem shiftedTile_apply (v left : FVec Ideal S64x128 .f32) (r : Fin 64) (l : Fin 128) :
    shiftedTile v left (ix3 0 r l) = if h : l.val < 127 then v (ix2 r ⟨l.val + 1, by omega⟩) else left (ix2 r l) := by
  unfold shiftedTile
  pointwise [turned_apply]
  rw [lane_lt]
  by_cases h : l.val < 127
  · rw [if_pos h, dif_pos h, show ∀ a b : EReal, Scalar.select (1#1) a b = a from fun _ _ => rfl]
    refine congrArg (fun q => v (ix2 r q)) (Fin.ext ?_)
    show (l.val + 1) % 128 = l.val + 1
    omega
  · rw [if_neg h, dif_neg h, show ∀ a b : EReal, Scalar.select (0#1) a b = b from fun _ _ => rfl]

theorem at_window {R b : ℕ} (hR : R + 64 ≤ 512) (hb : b + 128 ≤ 2048) (r : Fin 64) (l : Fin 128) :
    (Rect.unit (s := S1x512x2048) ![0, R, b] S1x64x128.size (fits_window hR hb)).emb (ix3 0 r l)
      = ix3 0 ⟨R + r.val, by omega⟩ ⟨b + l.val, by omega⟩ := by
  funext i
  refine Fin.ext ?_
  match i with
  | ⟨0, _⟩ => exact (show 0 + 1 * 0 = 0 from rfl)
  | ⟨1, _⟩ => exact (show R + 1 * r.val = R + r.val by omega)
  | ⟨2, _⟩ => exact (show b + 1 * l.val = b + l.val by omega)

/-- A head's tiles of the shifted window, the last stored first. -/
def windowPieces (left : FVec Ideal S64x128 .f32) (R a : ℕ) (hR : R + 64 ≤ 512) (ha : a + 64 ≤ 256) :
    List (View.Piece (Elt Ideal) S1x512x2048 .f32) :=
  [⟨Rect.unit (s := S1x512x2048) ![0, R, 0] S1x64x128.size (fits_window hR (by omega)), shiftedTile (tile arg harg x a 0 ha (by omega)) (turned (tile arg harg x a 128 ha (by omega)))⟩,
   ⟨Rect.unit (s := S1x512x2048) ![0, R, 128] S1x64x128.size (fits_window hR (by omega)), shiftedTile (tile arg harg x a 128 ha (by omega)) (turned (tile arg harg x a 256 ha (by omega)))⟩,
   ⟨Rect.unit (s := S1x512x2048) ![0, R, 256] S1x64x128.size (fits_window hR (by omega)), shiftedTile (tile arg harg x a 256 ha (by omega)) (turned (tile arg harg x a 384 ha (by omega)))⟩,
   ⟨Rect.unit (s := S1x512x2048) ![0, R, 384] S1x64x128.size (fits_window hR (by omega)), shiftedTile (tile arg harg x a 384 ha (by omega)) (turned (tile arg harg x a 512 ha (by omega)))⟩,
   ⟨Rect.unit (s := S1x512x2048) ![0, R, 512] S1x64x128.size (fits_window hR (by omega)), shiftedTile (tile arg harg x a 512 ha (by omega)) (turned (tile arg harg x a 640 ha (by omega)))⟩,
   ⟨Rect.unit (s := S1x512x2048) ![0, R, 640] S1x64x128.size (fits_window hR (by omega)), shiftedTile (tile arg harg x a 640 ha (by omega)) (turned (tile arg harg x a 768 ha (by omega)))⟩,
   ⟨Rect.unit (s := S1x512x2048) ![0, R, 768] S1x64x128.size (fits_window hR (by omega)), shiftedTile (tile arg harg x a 768 ha (by omega)) (turned (tile arg harg x a 896 ha (by omega)))⟩,
   ⟨Rect.unit (s := S1x512x2048) ![0, R, 896] S1x64x128.size (fits_window hR (by omega)), shiftedTile (tile arg harg x a 896 ha (by omega)) (turned (tile arg harg x a 1024 ha (by omega)))⟩,
   ⟨Rect.unit (s := S1x512x2048) ![0, R, 1024] S1x64x128.size (fits_window hR (by omega)), shiftedTile (tile arg harg x a 1024 ha (by omega)) (turned (tile arg harg x a 1152 ha (by omega)))⟩,
   ⟨Rect.unit (s := S1x512x2048) ![0, R, 1152] S1x64x128.size (fits_window hR (by omega)), shiftedTile (tile arg harg x a 1152 ha (by omega)) (turned (tile arg harg x a 1280 ha (by omega)))⟩,
   ⟨Rect.unit (s := S1x512x2048) ![0, R, 1280] S1x64x128.size (fits_window hR (by omega)), shiftedTile (tile arg harg x a 1280 ha (by omega)) (turned (tile arg harg x a 1408 ha (by omega)))⟩,
   ⟨Rect.unit (s := S1x512x2048) ![0, R, 1408] S1x64x128.size (fits_window hR (by omega)), shiftedTile (tile arg harg x a 1408 ha (by omega)) (turned (tile arg harg x a 1536 ha (by omega)))⟩,
   ⟨Rect.unit (s := S1x512x2048) ![0, R, 1536] S1x64x128.size (fits_window hR (by omega)), shiftedTile (tile arg harg x a 1536 ha (by omega)) (turned (tile arg harg x a 1664 ha (by omega)))⟩,
   ⟨Rect.unit (s := S1x512x2048) ![0, R, 1664] S1x64x128.size (fits_window hR (by omega)), shiftedTile (tile arg harg x a 1664 ha (by omega)) (turned (tile arg harg x a 1792 ha (by omega)))⟩,
   ⟨Rect.unit (s := S1x512x2048) ![0, R, 1792] S1x64x128.size (fits_window hR (by omega)), shiftedTile (tile arg harg x a 1792 ha (by omega)) (turned (tile arg harg x a 1920 ha (by omega)))⟩,
   ⟨Rect.unit (s := S1x512x2048) ![0, R, 1920] S1x64x128.size (fits_window hR (by omega)), shiftedTile (tile arg harg x a 1920 ha (by omega)) left⟩]

variable (G : S1x512x2048.Idx → EReal)

theorem middle_agrees {R a b : ℕ} (hR : R + 64 ≤ 512) (ha : a + 64 ≤ 256) (hb : b + 256 ≤ 2048)
    (hG : ∀ (r : Fin 64) (p : Fin 2048) (hp : p.val < 2047), G (ix3 0 ⟨R + r.val, by omega⟩ p) = x (ix3 0 ⟨a + r.val, by omega⟩ ⟨p.val + 1, by omega⟩))
    (i : S1x64x128.Idx) :
    shiftedTile (tile arg harg x a b ha (by omega)) (turned (tile arg harg x a (b + 128) ha (by omega))) i
      = G ((Rect.unit (s := S1x512x2048) ![0, R, b] S1x64x128.size (fits_window hR (by omega))).emb i) := by
  obtain ⟨z, r, l, rfl⟩ : ∃ (z : Fin 1) (r : Fin 64) (l : Fin 128), i = ix3 z r l := ⟨_, _, _, ValueIdx.eq_ix3 (n0 := 1) (n1 := 64) (n2 := 128) i⟩
  obtain rfl := Subsingleton.elim z 0
  rw [at_window hR (by omega), hG r _ (by dsimp only; omega), shiftedTile_apply]
  by_cases h : l.val < 127
  · rw [dif_pos h, tile_apply]; rfl
  · rw [dif_neg h, turned_apply, tile_apply]
    refine congrArg (fun q => x (ix3 0 _ q)) (Fin.ext ?_)
    show b + 128 + (l.val + 1) % 128 = b + l.val + 1
    omega

theorem last_agrees {R a : ℕ} (left : FVec Ideal S64x128 .f32) (hR : R + 64 ≤ 512) (ha : a + 64 ≤ 256)
    (hG : ∀ (r : Fin 64) (p : Fin 2048) (hp : p.val < 2047), G (ix3 0 ⟨R + r.val, by omega⟩ p) = x (ix3 0 ⟨a + r.val, by omega⟩ ⟨p.val + 1, by omega⟩))
    (hl : ∀ (r : Fin 64) (l : Fin 128), left (ix2 r l) = G (ix3 0 ⟨R + r.val, by omega⟩ ⟨2047, by omega⟩))
    (i : S1x64x128.Idx) :
    shiftedTile (tile arg harg x a 1920 ha (by omega)) left i
      = G ((Rect.unit (s := S1x512x2048) ![0, R, 1920] S1x64x128.size (fits_window hR (by omega))).emb i) := by
  obtain ⟨z, r, l, rfl⟩ : ∃ (z : Fin 1) (r : Fin 64) (l : Fin 128), i = ix3 z r l := ⟨_, _, _, ValueIdx.eq_ix3 (n0 := 1) (n1 := 64) (n2 := 128) i⟩
  obtain rfl := Subsingleton.elim z 0
  rw [at_window hR (by omega), shiftedTile_apply]
  by_cases h : l.val < 127
  · rw [dif_pos h, tile_apply, hG r _ (by dsimp only; omega)]; rfl
  · rw [dif_neg h, hl]
    refine congrArg (fun q => G (ix3 0 _ q)) (Fin.ext ?_)
    show 2047 = 1920 + l.val
    omega

theorem window_agrees (left : FVec Ideal S64x128 .f32) (R a : ℕ) (hR : R + 64 ≤ 512) (ha : a + 64 ≤ 256)
    (hG : ∀ (r : Fin 64) (p : Fin 2048) (hp : p.val < 2047), G (ix3 0 ⟨R + r.val, by omega⟩ p) = x (ix3 0 ⟨a + r.val, by omega⟩ ⟨p.val + 1, by omega⟩))
    (hl : ∀ (r : Fin 64) (l : Fin 128), left (ix2 r l) = G (ix3 0 ⟨R + r.val, by omega⟩ ⟨2047, by omega⟩)) :
    ∀ p ∈ windowPieces arg harg x left R a hR ha, ∀ i, p.2 i = G (p.1.emb i) := by
  unfold windowPieces
  refine List.forall_mem_cons.mpr ⟨middle_agrees arg harg x G (b := 0) hR ha (by omega) hG, ?_⟩
  refine List.forall_mem_cons.mpr ⟨middle_agrees arg harg x G (b := 128) hR ha (by omega) hG, ?_⟩
  refine List.forall_mem_cons.mpr ⟨middle_agrees arg harg x G (b := 256) hR ha (by omega) hG, ?_⟩
  refine List.forall_mem_cons.mpr ⟨middle_agrees arg harg x G (b := 384) hR ha (by omega) hG, ?_⟩
  refine List.forall_mem_cons.mpr ⟨middle_agrees arg harg x G (b := 512) hR ha (by omega) hG, ?_⟩
  refine List.forall_mem_cons.mpr ⟨middle_agrees arg harg x G (b := 640) hR ha (by omega) hG, ?_⟩
  refine List.forall_mem_cons.mpr ⟨middle_agrees arg harg x G (b := 768) hR ha (by omega) hG, ?_⟩
  refine List.forall_mem_cons.mpr ⟨middle_agrees arg harg x G (b := 896) hR ha (by omega) hG, ?_⟩
  refine List.forall_mem_cons.mpr ⟨middle_agrees arg harg x G (b := 1024) hR ha (by omega) hG, ?_⟩
  refine List.forall_mem_cons.mpr ⟨middle_agrees arg harg x G (b := 1152) hR ha (by omega) hG, ?_⟩
  refine List.forall_mem_cons.mpr ⟨middle_agrees arg harg x G (b := 1280) hR ha (by omega) hG, ?_⟩
  refine List.forall_mem_cons.mpr ⟨middle_agrees arg harg x G (b := 1408) hR ha (by omega) hG, ?_⟩
  refine List.forall_mem_cons.mpr ⟨middle_agrees arg harg x G (b := 1536) hR ha (by omega) hG, ?_⟩
  refine List.forall_mem_cons.mpr ⟨middle_agrees arg harg x G (b := 1664) hR ha (by omega) hG, ?_⟩
  refine List.forall_mem_cons.mpr ⟨middle_agrees arg harg x G (b := 1792) hR ha (by omega) hG, ?_⟩
  refine List.forall_mem_cons.mpr ⟨last_agrees arg harg x G left hR ha hG hl, ?_⟩
  exact List.forall_mem_nil _

end Tile

end Cert.KernelSampleIdeal.Hand
-- ==== Proof.SampWindow.lean ====
/-
  The shifted windows of the decode kernel: its stores into them are head after head the tiles of SampTiles.lean, so the
  block it leaves is the window moved by one position, with the new token's column last.
-/
module
public import proofs.«01_k».proof.Proof.SampTiles
@[expose] public section
noncomputable section
namespace Cert.KernelSampleIdeal.Hand
open Idealize.ShloMosaic Idealize.SL.Sem Cert.KernelSampleIdeal Cert.KernelSampleIdeal.Gen Cert.Samp

/-- A token's row put upright, the same in every column. -/
def column (arg : Memref sig .tc .vmem S1x1x512 .f32) (harg : arg.IsWhole) (x : Vec Ideal S1x1x512 .f32) : FVec Ideal S512x128 .f32 :=
  transpose S512x128 [1, 0] (broadcastTo S128x512 (shapeCast S1x512 (shapeCast S1x512 (View.readAt (Elt Ideal) arg.view
    (Rect.unit (s := S1x1x512) ![0, 0, 0] S1x1x512.size inb_S1x1x512_S1x1x512_0_0_0).toLoadRect (harg.unread x)) shapeCasts_S1x1x512_S1x512) shapeCasts_S1x512_S1x512) broadcasts_S1x512_S128x512) transposes_S128x512_p1_0_S512x128

theorem row_read (arg : Memref sig .tc .vmem S1x1x512 .f32) (harg : arg.IsWhole) (x : Vec Ideal S1x1x512 .f32) (w : Fin 512) :
    View.readAt (Elt Ideal) arg.view (Rect.unit (s := S1x1x512) ![0, 0, 0] S1x1x512.size inb_S1x1x512_S1x1x512_0_0_0).toLoadRect (harg.unread x) (ix3 0 0 w)
      = x (ix3 0 0 w) := by
  refine (congrFun (harg.read_unread x) _).trans (congrArg x ?_)
  funext a
  refine Fin.ext ?_
  match a with
  | ⟨0, _⟩ => exact (show 0 + 1 * 0 = 0 from rfl)
  | ⟨1, _⟩ => exact (show 0 + 1 * 0 = 0 from rfl)
  | ⟨2, _⟩ => exact (show 0 + 1 * w.val = w.val by omega)

theorem column_apply (arg : Memref sig .tc .vmem S1x1x512 .f32) (harg : arg.IsWhole) (x : Vec Ideal S1x1x512 .f32) (w : Fin 512) (l : Fin 128) :
    column arg harg x (ix2 w l) = x (ix3 0 0 w) := by
  unfold column
  pointwise
  exact row_read arg harg x w

variable (c : Dev nD) (i : grid0.Coords)
  (arg1 : Memref sig .tc .vmem S1x1x512 .f32) (harg1 : arg1.IsWhole)
  (arg2 : Memref sig .tc .vmem S1x1x512 .f32) (harg2 : arg2.IsWhole)
  (arg3 : Memref sig .tc .vmem S1x1x512 .f32) (harg3 : arg3.IsWhole)
  (arg4 : Memref sig .tc .vmem S1x1x512 .f32) (harg4 : arg4.IsWhole)
  (arg5 : Memref sig .tc .vmem S1x1x128 .f32) (harg5 : arg5.IsWhole)
  (arg6 : Memref sig .tc .vmem S1x1x128 .f32) (harg6 : arg6.IsWhole)
  (arg7 : Memref sig .tc .vmem S8x1 .f32) (harg7 : arg7.IsWhole)
  (arg8 : Memref sig .tc .vmem S1x256x2048 .f32) (harg8 : arg8.IsWhole)
  (arg9 : Memref sig .tc .vmem S1x256x2048 .f32) (harg9 : arg9.IsWhole)
  (arg10 : Memref sig .tc .vmem S1x256x2048 .f32) (harg10 : arg10.IsWhole)
  (arg11 : Memref sig .tc .vmem S1x256x2048 .f32) (harg11 : arg11.IsWhole)
  (arg12 : Memref sig .tc .vmem S1x128x128 .f32) (harg12 : arg12.IsWhole)
  (arg13 : Memref sig .tc .vmem S1x128x128 .f32) (harg13 : arg13.IsWhole)
  (arg14 : Memref sig .tc .vmem S1x1x512 .f32) (harg14 : arg14.IsWhole)
  (arg15 : Memref sig .tc .vmem S1x1x512 .f32) (harg15 : arg15.IsWhole)
  (arg16 : Memref sig .tc .vmem S1x512x2048 .f32) (harg16 : arg16.IsWhole)
  (arg17 : Memref sig .tc .vmem S1x512x2048 .f32) (harg17 : arg17.IsWhole)
  (arg18 : Memref sig .tc .vmem S1x128x128 .f32) (harg18 : arg18.IsWhole)
  (arg19 : Memref sig .tc .vmem S1x128x128 .f32) (harg19 : arg19.IsWhole)
  (arg20 : Memref sig .tc .vmem S8x2048 .f32) (harg20 : arg20.IsWhole)
  (arg21 : Memref sig .tc .vmem S512x128 .f32) (harg21 : arg21.IsWhole)
  (x0 : Vec Ideal S1x1x512 .f32) (x1 : Vec Ideal S1x1x512 .f32) (x2 : Vec Ideal S1x1x512 .f32) (x3 : Vec Ideal S1x1x512 .f32) (x4 : Vec Ideal S1x1x128 .f32) (x5 : Vec Ideal S1x1x128 .f32) (x6 : Vec Ideal S8x1 .f32) (x7 : Vec Ideal S1x256x2048 .f32) (x8 : Vec Ideal S1x256x2048 .f32) (x9 : Vec Ideal S1x256x2048 .f32) (x10 : Vec Ideal S1x256x2048 .f32) (x11 : Vec Ideal S1x128x128 .f32) (x12 : Vec Ideal S1x128x128 .f32)

/-- A shifted window's block: the next position's entry, and the new token's at the last position. -/
def moved (lo hi : Vec Ideal S1x256x2048 .f32) (y : Vec Ideal S1x1x512 .f32) (i : S1x512x2048.Idx) : EReal :=
  if hp : (i 2).val < 2047 then
    (if hr : (i 1).val < 256 then lo (ix3 0 ⟨(i 1).val, hr⟩ ⟨(i 2).val + 1, by omega⟩)
      else hi (ix3 0 ⟨(i 1).val - 256, by have : (i 1).val < 512 := (i 1).isLt; omega⟩ ⟨(i 2).val + 1, by omega⟩))
  else y (ix3 0 0 ⟨(i 1).val, (i 1).isLt⟩)

theorem moved_low (lo hi : Vec Ideal S1x256x2048 .f32) (y : Vec Ideal S1x1x512 .f32) (R a : ℕ) (h : a = R) (hR : R + 64 ≤ 256) (r : Fin 64)
    (p : Fin 2048) (hp : p.val < 2047) :
    moved lo hi y (ix3 0 ⟨R + r.val, by omega⟩ p) = lo (ix3 0 ⟨a + r.val, by omega⟩ ⟨p.val + 1, by omega⟩) := by
  subst h
  exact (dif_pos hp).trans (dif_pos (show a + r.val < 256 by omega))

theorem moved_high (lo hi : Vec Ideal S1x256x2048 .f32) (y : Vec Ideal S1x1x512 .f32) (R a : ℕ) (h : R = a + 256) (ha : a + 64 ≤ 256) (r : Fin 64)
    (p : Fin 2048) (hp : p.val < 2047) :
    moved lo hi y (ix3 0 ⟨R + r.val, by omega⟩ p) = hi (ix3 0 ⟨a + r.val, by omega⟩ ⟨p.val + 1, by omega⟩) := by
  subst h
  refine ((dif_pos hp).trans (dif_neg (show ¬ a + 256 + r.val < 256 by omega))).trans ?_
  refine congrArg (fun q => hi (ix3 0 q _)) (Fin.ext ?_)
  show a + 256 + r.val - 256 = a + r.val
  omega

theorem moved_last (lo hi : Vec Ideal S1x256x2048 .f32) (y : Vec Ideal S1x1x512 .f32) (w : Fin 512) :
    moved lo hi y (ix3 0 w ⟨2047, by omega⟩) = y (ix3 0 0 w) := dif_neg (show ¬ (2047 : ℕ) < 2047 by decide)

theorem pieces15 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.1 =
  windowPieces arg9 harg9 x8 (extractStridedSlice S64x128 ![448, 0] (column arg2 harg2 x1) slices_S512x128_o448_0_S64x128) 448 192 (by omega) (by omega)
    ++ windowPieces arg9 harg9 x8 (extractStridedSlice S64x128 ![384, 0] (column arg2 harg2 x1) slices_S512x128_o384_0_S64x128) 384 128 (by omega) (by omega)
    ++ windowPieces arg9 harg9 x8 (extractStridedSlice S64x128 ![320, 0] (column arg2 harg2 x1) slices_S512x128_o320_0_S64x128) 320 64 (by omega) (by omega)
    ++ windowPieces arg9 harg9 x8 (extractStridedSlice S64x128 ![256, 0] (column arg2 harg2 x1) slices_S512x128_o256_0_S64x128) 256 0 (by omega) (by omega)
    ++ windowPieces arg8 harg8 x7 (extractStridedSlice S64x128 ![192, 0] (column arg2 harg2 x1) slices_S512x128_o192_0_S64x128) 192 192 (by omega) (by omega)
    ++ windowPieces arg8 harg8 x7 (extractStridedSlice S64x128 ![128, 0] (column arg2 harg2 x1) slices_S512x128_o128_0_S64x128) 128 128 (by omega) (by omega)
    ++ windowPieces arg8 harg8 x7 (extractStridedSlice S64x128 ![64, 0] (column arg2 harg2 x1) slices_S512x128_o64_0_S64x128) 64 64 (by omega) (by omega)
    ++ windowPieces arg8 harg8 x7 (extractStridedSlice S64x128 ![0, 0] (column arg2 harg2 x1) slices_S512x128_o0_0_S64x128) 0 0 (by omega) (by omega) := rfl

theorem agrees15 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.1, ∀ j, p.2 j = moved x7 x8 x1 (p.1.emb j) := by
  rw [pieces15]
  simp only [List.forall_mem_append]
  refine ⟨⟨⟨⟨⟨⟨⟨?_, ?_⟩, ?_⟩, ?_⟩, ?_⟩, ?_⟩, ?_⟩, ?_⟩
  · refine window_agrees _ _ _ _ _ 448 192 _ _ (moved_high _ _ _ 448 192 rfl (by omega)) fun r l => ?_
    rw [moved_last]
    pointwise [column_apply]
  · refine window_agrees _ _ _ _ _ 384 128 _ _ (moved_high _ _ _ 384 128 rfl (by omega)) fun r l => ?_
    rw [moved_last]
    pointwise [column_apply]
  · refine window_agrees _ _ _ _ _ 320 64 _ _ (moved_high _ _ _ 320 64 rfl (by omega)) fun r l => ?_
    rw [moved_last]
    pointwise [column_apply]
  · refine window_agrees _ _ _ _ _ 256 0 _ _ (moved_high _ _ _ 256 0 rfl (by omega)) fun r l => ?_
    rw [moved_last]
    pointwise [column_apply]
  · refine window_agrees _ _ _ _ _ 192 192 _ _ (moved_low _ _ _ 192 192 rfl (by omega)) fun r l => ?_
    rw [moved_last]
    pointwise [column_apply]
  · refine window_agrees _ _ _ _ _ 128 128 _ _ (moved_low _ _ _ 128 128 rfl (by omega)) fun r l => ?_
    rw [moved_last]
    pointwise [column_apply]
  · refine window_agrees _ _ _ _ _ 64 64 _ _ (moved_low _ _ _ 64 64 rfl (by omega)) fun r l => ?_
    rw [moved_last]
    pointwise [column_apply]
  · refine window_agrees _ _ _ _ _ 0 0 _ _ (moved_low _ _ _ 0 0 rfl (by omega)) fun r l => ?_
    rw [moved_last]
    pointwise [column_apply]

theorem pieces16 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.1 =
  windowPieces arg11 harg11 x10 (extractStridedSlice S64x128 ![448, 0] (column arg3 harg3 x2) slices_S512x128_o448_0_S64x128) 448 192 (by omega) (by omega)
    ++ windowPieces arg11 harg11 x10 (extractStridedSlice S64x128 ![384, 0] (column arg3 harg3 x2) slices_S512x128_o384_0_S64x128) 384 128 (by omega) (by omega)
    ++ windowPieces arg11 harg11 x10 (extractStridedSlice S64x128 ![320, 0] (column arg3 harg3 x2) slices_S512x128_o320_0_S64x128) 320 64 (by omega) (by omega)
    ++ windowPieces arg11 harg11 x10 (extractStridedSlice S64x128 ![256, 0] (column arg3 harg3 x2) slices_S512x128_o256_0_S64x128) 256 0 (by omega) (by omega)
    ++ windowPieces arg10 harg10 x9 (extractStridedSlice S64x128 ![192, 0] (column arg3 harg3 x2) slices_S512x128_o192_0_S64x128) 192 192 (by omega) (by omega)
    ++ windowPieces arg10 harg10 x9 (extractStridedSlice S64x128 ![128, 0] (column arg3 harg3 x2) slices_S512x128_o128_0_S64x128) 128 128 (by omega) (by omega)
    ++ windowPieces arg10 harg10 x9 (extractStridedSlice S64x128 ![64, 0] (column arg3 harg3 x2) slices_S512x128_o64_0_S64x128) 64 64 (by omega) (by omega)
    ++ windowPieces arg10 harg10 x9 (extractStridedSlice S64x128 ![0, 0] (column arg3 harg3 x2) slices_S512x128_o0_0_S64x128) 0 0 (by omega) (by omega) := rfl

theorem agrees16 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.1, ∀ j, p.2 j = moved x9 x10 x2 (p.1.emb j) := by
  rw [pieces16]
  simp only [List.forall_mem_append]
  refine ⟨⟨⟨⟨⟨⟨⟨?_, ?_⟩, ?_⟩, ?_⟩, ?_⟩, ?_⟩, ?_⟩, ?_⟩
  · refine window_agrees _ _ _ _ _ 448 192 _ _ (moved_high _ _ _ 448 192 rfl (by omega)) fun r l => ?_
    rw [moved_last]
    pointwise [column_apply]
  · refine window_agrees _ _ _ _ _ 384 128 _ _ (moved_high _ _ _ 384 128 rfl (by omega)) fun r l => ?_
    rw [moved_last]
    pointwise [column_apply]
  · refine window_agrees _ _ _ _ _ 320 64 _ _ (moved_high _ _ _ 320 64 rfl (by omega)) fun r l => ?_
    rw [moved_last]
    pointwise [column_apply]
  · refine window_agrees _ _ _ _ _ 256 0 _ _ (moved_high _ _ _ 256 0 rfl (by omega)) fun r l => ?_
    rw [moved_last]
    pointwise [column_apply]
  · refine window_agrees _ _ _ _ _ 192 192 _ _ (moved_low _ _ _ 192 192 rfl (by omega)) fun r l => ?_
    rw [moved_last]
    pointwise [column_apply]
  · refine window_agrees _ _ _ _ _ 128 128 _ _ (moved_low _ _ _ 128 128 rfl (by omega)) fun r l => ?_
    rw [moved_last]
    pointwise [column_apply]
  · refine window_agrees _ _ _ _ _ 64 64 _ _ (moved_low _ _ _ 64 64 rfl (by omega)) fun r l => ?_
    rw [moved_last]
    pointwise [column_apply]
  · refine window_agrees _ _ _ _ _ 0 0 _ _ (moved_low _ _ _ 0 0 rfl (by omega)) fun r l => ?_
    rw [moved_last]
    pointwise [column_apply]

/-- The block left in output 15. -/
theorem block15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 = moved x7 x8 x1 := by
  unfold out0_A_15
  rw [View.read_writes_eq_canon]
  · funext y
    exact View.canon_apply_of_pieces _ _ (agrees15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12) y (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y)
  · exact cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12

/-- The block left in output 16. -/
theorem block16 : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 = moved x9 x10 x2 := by
  unfold out0_A_16
  rw [View.read_writes_eq_canon]
  · funext y
    exact View.canon_apply_of_pieces _ _ (agrees16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12) y (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 y)
  · exact cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12

theorem short_read (arg : Memref sig .tc .vmem S1x1x128 .f32) (harg : arg.IsWhole) (x : Vec Ideal S1x1x128 .f32) (w : Fin 128) :
    shapeCast S1x128 (View.readAt (Elt Ideal) arg.view (Rect.unit (s := S1x1x128) ![0, 0, 0] S1x1x128.size inb_S1x1x128_S1x1x128_0_0_0).toLoadRect (harg.unread x)) shapeCasts_S1x1x128_S1x128 (ix2 0 w)
      = x (ix3 0 0 w) := by
  refine (Reads.cast_3_2 (a := 1) (b := 1) (c := 128) _ _ 0 w 0 0 w (by simp)).trans ?_
  refine (congrFun (harg.read_unread x) _).trans (congrArg x ?_)
  funext a
  refine Fin.ext ?_
  match a with
  | ⟨0, _⟩ => exact (show 0 + 1 * 0 = 0 from rfl)
  | ⟨1, _⟩ => exact (show 0 + 1 * 0 = 0 from rfl)
  | ⟨2, _⟩ => exact (show 0 + 1 * w.val = w.val by omega)

theorem square_read (arg : Memref sig .tc .vmem S1x128x128 .f32) (harg : arg.IsWhole) (x : Vec Ideal S1x128x128 .f32) (r : Fin 128) (l : Fin 128) :
    View.readAt (Elt Ideal) arg.view (Rect.unit (s := S1x128x128) ![0, 0, 0] ![1, 128, 128] inb_S1x128x128_S1x128x128_0_0_0).toLoadRect (harg.unread x) (ix3 0 r l)
      = x (ix3 0 r l) := by
  refine (congrFun (harg.read_unread x) _).trans (congrArg x ?_)
  funext a
  refine Fin.ext ?_
  match a with
  | ⟨0, _⟩ => exact (show 0 + 1 * 0 = 0 from rfl)
  | ⟨1, _⟩ => exact (show 0 + 1 * r.val = r.val by omega)
  | ⟨2, _⟩ => exact (show 0 + 1 * l.val = l.val by omega)

theorem lane_last (l : Fin 128) : IntOp.cmpi CmpIPredicate.eq (BitVec.ofNat 32 l.val) 127#32 = if l.val < 127 then 0#1 else 1#1 :=
  (by decide +kernel : ∀ l : Fin 128, IntOp.cmpi CmpIPredicate.eq (BitVec.ofNat 32 l.val) 127#32 = if l.val < 127 then 0#1 else 1#1) l

theorem block17 (r : Fin 128) (l : Fin 128) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix3 0 r l)
      = if h : l.val < 127 then x11 (ix3 0 r ⟨l.val + 1, by omega⟩) else x4 (ix3 0 0 r) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.2.1 = [⟨Rect.unit ![0, 0, 0] ![1, 128, 128] inb_S1x128x128_S1x128x128_0_0_0, _⟩] := rfl
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12), e, View.canon_unit_zero (by funext a; fin_cases a <;> rfl)]
  unfold_payloads
  pointwise
  rw [show kernelRun0_A.sl.v3895 (F := Ideal) c arg5 harg5 x4 (ix2 0 r) = x4 (ix3 0 0 r) from short_read arg5 harg5 x4 r,
    square_read, lane_last]
  by_cases hl : l.val < 127
  · refine Eq.trans ?_ (dif_pos hl).symm
    rw [if_pos hl]
    refine (show ∀ a b : EReal, Scalar.select (0#1) a b = b from fun _ _ => rfl) _ _ |>.trans ?_
    refine congrArg (fun q => x11 (ix3 0 r q)) (Fin.ext ?_)
    show (l.val + 128 - 127) % 128 = l.val + 1
    omega
  · refine Eq.trans ?_ (dif_neg hl).symm
    rw [if_neg hl]
    rfl

theorem block18 (r : Fin 128) (l : Fin 128) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix3 0 r l)
      = if h : l.val < 127 then x12 (ix3 0 r ⟨l.val + 1, by omega⟩) else x5 (ix3 0 0 r) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.2.2.2.2.1 = [⟨Rect.unit ![0, 0, 0] ![1, 128, 128] inb_S1x128x128_S1x128x128_0_0_0, _⟩] := rfl
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12), e, View.canon_unit_zero (by funext a; fin_cases a <;> rfl)]
  unfold_payloads
  pointwise
  rw [show kernelRun0_A.sl.v3897 (F := Ideal) c arg6 harg6 x5 (ix2 0 r) = x5 (ix3 0 0 r) from short_read arg6 harg6 x5 r,
    square_read, lane_last]
  by_cases hl : l.val < 127
  · refine Eq.trans ?_ (dif_pos hl).symm
    rw [if_pos hl]
    refine (show ∀ a b : EReal, Scalar.select (0#1) a b = b from fun _ _ => rfl) _ _ |>.trans ?_
    refine congrArg (fun q => x12 (ix3 0 r q)) (Fin.ext ?_)
    show (l.val + 128 - 127) % 128 = l.val + 1
    omega
  · refine Eq.trans ?_ (dif_neg hl).symm
    rw [if_neg hl]
    rfl

end Cert.KernelSampleIdeal.Hand
-- ==== Proof.SampRef.lean ====
/-
  The reference's decode attention, value by value: the scores of the kept positions that a head's dilation reaches and of
  the new one, their softmax, the mixing of the three dilations, the short window's heads, and the rolled windows.
-/
module
public import proofs.«01_k».proof.Proof.Gen.ReferenceSampleIdeal.Read
public import proofs.«01_k».proof.Proof.SampMath
public import proofs.«01_k».proof.Proof.Reads
public import Idealize.ShloMosaic.Lib.Pointwise
public import Idealize.ShloMosaic.Lib.ValueIdx
@[expose] public section
noncomputable section
namespace Cert.ReferenceSampleIdeal.Hand
open Idealize.ShloMosaic Cert.ReferenceSampleIdeal Cert.ReferenceSampleIdeal.Gen Cert.Samp
open Cert.ReferenceSampleIdeal.Read

variable (x0 x1 x2 x3 : (⟨S128x512, .f32⟩ : BufTy).Contents (Elt Ideal)) (x4 x5 : (⟨S128x128, .f32⟩ : BufTy).Contents (Elt Ideal))
  (x6 : (⟨S8, .f32⟩ : BufTy).Contents (Elt Ideal)) (x7 x8 : (⟨S128x2048x8x64, .f32⟩ : BufTy).Contents (Elt Ideal))
  (x9 x10 : (⟨S128x128x2x64, .f32⟩ : BufTy).Contents (Elt Ideal))

/-- A kept window followed by the new token's row, at one head and lane. -/
def kept (x : (⟨S128x2048x8x64, .f32⟩ : BufTy).Contents (Elt Ideal)) (y : (⟨S128x512, .f32⟩ : BufTy).Contents (Elt Ideal))
    (b : Fin 128) (h : Fin 8) (d : Fin 64) (p : Fin 2049) : EReal :=
  if hp : p.val < 2048 then x (ix4 b ⟨p.val, hp⟩ h d) else y (ix2 b ⟨64 * h.val + d.val, by omega⟩)

def keptB (x : (⟨S128x128x2x64, .f32⟩ : BufTy).Contents (Elt Ideal)) (y : (⟨S128x128, .f32⟩ : BufTy).Contents (Elt Ideal))
    (b : Fin 128) (h : Fin 2) (d : Fin 64) (p : Fin 129) : EReal :=
  if hp : p.val < 128 then x (ix4 b ⟨p.val, hp⟩ h d) else y (ix2 b ⟨64 * h.val + d.val, by omega⟩)

theorem row0 (b : Fin 128) (h : Fin 8) (d : Fin 64) :
    val_main_v0 (F := Ideal) x1 (ix4 b 0 h d) = x1 (ix2 b ⟨64 * h.val + d.val, by omega⟩) := by
  unfold val_main_v0
  exact Reads.cast_2_4 _ _ b 0 h d b ⟨64 * h.val + d.val, by omega⟩ (by dsimp only; omega)

theorem window1 (b : Fin 128) (p : Fin 2049) (h : Fin 8) (d : Fin 64) :
    val_main_v1 (F := Ideal) x1 x7 (ix4 b p h d) = kept x7 x1 b h d p := by
  unfold val_main_v1
  pointwise
  unfold kept
  by_cases hp : p.val < 2048
  · rw [dif_pos hp, dif_pos hp]
  · rw [dif_neg hp, dif_neg hp]
    exact (congrArg (fun q => val_main_v0 (F := Ideal) x1 (ix4 b q h d)) (Subsingleton.elim _ 0)).trans (row0 x1 b h d)

theorem row2 (b : Fin 128) (h : Fin 8) (d : Fin 64) :
    val_main_v2 (F := Ideal) x2 (ix4 b 0 h d) = x2 (ix2 b ⟨64 * h.val + d.val, by omega⟩) := by
  unfold val_main_v2
  exact Reads.cast_2_4 _ _ b 0 h d b ⟨64 * h.val + d.val, by omega⟩ (by dsimp only; omega)

theorem window3 (b : Fin 128) (p : Fin 2049) (h : Fin 8) (d : Fin 64) :
    val_main_v3 (F := Ideal) x2 x8 (ix4 b p h d) = kept x8 x2 b h d p := by
  unfold val_main_v3
  pointwise
  unfold kept
  by_cases hp : p.val < 2048
  · rw [dif_pos hp, dif_pos hp]
  · rw [dif_neg hp, dif_neg hp]
    exact (congrArg (fun q => val_main_v2 (F := Ideal) x2 (ix4 b q h d)) (Subsingleton.elim _ 0)).trans (row2 x2 b h d)

theorem row4 (b : Fin 128) (h : Fin 2) (d : Fin 64) :
    val_main_v4 (F := Ideal) x4 (ix4 b 0 h d) = x4 (ix2 b ⟨64 * h.val + d.val, by omega⟩) := by
  unfold val_main_v4
  exact Reads.cast_2_4 _ _ b 0 h d b ⟨64 * h.val + d.val, by omega⟩ (by dsimp only; omega)

theorem window5 (b : Fin 128) (p : Fin 129) (h : Fin 2) (d : Fin 64) :
    val_main_v5 (F := Ideal) x4 x9 (ix4 b p h d) = keptB x9 x4 b h d p := by
  unfold val_main_v5
  pointwise
  unfold keptB
  by_cases hp : p.val < 128
  · rw [dif_pos hp, dif_pos hp]
  · rw [dif_neg hp, dif_neg hp]
    exact (congrArg (fun q => val_main_v4 (F := Ideal) x4 (ix4 b q h d)) (Subsingleton.elim _ 0)).trans (row4 x4 b h d)

theorem row6 (b : Fin 128) (h : Fin 2) (d : Fin 64) :
    val_main_v6 (F := Ideal) x5 (ix4 b 0 h d) = x5 (ix2 b ⟨64 * h.val + d.val, by omega⟩) := by
  unfold val_main_v6
  exact Reads.cast_2_4 _ _ b 0 h d b ⟨64 * h.val + d.val, by omega⟩ (by dsimp only; omega)

theorem window7 (b : Fin 128) (p : Fin 129) (h : Fin 2) (d : Fin 64) :
    val_main_v7 (F := Ideal) x5 x10 (ix4 b p h d) = keptB x10 x5 b h d p := by
  unfold val_main_v7
  pointwise
  unfold keptB
  by_cases hp : p.val < 128
  · rw [dif_pos hp, dif_pos hp]
  · rw [dif_neg hp, dif_neg hp]
    exact (congrArg (fun q => val_main_v6 (F := Ideal) x5 (ix4 b q h d)) (Subsingleton.elim _ 0)).trans (row6 x5 b h d)

/-- A head's score of a position: its query against the position's key, scaled. -/
def scoreA (b : Fin 128) (h : Fin 8) (p : Fin 2049) : EReal :=
  (∑ d : Fin 64, x0 (ix2 b ⟨64 * h.val + d.val, by omega⟩) * kept x7 x1 b h d p) * Ideal.ofBits FTy.f32 0x3E000000#32

theorem query8 (b : Fin 128) (h : Fin 8) (d : Fin 64) :
    val_main_v8 (F := Ideal) x0 (ix4 b h 0 d) = x0 (ix2 b ⟨64 * h.val + d.val, by omega⟩) := by
  unfold val_main_v8
  exact Reads.cast_2_4 _ _ b h 0 d b ⟨64 * h.val + d.val, by omega⟩ (by dsimp only; omega)

/-- The positions that this dilation reaches, the new one last. -/
def reach8 (j : Fin 129) : Fin 2049 := ⟨1920 + 1 * j.val, by omega⟩

theorem keys8 (b : Fin 128) (j : Fin 129) (h : Fin 8) (d : Fin 64) :
    val_main_v9 (F := Ideal) x1 x7 (ix4 b j h d) = kept x7 x1 b h d (reach8 j) := by
  unfold val_main_v9
  pointwise [window1]
  refine congrArg _ (Fin.ext ?_)
  show _ = 1920 + 1 * j.val
  dsimp only; omega

theorem values8 (b : Fin 128) (j : Fin 129) (h : Fin 8) (d : Fin 64) :
    val_main_v10 (F := Ideal) x2 x8 (ix4 b j h d) = kept x8 x2 b h d (reach8 j) := by
  unfold val_main_v10
  pointwise [window3]
  refine congrArg _ (Fin.ext ?_)
  show _ = 1920 + 1 * j.val
  dsimp only; omega

theorem score8 (b : Fin 128) (h : Fin 8) (j : Fin 129) :
    val_main_v13 (F := Ideal) x0 x1 x7 (ix4 b h 0 j) = scoreA x0 x1 x7 b h (reach8 j) := by
  unfold val_main_v13 val_main_v11 val_main_v12 val_main_cst
  pointwise [query8, keys8, dot_S128x8x1x64_S128x129x8x64_S128x8x1x129_3_3_2_1_01_02]
  rfl

/-- A head's scores of the reach, and of the new position. -/
def reached8 (b : Fin 128) (h : Fin 8) (j : Fin 128) : EReal := scoreA x0 x1 x7 b h (reach8 j.castSucc)

theorem top8 (b : Fin 128) (h : Fin 8) :
    val_main_v14 (F := Ideal) x0 x1 x7 (ix3 b h 0) = top (reached8 x0 x1 x7 b h) (scoreA x0 x1 x7 b h (Fin.last 2048)) := by
  unfold val_main_v14 val_main_cst_0
  pointwise [score8]
  rw [lowest, fold_max_bot]
  exact sup_last fun j => scoreA x0 x1 x7 b h (reach8 j)

theorem weight8 (b : Fin 128) (h : Fin 8) (j : Fin 129) :
    val_main_v18 (F := Ideal) x0 x1 x7 (ix4 b h 0 j) = Ideal.exp (scoreA x0 x1 x7 b h (reach8 j)
      - top (reached8 x0 x1 x7 b h) (scoreA x0 x1 x7 b h (Fin.last 2048))) := by
  unfold val_main_v18 val_main_v17 val_main_v16 val_main_v15
  pointwise [score8, top8]

theorem total8 (b : Fin 128) (h : Fin 8) :
    val_main_v19 (F := Ideal) x0 x1 x7 (ix3 b h 0) = total (reached8 x0 x1 x7 b h) (scoreA x0 x1 x7 b h (Fin.last 2048)) := by
  unfold val_main_v19 val_main_cst_1
  pointwise [weight8]
  exact sum_last fun j => scoreA x0 x1 x7 b h (reach8 j)

theorem mixed8 (b : Fin 128) (h : Fin 8) (d : Fin 64) :
    val_main_v23 (F := Ideal) x0 x1 x2 x7 x8 (ix4 b h 0 d)
      = (∑ j : Fin 128, share (reached8 x0 x1 x7 b h) (scoreA x0 x1 x7 b h (Fin.last 2048)) j
          * kept x8 x2 b h d (reach8 j.castSucc))
        + shareNew (reached8 x0 x1 x7 b h) (scoreA x0 x1 x7 b h (Fin.last 2048)) * kept x8 x2 b h d (Fin.last 2048) := by
  unfold val_main_v23 val_main_v22 val_main_v21 val_main_v20
  pointwise [weight8, total8, values8, dot_S128x8x1x129_S128x129x8x64_S128x8x1x64_3_1_2_3_01_02]
  exact Fin.sum_univ_castSucc _

theorem lse8 (b : Fin 128) (h : Fin 8) :
    val_main_v25 (F := Ideal) x0 x1 x7 (ix3 b h 0) = lse (reached8 x0 x1 x7 b h) (scoreA x0 x1 x7 b h (Fin.last 2048)) := by
  unfold val_main_v25 val_main_v24
  pointwise [top8, total8]
  rfl

theorem query26 (b : Fin 128) (h : Fin 8) (d : Fin 64) :
    val_main_v26 (F := Ideal) x0 (ix4 b h 0 d) = x0 (ix2 b ⟨64 * h.val + d.val, by omega⟩) := by
  unfold val_main_v26
  exact Reads.cast_2_4 _ _ b h 0 d b ⟨64 * h.val + d.val, by omega⟩ (by dsimp only; omega)

/-- The positions that this dilation reaches, the new one last. -/
def reach26 (j : Fin 129) : Fin 2049 := ⟨1536 + 4 * j.val, by omega⟩

theorem keys26 (b : Fin 128) (j : Fin 129) (h : Fin 8) (d : Fin 64) :
    val_main_v27 (F := Ideal) x1 x7 (ix4 b j h d) = kept x7 x1 b h d (reach26 j) := by
  unfold val_main_v27
  pointwise [window1]
  refine congrArg _ (Fin.ext ?_)
  show _ = 1536 + 4 * j.val
  dsimp only

theorem values26 (b : Fin 128) (j : Fin 129) (h : Fin 8) (d : Fin 64) :
    val_main_v28 (F := Ideal) x2 x8 (ix4 b j h d) = kept x8 x2 b h d (reach26 j) := by
  unfold val_main_v28
  pointwise [window3]
  refine congrArg _ (Fin.ext ?_)
  show _ = 1536 + 4 * j.val
  dsimp only

theorem score26 (b : Fin 128) (h : Fin 8) (j : Fin 129) :
    val_main_v31 (F := Ideal) x0 x1 x7 (ix4 b h 0 j) = scoreA x0 x1 x7 b h (reach26 j) := by
  unfold val_main_v31 val_main_v29 val_main_v30 val_main_cst_2
  pointwise [query26, keys26, dot_S128x8x1x64_S128x129x8x64_S128x8x1x129_3_3_2_1_01_02]
  rfl

/-- A head's scores of the reach, and of the new position. -/
def reached26 (b : Fin 128) (h : Fin 8) (j : Fin 128) : EReal := scoreA x0 x1 x7 b h (reach26 j.castSucc)

theorem top26 (b : Fin 128) (h : Fin 8) :
    val_main_v32 (F := Ideal) x0 x1 x7 (ix3 b h 0) = top (reached26 x0 x1 x7 b h) (scoreA x0 x1 x7 b h (Fin.last 2048)) := by
  unfold val_main_v32 val_main_cst_3
  pointwise [score26]
  rw [lowest, fold_max_bot]
  exact sup_last fun j => scoreA x0 x1 x7 b h (reach26 j)

theorem weight26 (b : Fin 128) (h : Fin 8) (j : Fin 129) :
    val_main_v36 (F := Ideal) x0 x1 x7 (ix4 b h 0 j) = Ideal.exp (scoreA x0 x1 x7 b h (reach26 j)
      - top (reached26 x0 x1 x7 b h) (scoreA x0 x1 x7 b h (Fin.last 2048))) := by
  unfold val_main_v36 val_main_v35 val_main_v34 val_main_v33
  pointwise [score26, top26]

theorem total26 (b : Fin 128) (h : Fin 8) :
    val_main_v37 (F := Ideal) x0 x1 x7 (ix3 b h 0) = total (reached26 x0 x1 x7 b h) (scoreA x0 x1 x7 b h (Fin.last 2048)) := by
  unfold val_main_v37 val_main_cst_4
  pointwise [weight26]
  exact sum_last fun j => scoreA x0 x1 x7 b h (reach26 j)

theorem mixed26 (b : Fin 128) (h : Fin 8) (d : Fin 64) :
    val_main_v41 (F := Ideal) x0 x1 x2 x7 x8 (ix4 b h 0 d)
      = (∑ j : Fin 128, share (reached26 x0 x1 x7 b h) (scoreA x0 x1 x7 b h (Fin.last 2048)) j
          * kept x8 x2 b h d (reach26 j.castSucc))
        + shareNew (reached26 x0 x1 x7 b h) (scoreA x0 x1 x7 b h (Fin.last 2048)) * kept x8 x2 b h d (Fin.last 2048) := by
  unfold val_main_v41 val_main_v40 val_main_v39 val_main_v38
  pointwise [weight26, total26, values26, dot_S128x8x1x129_S128x129x8x64_S128x8x1x64_3_1_2_3_01_02]
  exact Fin.sum_univ_castSucc _

theorem lse26 (b : Fin 128) (h : Fin 8) :
    val_main_v43 (F := Ideal) x0 x1 x7 (ix3 b h 0) = lse (reached26 x0 x1 x7 b h) (scoreA x0 x1 x7 b h (Fin.last 2048)) := by
  unfold val_main_v43 val_main_v42
  pointwise [top26, total26]
  rfl

theorem query44 (b : Fin 128) (h : Fin 8) (d : Fin 64) :
    val_main_v44 (F := Ideal) x0 (ix4 b h 0 d) = x0 (ix2 b ⟨64 * h.val + d.val, by omega⟩) := by
  unfold val_main_v44
  exact Reads.cast_2_4 _ _ b h 0 d b ⟨64 * h.val + d.val, by omega⟩ (by dsimp only; omega)

/-- The positions that this dilation reaches, the new one last. -/
def reach44 (j : Fin 129) : Fin 2049 := ⟨0 + 16 * j.val, by omega⟩

theorem keys44 (b : Fin 128) (j : Fin 129) (h : Fin 8) (d : Fin 64) :
    val_main_v45 (F := Ideal) x1 x7 (ix4 b j h d) = kept x7 x1 b h d (reach44 j) := by
  unfold val_main_v45
  pointwise [window1]
  refine congrArg _ (Fin.ext ?_)
  show _ = 0 + 16 * j.val
  dsimp only; omega

theorem values44 (b : Fin 128) (j : Fin 129) (h : Fin 8) (d : Fin 64) :
    val_main_v46 (F := Ideal) x2 x8 (ix4 b j h d) = kept x8 x2 b h d (reach44 j) := by
  unfold val_main_v46
  pointwise [window3]
  refine congrArg _ (Fin.ext ?_)
  show _ = 0 + 16 * j.val
  dsimp only; omega

theorem score44 (b : Fin 128) (h : Fin 8) (j : Fin 129) :
    val_main_v49 (F := Ideal) x0 x1 x7 (ix4 b h 0 j) = scoreA x0 x1 x7 b h (reach44 j) := by
  unfold val_main_v49 val_main_v47 val_main_v48 val_main_cst_5
  pointwise [query44, keys44, dot_S128x8x1x64_S128x129x8x64_S128x8x1x129_3_3_2_1_01_02]
  rfl

/-- A head's scores of the reach, and of the new position. -/
def reached44 (b : Fin 128) (h : Fin 8) (j : Fin 128) : EReal := scoreA x0 x1 x7 b h (reach44 j.castSucc)

theorem top44 (b : Fin 128) (h : Fin 8) :
    val_main_v50 (F := Ideal) x0 x1 x7 (ix3 b h 0) = top (reached44 x0 x1 x7 b h) (scoreA x0 x1 x7 b h (Fin.last 2048)) := by
  unfold val_main_v50 val_main_cst_6
  pointwise [score44]
  rw [lowest, fold_max_bot]
  exact sup_last fun j => scoreA x0 x1 x7 b h (reach44 j)

theorem weight44 (b : Fin 128) (h : Fin 8) (j : Fin 129) :
    val_main_v54 (F := Ideal) x0 x1 x7 (ix4 b h 0 j) = Ideal.exp (scoreA x0 x1 x7 b h (reach44 j)
      - top (reached44 x0 x1 x7 b h) (scoreA x0 x1 x7 b h (Fin.last 2048))) := by
  unfold val_main_v54 val_main_v53 val_main_v52 val_main_v51
  pointwise [score44, top44]

theorem total44 (b : Fin 128) (h : Fin 8) :
    val_main_v55 (F := Ideal) x0 x1 x7 (ix3 b h 0) = total (reached44 x0 x1 x7 b h) (scoreA x0 x1 x7 b h (Fin.last 2048)) := by
  unfold val_main_v55 val_main_cst_7
  pointwise [weight44]
  exact sum_last fun j => scoreA x0 x1 x7 b h (reach44 j)

theorem mixed44 (b : Fin 128) (h : Fin 8) (d : Fin 64) :
    val_main_v59 (F := Ideal) x0 x1 x2 x7 x8 (ix4 b h 0 d)
      = (∑ j : Fin 128, share (reached44 x0 x1 x7 b h) (scoreA x0 x1 x7 b h (Fin.last 2048)) j
          * kept x8 x2 b h d (reach44 j.castSucc))
        + shareNew (reached44 x0 x1 x7 b h) (scoreA x0 x1 x7 b h (Fin.last 2048)) * kept x8 x2 b h d (Fin.last 2048) := by
  unfold val_main_v59 val_main_v58 val_main_v57 val_main_v56
  pointwise [weight44, total44, values44, dot_S128x8x1x129_S128x129x8x64_S128x8x1x64_3_1_2_3_01_02]
  exact Fin.sum_univ_castSucc _

theorem lse44 (b : Fin 128) (h : Fin 8) :
    val_main_v61 (F := Ideal) x0 x1 x7 (ix3 b h 0) = lse (reached44 x0 x1 x7 b h) (scoreA x0 x1 x7 b h (Fin.last 2048)) := by
  unfold val_main_v61 val_main_v60
  pointwise [top44, total44]
  rfl

theorem lifted62 (b : Fin 128) (h : Fin 8) : val_main_v62 (F := Ideal) x0 x1 x7 (ix4 0 b h 0) = lse (reached8 x0 x1 x7 b h) (scoreA x0 x1 x7 b h (Fin.last 2048)) := by
  unfold val_main_v62
  pointwise [lse8]

theorem lifted63 (b : Fin 128) (h : Fin 8) : val_main_v63 (F := Ideal) x0 x1 x7 (ix4 0 b h 0) = lse (reached26 x0 x1 x7 b h) (scoreA x0 x1 x7 b h (Fin.last 2048)) := by
  unfold val_main_v63
  pointwise [lse26]

theorem lifted64 (b : Fin 128) (h : Fin 8) : val_main_v64 (F := Ideal) x0 x1 x7 (ix4 0 b h 0) = lse (reached44 x0 x1 x7 b h) (scoreA x0 x1 x7 b h (Fin.last 2048)) := by
  unfold val_main_v64
  pointwise [lse44]

theorem stacked0 (b : Fin 128) (h : Fin 8) :
    val_main_v65 (F := Ideal) x0 x1 x7 (ix4 (0 : Fin 3) b h 0) = lse (reached8 x0 x1 x7 b h) (scoreA x0 x1 x7 b h (Fin.last 2048)) := by
  unfold val_main_v65
  pointwise
  exact lifted62 x0 x1 x7 b h

theorem outs0 (b : Fin 128) (h : Fin 8) (d : Fin 64) :
    val_main_v80 (F := Ideal) x0 x1 x2 x7 x8 (ix5 (0 : Fin 3) b h 0 d) = val_main_v23 (F := Ideal) x0 x1 x2 x7 x8 (ix4 b h 0 d) := by
  unfold val_main_v80 val_main_v77 val_main_v78 val_main_v79
  pointwise

theorem stacked1 (b : Fin 128) (h : Fin 8) :
    val_main_v65 (F := Ideal) x0 x1 x7 (ix4 (1 : Fin 3) b h 0) = lse (reached26 x0 x1 x7 b h) (scoreA x0 x1 x7 b h (Fin.last 2048)) := by
  unfold val_main_v65
  pointwise
  exact lifted63 x0 x1 x7 b h

theorem outs1 (b : Fin 128) (h : Fin 8) (d : Fin 64) :
    val_main_v80 (F := Ideal) x0 x1 x2 x7 x8 (ix5 (1 : Fin 3) b h 0 d) = val_main_v41 (F := Ideal) x0 x1 x2 x7 x8 (ix4 b h 0 d) := by
  unfold val_main_v80 val_main_v77 val_main_v78 val_main_v79
  pointwise

theorem stacked2 (b : Fin 128) (h : Fin 8) :
    val_main_v65 (F := Ideal) x0 x1 x7 (ix4 (2 : Fin 3) b h 0) = lse (reached44 x0 x1 x7 b h) (scoreA x0 x1 x7 b h (Fin.last 2048)) := by
  unfold val_main_v65
  pointwise
  exact lifted64 x0 x1 x7 b h

theorem outs2 (b : Fin 128) (h : Fin 8) (d : Fin 64) :
    val_main_v80 (F := Ideal) x0 x1 x2 x7 x8 (ix5 (2 : Fin 3) b h 0 d) = val_main_v59 (F := Ideal) x0 x1 x2 x7 x8 (ix4 b h 0 d) := by
  unfold val_main_v80 val_main_v77 val_main_v78 val_main_v79
  pointwise

theorem peak (b : Fin 128) (h : Fin 8) :
    val_main_v68 (F := Ideal) x0 x1 x7 (ix3 b h 0) = max (max (lse (reached8 x0 x1 x7 b h) (scoreA x0 x1 x7 b h (Fin.last 2048))) (lse (reached26 x0 x1 x7 b h) (scoreA x0 x1 x7 b h (Fin.last 2048)))) (lse (reached44 x0 x1 x7 b h) (scoreA x0 x1 x7 b h (Fin.last 2048))) := by
  unfold val_main_v68 val_main_v67 val_main_v66 val_main_cst_8 val_main_cst_9
  pointwise
  rw [lowest, fold_max_bot, sup_three, max_eq_right bot_le]
  exact congrArg₂ max (congrArg₂ max (stacked0 x0 x1 x7 b h) (stacked1 x0 x1 x7 b h)) (stacked2 x0 x1 x7 b h)

theorem raised0 (b : Fin 128) (h : Fin 8) :
    val_main_v72 (F := Ideal) x0 x1 x7 (ix4 (0 : Fin 3) b h 0) = expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached8 x0 x1 x7 b h) (scoreA x0 x1 x7 b h (Fin.last 2048))) := by
  unfold val_main_v72 val_main_v71 val_main_v70 val_main_v69
  pointwise [peak]
  rw [stacked0]
  rfl

theorem raised1 (b : Fin 128) (h : Fin 8) :
    val_main_v72 (F := Ideal) x0 x1 x7 (ix4 (1 : Fin 3) b h 0) = expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached26 x0 x1 x7 b h) (scoreA x0 x1 x7 b h (Fin.last 2048))) := by
  unfold val_main_v72 val_main_v71 val_main_v70 val_main_v69
  pointwise [peak]
  rw [stacked1]
  rfl

theorem raised2 (b : Fin 128) (h : Fin 8) :
    val_main_v72 (F := Ideal) x0 x1 x7 (ix4 (2 : Fin 3) b h 0) = expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached44 x0 x1 x7 b h) (scoreA x0 x1 x7 b h (Fin.last 2048))) := by
  unfold val_main_v72 val_main_v71 val_main_v70 val_main_v69
  pointwise [peak]
  rw [stacked2]
  rfl

theorem raisedSum (b : Fin 128) (h : Fin 8) : val_main_v73 (F := Ideal) x0 x1 x7 (ix3 b h 0) = expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) := by
  unfold val_main_v73 val_main_cst_10
  pointwise
  rw [Fin.sum_univ_three]
  exact congrArg₂ (· + ·) (congrArg₂ (· + ·) (raised0 x0 x1 x7 b h) (raised1 x0 x1 x7 b h)) (raised2 x0 x1 x7 b h)

theorem part0 (b : Fin 128) (h : Fin 8) :
    val_main_v76 (F := Ideal) x0 x1 x7 (ix4 (0 : Fin 3) b h 0) = Ideal.div (expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached8 x0 x1 x7 b h) (scoreA x0 x1 x7 b h (Fin.last 2048)))) (expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048)))) := by
  unfold val_main_v76 val_main_v75 val_main_v74
  pointwise [raisedSum]
  rw [raised0]

theorem part1 (b : Fin 128) (h : Fin 8) :
    val_main_v76 (F := Ideal) x0 x1 x7 (ix4 (1 : Fin 3) b h 0) = Ideal.div (expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached26 x0 x1 x7 b h) (scoreA x0 x1 x7 b h (Fin.last 2048)))) (expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048)))) := by
  unfold val_main_v76 val_main_v75 val_main_v74
  pointwise [raisedSum]
  rw [raised1]

theorem part2 (b : Fin 128) (h : Fin 8) :
    val_main_v76 (F := Ideal) x0 x1 x7 (ix4 (2 : Fin 3) b h 0) = Ideal.div (expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached44 x0 x1 x7 b h) (scoreA x0 x1 x7 b h (Fin.last 2048)))) (expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048)))) := by
  unfold val_main_v76 val_main_v75 val_main_v74
  pointwise [raisedSum]
  rw [raised2]

/-- The dilated heads' result: the three outputs weighted by their sums. -/
def mixA (b : Fin 128) (h : Fin 8) (d : Fin 64) : EReal :=
  Ideal.div (expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached8 x0 x1 x7 b h) (scoreA x0 x1 x7 b h (Fin.last 2048)))) (expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048)))) * ((∑ j : Fin 128, share (reached8 x0 x1 x7 b h) (scoreA x0 x1 x7 b h (Fin.last 2048)) j
          * kept x8 x2 b h d (reach8 j.castSucc))
        + shareNew (reached8 x0 x1 x7 b h) (scoreA x0 x1 x7 b h (Fin.last 2048)) * kept x8 x2 b h d (Fin.last 2048))
    + Ideal.div (expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached26 x0 x1 x7 b h) (scoreA x0 x1 x7 b h (Fin.last 2048)))) (expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048)))) * ((∑ j : Fin 128, share (reached26 x0 x1 x7 b h) (scoreA x0 x1 x7 b h (Fin.last 2048)) j
          * kept x8 x2 b h d (reach26 j.castSucc))
        + shareNew (reached26 x0 x1 x7 b h) (scoreA x0 x1 x7 b h (Fin.last 2048)) * kept x8 x2 b h d (Fin.last 2048))
    + Ideal.div (expTop (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048))) (lse (reached44 x0 x1 x7 b h) (scoreA x0 x1 x7 b h (Fin.last 2048)))) (expSum (lse (reached8 x0 x1 x7 b h) (scoreA x0 x1 x7 b h (Fin.last 2048))) (lse (reached26 x0 x1 x7 b h) (scoreA x0 x1 x7 b h (Fin.last 2048))) (lse (reached44 x0 x1 x7 b h) (scoreA x0 x1 x7 b h (Fin.last 2048)))) * ((∑ j : Fin 128, share (reached44 x0 x1 x7 b h) (scoreA x0 x1 x7 b h (Fin.last 2048)) j
          * kept x8 x2 b h d (reach44 j.castSucc))
        + shareNew (reached44 x0 x1 x7 b h) (scoreA x0 x1 x7 b h (Fin.last 2048)) * kept x8 x2 b h d (Fin.last 2048))

theorem mixed (b : Fin 128) (h : Fin 8) (d : Fin 64) :
    val_main_v81 (F := Ideal) x0 x1 x2 x7 x8 (ix4 b h 0 d) = mixA x0 x1 x2 x7 x8 b h d := by
  unfold val_main_v81
  pointwise [dot_S3x128x8x1_S3x128x8x1x64_S128x8x1x64_0_0_n_4_123_123]
  rw [Fin.sum_univ_three]
  refine congrArg₂ (· + ·) (congrArg₂ (· + ·) (congrArg₂ (· * ·) (part0 x0 x1 x7 b h) ?_) (congrArg₂ (· * ·) (part1 x0 x1 x7 b h) ?_)) (congrArg₂ (· * ·) (part2 x0 x1 x7 b h) ?_)
  · exact (outs0 x0 x1 x2 x7 x8 b h d).trans (mixed8 x0 x1 x2 x7 x8 b h d)
  · exact (outs1 x0 x1 x2 x7 x8 b h d).trans (mixed26 x0 x1 x2 x7 x8 b h d)
  · exact (outs2 x0 x1 x2 x7 x8 b h d).trans (mixed44 x0 x1 x2 x7 x8 b h d)

theorem result0 (b : Fin 128) (i : Fin 512) :
    val_main_v107 (F := Ideal) x0 x1 x2 x7 x8 (ix3 b 0 i) = mixA x0 x1 x2 x7 x8 b ⟨i.val / 64, by omega⟩ ⟨i.val % 64, by omega⟩ := by
  unfold val_main_v107
  exact (Reads.cast_4_3 _ _ b 0 i b ⟨i.val / 64, by omega⟩ 0 ⟨i.val % 64, by omega⟩ (by dsimp only; omega)).trans (mixed x0 x1 x2 x7 x8 b _ _)

/-- A short-window head's score of a position. -/
def scoreB (b : Fin 128) (g : Fin 2) (r : Fin 4) (p : Fin 129) : EReal :=
  (∑ d : Fin 64, x3 (ix2 b ⟨256 * g.val + 64 * r.val + d.val, by omega⟩) * keptB x9 x4 b g d p) * Ideal.ofBits FTy.f32 0x3E000000#32

theorem queryB (b : Fin 128) (g : Fin 2) (r : Fin 4) (d : Fin 64) :
    val_main_v82 (F := Ideal) x3 (ix4 b g r d) = x3 (ix2 b ⟨256 * g.val + 64 * r.val + d.val, by omega⟩) := by
  unfold val_main_v82
  exact Reads.cast_2_4 _ _ b g r d b ⟨256 * g.val + 64 * r.val + d.val, by omega⟩ (by dsimp only; omega)

theorem sinkB (g : Fin 2) (r : Fin 4) : val_main_v83 (F := Ideal) x6 (ix2 g r) = x6 (ix1 ⟨4 * g.val + r.val, by omega⟩) := by
  unfold val_main_v83
  pointwise
  refine congrArg (fun v => x6 (ix1 v)) (Fin.ext ?_)
  show g.val * 4 + r.val = 4 * g.val + r.val
  omega

theorem scoreB_eq (b : Fin 128) (g : Fin 2) (r : Fin 4) (j : Fin 129) :
    val_main_v86 (F := Ideal) x3 x4 x9 (ix4 b g r j) = scoreB x3 x4 x9 b g r j := by
  unfold val_main_v86 val_main_v84 val_main_v85 val_main_cst_11
  pointwise [queryB, window5, dot_S128x2x4x64_S128x129x2x64_S128x2x4x129_3_3_2_1_01_02]
  rfl

/-- The largest score of a short-window head, its sink with them. -/
def topB (b : Fin 128) (g : Fin 2) (r : Fin 4) : EReal :=
  max (top (fun j : Fin 128 => scoreB x3 x4 x9 b g r j.castSucc) (scoreB x3 x4 x9 b g r (Fin.last 128))) (x6 (ix1 ⟨4 * g.val + r.val, by omega⟩))

theorem topB_eq (b : Fin 128) (g : Fin 2) (r : Fin 4) :
    val_main_v90 (F := Ideal) x3 x4 x6 x9 (ix3 b g r) = topB x3 x4 x6 x9 b g r := by
  unfold val_main_v90 val_main_v89 val_main_v88 val_main_v87 val_main_cst_12
  pointwise [scoreB_eq, sinkB]
  rw [lowest, fold_max_bot]
  exact congrArg (fun v => max v _) (sup_last fun j => scoreB x3 x4 x9 b g r j)

theorem weightB (b : Fin 128) (g : Fin 2) (r : Fin 4) (j : Fin 129) :
    val_main_v94 (F := Ideal) x3 x4 x6 x9 (ix4 b g r j) = Ideal.exp (scoreB x3 x4 x9 b g r j - topB x3 x4 x6 x9 b g r) := by
  unfold val_main_v94 val_main_v93 val_main_v92 val_main_v91
  pointwise [scoreB_eq, topB_eq]

/-- The weights' sum of a short-window head, its sink's with them. -/
def totalB (b : Fin 128) (g : Fin 2) (r : Fin 4) : EReal :=
  ((∑ j : Fin 128, Ideal.exp (scoreB x3 x4 x9 b g r j.castSucc - topB x3 x4 x6 x9 b g r))
    + Ideal.exp (scoreB x3 x4 x9 b g r (Fin.last 128) - topB x3 x4 x6 x9 b g r))
    + Ideal.exp (x6 (ix1 ⟨4 * g.val + r.val, by omega⟩) - topB x3 x4 x6 x9 b g r)

theorem totalB_eq (b : Fin 128) (g : Fin 2) (r : Fin 4) :
    val_main_v100 (F := Ideal) x3 x4 x6 x9 (ix3 b g r) = totalB x3 x4 x6 x9 b g r := by
  unfold val_main_v100 val_main_v99 val_main_v98 val_main_v97 val_main_v96 val_main_v95 val_main_cst_13
  pointwise [weightB, topB_eq, sinkB]
  exact congrArg (fun v => v + _) (Fin.sum_univ_castSucc _)

/-- The short-window heads' result. -/
def mixB (b : Fin 128) (g : Fin 2) (r : Fin 4) (d : Fin 64) : EReal :=
  (∑ j : Fin 128, Ideal.div (Ideal.exp (scoreB x3 x4 x9 b g r j.castSucc - topB x3 x4 x6 x9 b g r)) (totalB x3 x4 x6 x9 b g r)
      * keptB x10 x5 b g d j.castSucc)
    + Ideal.div (Ideal.exp (scoreB x3 x4 x9 b g r (Fin.last 128) - topB x3 x4 x6 x9 b g r)) (totalB x3 x4 x6 x9 b g r)
      * keptB x10 x5 b g d (Fin.last 128)

theorem mixB_eq (b : Fin 128) (g : Fin 2) (r : Fin 4) (d : Fin 64) :
    val_main_v104 (F := Ideal) x3 x4 x5 x6 x9 x10 (ix4 b g r d) = mixB x3 x4 x5 x6 x9 x10 b g r d := by
  unfold val_main_v104 val_main_v103 val_main_v102 val_main_v101
  pointwise [weightB, totalB_eq, window7, dot_S128x2x4x129_S128x129x2x64_S128x2x4x64_3_1_2_3_01_02]
  exact Fin.sum_univ_castSucc _

theorem result1 (b : Fin 128) (i : Fin 512) :
    val_main_v108 (F := Ideal) x3 x4 x5 x6 x9 x10 (ix3 b 0 i) = mixB x3 x4 x5 x6 x9 x10 b ⟨i.val / 256, by omega⟩ ⟨i.val / 64 % 4, by omega⟩ ⟨i.val % 64, by omega⟩ := by
  unfold val_main_v108
  exact (Reads.cast_4_3 _ _ b 0 i b ⟨i.val / 256, by omega⟩ ⟨i.val / 64 % 4, by omega⟩ ⟨i.val % 64, by omega⟩ (by dsimp only; omega)).trans
    (mixB_eq x3 x4 x5 x6 x9 x10 b _ _ _)

theorem result2 (b : Fin 128) (i : Fin 512) (s : Fin 2048) :
    val_main_v111 (F := Ideal) x1 x7 (ix3 b i s) = kept x7 x1 b ⟨i.val / 64, by omega⟩ ⟨i.val % 64, by omega⟩ s.succ := by
  unfold val_main_v111
  refine (Reads.cast_4_3 _ _ b i s b ⟨i.val / 64, by omega⟩ ⟨i.val % 64, by omega⟩ s (by dsimp only; omega)).trans ?_
  unfold val_main_v110 val_main_v109
  pointwise [window1]
  refine congrArg _ (Fin.ext ?_)
  show _ = s.val + 1
  dsimp only; omega

theorem result3 (b : Fin 128) (i : Fin 512) (s : Fin 2048) :
    val_main_v114 (F := Ideal) x2 x8 (ix3 b i s) = kept x8 x2 b ⟨i.val / 64, by omega⟩ ⟨i.val % 64, by omega⟩ s.succ := by
  unfold val_main_v114
  refine (Reads.cast_4_3 _ _ b i s b ⟨i.val / 64, by omega⟩ ⟨i.val % 64, by omega⟩ s (by dsimp only; omega)).trans ?_
  unfold val_main_v113 val_main_v112
  pointwise [window3]
  refine congrArg _ (Fin.ext ?_)
  show _ = s.val + 1
  dsimp only; omega

theorem result4 (b : Fin 128) (i : Fin 128) (s : Fin 128) :
    val_main_v117 (F := Ideal) x4 x9 (ix3 b i s) = keptB x9 x4 b ⟨i.val / 64, by omega⟩ ⟨i.val % 64, by omega⟩ s.succ := by
  unfold val_main_v117
  refine (Reads.cast_4_3 _ _ b i s b ⟨i.val / 64, by omega⟩ ⟨i.val % 64, by omega⟩ s (by dsimp only; omega)).trans ?_
  unfold val_main_v116 val_main_v115
  pointwise [window5]
  refine congrArg _ (Fin.ext ?_)
  show _ = s.val + 1
  dsimp only; omega

theorem result5 (b : Fin 128) (i : Fin 128) (s : Fin 128) :
    val_main_v120 (F := Ideal) x5 x10 (ix3 b i s) = keptB x10 x5 b ⟨i.val / 64, by omega⟩ ⟨i.val % 64, by omega⟩ s.succ := by
  unfold val_main_v120
  refine (Reads.cast_4_3 _ _ b i s b ⟨i.val / 64, by omega⟩ ⟨i.val % 64, by omega⟩ s (by dsimp only; omega)).trans ?_
  unfold val_main_v119 val_main_v118
  pointwise [window7]
  refine congrArg _ (Fin.ext ?_)
  show _ = s.val + 1
  dsimp only; omega

end Cert.ReferenceSampleIdeal.Hand
-- ==== Proof.SampArray.lean ====
/-
  The arrays the decode launch leaves. Each of the 128 grid points handles one token: its blocks are that token's rows and
  windows, so the arrays are the blocks side by side.
-/
module
public import proofs.«01_k».proof.Proof.SampWindow
public import proofs.«01_k».proof.Proof.SampRef
public import proofs.«01_k».proof.Proof.Reads
@[expose] public section
noncomputable section
namespace Cert.KernelSampleIdeal.Hand
open Idealize.ShloMosaic Idealize.ShloMosaic.TcCoe Cert.KernelSampleIdeal Cert.KernelSampleIdeal.Gen Cert.ReferenceSampleIdeal.Hand

variable (m : (ℓ : Loc nD τ sig) → Buf (Elt Ideal) ℓ) (c : Dev nD)

theorem host0 (b : Fin 128) (w : Fin 512) : V m c main_v0 (ix3 b 0 w) = m ((c : Thread nD τ).loc main_arg0) (ix2 b w) := by
  have h : V m c main_v0 = shapeCast S128x1x512 (m ((c : Thread nD τ).loc main_arg0)) shapeCasts_S128x512_S128x1x512 := by
    unfold V hostOps0
    after_results
    rfl
  rw [h]
  exact Reads.cast_2_3 _ _ b 0 w b w (by simp)

theorem host1 (b : Fin 128) (w : Fin 512) : V m c main_v1 (ix3 b 0 w) = m ((c : Thread nD τ).loc main_arg1) (ix2 b w) := by
  have h : V m c main_v1 = shapeCast S128x1x512 (m ((c : Thread nD τ).loc main_arg1)) shapeCasts_S128x512_S128x1x512 := by
    unfold V hostOps0
    after_results
    rfl
  rw [h]
  exact Reads.cast_2_3 _ _ b 0 w b w (by simp)

theorem host2 (b : Fin 128) (w : Fin 512) : V m c main_v2 (ix3 b 0 w) = m ((c : Thread nD τ).loc main_arg2) (ix2 b w) := by
  have h : V m c main_v2 = shapeCast S128x1x512 (m ((c : Thread nD τ).loc main_arg2)) shapeCasts_S128x512_S128x1x512 := by
    unfold V hostOps0
    after_results
    rfl
  rw [h]
  exact Reads.cast_2_3 _ _ b 0 w b w (by simp)

theorem host3 (b : Fin 128) (w : Fin 512) : V m c main_v3 (ix3 b 0 w) = m ((c : Thread nD τ).loc main_arg3) (ix2 b w) := by
  have h : V m c main_v3 = shapeCast S128x1x512 (m ((c : Thread nD τ).loc main_arg3)) shapeCasts_S128x512_S128x1x512 := by
    unfold V hostOps0
    after_results
    rfl
  rw [h]
  exact Reads.cast_2_3 _ _ b 0 w b w (by simp)

theorem host4 (b : Fin 128) (w : Fin 128) : V m c main_v4 (ix3 b 0 w) = m ((c : Thread nD τ).loc main_arg4) (ix2 b w) := by
  have h : V m c main_v4 = shapeCast S128x1x128 (m ((c : Thread nD τ).loc main_arg4)) shapeCasts_S128x128_S128x1x128 := by
    unfold V hostOps0
    after_results
    rfl
  rw [h]
  exact Reads.cast_2_3 _ _ b 0 w b w (by simp)

theorem host5 (b : Fin 128) (w : Fin 128) : V m c main_v5 (ix3 b 0 w) = m ((c : Thread nD τ).loc main_arg5) (ix2 b w) := by
  have h : V m c main_v5 = shapeCast S128x1x128 (m ((c : Thread nD τ).loc main_arg5)) shapeCasts_S128x128_S128x1x128 := by
    unfold V hostOps0
    after_results
    rfl
  rw [h]
  exact Reads.cast_2_3 _ _ b 0 w b w (by simp)

theorem host6 (h : Fin 8) : V m c main_v6 (ix2 h 0) = m ((c : Thread nD τ).loc main_arg6) (ix1 h) := by
  have e : V m c main_v6 = shapeCast S8x1 (m ((c : Thread nD τ).loc main_arg6)) shapeCasts_S8_S8x1 := by
    unfold V hostOps0
    after_results
    rfl
  rw [e]
  refine shapeCast_apply _ _ (ix2 h 0) (ix1 h) ?_
  rw [Shape.rowMajor_val_one, Shape.rowMajor_val_two]
  show h.val = h.val * 1 + 0
  omega

theorem host8 (b : Fin 128) (w : Fin 512) (p : Fin 2048) : V m c main_v8 (ix3 b w p)
    = m ((c : Thread nD τ).loc main_arg7) (ix4 b p ⟨w.val / 64, by omega⟩ ⟨w.val % 64, by omega⟩) := by
  have h : V m c main_v8 = shapeCast S128x512x2048 (transpose S128x8x64x2048 [0, 2, 3, 1] (m ((c : Thread nD τ).loc main_arg7))
      transposes_S128x2048x8x64_S128x8x64x2048_0_2_3_1) shapeCasts_S128x8x64x2048_S128x512x2048 := by
    unfold V hostOps0
    after_results
    rfl
  rw [h]
  refine (Reads.cast_4_3 _ _ b w p b ⟨w.val / 64, by omega⟩ ⟨w.val % 64, by omega⟩ p (by dsimp only; omega)).trans ?_
  pointwise

theorem host10 (b : Fin 128) (w : Fin 512) (p : Fin 2048) : V m c main_v10 (ix3 b w p)
    = m ((c : Thread nD τ).loc main_arg8) (ix4 b p ⟨w.val / 64, by omega⟩ ⟨w.val % 64, by omega⟩) := by
  have h : V m c main_v10 = shapeCast S128x512x2048 (transpose S128x8x64x2048 [0, 2, 3, 1] (m ((c : Thread nD τ).loc main_arg8))
      transposes_S128x2048x8x64_S128x8x64x2048_0_2_3_1) shapeCasts_S128x8x64x2048_S128x512x2048 := by
    unfold V hostOps0
    after_results
    rfl
  rw [h]
  refine (Reads.cast_4_3 _ _ b w p b ⟨w.val / 64, by omega⟩ ⟨w.val % 64, by omega⟩ p (by dsimp only; omega)).trans ?_
  pointwise

theorem host12 (b : Fin 128) (w : Fin 128) (p : Fin 128) : V m c main_v12 (ix3 b w p)
    = m ((c : Thread nD τ).loc main_arg9) (ix4 b p ⟨w.val / 64, by omega⟩ ⟨w.val % 64, by omega⟩) := by
  have h : V m c main_v12 = shapeCast S128x128x128 (transpose S128x2x64x128 [0, 2, 3, 1] (m ((c : Thread nD τ).loc main_arg9))
      transposes_S128x128x2x64_S128x2x64x128_0_2_3_1) shapeCasts_S128x2x64x128_S128x128x128 := by
    unfold V hostOps0
    after_results
    rfl
  rw [h]
  refine (Reads.cast_4_3 _ _ b w p b ⟨w.val / 64, by omega⟩ ⟨w.val % 64, by omega⟩ p (by dsimp only; omega)).trans ?_
  pointwise

theorem host14 (b : Fin 128) (w : Fin 128) (p : Fin 128) : V m c main_v14 (ix3 b w p)
    = m ((c : Thread nD τ).loc main_arg10) (ix4 b p ⟨w.val / 64, by omega⟩ ⟨w.val % 64, by omega⟩) := by
  have h : V m c main_v14 = shapeCast S128x128x128 (transpose S128x2x64x128 [0, 2, 3, 1] (m ((c : Thread nD τ).loc main_arg10))
      transposes_S128x128x2x64_S128x2x64x128_0_2_3_1) shapeCasts_S128x2x64x128_S128x128x128 := by
    unfold V hostOps0
    after_results
    rfl
  rw [h]
  refine (Reads.cast_4_3 _ _ b w p b ⟨w.val / 64, by omega⟩ ⟨w.val % 64, by omega⟩ p (by dsimp only; omega)).trans ?_
  pointwise

theorem npoints (t : Fin cfg0.N) : t.val < 128 := by have := t.isLt; have h : cfg0.N = 128 := N_0; omega

/-- The token of a grid point. -/
abbrev token (t : Fin cfg0.N) : Fin 128 := ⟨t.val, npoints t⟩

theorem index_facts : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = t.val ∧ win0_5.index t 1 = 0 ∧ win0_5.index t 2 = 0)
    ∧ (win0_6.index t 0 = 0 ∧ win0_6.index t 1 = 0)
    ∧ (win0_7.index t 0 = t.val ∧ win0_7.index t 1 = 0 ∧ win0_7.index t 2 = 0)
    ∧ (win0_8.index t 0 = t.val ∧ win0_8.index t 1 = 1 ∧ win0_8.index t 2 = 0)
    ∧ (win0_9.index t 0 = t.val ∧ win0_9.index t 1 = 0 ∧ win0_9.index t 2 = 0)
    ∧ (win0_10.index t 0 = t.val ∧ win0_10.index t 1 = 1 ∧ win0_10.index t 2 = 0)
    ∧ (win0_11.index t 0 = t.val ∧ win0_11.index t 1 = 0 ∧ win0_11.index t 2 = 0)
    ∧ (win0_12.index t 0 = t.val ∧ win0_12.index t 1 = 0 ∧ win0_12.index t 2 = 0)
    ∧ (win0_13.index t 0 = t.val ∧ win0_13.index t 1 = 0 ∧ win0_13.index t 2 = 0)
    ∧ (win0_14.index t 0 = t.val ∧ win0_14.index t 1 = 0 ∧ win0_14.index t 2 = 0)
    ∧ (win0_15.index t 0 = t.val ∧ win0_15.index t 1 = 0 ∧ win0_15.index t 2 = 0)
    ∧ (win0_16.index t 0 = t.val ∧ win0_16.index t 1 = 0 ∧ win0_16.index t 2 = 0)
    ∧ (win0_17.index t 0 = t.val ∧ win0_17.index t 1 = 0 ∧ win0_17.index t 2 = 0)
    ∧ (win0_18.index t 0 = t.val ∧ win0_18.index t 1 = 0 ∧ win0_18.index t 2 = 0) := by decide +kernel

theorem blk0 (t : Fin cfg0.N) (w : Fin 512) : iblk m c 0 t (ix3 0 0 w) = m ((c : Thread nD τ).loc main_arg0) (ix2 (token t) w) := by
  have hi := (index_facts t).1
  refine Eq.trans ?_ (host0 m c (token t) w)
  unfold iblk
  rw [View.read_apply]
  show V m c main_v0 _ = V m c main_v0 _
  congr 1
  funext a
  apply Fin.ext
  match a with
  | ⟨0, _⟩ => show win0_0.index t 0 * 1 + 1 * 0 = t.val; rw [hi.1]; omega
  | ⟨1, _⟩ => show win0_0.index t 1 * 1 + 1 * 0 = 0; rw [hi.2.1]
  | ⟨2, _⟩ => show win0_0.index t 2 * 512 + 1 * w.val = w.val; rw [hi.2.2]; omega

theorem blk1 (t : Fin cfg0.N) (w : Fin 512) : iblk m c 1 t (ix3 0 0 w) = m ((c : Thread nD τ).loc main_arg1) (ix2 (token t) w) := by
  have hi := (index_facts t).2.1
  refine Eq.trans ?_ (host1 m c (token t) w)
  unfold iblk
  rw [View.read_apply]
  show V m c main_v1 _ = V m c main_v1 _
  congr 1
  funext a
  apply Fin.ext
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 512 + 1 * w.val = w.val; rw [hi.2.2]; omega

theorem blk2 (t : Fin cfg0.N) (w : Fin 512) : iblk m c 2 t (ix3 0 0 w) = m ((c : Thread nD τ).loc main_arg2) (ix2 (token t) w) := by
  have hi := (index_facts t).2.2.1
  refine Eq.trans ?_ (host2 m c (token t) w)
  unfold iblk
  rw [View.read_apply]
  show V m c main_v2 _ = V m c main_v2 _
  congr 1
  funext a
  apply Fin.ext
  match a with
  | ⟨0, _⟩ => show win0_2.index t 0 * 1 + 1 * 0 = t.val; rw [hi.1]; omega
  | ⟨1, _⟩ => show win0_2.index t 1 * 1 + 1 * 0 = 0; rw [hi.2.1]
  | ⟨2, _⟩ => show win0_2.index t 2 * 512 + 1 * w.val = w.val; rw [hi.2.2]; omega

theorem blk3 (t : Fin cfg0.N) (w : Fin 512) : iblk m c 3 t (ix3 0 0 w) = m ((c : Thread nD τ).loc main_arg3) (ix2 (token t) w) := by
  have hi := (index_facts t).2.2.2.1
  refine Eq.trans ?_ (host3 m c (token t) w)
  unfold iblk
  rw [View.read_apply]
  show V m c main_v3 _ = V m c main_v3 _
  congr 1
  funext a
  apply Fin.ext
  match a with
  | ⟨0, _⟩ => show win0_3.index t 0 * 1 + 1 * 0 = t.val; rw [hi.1]; omega
  | ⟨1, _⟩ => show win0_3.index t 1 * 1 + 1 * 0 = 0; rw [hi.2.1]
  | ⟨2, _⟩ => show win0_3.index t 2 * 512 + 1 * w.val = w.val; rw [hi.2.2]; omega

theorem blk4 (t : Fin cfg0.N) (w : Fin 128) : iblk m c 4 t (ix3 0 0 w) = m ((c : Thread nD τ).loc main_arg4) (ix2 (token t) w) := by
  have hi := (index_facts t).2.2.2.2.1
  refine Eq.trans ?_ (host4 m c (token t) w)
  unfold iblk
  rw [View.read_apply]
  show V m c main_v4 _ = V m c main_v4 _
  congr 1
  funext a
  apply Fin.ext
  match a with
  | ⟨0, _⟩ => show win0_4.index t 0 * 1 + 1 * 0 = t.val; rw [hi.1]; omega
  | ⟨1, _⟩ => show win0_4.index t 1 * 1 + 1 * 0 = 0; rw [hi.2.1]
  | ⟨2, _⟩ => show win0_4.index t 2 * 128 + 1 * w.val = w.val; rw [hi.2.2]; omega

theorem blk5 (t : Fin cfg0.N) (w : Fin 128) : iblk m c 5 t (ix3 0 0 w) = m ((c : Thread nD τ).loc main_arg5) (ix2 (token t) w) := by
  have hi := (index_facts t).2.2.2.2.2.1
  refine Eq.trans ?_ (host5 m c (token t) w)
  unfold iblk
  rw [View.read_apply]
  show V m c main_v5 _ = V m c main_v5 _
  congr 1
  funext a
  apply Fin.ext
  match a with
  | ⟨0, _⟩ => show win0_5.index t 0 * 1 + 1 * 0 = t.val; rw [hi.1]; omega
  | ⟨1, _⟩ => show win0_5.index t 1 * 1 + 1 * 0 = 0; rw [hi.2.1]
  | ⟨2, _⟩ => show win0_5.index t 2 * 128 + 1 * w.val = w.val; rw [hi.2.2]; omega

theorem blk6 (t : Fin cfg0.N) (h : Fin 8) : iblk m c 6 t (ix2 h 0) = m ((c : Thread nD τ).loc main_arg6) (ix1 h) := by
  have hi := (index_facts t).2.2.2.2.2.2.1
  refine Eq.trans ?_ (host6 m c h)
  unfold iblk
  rw [View.read_apply]
  show V m c main_v6 _ = V m c main_v6 _
  congr 1
  funext a
  apply Fin.ext
  match a with
  | ⟨0, _⟩ => show win0_6.index t 0 * 8 + 1 * h.val = h.val; rw [hi.1]; omega
  | ⟨1, _⟩ => show win0_6.index t 1 * 1 + 1 * 0 = 0; rw [hi.2]

theorem blk7 (t : Fin cfg0.N) (w : Fin 256) (p : Fin 2048) : iblk m c 7 t (ix3 0 w p) = m ((c : Thread nD τ).loc main_arg7) (ix4 (token t) p ⟨w.val / 64, by omega⟩ ⟨w.val % 64, by omega⟩) := by
  have hi := (index_facts t).2.2.2.2.2.2.2.1
  refine Eq.trans ?_ (host8 m c (token t) ⟨w.val, by omega⟩ p)
  unfold iblk
  rw [View.read_apply]
  show V m c main_v8 _ = V m c main_v8 _
  congr 1
  funext a
  apply Fin.ext
  match a with
  | ⟨0, _⟩ => show win0_7.index t 0 * 1 + 1 * 0 = t.val; rw [hi.1]; omega
  | ⟨1, _⟩ => show win0_7.index t 1 * 256 + 1 * w.val = w.val; rw [hi.2.1]; omega
  | ⟨2, _⟩ => show win0_7.index t 2 * 2048 + 1 * p.val = p.val; rw [hi.2.2]; omega

theorem blk8 (t : Fin cfg0.N) (w : Fin 256) (p : Fin 2048) : iblk m c 8 t (ix3 0 w p) = m ((c : Thread nD τ).loc main_arg7) (ix4 (token t) p ⟨(256 + w.val) / 64, by omega⟩ ⟨(256 + w.val) % 64, by omega⟩) := by
  have hi := (index_facts t).2.2.2.2.2.2.2.2.1
  refine Eq.trans ?_ (host8 m c (token t) ⟨256 + w.val, by omega⟩ p)
  unfold iblk
  rw [View.read_apply]
  show V m c main_v8 _ = V m c main_v8 _
  congr 1
  funext a
  apply Fin.ext
  match a with
  | ⟨0, _⟩ => show win0_8.index t 0 * 1 + 1 * 0 = t.val; rw [hi.1]; omega
  | ⟨1, _⟩ => show win0_8.index t 1 * 256 + 1 * w.val = 256 + w.val; rw [hi.2.1]; omega
  | ⟨2, _⟩ => show win0_8.index t 2 * 2048 + 1 * p.val = p.val; rw [hi.2.2]; omega

theorem blk9 (t : Fin cfg0.N) (w : Fin 256) (p : Fin 2048) : iblk m c 9 t (ix3 0 w p) = m ((c : Thread nD τ).loc main_arg8) (ix4 (token t) p ⟨w.val / 64, by omega⟩ ⟨w.val % 64, by omega⟩) := by
  have hi := (index_facts t).2.2.2.2.2.2.2.2.2.1
  refine Eq.trans ?_ (host10 m c (token t) ⟨w.val, by omega⟩ p)
  unfold iblk
  rw [View.read_apply]
  show V m c main_v10 _ = V m c main_v10 _
  congr 1
  funext a
  apply Fin.ext
  match a with
  | ⟨0, _⟩ => show win0_9.index t 0 * 1 + 1 * 0 = t.val; rw [hi.1]; omega
  | ⟨1, _⟩ => show win0_9.index t 1 * 256 + 1 * w.val = w.val; rw [hi.2.1]; omega
  | ⟨2, _⟩ => show win0_9.index t 2 * 2048 + 1 * p.val = p.val; rw [hi.2.2]; omega

theorem blk10 (t : Fin cfg0.N) (w : Fin 256) (p : Fin 2048) : iblk m c 10 t (ix3 0 w p) = m ((c : Thread nD τ).loc main_arg8) (ix4 (token t) p ⟨(256 + w.val) / 64, by omega⟩ ⟨(256 + w.val) % 64, by omega⟩) := by
  have hi := (index_facts t).2.2.2.2.2.2.2.2.2.2.1
  refine Eq.trans ?_ (host10 m c (token t) ⟨256 + w.val, by omega⟩ p)
  unfold iblk
  rw [View.read_apply]
  show V m c main_v10 _ = V m c main_v10 _
  congr 1
  funext a
  apply Fin.ext
  match a with
  | ⟨0, _⟩ => show win0_10.index t 0 * 1 + 1 * 0 = t.val; rw [hi.1]; omega
  | ⟨1, _⟩ => show win0_10.index t 1 * 256 + 1 * w.val = 256 + w.val; rw [hi.2.1]; omega
  | ⟨2, _⟩ => show win0_10.index t 2 * 2048 + 1 * p.val = p.val; rw [hi.2.2]; omega

theorem blk11 (t : Fin cfg0.N) (w : Fin 128) (p : Fin 128) : iblk m c 11 t (ix3 0 w p) = m ((c : Thread nD τ).loc main_arg9) (ix4 (token t) p ⟨w.val / 64, by omega⟩ ⟨w.val % 64, by omega⟩) := by
  have hi := (index_facts t).2.2.2.2.2.2.2.2.2.2.2.1
  refine Eq.trans ?_ (host12 m c (token t) w p)
  unfold iblk
  rw [View.read_apply]
  show V m c main_v12 _ = V m c main_v12 _
  congr 1
  funext a
  apply Fin.ext
  match a with
  | ⟨0, _⟩ => show win0_11.index t 0 * 1 + 1 * 0 = t.val; rw [hi.1]; omega
  | ⟨1, _⟩ => show win0_11.index t 1 * 128 + 1 * w.val = w.val; rw [hi.2.1]; omega
  | ⟨2, _⟩ => show win0_11.index t 2 * 128 + 1 * p.val = p.val; rw [hi.2.2]; omega

theorem blk12 (t : Fin cfg0.N) (w : Fin 128) (p : Fin 128) : iblk m c 12 t (ix3 0 w p) = m ((c : Thread nD τ).loc main_arg10) (ix4 (token t) p ⟨w.val / 64, by omega⟩ ⟨w.val % 64, by omega⟩) := by
  have hi := (index_facts t).2.2.2.2.2.2.2.2.2.2.2.2.1
  refine Eq.trans ?_ (host14 m c (token t) w p)
  unfold iblk
  rw [View.read_apply]
  show V m c main_v14 _ = V m c main_v14 _
  congr 1
  funext a
  apply Fin.ext
  match a with
  | ⟨0, _⟩ => show win0_12.index t 0 * 1 + 1 * 0 = t.val; rw [hi.1]; omega
  | ⟨1, _⟩ => show win0_12.index t 1 * 128 + 1 * w.val = w.val; rw [hi.2.1]; omega
  | ⟨2, _⟩ => show win0_12.index t 2 * 128 + 1 * p.val = p.val; rw [hi.2.2]; omega

/-- The array of output 15. -/
def arr15 (i : S128x512x2048.Idx) : EReal :=
  kept (m ((c : Thread nD τ).loc main_arg7)) (m ((c : Thread nD τ).loc main_arg1)) (i 0)
    ⟨(i 1).val / 64, by have : (i 1).val < 512 := (i 1).isLt; omega⟩ ⟨(i 1).val % 64, by omega⟩ (Fin.succ (n := 2048) (i 2))

theorem value15 (t : Fin cfg0.N) (w : Fin 512) (p : Fin 2048) :
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 w p) = arr15 m c (ix3 (token t) w p) := by
  rw [block15]
  show moved _ _ _ (ix3 0 w p) = kept _ _ (token t) ⟨w.val / 64, _⟩ ⟨w.val % 64, _⟩ (Fin.succ (n := 2048) p)
  by_cases hp : p.val < 2047
  · refine Eq.trans ?_ (dif_pos (show p.val + 1 < 2048 by omega)).symm
    refine (dif_pos hp).trans ?_
    by_cases hw : w.val < 256
    · exact (dif_pos hw).trans (blk7 m c t ⟨w.val, hw⟩ ⟨p.val + 1, by omega⟩)
    · refine (dif_neg hw).trans ((blk8 m c t ⟨w.val - 256, by omega⟩ ⟨p.val + 1, by omega⟩).trans ?_)
      refine congrArg₂ (fun a b => m ((c : Thread nD τ).loc main_arg7) (ix4 (token t) ⟨p.val + 1, by omega⟩ a b)) (Fin.ext ?_) (Fin.ext ?_)
      · show (256 + (w.val - 256)) / 64 = w.val / 64; omega
      · show (256 + (w.val - 256)) % 64 = w.val % 64; omega
  · refine Eq.trans ?_ (dif_neg (show ¬ p.val + 1 < 2048 by omega)).symm
    refine (dif_neg hp).trans ((blk1 m c t w).trans ?_)
    refine congrArg (fun a => m ((c : Thread nD τ).loc main_arg1) (ix2 (token t) a)) (Fin.ext ?_)
    show w.val = 64 * (w.val / 64) + w.val % 64
    omega

theorem flushed15_eq (t : Fin cfg0.N) : (dats m 0 c).flushed 15 t = ((cfg0.win 15).blk t).view.read (Elt Ideal) (arr15 m c) := by
  rw [Value.flushed15_A]
  funext y
  have hy : y = ix3 (0 : Fin 1) (y 1) (y 2) := by
    refine (eq_ix3 (n0 := 1) (n1 := 512) (n2 := 2048) y).trans ?_
    exact congrArg (fun v => ix3 v (y 1) (y 2)) (Subsingleton.elim (α := Fin 1) _ _)
  refine (congrArg _ hy).trans ((value15 m c t (y 1) (y 2)).trans ?_)
  rw [View.read_apply]
  have hi := (index_facts t).2.2.2.2.2.2.2.2.2.2.2.2.2.2.2.1
  show arr15 m c (ix3 (token t) (y 1) (y 2)) = arr15 m c _
  congr 1
  funext a
  apply Fin.ext
  match a with
  | ⟨0, _⟩ => show t.val = win0_15.index t 0 * 1 + 1 * (y 0).val; rw [hi.1]; have h0 : (y 0).val < 1 := (y 0).isLt; omega
  | ⟨1, _⟩ => show (y 1).val = win0_15.index t 1 * 512 + 1 * (y 1).val; rw [hi.2.1]; omega
  | ⟨2, _⟩ => show (y 2).val = win0_15.index t 2 * 2048 + 1 * (y 2).val; rw [hi.2.2]; omega

theorem cover15 (i : S128x512x2048.Idx) : ∃ t : Fin cfg0.N, (cfg0.win 15).flush t = true ∧ i ∈ ((cfg0.win 15).blk t).view.set := by
  have h0 : (i 0).val < 128 := (i 0).isLt
  have h1 : (i 1).val < 512 := (i 1).isLt
  have h2 : (i 2).val < 2048 := (i 2).isLt
  have hN : cfg0.N = 128 := N_0
  let t : Fin cfg0.N := ⟨(i 0).val, by omega⟩
  refine ⟨t, flush0_15 _, ?_⟩
  show i ∈ ((View.whole main_v15_2).slice (win0_15.rect t)).set
  rw [View.set_slice_whole, Rect.mem_set_unit]
  have hi := (index_facts t).2.2.2.2.2.2.2.2.2.2.2.2.2.2.2.1
  intro a
  match a with
  | ⟨0, _⟩ => show win0_15.index t 0 * 1 ≤ (i 0).val ∧ (i 0).val < win0_15.index t 0 * 1 + 1; rw [hi.1]; show (i 0).val * 1 ≤ (i 0).val ∧ (i 0).val < (i 0).val * 1 + 1; omega
  | ⟨1, _⟩ => show win0_15.index t 1 * 512 ≤ (i 1).val ∧ (i 1).val < win0_15.index t 1 * 512 + 512; rw [hi.2.1]; omega
  | ⟨2, _⟩ => show win0_15.index t 2 * 2048 ≤ (i 2).val ∧ (i 2).val < win0_15.index t 2 * 2048 + 2048; rw [hi.2.2]; omega

theorem final15 : (dats m 0 c).arrAt 15 cfg0.N = arr15 m c :=
  (dats m 0 c).arrAt_eq_of_cover 15 (arr15 m c) (fun t _ => flushed15_eq m c t) cover15

/-- The array of output 16. -/
def arr16 (i : S128x512x2048.Idx) : EReal :=
  kept (m ((c : Thread nD τ).loc main_arg8)) (m ((c : Thread nD τ).loc main_arg2)) (i 0)
    ⟨(i 1).val / 64, by have : (i 1).val < 512 := (i 1).isLt; omega⟩ ⟨(i 1).val % 64, by omega⟩ (Fin.succ (n := 2048) (i 2))

theorem value16 (t : Fin cfg0.N) (w : Fin 512) (p : Fin 2048) :
    out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 w p) = arr16 m c (ix3 (token t) w p) := by
  rw [block16]
  show moved _ _ _ (ix3 0 w p) = kept _ _ (token t) ⟨w.val / 64, _⟩ ⟨w.val % 64, _⟩ (Fin.succ (n := 2048) p)
  by_cases hp : p.val < 2047
  · refine Eq.trans ?_ (dif_pos (show p.val + 1 < 2048 by omega)).symm
    refine (dif_pos hp).trans ?_
    by_cases hw : w.val < 256
    · exact (dif_pos hw).trans (blk9 m c t ⟨w.val, hw⟩ ⟨p.val + 1, by omega⟩)
    · refine (dif_neg hw).trans ((blk10 m c t ⟨w.val - 256, by omega⟩ ⟨p.val + 1, by omega⟩).trans ?_)
      refine congrArg₂ (fun a b => m ((c : Thread nD τ).loc main_arg8) (ix4 (token t) ⟨p.val + 1, by omega⟩ a b)) (Fin.ext ?_) (Fin.ext ?_)
      · show (256 + (w.val - 256)) / 64 = w.val / 64; omega
      · show (256 + (w.val - 256)) % 64 = w.val % 64; omega
  · refine Eq.trans ?_ (dif_neg (show ¬ p.val + 1 < 2048 by omega)).symm
    refine (dif_neg hp).trans ((blk2 m c t w).trans ?_)
    refine congrArg (fun a => m ((c : Thread nD τ).loc main_arg2) (ix2 (token t) a)) (Fin.ext ?_)
    show w.val = 64 * (w.val / 64) + w.val % 64
    omega

theorem flushed16_eq (t : Fin cfg0.N) : (dats m 0 c).flushed 16 t = ((cfg0.win 16).blk t).view.read (Elt Ideal) (arr16 m c) := by
  rw [Value.flushed16_A]
  funext y
  have hy : y = ix3 (0 : Fin 1) (y 1) (y 2) := by
    refine (eq_ix3 (n0 := 1) (n1 := 512) (n2 := 2048) y).trans ?_
    exact congrArg (fun v => ix3 v (y 1) (y 2)) (Subsingleton.elim (α := Fin 1) _ _)
  refine (congrArg _ hy).trans ((value16 m c t (y 1) (y 2)).trans ?_)
  rw [View.read_apply]
  have hi := (index_facts t).2.2.2.2.2.2.2.2.2.2.2.2.2.2.2.2.1
  show arr16 m c (ix3 (token t) (y 1) (y 2)) = arr16 m c _
  congr 1
  funext a
  apply Fin.ext
  match a with
  | ⟨0, _⟩ => show t.val = win0_16.index t 0 * 1 + 1 * (y 0).val; rw [hi.1]; have h0 : (y 0).val < 1 := (y 0).isLt; omega
  | ⟨1, _⟩ => show (y 1).val = win0_16.index t 1 * 512 + 1 * (y 1).val; rw [hi.2.1]; omega
  | ⟨2, _⟩ => show (y 2).val = win0_16.index t 2 * 2048 + 1 * (y 2).val; rw [hi.2.2]; omega

theorem cover16 (i : S128x512x2048.Idx) : ∃ t : Fin cfg0.N, (cfg0.win 16).flush t = true ∧ i ∈ ((cfg0.win 16).blk t).view.set := by
  have h0 : (i 0).val < 128 := (i 0).isLt
  have h1 : (i 1).val < 512 := (i 1).isLt
  have h2 : (i 2).val < 2048 := (i 2).isLt
  have hN : cfg0.N = 128 := N_0
  let t : Fin cfg0.N := ⟨(i 0).val, by omega⟩
  refine ⟨t, flush0_16 _, ?_⟩
  show i ∈ ((View.whole main_v15_3).slice (win0_16.rect t)).set
  rw [View.set_slice_whole, Rect.mem_set_unit]
  have hi := (index_facts t).2.2.2.2.2.2.2.2.2.2.2.2.2.2.2.2.1
  intro a
  match a with
  | ⟨0, _⟩ => show win0_16.index t 0 * 1 ≤ (i 0).val ∧ (i 0).val < win0_16.index t 0 * 1 + 1; rw [hi.1]; show (i 0).val * 1 ≤ (i 0).val ∧ (i 0).val < (i 0).val * 1 + 1; omega
  | ⟨1, _⟩ => show win0_16.index t 1 * 512 ≤ (i 1).val ∧ (i 1).val < win0_16.index t 1 * 512 + 512; rw [hi.2.1]; omega
  | ⟨2, _⟩ => show win0_16.index t 2 * 2048 ≤ (i 2).val ∧ (i 2).val < win0_16.index t 2 * 2048 + 2048; rw [hi.2.2]; omega

theorem final16 : (dats m 0 c).arrAt 16 cfg0.N = arr16 m c :=
  (dats m 0 c).arrAt_eq_of_cover 16 (arr16 m c) (fun t _ => flushed16_eq m c t) cover16

/-- The array of output 17. -/
def arr17 (i : S128x128x128.Idx) : EReal :=
  keptB (m ((c : Thread nD τ).loc main_arg9)) (m ((c : Thread nD τ).loc main_arg4)) (i 0)
    ⟨(i 1).val / 64, by have : (i 1).val < 128 := (i 1).isLt; omega⟩ ⟨(i 1).val % 64, by omega⟩ (Fin.succ (n := 128) (i 2))

theorem value17 (t : Fin cfg0.N) (w : Fin 128) (p : Fin 128) :
    out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 w p) = arr17 m c (ix3 (token t) w p) := by
  rw [block17]
  show _ = keptB _ _ (token t) ⟨w.val / 64, _⟩ ⟨w.val % 64, _⟩ (Fin.succ (n := 128) p)
  by_cases hp : p.val < 127
  · refine Eq.trans ?_ (dif_pos (show p.val + 1 < 128 by omega)).symm
    exact (dif_pos hp).trans (blk11 m c t w ⟨p.val + 1, by omega⟩)
  · refine Eq.trans ?_ (dif_neg (show ¬ p.val + 1 < 128 by omega)).symm
    refine (dif_neg hp).trans ((blk4 m c t w).trans ?_)
    refine congrArg (fun a => m ((c : Thread nD τ).loc main_arg4) (ix2 (token t) a)) (Fin.ext ?_)
    show w.val = 64 * (w.val / 64) + w.val % 64
    omega

theorem flushed17_eq (t : Fin cfg0.N) : (dats m 0 c).flushed 17 t = ((cfg0.win 17).blk t).view.read (Elt Ideal) (arr17 m c) := by
  rw [Value.flushed17_A]
  funext y
  have hy : y = ix3 (0 : Fin 1) (y 1) (y 2) := by
    refine (eq_ix3 (n0 := 1) (n1 := 128) (n2 := 128) y).trans ?_
    exact congrArg (fun v => ix3 v (y 1) (y 2)) (Subsingleton.elim (α := Fin 1) _ _)
  refine (congrArg _ hy).trans ((value17 m c t (y 1) (y 2)).trans ?_)
  rw [View.read_apply]
  have hi := (index_facts t).2.2.2.2.2.2.2.2.2.2.2.2.2.2.2.2.2.1
  show arr17 m c (ix3 (token t) (y 1) (y 2)) = arr17 m c _
  congr 1
  funext a
  apply Fin.ext
  match a with
  | ⟨0, _⟩ => show t.val = win0_17.index t 0 * 1 + 1 * (y 0).val; rw [hi.1]; have h0 : (y 0).val < 1 := (y 0).isLt; omega
  | ⟨1, _⟩ => show (y 1).val = win0_17.index t 1 * 128 + 1 * (y 1).val; rw [hi.2.1]; omega
  | ⟨2, _⟩ => show (y 2).val = win0_17.index t 2 * 128 + 1 * (y 2).val; rw [hi.2.2]; omega

theorem cover17 (i : S128x128x128.Idx) : ∃ t : Fin cfg0.N, (cfg0.win 17).flush t = true ∧ i ∈ ((cfg0.win 17).blk t).view.set := by
  have h0 : (i 0).val < 128 := (i 0).isLt
  have h1 : (i 1).val < 128 := (i 1).isLt
  have h2 : (i 2).val < 128 := (i 2).isLt
  have hN : cfg0.N = 128 := N_0
  let t : Fin cfg0.N := ⟨(i 0).val, by omega⟩
  refine ⟨t, flush0_17 _, ?_⟩
  show i ∈ ((View.whole main_v15_4).slice (win0_17.rect t)).set
  rw [View.set_slice_whole, Rect.mem_set_unit]
  have hi := (index_facts t).2.2.2.2.2.2.2.2.2.2.2.2.2.2.2.2.2.1
  intro a
  match a with
  | ⟨0, _⟩ => show win0_17.index t 0 * 1 ≤ (i 0).val ∧ (i 0).val < win0_17.index t 0 * 1 + 1; rw [hi.1]; show (i 0).val * 1 ≤ (i 0).val ∧ (i 0).val < (i 0).val * 1 + 1; omega
  | ⟨1, _⟩ => show win0_17.index t 1 * 128 ≤ (i 1).val ∧ (i 1).val < win0_17.index t 1 * 128 + 128; rw [hi.2.1]; omega
  | ⟨2, _⟩ => show win0_17.index t 2 * 128 ≤ (i 2).val ∧ (i 2).val < win0_17.index t 2 * 128 + 128; rw [hi.2.2]; omega

theorem final17 : (dats m 0 c).arrAt 17 cfg0.N = arr17 m c :=
  (dats m 0 c).arrAt_eq_of_cover 17 (arr17 m c) (fun t _ => flushed17_eq m c t) cover17

/-- The array of output 18. -/
def arr18 (i : S128x128x128.Idx) : EReal :=
  keptB (m ((c : Thread nD τ).loc main_arg10)) (m ((c : Thread nD τ).loc main_arg5)) (i 0)
    ⟨(i 1).val / 64, by have : (i 1).val < 128 := (i 1).isLt; omega⟩ ⟨(i 1).val % 64, by omega⟩ (Fin.succ (n := 128) (i 2))

theorem value18 (t : Fin cfg0.N) (w : Fin 128) (p : Fin 128) :
    out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 w p) = arr18 m c (ix3 (token t) w p) := by
  rw [block18]
  show _ = keptB _ _ (token t) ⟨w.val / 64, _⟩ ⟨w.val % 64, _⟩ (Fin.succ (n := 128) p)
  by_cases hp : p.val < 127
  · refine Eq.trans ?_ (dif_pos (show p.val + 1 < 128 by omega)).symm
    exact (dif_pos hp).trans (blk12 m c t w ⟨p.val + 1, by omega⟩)
  · refine Eq.trans ?_ (dif_neg (show ¬ p.val + 1 < 128 by omega)).symm
    refine (dif_neg hp).trans ((blk5 m c t w).trans ?_)
    refine congrArg (fun a => m ((c : Thread nD τ).loc main_arg5) (ix2 (token t) a)) (Fin.ext ?_)
    show w.val = 64 * (w.val / 64) + w.val % 64
    omega

theorem flushed18_eq (t : Fin cfg0.N) : (dats m 0 c).flushed 18 t = ((cfg0.win 18).blk t).view.read (Elt Ideal) (arr18 m c) := by
  rw [Value.flushed18_A]
  funext y
  have hy : y = ix3 (0 : Fin 1) (y 1) (y 2) := by
    refine (eq_ix3 (n0 := 1) (n1 := 128) (n2 := 128) y).trans ?_
    exact congrArg (fun v => ix3 v (y 1) (y 2)) (Subsingleton.elim (α := Fin 1) _ _)
  refine (congrArg _ hy).trans ((value18 m c t (y 1) (y 2)).trans ?_)
  rw [View.read_apply]
  have hi := (index_facts t).2.2.2.2.2.2.2.2.2.2.2.2.2.2.2.2.2.2
  show arr18 m c (ix3 (token t) (y 1) (y 2)) = arr18 m c _
  congr 1
  funext a
  apply Fin.ext
  match a with
  | ⟨0, _⟩ => show t.val = win0_18.index t 0 * 1 + 1 * (y 0).val; rw [hi.1]; have h0 : (y 0).val < 1 := (y 0).isLt; omega
  | ⟨1, _⟩ => show (y 1).val = win0_18.index t 1 * 128 + 1 * (y 1).val; rw [hi.2.1]; omega
  | ⟨2, _⟩ => show (y 2).val = win0_18.index t 2 * 128 + 1 * (y 2).val; rw [hi.2.2]; omega

theorem cover18 (i : S128x128x128.Idx) : ∃ t : Fin cfg0.N, (cfg0.win 18).flush t = true ∧ i ∈ ((cfg0.win 18).blk t).view.set := by
  have h0 : (i 0).val < 128 := (i 0).isLt
  have h1 : (i 1).val < 128 := (i 1).isLt
  have h2 : (i 2).val < 128 := (i 2).isLt
  have hN : cfg0.N = 128 := N_0
  let t : Fin cfg0.N := ⟨(i 0).val, by omega⟩
  refine ⟨t, flush0_18 _, ?_⟩
  show i ∈ ((View.whole main_v15_5).slice (win0_18.rect t)).set
  rw [View.set_slice_whole, Rect.mem_set_unit]
  have hi := (index_facts t).2.2.2.2.2.2.2.2.2.2.2.2.2.2.2.2.2.2
  intro a
  match a with
  | ⟨0, _⟩ => show win0_18.index t 0 * 1 ≤ (i 0).val ∧ (i 0).val < win0_18.index t 0 * 1 + 1; rw [hi.1]; show (i 0).val * 1 ≤ (i 0).val ∧ (i 0).val < (i 0).val * 1 + 1; omega
  | ⟨1, _⟩ => show win0_18.index t 1 * 128 ≤ (i 1).val ∧ (i 1).val < win0_18.index t 1 * 128 + 128; rw [hi.2.1]; omega
  | ⟨2, _⟩ => show win0_18.index t 2 * 128 ≤ (i 2).val ∧ (i 2).val < win0_18.index t 2 * 128 + 128; rw [hi.2.2]; omega

theorem final18 : (dats m 0 c).arrAt 18 cfg0.N = arr18 m c :=
  (dats m 0 c).arrAt_eq_of_cover 18 (arr18 m c) (fun t _ => flushed18_eq m c t) cover18

end Cert.KernelSampleIdeal.Hand
-- ==== Proof.SampScores.lean ====
/-
  The scores of the decode kernel's long windows: for every head and kept position the query met with the key. The kernel
  stores them head by head in sixteen tiles each and reads them back whole.
-/
module
public import proofs.«01_k».proof.Proof.SampWindow
@[expose] public section
noncomputable section
namespace Cert.KernelSampleIdeal.Hand
open Idealize.ShloMosaic Idealize.SL.Sem Cert.KernelSampleIdeal Cert.KernelSampleIdeal.Gen Cert.Samp

/-- A row of a long window, from the part that holds it. -/
def rows (lo hi : Vec Ideal S1x256x2048 .f32) (w : Fin 512) (p : Fin 2048) : EReal :=
  if h : w.val < 256 then lo (ix3 0 ⟨w.val, h⟩ p) else hi (ix3 0 ⟨w.val - 256, by omega⟩ p)

theorem rows_low (lo hi : Vec Ideal S1x256x2048 .f32) {a R : ℕ} (h : a = R) (hR : R + 64 ≤ 256) (r : Fin 64) (p : Fin 2048) :
    lo (ix3 0 ⟨a + r.val, by omega⟩ p) = rows lo hi ⟨R + r.val, by omega⟩ p := by
  subst h
  unfold rows
  rw [dif_pos (show a + r.val < 256 by omega)]

theorem rows_high (lo hi : Vec Ideal S1x256x2048 .f32) {a R : ℕ} (h : R = a + 256) (ha : a + 64 ≤ 256) (r : Fin 64) (p : Fin 2048) :
    hi (ix3 0 ⟨a + r.val, by omega⟩ p) = rows lo hi ⟨R + r.val, by omega⟩ p := by
  subst h
  unfold rows
  rw [dif_neg (show ¬ a + 256 + r.val < 256 by omega)]
  refine congrArg (fun q => hi (ix3 0 q p)) (Fin.ext ?_)
  show a + r.val = a + 256 + r.val - 256
  omega

/-- A head's query met with the key of a kept position. -/
def dots (lo hi : Vec Ideal S1x256x2048 .f32) (y : Vec Ideal S1x1x512 .f32) (i : S8x2048.Idx) : EReal :=
  ∑ d : Fin 64, rows lo hi ⟨64 * (i 0).val + d.val, by have : (i 0).val < 8 := (i 0).isLt; omega⟩ ⟨(i 1).val, (i 1).isLt⟩
    * y (ix3 0 0 ⟨64 * (i 0).val + d.val, by have : (i 0).val < 8 := (i 0).isLt; omega⟩)

/-- A tile's rows met with a column, summed. -/
def scoreTile (v col : FVec Ideal S64x128 .f32) : Vec Ideal S1x128 .f32 :=
  shapeCast S1x128 (shapeCast S1x128 (multiReduction .add [0] S128 (mulf v col) 0x00000000#32 reduces_S64x128_S128 (.inl rfl) rfl) shapeCasts_S128_S1x128) shapeCasts_S1x128_S1x128

theorem scoreTile_apply (v col : FVec Ideal S64x128 .f32) (l : Fin 128) :
    scoreTile v col (ix2 0 l) = ∑ r : Fin 64, v (ix2 r l) * col (ix2 r l) := by
  unfold scoreTile
  pointwise

section Pieces

variable (arg : Memref sig .tc .vmem S1x256x2048 .f32) (harg : arg.IsWhole) (x : Vec Ideal S1x256x2048 .f32)

/-- What the kernel stores of one head's scores, last tile last. -/
def scorePieces (col : FVec Ideal S64x128 .f32) (h a : ℕ) (hh : h + 1 ≤ 8) (ha : a + 64 ≤ 256) :
    List (View.Piece (Elt Ideal) S8x2048 .f32) :=
  [⟨Rect.unit (s := S8x2048) ![h, 0] S1x128.size (fits_scores hh (by omega)), scoreTile (tile arg harg x a 0 ha (by omega)) col⟩,
   ⟨Rect.unit (s := S8x2048) ![h, 128] S1x128.size (fits_scores hh (by omega)), scoreTile (tile arg harg x a 128 ha (by omega)) col⟩,
   ⟨Rect.unit (s := S8x2048) ![h, 256] S1x128.size (fits_scores hh (by omega)), scoreTile (tile arg harg x a 256 ha (by omega)) col⟩,
   ⟨Rect.unit (s := S8x2048) ![h, 384] S1x128.size (fits_scores hh (by omega)), scoreTile (tile arg harg x a 384 ha (by omega)) col⟩,
   ⟨Rect.unit (s := S8x2048) ![h, 512] S1x128.size (fits_scores hh (by omega)), scoreTile (tile arg harg x a 512 ha (by omega)) col⟩,
   ⟨Rect.unit (s := S8x2048) ![h, 640] S1x128.size (fits_scores hh (by omega)), scoreTile (tile arg harg x a 640 ha (by omega)) col⟩,
   ⟨Rect.unit (s := S8x2048) ![h, 768] S1x128.size (fits_scores hh (by omega)), scoreTile (tile arg harg x a 768 ha (by omega)) col⟩,
   ⟨Rect.unit (s := S8x2048) ![h, 896] S1x128.size (fits_scores hh (by omega)), scoreTile (tile arg harg x a 896 ha (by omega)) col⟩,
   ⟨Rect.unit (s := S8x2048) ![h, 1024] S1x128.size (fits_scores hh (by omega)), scoreTile (tile arg harg x a 1024 ha (by omega)) col⟩,
   ⟨Rect.unit (s := S8x2048) ![h, 1152] S1x128.size (fits_scores hh (by omega)), scoreTile (tile arg harg x a 1152 ha (by omega)) col⟩,
   ⟨Rect.unit (s := S8x2048) ![h, 1280] S1x128.size (fits_scores hh (by omega)), scoreTile (tile arg harg x a 1280 ha (by omega)) col⟩,
   ⟨Rect.unit (s := S8x2048) ![h, 1408] S1x128.size (fits_scores hh (by omega)), scoreTile (tile arg harg x a 1408 ha (by omega)) col⟩,
   ⟨Rect.unit (s := S8x2048) ![h, 1536] S1x128.size (fits_scores hh (by omega)), scoreTile (tile arg harg x a 1536 ha (by omega)) col⟩,
   ⟨Rect.unit (s := S8x2048) ![h, 1664] S1x128.size (fits_scores hh (by omega)), scoreTile (tile arg harg x a 1664 ha (by omega)) col⟩,
   ⟨Rect.unit (s := S8x2048) ![h, 1792] S1x128.size (fits_scores hh (by omega)), scoreTile (tile arg harg x a 1792 ha (by omega)) col⟩,
   ⟨Rect.unit (s := S8x2048) ![h, 1920] S1x128.size (fits_scores hh (by omega)), scoreTile (tile arg harg x a 1920 ha (by omega)) col⟩]

theorem at_scores {h b : ℕ} (hh : h + 1 ≤ 8) (hb : b + 128 ≤ 2048) (l : Fin 128) :
    (Rect.unit (s := S8x2048) ![h, b] S1x128.size (fits_scores hh hb)).emb (ix2 0 l) = ix2 ⟨h, by omega⟩ ⟨b + l.val, by omega⟩ := by
  funext a
  refine Fin.ext ?_
  match a with
  | ⟨0, _⟩ => exact (show h + 1 * 0 = h by omega)
  | ⟨1, _⟩ => exact (show b + 1 * l.val = b + l.val by omega)

theorem score_agrees (lo hi : Vec Ideal S1x256x2048 .f32) (y : Vec Ideal S1x1x512 .f32) (col : FVec Ideal S64x128 .f32)
    {h a b : ℕ} (hh : h + 1 ≤ 8) (ha : a + 64 ≤ 256) (hb : b + 128 ≤ 2048)
    (hx : ∀ (r : Fin 64) (p : Fin 2048), x (ix3 0 ⟨a + r.val, by omega⟩ p) = rows lo hi ⟨64 * h + r.val, by omega⟩ p)
    (hc : ∀ (r : Fin 64) (l : Fin 128), col (ix2 r l) = y (ix3 0 0 ⟨64 * h + r.val, by omega⟩)) :
    ∀ i, scoreTile (tile arg harg x a b ha hb) col i
      = dots lo hi y ((Rect.unit (s := S8x2048) ![h, b] S1x128.size (fits_scores hh hb)).emb i) := by
  intro i
  have e : i = ix2 (0 : Fin 1) (⟨(i 1).val, (i 1).isLt⟩ : Fin 128) := by
    refine (ValueIdx.eq_ix2 (n0 := 1) (n1 := 128) i).trans ?_
    exact congrArg (fun v => ix2 v (⟨(i 1).val, (i 1).isLt⟩ : Fin 128)) (Subsingleton.elim (α := Fin 1) _ _)
  generalize (⟨(i 1).val, (i 1).isLt⟩ : Fin 128) = l at e
  subst e
  rw [at_scores hh hb l, scoreTile_apply]
  refine Finset.sum_congr rfl fun d _ => ?_
  rw [tile_apply, hx, hc]
  rfl

theorem scores_agree (lo hi : Vec Ideal S1x256x2048 .f32) (y : Vec Ideal S1x1x512 .f32) (col : FVec Ideal S64x128 .f32)
    (h a : ℕ) (hh : h + 1 ≤ 8) (ha : a + 64 ≤ 256)
    (hx : ∀ (r : Fin 64) (p : Fin 2048), x (ix3 0 ⟨a + r.val, by omega⟩ p) = rows lo hi ⟨64 * h + r.val, by omega⟩ p)
    (hc : ∀ (r : Fin 64) (l : Fin 128), col (ix2 r l) = y (ix3 0 0 ⟨64 * h + r.val, by omega⟩)) :
    ∀ p ∈ scorePieces arg harg x col h a hh ha, ∀ i, p.2 i = dots lo hi y (p.1.emb i) := by
  unfold scorePieces
  refine List.forall_mem_cons.mpr ⟨score_agrees arg harg x lo hi y col (b := 0) hh ha (by omega) hx hc, ?_⟩
  refine List.forall_mem_cons.mpr ⟨score_agrees arg harg x lo hi y col (b := 128) hh ha (by omega) hx hc, ?_⟩
  refine List.forall_mem_cons.mpr ⟨score_agrees arg harg x lo hi y col (b := 256) hh ha (by omega) hx hc, ?_⟩
  refine List.forall_mem_cons.mpr ⟨score_agrees arg harg x lo hi y col (b := 384) hh ha (by omega) hx hc, ?_⟩
  refine List.forall_mem_cons.mpr ⟨score_agrees arg harg x lo hi y col (b := 512) hh ha (by omega) hx hc, ?_⟩
  refine List.forall_mem_cons.mpr ⟨score_agrees arg harg x lo hi y col (b := 640) hh ha (by omega) hx hc, ?_⟩
  refine List.forall_mem_cons.mpr ⟨score_agrees arg harg x lo hi y col (b := 768) hh ha (by omega) hx hc, ?_⟩
  refine List.forall_mem_cons.mpr ⟨score_agrees arg harg x lo hi y col (b := 896) hh ha (by omega) hx hc, ?_⟩
  refine List.forall_mem_cons.mpr ⟨score_agrees arg harg x lo hi y col (b := 1024) hh ha (by omega) hx hc, ?_⟩
  refine List.forall_mem_cons.mpr ⟨score_agrees arg harg x lo hi y col (b := 1152) hh ha (by omega) hx hc, ?_⟩
  refine List.forall_mem_cons.mpr ⟨score_agrees arg harg x lo hi y col (b := 1280) hh ha (by omega) hx hc, ?_⟩
  refine List.forall_mem_cons.mpr ⟨score_agrees arg harg x lo hi y col (b := 1408) hh ha (by omega) hx hc, ?_⟩
  refine List.forall_mem_cons.mpr ⟨score_agrees arg harg x lo hi y col (b := 1536) hh ha (by omega) hx hc, ?_⟩
  refine List.forall_mem_cons.mpr ⟨score_agrees arg harg x lo hi y col (b := 1664) hh ha (by omega) hx hc, ?_⟩
  refine List.forall_mem_cons.mpr ⟨score_agrees arg harg x lo hi y col (b := 1792) hh ha (by omega) hx hc, ?_⟩
  refine List.forall_mem_cons.mpr ⟨score_agrees arg harg x lo hi y col (b := 1920) hh ha (by omega) hx hc, ?_⟩
  exact List.forall_mem_nil _

end Pieces

variable (c : Dev nD) (i : grid0.Coords)
  (arg1 : Memref sig .tc .vmem S1x1x512 .f32) (harg1 : arg1.IsWhole)
  (arg2 : Memref sig .tc .vmem S1x1x512 .f32) (harg2 : arg2.IsWhole)
  (arg3 : Memref sig .tc .vmem S1x1x512 .f32) (harg3 : arg3.IsWhole)
  (arg4 : Memref sig .tc .vmem S1x1x512 .f32) (harg4 : arg4.IsWhole)
  (arg5 : Memref sig .tc .vmem S1x1x128 .f32) (harg5 : arg5.IsWhole)
  (arg6 : Memref sig .tc .vmem S1x1x128 .f32) (harg6 : arg6.IsWhole)
  (arg7 : Memref sig .tc .vmem S8x1 .f32) (harg7 : arg7.IsWhole)
  (arg8 : Memref sig .tc .vmem S1x256x2048 .f32) (harg8 : arg8.IsWhole)
  (arg9 : Memref sig .tc .vmem S1x256x2048 .f32) (harg9 : arg9.IsWhole)
  (arg10 : Memref sig .tc .vmem S1x256x2048 .f32) (harg10 : arg10.IsWhole)
  (arg11 : Memref sig .tc .vmem S1x256x2048 .f32) (harg11 : arg11.IsWhole)
  (arg12 : Memref sig .tc .vmem S1x128x128 .f32) (harg12 : arg12.IsWhole)
  (arg13 : Memref sig .tc .vmem S1x128x128 .f32) (harg13 : arg13.IsWhole)
  (arg14 : Memref sig .tc .vmem S1x1x512 .f32) (harg14 : arg14.IsWhole)
  (arg15 : Memref sig .tc .vmem S1x1x512 .f32) (harg15 : arg15.IsWhole)
  (arg16 : Memref sig .tc .vmem S1x512x2048 .f32) (harg16 : arg16.IsWhole)
  (arg17 : Memref sig .tc .vmem S1x512x2048 .f32) (harg17 : arg17.IsWhole)
  (arg18 : Memref sig .tc .vmem S1x128x128 .f32) (harg18 : arg18.IsWhole)
  (arg19 : Memref sig .tc .vmem S1x128x128 .f32) (harg19 : arg19.IsWhole)
  (arg20 : Memref sig .tc .vmem S8x2048 .f32) (harg20 : arg20.IsWhole)
  (arg21 : Memref sig .tc .vmem S512x128 .f32) (harg21 : arg21.IsWhole)
  (x0 : Vec Ideal S1x1x512 .f32) (x1 : Vec Ideal S1x1x512 .f32) (x2 : Vec Ideal S1x1x512 .f32) (x3 : Vec Ideal S1x1x512 .f32) (x4 : Vec Ideal S1x1x128 .f32) (x5 : Vec Ideal S1x1x128 .f32) (x6 : Vec Ideal S8x1 .f32) (x7 : Vec Ideal S1x256x2048 .f32) (x8 : Vec Ideal S1x256x2048 .f32) (x9 : Vec Ideal S1x256x2048 .f32) (x10 : Vec Ideal S1x256x2048 .f32) (x11 : Vec Ideal S1x128x128 .f32) (x12 : Vec Ideal S1x128x128 .f32)

theorem pieces_scores : kernelRun0_A.sl.HS0_128 (F := Ideal) c arg1 harg1 arg8 harg8 arg9 harg9 x0 x7 x8 =
  scorePieces arg9 harg9 x8 (extractStridedSlice S64x128 ![448, 0] (column arg1 harg1 x0) slices_S512x128_o448_0_S64x128) 7 192 (by omega) (by omega)
    ++ scorePieces arg9 harg9 x8 (extractStridedSlice S64x128 ![384, 0] (column arg1 harg1 x0) slices_S512x128_o384_0_S64x128) 6 128 (by omega) (by omega)
    ++ scorePieces arg9 harg9 x8 (extractStridedSlice S64x128 ![320, 0] (column arg1 harg1 x0) slices_S512x128_o320_0_S64x128) 5 64 (by omega) (by omega)
    ++ scorePieces arg9 harg9 x8 (extractStridedSlice S64x128 ![256, 0] (column arg1 harg1 x0) slices_S512x128_o256_0_S64x128) 4 0 (by omega) (by omega)
    ++ scorePieces arg8 harg8 x7 (extractStridedSlice S64x128 ![192, 0] (column arg1 harg1 x0) slices_S512x128_o192_0_S64x128) 3 192 (by omega) (by omega)
    ++ scorePieces arg8 harg8 x7 (extractStridedSlice S64x128 ![128, 0] (column arg1 harg1 x0) slices_S512x128_o128_0_S64x128) 2 128 (by omega) (by omega)
    ++ scorePieces arg8 harg8 x7 (extractStridedSlice S64x128 ![64, 0] (column arg1 harg1 x0) slices_S512x128_o64_0_S64x128) 1 64 (by omega) (by omega)
    ++ scorePieces arg8 harg8 x7 (extractStridedSlice S64x128 ![0, 0] (column arg1 harg1 x0) slices_S512x128_o0_0_S64x128) 0 0 (by omega) (by omega) := rfl

theorem agrees_scores : ∀ p ∈ kernelRun0_A.sl.HS0_128 (F := Ideal) c arg1 harg1 arg8 harg8 arg9 harg9 x0 x7 x8, ∀ i, p.2 i = dots x7 x8 x0 (p.1.emb i) := by
  rw [pieces_scores]
  simp only [List.forall_mem_append]
  refine ⟨⟨⟨⟨⟨⟨⟨?_, ?_⟩, ?_⟩, ?_⟩, ?_⟩, ?_⟩, ?_⟩, ?_⟩
  · refine scores_agree _ _ _ x7 x8 x0 _ 7 192 _ _ (rows_high _ _ rfl (by omega)) fun r l => ?_
    pointwise [column_apply]
  · refine scores_agree _ _ _ x7 x8 x0 _ 6 128 _ _ (rows_high _ _ rfl (by omega)) fun r l => ?_
    pointwise [column_apply]
  · refine scores_agree _ _ _ x7 x8 x0 _ 5 64 _ _ (rows_high _ _ rfl (by omega)) fun r l => ?_
    pointwise [column_apply]
  · refine scores_agree _ _ _ x7 x8 x0 _ 4 0 _ _ (rows_high _ _ rfl (by omega)) fun r l => ?_
    pointwise [column_apply]
  · refine scores_agree _ _ _ x7 x8 x0 _ 3 192 _ _ (rows_low _ _ rfl (by omega)) fun r l => ?_
    pointwise [column_apply]
  · refine scores_agree _ _ _ x7 x8 x0 _ 2 128 _ _ (rows_low _ _ rfl (by omega)) fun r l => ?_
    pointwise [column_apply]
  · refine scores_agree _ _ _ x7 x8 x0 _ 1 64 _ _ (rows_low _ _ rfl (by omega)) fun r l => ?_
    pointwise [column_apply]
  · refine scores_agree _ _ _ x7 x8 x0 _ 0 0 _ _ (rows_low _ _ rfl (by omega)) fun r l => ?_
    pointwise [column_apply]

theorem cover_scores (y : S8x2048.Idx) : ∃ p ∈ kernelRun0_A.sl.HS0_128 (F := Ideal) c arg1 harg1 arg8 harg8 arg9 harg9 x0 x7 x8, y ∈ p.1.set :=
  View.cover_of_tiledL (kernelRun0_A.sl.HS0_128 (F := Ideal) c arg1 harg1 arg8 harg8 arg9 harg9 x0 x7 x8) S1x128.size (by sl_kernel_rfl) y

theorem whole_ld (f : Vec Ideal S8x2048 .f32) (i : S8x2048.Idx) :
    View.ld (Val := Elt Ideal) (e' := .f32) f (Rect.unit ![0, 0] S8x2048.size inb_S8x2048_S8x2048_0_0) i = f i := by
  refine congrArg f ?_
  funext a
  refine Fin.ext ?_
  match a with
  | ⟨0, _⟩ => exact (show 0 + 1 * (i 0).val = (i 0).val by omega)
  | ⟨1, _⟩ => exact (show 0 + 1 * (i 1).val = (i 1).val by omega)

/-- The scores read back. -/
theorem scores_read : kernelRun0_A.sl.v1990 (F := Ideal) c arg1 harg1 arg8 harg8 arg9 harg9 arg20 x0 x7 x8 = dots x7 x8 x0 := by
  funext y
  unfold kernelRun0_A.sl.v1990
  rw [View.readCov_eq_canon_ld _ _ _ (cover_scores c arg1 harg1 arg8 harg8 arg9 harg9 x0 x7 x8)]
  refine (whole_ld _ y).trans ?_
  exact View.canon_apply_of_pieces _ _ (agrees_scores c arg1 harg1 arg8 harg8 arg9 harg9 x0 x7 x8) y (cover_scores c arg1 harg1 arg8 harg8 arg9 harg9 x0 x7 x8 y)

end Cert.KernelSampleIdeal.Hand
-- ==== Proof.SampWeights.lean ====
/-
  The three softmaxes of the long heads' scores and the mixing of them, as the decode kernel weighs its positions: each
  softmax reaches every first, fourth or sixteenth kept position of its stretch, and the new one.
-/
module
public import proofs.«01_k».proof.Proof.SampScores
@[expose] public section
noncomputable section
namespace Cert.KernelSampleIdeal.Hand
open Idealize.ShloMosaic Idealize.SL.Sem Cert.KernelSampleIdeal Cert.KernelSampleIdeal.Gen Cert.Samp

section Softmax

variable (M : FVec Ideal S8x2048 .f32) (z : FVec Ideal S8x1 .f32)

def topV : FVec Ideal S8x1 .f32 :=
  maximumf (shapeCast S8x1 (multiReduction .maximumf [1] S8 M 0xFF800000#32 reduces_S8x2048_S8 (.inl rfl) rfl) shapeCasts_S8_S8x1) z

def expV : FVec Ideal S8x2048 .f32 := exp (subf M (broadcastTo S8x2048 (topV M z) broadcasts_S8x1_S8x2048))

def expNewV : FVec Ideal S8x1 .f32 := exp (subf z (topV M z))

def totalV : FVec Ideal S8x1 .f32 :=
  addf (shapeCast S8x1 (multiReduction .add [1] S8 (expV M z) 0x00000000#32 reduces_S8x2048_S8 (.inl rfl) rfl) shapeCasts_S8_S8x1) (expNewV M z)

def shareV : FVec Ideal S8x2048 .f32 := divf (expV M z) (broadcastTo S8x2048 (totalV M z) broadcasts_S8x1_S8x2048)

def shareNewV : FVec Ideal S8x1 .f32 := divf (expNewV M z) (totalV M z)

def lseV : FVec Ideal S8x1 .f32 := addf (topV M z) (log (totalV M z))

variable (h : Fin 8)

theorem topV_apply : topV M z (ix2 h 0) = top (fun p => M (ix2 h p)) (z (ix2 h 0)) := by
  unfold topV
  pointwise
  rw [lowest, fold_max_bot]
  rfl

theorem expV_apply (p : Fin 2048) :
    expV M z (ix2 h p) = Ideal.exp (M (ix2 h p) - top (fun p => M (ix2 h p)) (z (ix2 h 0))) := by
  unfold expV
  pointwise [topV_apply]

theorem expNewV_apply : expNewV M z (ix2 h 0) = Ideal.exp (z (ix2 h 0) - top (fun p => M (ix2 h p)) (z (ix2 h 0))) := by
  unfold expNewV
  pointwise [topV_apply]

theorem totalV_apply : totalV M z (ix2 h 0) = total (fun p => M (ix2 h p)) (z (ix2 h 0)) := by
  unfold totalV
  pointwise [expV_apply, expNewV_apply]
  rfl

theorem shareV_apply (p : Fin 2048) : shareV M z (ix2 h p) = share (fun p => M (ix2 h p)) (z (ix2 h 0)) p := by
  unfold shareV
  pointwise [expV_apply, totalV_apply]
  rfl

theorem shareNewV_apply : shareNewV M z (ix2 h 0) = shareNew (fun p => M (ix2 h p)) (z (ix2 h 0)) := by
  unfold shareNewV
  pointwise [expNewV_apply, totalV_apply]
  rfl

theorem lseV_apply : lseV M z (ix2 h 0) = lse (fun p => M (ix2 h p)) (z (ix2 h 0)) := by
  unfold lseV
  pointwise [topV_apply, totalV_apply]
  rfl

end Softmax

section Mix

variable (l1 l2 l3 : FVec Ideal S8x1 .f32)

def leadV (l : FVec Ideal S8x1 .f32) : FVec Ideal S8x1 .f32 := exp (subf l (maximumf (maximumf l1 l2) l3))

def wholeV : FVec Ideal S8x1 .f32 :=
  divf (broadcast S8x1 (Scalar.ofBits (F := Ideal) .f32 0x3F800000#32)) (addf (addf (leadV l1 l2 l3 l1) (leadV l1 l2 l3 l2)) (leadV l1 l2 l3 l3))

def mixV (s1 s2 s3 : FVec Ideal S8x2048 .f32) : FVec Ideal S8x2048 .f32 :=
  mulf (addf (addf (mulf (broadcastTo S8x2048 (leadV l1 l2 l3 l1) broadcasts_S8x1_S8x2048) s1)
    (mulf (broadcastTo S8x2048 (leadV l1 l2 l3 l2) broadcasts_S8x1_S8x2048) s2))
    (mulf (broadcastTo S8x2048 (leadV l1 l2 l3 l3) broadcasts_S8x1_S8x2048) s3))
    (broadcastTo S8x2048 (wholeV l1 l2 l3) broadcasts_S8x1_S8x2048)

def mixNewV (q1 q2 q3 : FVec Ideal S8x1 .f32) : FVec Ideal S8x1 .f32 :=
  mulf (addf (addf (mulf (leadV l1 l2 l3 l1) q1) (mulf (leadV l1 l2 l3 l2) q2)) (mulf (leadV l1 l2 l3 l3) q3)) (wholeV l1 l2 l3)

variable (h : Fin 8)

theorem leadV_apply (l : FVec Ideal S8x1 .f32) :
    leadV l1 l2 l3 l (ix2 h 0) = expTop (l1 (ix2 h 0)) (l2 (ix2 h 0)) (l3 (ix2 h 0)) (l (ix2 h 0)) := by
  unfold leadV
  pointwise
  rfl

theorem wholeV_apply : wholeV l1 l2 l3 (ix2 h 0) = Ideal.div 1 (expSum (l1 (ix2 h 0)) (l2 (ix2 h 0)) (l3 (ix2 h 0))) := by
  unfold wholeV
  pointwise [leadV_apply]
  rfl

theorem mixV_apply (s1 s2 s3 : FVec Ideal S8x2048 .f32) (p : Fin 2048) :
    mixV l1 l2 l3 s1 s2 s3 (ix2 h p)
      = (expTop (l1 (ix2 h 0)) (l2 (ix2 h 0)) (l3 (ix2 h 0)) (l1 (ix2 h 0)) * s1 (ix2 h p)
          + expTop (l1 (ix2 h 0)) (l2 (ix2 h 0)) (l3 (ix2 h 0)) (l2 (ix2 h 0)) * s2 (ix2 h p)
          + expTop (l1 (ix2 h 0)) (l2 (ix2 h 0)) (l3 (ix2 h 0)) (l3 (ix2 h 0)) * s3 (ix2 h p))
        * Ideal.div 1 (expSum (l1 (ix2 h 0)) (l2 (ix2 h 0)) (l3 (ix2 h 0))) := by
  unfold mixV
  pointwise [leadV_apply, wholeV_apply]

theorem mixNewV_apply (q1 q2 q3 : FVec Ideal S8x1 .f32) :
    mixNewV l1 l2 l3 q1 q2 q3 (ix2 h 0)
      = (expTop (l1 (ix2 h 0)) (l2 (ix2 h 0)) (l3 (ix2 h 0)) (l1 (ix2 h 0)) * q1 (ix2 h 0)
          + expTop (l1 (ix2 h 0)) (l2 (ix2 h 0)) (l3 (ix2 h 0)) (l2 (ix2 h 0)) * q2 (ix2 h 0)
          + expTop (l1 (ix2 h 0)) (l2 (ix2 h 0)) (l3 (ix2 h 0)) (l3 (ix2 h 0)) * q3 (ix2 h 0))
        * Ideal.div 1 (expSum (l1 (ix2 h 0)) (l2 (ix2 h 0)) (l3 (ix2 h 0))) := by
  unfold mixNewV
  pointwise [leadV_apply, wholeV_apply]

end Mix

/-- A kept position that one of the softmaxes reaches: from a start on, every so many positions. -/
def Reached (start step : ℕ) (p : Fin 2048) : Prop := start ≤ p.val ∧ p.val % step = 0

instance (start step : ℕ) : DecidablePred (Reached start step) := fun _ => inferInstanceAs (Decidable (_ ∧ _))

/-- The kernel's numbering of the positions. -/
def place : IVec S8x2048 32 := iota .tc S8x2048 32 [1] iota_S8x2048_d1_w32

theorem lane_reach1 (p : Fin 2048) :
    (IntOp.andi (IntOp.cmpi CmpIPredicate.sge (BitVec.ofNat 32 p.val) 1920#32)
        (IntOp.cmpi CmpIPredicate.eq
          (Scalar.select
            (IntOp.andi
              (IntOp.xori
                (IntOp.cmpi CmpIPredicate.slt (IntOp.remsi ArithUnit.vector (BitVec.ofNat 32 p.val) 1#32) 0#32)
                (Scalar.cmpi CmpIPredicate.slt 1#32 0#32))
              (IntOp.cmpi CmpIPredicate.ne (IntOp.remsi ArithUnit.vector (BitVec.ofNat 32 p.val) 1#32) 0#32))
            (IntOp.addi (IntOp.remsi ArithUnit.vector (BitVec.ofNat 32 p.val) 1#32) 1#32)
            (IntOp.remsi ArithUnit.vector (BitVec.ofNat 32 p.val) 1#32))
          0#32)) = if Reached 1920 1 p then 1#1 else 0#1 := by
  revert p
  decide +kernel

theorem lane_reach4 (p : Fin 2048) :
    (IntOp.andi (IntOp.cmpi CmpIPredicate.sge (BitVec.ofNat 32 p.val) 1536#32)
        (IntOp.cmpi CmpIPredicate.eq
          (Scalar.select
            (IntOp.andi
              (IntOp.xori
                (IntOp.cmpi CmpIPredicate.slt (IntOp.remsi ArithUnit.vector (BitVec.ofNat 32 p.val) 4#32) 0#32)
                (Scalar.cmpi CmpIPredicate.slt 4#32 0#32))
              (IntOp.cmpi CmpIPredicate.ne (IntOp.remsi ArithUnit.vector (BitVec.ofNat 32 p.val) 4#32) 0#32))
            (IntOp.addi (IntOp.remsi ArithUnit.vector (BitVec.ofNat 32 p.val) 4#32) 4#32)
            (IntOp.remsi ArithUnit.vector (BitVec.ofNat 32 p.val) 4#32))
          0#32)) = if Reached 1536 4 p then 1#1 else 0#1 := by
  revert p
  decide +kernel

theorem lane_reach16 (p : Fin 2048) :
    (IntOp.andi (IntOp.cmpi CmpIPredicate.sge (BitVec.ofNat 32 p.val) 0#32)
        (IntOp.cmpi CmpIPredicate.eq
          (Scalar.select
            (IntOp.andi
              (IntOp.xori
                (IntOp.cmpi CmpIPredicate.slt (IntOp.remsi ArithUnit.vector (BitVec.ofNat 32 p.val) 16#32) 0#32)
                (Scalar.cmpi CmpIPredicate.slt 16#32 0#32))
              (IntOp.cmpi CmpIPredicate.ne (IntOp.remsi ArithUnit.vector (BitVec.ofNat 32 p.val) 16#32) 0#32))
            (IntOp.addi (IntOp.remsi ArithUnit.vector (BitVec.ofNat 32 p.val) 16#32) 16#32)
            (IntOp.remsi ArithUnit.vector (BitVec.ofNat 32 p.val) 16#32))
          0#32)) = if Reached 0 16 p then 1#1 else 0#1 := by
  revert p
  decide +kernel

/-- Choosing between a score and the lowest by a position's mark. -/
theorem pick {c : BitVec 1} (start step : ℕ) (f : Fin 2048 → EReal) (p : Fin 2048)
    (hc : c = if Reached start step p then 1#1 else 0#1) :
    Scalar.select c (f p) (Named.named (F := Ideal) (φ := .f32) κ "mask" 4048155338#32) = masked (Reached start step) f p := by
  subst hc
  unfold masked
  by_cases h : Reached start step p
  · rw [if_pos h, if_pos h]; rfl
  · rw [if_neg h, if_neg h]; rfl

theorem reach1_apply (y : FVec Ideal S8x2048 .f32) (h : Fin 8) (p : Fin 2048) :
    (k0_pay565 y : FVec Ideal S8x2048 .f32) (ix2 h p) = masked (Reached 1920 1) (fun p => (k0_pay564 y : FVec Ideal S8x2048 .f32) (ix2 h p)) p := by
  unfold k0_pay565
  pointwise
  exact pick 1920 1 (fun p => (k0_pay564 y : FVec Ideal S8x2048 .f32) (ix2 h p)) p (lane_reach1 p)

theorem reach4_apply (y : FVec Ideal S8x2048 .f32) (h : Fin 8) (p : Fin 2048) :
    k0_pay574 y place (ix2 h p) = masked (Reached 1536 4) (fun p => y (ix2 h p)) p := by
  unfold k0_pay574 place
  pointwise
  exact pick 1536 4 (fun p => y (ix2 h p)) p (lane_reach4 p)

theorem reach16_apply (y : FVec Ideal S8x2048 .f32) (h : Fin 8) (p : Fin 2048) :
    k0_pay583 y place (k0_pay582 place) 16#32 0#1 (ix2 h p) = masked (Reached 0 16) (fun p => y (ix2 h p)) p := by
  unfold k0_pay583 k0_pay582 place
  pointwise
  exact pick 0 16 (fun p => y (ix2 h p)) p (lane_reach16 p)

/-- A head's scores of the kept positions, and of the new one. -/
def longScore (x7 x8 : Vec Ideal S1x256x2048 .f32) (x0 : Vec Ideal S1x1x512 .f32) (h : Fin 8) (p : Fin 2048) : EReal :=
  dots x7 x8 x0 (ix2 h p) * Ideal.ofBits FTy.f32 0x3E000000#32

def longNew (x0 x1 : Vec Ideal S1x1x512 .f32) (h : Fin 8) : EReal :=
  (∑ d : Fin 64, x0 (ix3 0 0 ⟨64 * h.val + d.val, by omega⟩) * x1 (ix3 0 0 ⟨64 * h.val + d.val, by omega⟩))
    * Ideal.ofBits FTy.f32 0x3E000000#32

def longLse (start step : ℕ) (x7 x8 : Vec Ideal S1x256x2048 .f32) (x0 x1 : Vec Ideal S1x1x512 .f32) (h : Fin 8) : EReal :=
  lse (masked (Reached start step) (longScore x7 x8 x0 h)) (longNew x0 x1 h)

variable (c : Dev nD) (i : grid0.Coords)
  (arg1 : Memref sig .tc .vmem S1x1x512 .f32) (harg1 : arg1.IsWhole)
  (arg2 : Memref sig .tc .vmem S1x1x512 .f32) (harg2 : arg2.IsWhole)
  (arg3 : Memref sig .tc .vmem S1x1x512 .f32) (harg3 : arg3.IsWhole)
  (arg4 : Memref sig .tc .vmem S1x1x512 .f32) (harg4 : arg4.IsWhole)
  (arg5 : Memref sig .tc .vmem S1x1x128 .f32) (harg5 : arg5.IsWhole)
  (arg6 : Memref sig .tc .vmem S1x1x128 .f32) (harg6 : arg6.IsWhole)
  (arg7 : Memref sig .tc .vmem S8x1 .f32) (harg7 : arg7.IsWhole)
  (arg8 : Memref sig .tc .vmem S1x256x2048 .f32) (harg8 : arg8.IsWhole)
  (arg9 : Memref sig .tc .vmem S1x256x2048 .f32) (harg9 : arg9.IsWhole)
  (arg10 : Memref sig .tc .vmem S1x256x2048 .f32) (harg10 : arg10.IsWhole)
  (arg11 : Memref sig .tc .vmem S1x256x2048 .f32) (harg11 : arg11.IsWhole)
  (arg12 : Memref sig .tc .vmem S1x128x128 .f32) (harg12 : arg12.IsWhole)
  (arg13 : Memref sig .tc .vmem S1x128x128 .f32) (harg13 : arg13.IsWhole)
  (arg14 : Memref sig .tc .vmem S1x1x512 .f32) (harg14 : arg14.IsWhole)
  (arg15 : Memref sig .tc .vmem S1x1x512 .f32) (harg15 : arg15.IsWhole)
  (arg16 : Memref sig .tc .vmem S1x512x2048 .f32) (harg16 : arg16.IsWhole)
  (arg17 : Memref sig .tc .vmem S1x512x2048 .f32) (harg17 : arg17.IsWhole)
  (arg18 : Memref sig .tc .vmem S1x128x128 .f32) (harg18 : arg18.IsWhole)
  (arg19 : Memref sig .tc .vmem S1x128x128 .f32) (harg19 : arg19.IsWhole)
  (arg20 : Memref sig .tc .vmem S8x2048 .f32) (harg20 : arg20.IsWhole)
  (arg21 : Memref sig .tc .vmem S512x128 .f32) (harg21 : arg21.IsWhole)
  (x0 : Vec Ideal S1x1x512 .f32) (x1 : Vec Ideal S1x1x512 .f32) (x2 : Vec Ideal S1x1x512 .f32) (x3 : Vec Ideal S1x1x512 .f32) (x4 : Vec Ideal S1x1x128 .f32) (x5 : Vec Ideal S1x1x128 .f32) (x6 : Vec Ideal S8x1 .f32) (x7 : Vec Ideal S1x256x2048 .f32) (x8 : Vec Ideal S1x256x2048 .f32) (x9 : Vec Ideal S1x256x2048 .f32) (x10 : Vec Ideal S1x256x2048 .f32) (x11 : Vec Ideal S1x128x128 .f32) (x12 : Vec Ideal S1x128x128 .f32)

theorem lane_own (h : Fin 8) (q : Fin 512) :
    cmpi .eq kernelRun0_A.sl.v33 kernelRun0_A.sl.v34 (ix2 h q) = if q.val / 64 = h.val then 1#1 else 0#1 := by
  unfold kernelRun0_A.sl.v33 kernelRun0_A.sl.v34 kernelRun0_A.sl.v32 kernelRun0_A.sl.v29 kernelRun0_A.sl.v25 kernelRun0_A.sl.v24 kernelRun0_A.sl.v17 kernelRun0_A.sl.v14 kernelRun0_A.sl.v12 kernelRun0_A.sl.v10 kernelRun0_A.sl.v9
  pointwise
  revert h q
  decide +kernel

/-- The columns of a head are its sixty-four. -/
theorem sum_own (f : Fin 512 → EReal) (h : Fin 8) :
    (∑ q : Fin 512, if q.val / 64 = h.val then f q else 0) = ∑ d : Fin 64, f ⟨64 * h.val + d.val, by omega⟩ := by
  refine sum_reach (fun q : Fin 512 => q.val / 64 = h.val) (fun d : Fin 64 => ⟨64 * h.val + d.val, by omega⟩) ?_ ?_ f
  · intro a b e
    have := Fin.mk.inj e
    exact Fin.ext (by omega)
  · intro q
    constructor
    · intro e
      exact ⟨⟨q.val % 64, by omega⟩, Fin.ext (by show 64 * h.val + q.val % 64 = q.val; omega)⟩
    · rintro ⟨d, rfl⟩
      show (64 * h.val + d.val) / 64 = h.val
      omega

theorem select_own (h : Fin 8) (q : Fin 512) (a b : EReal) :
    Scalar.select (cmpi .eq kernelRun0_A.sl.v33 kernelRun0_A.sl.v34 (ix2 h q)) a b = if q.val / 64 = h.val then a else b := by
  rw [lane_own]
  by_cases e : q.val / 64 = h.val
  · rw [if_pos e, if_pos e]; rfl
  · rw [if_neg e, if_neg e]; rfl

/-- The new position's score. -/
theorem new_score (h : Fin 8) : kernelRun0_A.sl.v44 (F := Ideal) c arg1 harg1 arg2 harg2 x0 x1 (ix2 h 0) = longNew x0 x1 h := by
  unfold kernelRun0_A.sl.v44 kernelRun0_A.sl.v42 kernelRun0_A.sl.v41 kernelRun0_A.sl.v40 kernelRun0_A.sl.v38 kernelRun0_A.sl.v39 kernelRun0_A.sl.v37 kernelRun0_A.sl.v36 kernelRun0_A.sl.v4 kernelRun0_A.sl.v6 kernelRun0_A.sl.v43 kernelRun0_A.sl.cst kernelRun0_A.sl.cst_13
  pointwise
  refine congrArg (fun v : EReal => v * Ideal.ofBits FTy.f32 0x3E000000#32) (Eq.trans ?_ (sum_own (fun q => x0 (ix3 0 0 q) * x1 (ix3 0 0 q)) h))
  refine Finset.sum_congr rfl fun q _ => ?_
  exact (congrArg₂ (fun a b : EReal => Scalar.select (cmpi .eq kernelRun0_A.sl.v33 kernelRun0_A.sl.v34 (ix2 h q)) (a * b) 0)
    (row_read arg1 harg1 x0 q) (row_read arg2 harg2 x1 q)).trans (select_own h q _ 0)

/-- The weights the kernel keeps for its values. -/
theorem weights_eq (y : Vec Ideal S8x2048 .f32) (z : FVec Ideal S8x1 .f32)
    (hy : kernelRun0_A.sl.v1990 (F := Ideal) c arg1 harg1 arg8 harg8 arg9 harg9 arg20 x0 x7 x8 = y)
    (hz : kernelRun0_A.sl.v44 (F := Ideal) c arg1 harg1 arg2 harg2 x0 x1 = z) :
    kernelRun0_A.sl.v2135 (F := Ideal) c arg1 harg1 arg2 harg2 arg8 harg8 arg9 harg9 arg20 x0 x1 x7 x8
      = mixV (lseV (k0_pay565 y) z) (lseV (k0_pay574 (k0_pay564 y) place) z) (lseV (k0_pay583 (k0_pay564 y) place (k0_pay582 place) 16#32 0#1) z)
        (shareV (k0_pay565 y) z) (shareV (k0_pay574 (k0_pay564 y) place) z) (shareV (k0_pay583 (k0_pay564 y) place (k0_pay582 place) 16#32 0#1) z) := by
  subst hy hz
  funext i
  unfold kernelRun0_A.sl.v2135
  rw [shapeCast_self]
  rfl

theorem weightNew_eq (y : Vec Ideal S8x2048 .f32) (z : FVec Ideal S8x1 .f32)
    (hy : kernelRun0_A.sl.v1990 (F := Ideal) c arg1 harg1 arg8 harg8 arg9 harg9 arg20 x0 x7 x8 = y)
    (hz : kernelRun0_A.sl.v44 (F := Ideal) c arg1 harg1 arg2 harg2 x0 x1 = z) :
    kernelRun0_A.sl.v2141 (F := Ideal) c arg1 harg1 arg2 harg2 arg8 harg8 arg9 harg9 arg20 x0 x1 x7 x8
      = mixNewV (lseV (k0_pay565 y) z) (lseV (k0_pay574 (k0_pay564 y) place) z) (lseV (k0_pay583 (k0_pay564 y) place (k0_pay582 place) 16#32 0#1) z)
        (shareNewV (k0_pay565 y) z) (shareNewV (k0_pay574 (k0_pay564 y) place) z) (shareNewV (k0_pay583 (k0_pay564 y) place (k0_pay582 place) 16#32 0#1) z) := by
  subst hy hz
  rfl

theorem masked1 (y : Vec Ideal S8x2048 .f32) (hy : y = dots x7 x8 x0) (h : Fin 8) :
    (fun p => (k0_pay565 y : FVec Ideal S8x2048 .f32) (ix2 h p)) = masked (Reached 1920 1) (longScore x7 x8 x0 h) := by
  subst hy
  funext p
  exact reach1_apply _ h p

theorem masked4 (y : Vec Ideal S8x2048 .f32) (hy : y = dots x7 x8 x0) (h : Fin 8) :
    (fun p => k0_pay574 (k0_pay564 y) place (ix2 h p)) = masked (Reached 1536 4) (longScore x7 x8 x0 h) := by
  subst hy
  funext p
  exact reach4_apply _ h p

theorem masked16 (y : Vec Ideal S8x2048 .f32) (hy : y = dots x7 x8 x0) (h : Fin 8) :
    (fun p => k0_pay583 (k0_pay564 y) place (k0_pay582 place) 16#32 0#1 (ix2 h p)) = masked (Reached 0 16) (longScore x7 x8 x0 h) := by
  subst hy
  funext p
  exact reach16_apply _ h p

section Weights

variable (h : Fin 8)

def longWeight (x7 x8 : Vec Ideal S1x256x2048 .f32) (x0 x1 : Vec Ideal S1x1x512 .f32) (h : Fin 8) (p : Fin 2048) : EReal :=
  (expTop (longLse 1920 1 x7 x8 x0 x1 h) (longLse 1536 4 x7 x8 x0 x1 h) (longLse 0 16 x7 x8 x0 x1 h) (longLse 1920 1 x7 x8 x0 x1 h) * share (masked (Reached 1920 1) (longScore x7 x8 x0 h)) (longNew x0 x1 h) p
          + expTop (longLse 1920 1 x7 x8 x0 x1 h) (longLse 1536 4 x7 x8 x0 x1 h) (longLse 0 16 x7 x8 x0 x1 h) (longLse 1536 4 x7 x8 x0 x1 h) * share (masked (Reached 1536 4) (longScore x7 x8 x0 h)) (longNew x0 x1 h) p
          + expTop (longLse 1920 1 x7 x8 x0 x1 h) (longLse 1536 4 x7 x8 x0 x1 h) (longLse 0 16 x7 x8 x0 x1 h) (longLse 0 16 x7 x8 x0 x1 h) * share (masked (Reached 0 16) (longScore x7 x8 x0 h)) (longNew x0 x1 h) p)
        * Ideal.div 1 (expSum (longLse 1920 1 x7 x8 x0 x1 h) (longLse 1536 4 x7 x8 x0 x1 h) (longLse 0 16 x7 x8 x0 x1 h))

def longWeightNew (x7 x8 : Vec Ideal S1x256x2048 .f32) (x0 x1 : Vec Ideal S1x1x512 .f32) (h : Fin 8) : EReal :=
  (expTop (longLse 1920 1 x7 x8 x0 x1 h) (longLse 1536 4 x7 x8 x0 x1 h) (longLse 0 16 x7 x8 x0 x1 h) (longLse 1920 1 x7 x8 x0 x1 h) * shareNew (masked (Reached 1920 1) (longScore x7 x8 x0 h)) (longNew x0 x1 h)
          + expTop (longLse 1920 1 x7 x8 x0 x1 h) (longLse 1536 4 x7 x8 x0 x1 h) (longLse 0 16 x7 x8 x0 x1 h) (longLse 1536 4 x7 x8 x0 x1 h) * shareNew (masked (Reached 1536 4) (longScore x7 x8 x0 h)) (longNew x0 x1 h)
          + expTop (longLse 1920 1 x7 x8 x0 x1 h) (longLse 1536 4 x7 x8 x0 x1 h) (longLse 0 16 x7 x8 x0 x1 h) (longLse 0 16 x7 x8 x0 x1 h) * shareNew (masked (Reached 0 16) (longScore x7 x8 x0 h)) (longNew x0 x1 h))
        * Ideal.div 1 (expSum (longLse 1920 1 x7 x8 x0 x1 h) (longLse 1536 4 x7 x8 x0 x1 h) (longLse 0 16 x7 x8 x0 x1 h))

theorem weights_apply (p : Fin 2048) :
    kernelRun0_A.sl.v2135 (F := Ideal) c arg1 harg1 arg2 harg2 arg8 harg8 arg9 harg9 arg20 x0 x1 x7 x8 (ix2 h p) = longWeight x7 x8 x0 x1 h p := by
  rw [weights_eq c arg1 harg1 arg2 harg2 arg8 harg8 arg9 harg9 arg20 x0 x1 x7 x8 _ _ (scores_read c arg1 harg1 arg8 harg8 arg9 harg9 arg20 x0 x7 x8) rfl, mixV_apply]
  simp only [lseV_apply, shareV_apply, new_score, masked1 x0 x7 x8 _ rfl, masked4 x0 x7 x8 _ rfl, masked16 x0 x7 x8 _ rfl]
  rfl

theorem weightNew_apply :
    kernelRun0_A.sl.v2141 (F := Ideal) c arg1 harg1 arg2 harg2 arg8 harg8 arg9 harg9 arg20 x0 x1 x7 x8 (ix2 h 0) = longWeightNew x7 x8 x0 x1 h := by
  rw [weightNew_eq c arg1 harg1 arg2 harg2 arg8 harg8 arg9 harg9 arg20 x0 x1 x7 x8 _ _ (scores_read c arg1 harg1 arg8 harg8 arg9 harg9 arg20 x0 x7 x8) rfl, mixNewV_apply]
  simp only [lseV_apply, shareNewV_apply, new_score, masked1 x0 x7 x8 _ rfl, masked4 x0 x7 x8 _ rfl, masked16 x0 x7 x8 _ rfl]
  rfl

end Weights

end Cert.KernelSampleIdeal.Hand
-- ==== Proof.SampLong.lean ====
/-
  The decode kernel's attention over the long windows: the kept values met with the weights, tile by tile and head by head,
  and the new value met with its own weight.
-/
module
public import proofs.«01_k».proof.Proof.SampWeights
@[expose] public section
noncomputable section
namespace Cert.KernelSampleIdeal.Hand
open Idealize.ShloMosaic Idealize.SL.Sem Cert.KernelSampleIdeal Cert.KernelSampleIdeal.Gen Cert.Samp

theorem sum_sixteen (g : Fin 16 → EReal) :
    g 15 + g 14 + g 13 + g 12 + g 11 + g 10 + g 9 + g 8 + g 7 + g 6 + g 5 + g 4 + g 3 + g 2 + g 1 + g 0 = ∑ t, g t := by
  refine Eq.trans ?_ (Fin.sum_univ_add (a := 8) (b := 8) g).symm
  rw [Fin.sum_univ_eight, Fin.sum_univ_eight]
  show _ = g 0 + g 1 + g 2 + g 3 + g 4 + g 5 + g 6 + g 7 + (g 8 + g 9 + g 10 + g 11 + g 12 + g 13 + g 14 + g 15)
  abel

/-- A sum over the positions, tile by tile. -/
theorem sum_tiles (f : Fin 2048 → EReal) :
    (∑ l : Fin 128, ((((((((((((((((f ⟨1920 + l.val, by omega⟩ + f ⟨1792 + l.val, by omega⟩)+ f ⟨1664 + l.val, by omega⟩)+ f ⟨1536 + l.val, by omega⟩)+ f ⟨1408 + l.val, by omega⟩)+ f ⟨1280 + l.val, by omega⟩)+ f ⟨1152 + l.val, by omega⟩)+ f ⟨1024 + l.val, by omega⟩)+ f ⟨896 + l.val, by omega⟩)+ f ⟨768 + l.val, by omega⟩)+ f ⟨640 + l.val, by omega⟩)+ f ⟨512 + l.val, by omega⟩)+ f ⟨384 + l.val, by omega⟩)+ f ⟨256 + l.val, by omega⟩)+ f ⟨128 + l.val, by omega⟩)+ f ⟨0 + l.val, by omega⟩))) = ∑ p, f p := by
  rw [← (finProdFinEquiv (m := 16) (n := 128)).sum_comp, Fintype.sum_prod_type, Finset.sum_comm]
  refine Finset.sum_congr rfl fun l _ => ?_
  refine (sum_sixteen fun t => f ⟨128 * t.val + l.val, by omega⟩).trans (Finset.sum_congr rfl fun t _ => congrArg f (Fin.ext ?_))
  show 128 * t.val + l.val = l.val + 128 * t.val
  omega

section Pieces

variable (arg : Memref sig .tc .vmem S1x256x2048 .f32) (harg : arg.IsWhole) (x : Vec Ideal S1x256x2048 .f32)
  (room : Memref sig .tc .vmem S8x2048 .f32) (Q : Vec Ideal S8x2048 .f32) (L : List (View.Piece (Elt Ideal) S8x2048 .f32))

/-- The weights as the kernel reads a tile of them back. -/
def weightRow {h b : ℕ} (hh : h + 1 ≤ 8) (hb : b + 128 ≤ 2048) : Vec Ideal S1x128 .f32 :=
  room.view.readCov (⟨Rect.unit (s := S8x2048) ![0, 0] S8x2048.size inb_S8x2048_S8x2048_0_0, Q⟩ :: L)
    (Rect.unit (s := S8x2048) ![h, b] S1x128.size (fits_scores hh hb)).toLoadRect

theorem weightRow_apply {h b : ℕ} (hh : h + 1 ≤ 8) (hb : b + 128 ≤ 2048) (l : Fin 128) :
    weightRow room Q L hh hb (ix2 0 l) = Q (ix2 ⟨h, by omega⟩ ⟨b + l.val, by omega⟩) := by
  unfold weightRow
  rw [View.readCov_eq_canon', View.canon_cons_unit_zero (by funext a; fin_cases a <;> rfl)]
  exact congrArg Q (at_scores hh hb l)

/-- A tile of values met with its weights. -/
def weighed (a h b : ℕ) (ha : a + 64 ≤ 256) (hh : h + 1 ≤ 8) (hb : b + 128 ≤ 2048) : FVec Ideal S64x128 .f32 :=
  mulf (tile arg harg x a b ha hb) (broadcastTo S64x128 (weightRow room Q L hh hb) broadcasts_S1x128_S64x128)

theorem weighed_apply {a h b : ℕ} (ha : a + 64 ≤ 256) (hh : h + 1 ≤ 8) (hb : b + 128 ≤ 2048) (r : Fin 64) (l : Fin 128) :
    weighed arg harg x room Q L a h b ha hh hb (ix2 r l)
      = x (ix3 0 ⟨a + r.val, by omega⟩ ⟨b + l.val, by omega⟩) * Q (ix2 ⟨h, by omega⟩ ⟨b + l.val, by omega⟩) := by
  unfold weighed
  pointwise [tile_apply, weightRow_apply]

/-- A head's values met with its weights, in every lane. -/
def headBlock (a h : ℕ) (ha : a + 64 ≤ 256) (hh : h + 1 ≤ 8) : Vec Ideal S64x128 .f32 :=
  shapeCast S64x128 (broadcastTo S64x128 (shapeCast S64x1 (shapeCast S64x1 (multiReduction .add [1] S64
    (addf (addf (addf (addf (addf (addf (addf (addf (addf (addf (addf (addf (addf (addf (addf (addf (broadcast S64x128 (Scalar.ofBits (F := Ideal) .f32 0x00000000#32))
    (weighed arg harg x room Q L a h 1920 ha hh (by omega)))
    (weighed arg harg x room Q L a h 1792 ha hh (by omega)))
    (weighed arg harg x room Q L a h 1664 ha hh (by omega)))
    (weighed arg harg x room Q L a h 1536 ha hh (by omega)))
    (weighed arg harg x room Q L a h 1408 ha hh (by omega)))
    (weighed arg harg x room Q L a h 1280 ha hh (by omega)))
    (weighed arg harg x room Q L a h 1152 ha hh (by omega)))
    (weighed arg harg x room Q L a h 1024 ha hh (by omega)))
    (weighed arg harg x room Q L a h 896 ha hh (by omega)))
    (weighed arg harg x room Q L a h 768 ha hh (by omega)))
    (weighed arg harg x room Q L a h 640 ha hh (by omega)))
    (weighed arg harg x room Q L a h 512 ha hh (by omega)))
    (weighed arg harg x room Q L a h 384 ha hh (by omega)))
    (weighed arg harg x room Q L a h 256 ha hh (by omega)))
    (weighed arg harg x room Q L a h 128 ha hh (by omega)))
    (weighed arg harg x room Q L a h 0 ha hh (by omega))) 0x00000000#32 reduces_S64x128_S64 (.inl rfl) rfl)
    shapeCasts_S64_S64x1) shapeCasts_S64x1_S64x1) broadcasts_S64x1_S64x128) shapeCasts_S64x128_S64x128

theorem headBlock_apply {a h : ℕ} (ha : a + 64 ≤ 256) (hh : h + 1 ≤ 8) (r : Fin 64) (l : Fin 128) :
    headBlock arg harg x room Q L a h ha hh (ix2 r l) = ∑ p : Fin 2048, x (ix3 0 ⟨a + r.val, by omega⟩ p) * Q (ix2 ⟨h, by omega⟩ p) := by
  unfold headBlock
  pointwise [weighed_apply]
  exact sum_tiles fun p => x (ix3 0 ⟨a + r.val, by omega⟩ p) * Q (ix2 ⟨h, by omega⟩ p)

/-- A row of the values met with its head's weights. -/
def met (lo hi : Vec Ideal S1x256x2048 .f32) (Q : Vec Ideal S8x2048 .f32) (i : S512x128.Idx) : EReal :=
  ∑ p : Fin 2048, rows lo hi ⟨(i 0).val, (i 0).isLt⟩ p
    * Q (ix2 ⟨(i 0).val / 64, by have : (i 0).val < 512 := (i 0).isLt; omega⟩ p)

theorem fits_head {R : ℕ} (hR : R + 64 ≤ 512) : ∀ a, ![R, 0] a + S64x128.size a ≤ S512x128.size a := by
  intro a
  match a with
  | ⟨0, _⟩ => exact hR
  | ⟨1, _⟩ => exact (show 0 + 128 ≤ 128 by omega)

theorem at_head {R : ℕ} (hR : R + 64 ≤ 512) (r : Fin 64) (l : Fin 128) :
    (Rect.unit (s := S512x128) ![R, 0] S64x128.size (fits_head hR)).emb (ix2 r l) = ix2 ⟨R + r.val, by omega⟩ l := by
  funext a
  refine Fin.ext ?_
  match a with
  | ⟨0, _⟩ => exact (show R + 1 * r.val = R + r.val by omega)
  | ⟨1, _⟩ => exact (show 0 + 1 * l.val = l.val by omega)

theorem head_agrees (lo hi : Vec Ideal S1x256x2048 .f32) {a h R : ℕ} (ha : a + 64 ≤ 256) (hh : h + 1 ≤ 8) (hR : R = 64 * h)
    (hx : ∀ (r : Fin 64) (p : Fin 2048), x (ix3 0 ⟨a + r.val, by omega⟩ p) = rows lo hi ⟨64 * h + r.val, by omega⟩ p) :
    ∀ i, headBlock arg harg x room Q L a h ha hh i
      = met lo hi Q ((Rect.unit (s := S512x128) ![R, 0] S64x128.size (fits_head (by omega))).emb i) := by
  subst hR
  intro i
  obtain ⟨r, l, rfl⟩ : ∃ (r : Fin 64) (l : Fin 128), i = ix2 r l := ⟨_, _, ValueIdx.eq_ix2 (n0 := 64) (n1 := 128) i⟩
  rw [at_head (by omega) r l, headBlock_apply]
  refine Finset.sum_congr rfl fun p _ => ?_
  rw [hx]
  refine congrArg (fun q => rows lo hi ⟨64 * h + r.val, by omega⟩ p * Q (ix2 q p)) (Fin.ext ?_)
  show h = (64 * h + r.val) / 64
  omega

end Pieces

variable (c : Dev nD) (i : grid0.Coords)
  (arg1 : Memref sig .tc .vmem S1x1x512 .f32) (harg1 : arg1.IsWhole)
  (arg2 : Memref sig .tc .vmem S1x1x512 .f32) (harg2 : arg2.IsWhole)
  (arg3 : Memref sig .tc .vmem S1x1x512 .f32) (harg3 : arg3.IsWhole)
  (arg4 : Memref sig .tc .vmem S1x1x512 .f32) (harg4 : arg4.IsWhole)
  (arg5 : Memref sig .tc .vmem S1x1x128 .f32) (harg5 : arg5.IsWhole)
  (arg6 : Memref sig .tc .vmem S1x1x128 .f32) (harg6 : arg6.IsWhole)
  (arg7 : Memref sig .tc .vmem S8x1 .f32) (harg7 : arg7.IsWhole)
  (arg8 : Memref sig .tc .vmem S1x256x2048 .f32) (harg8 : arg8.IsWhole)
  (arg9 : Memref sig .tc .vmem S1x256x2048 .f32) (harg9 : arg9.IsWhole)
  (arg10 : Memref sig .tc .vmem S1x256x2048 .f32) (harg10 : arg10.IsWhole)
  (arg11 : Memref sig .tc .vmem S1x256x2048 .f32) (harg11 : arg11.IsWhole)
  (arg12 : Memref sig .tc .vmem S1x128x128 .f32) (harg12 : arg12.IsWhole)
  (arg13 : Memref sig .tc .vmem S1x128x128 .f32) (harg13 : arg13.IsWhole)
  (arg14 : Memref sig .tc .vmem S1x1x512 .f32) (harg14 : arg14.IsWhole)
  (arg15 : Memref sig .tc .vmem S1x1x512 .f32) (harg15 : arg15.IsWhole)
  (arg16 : Memref sig .tc .vmem S1x512x2048 .f32) (harg16 : arg16.IsWhole)
  (arg17 : Memref sig .tc .vmem S1x512x2048 .f32) (harg17 : arg17.IsWhole)
  (arg18 : Memref sig .tc .vmem S1x128x128 .f32) (harg18 : arg18.IsWhole)
  (arg19 : Memref sig .tc .vmem S1x128x128 .f32) (harg19 : arg19.IsWhole)
  (arg20 : Memref sig .tc .vmem S8x2048 .f32) (harg20 : arg20.IsWhole)
  (arg21 : Memref sig .tc .vmem S512x128 .f32) (harg21 : arg21.IsWhole)
  (x0 : Vec Ideal S1x1x512 .f32) (x1 : Vec Ideal S1x1x512 .f32) (x2 : Vec Ideal S1x1x512 .f32) (x3 : Vec Ideal S1x1x512 .f32) (x4 : Vec Ideal S1x1x128 .f32) (x5 : Vec Ideal S1x1x128 .f32) (x6 : Vec Ideal S8x1 .f32) (x7 : Vec Ideal S1x256x2048 .f32) (x8 : Vec Ideal S1x256x2048 .f32) (x9 : Vec Ideal S1x256x2048 .f32) (x10 : Vec Ideal S1x256x2048 .f32) (x11 : Vec Ideal S1x128x128 .f32) (x12 : Vec Ideal S1x128x128 .f32)

theorem pieces_heads : kernelRun0_A.sl.HS1_8 (F := Ideal) c arg1 harg1 arg2 harg2 arg8 harg8 arg9 harg9 arg10 harg10 arg11 harg11 arg20 x0 x1 x7 x8 x9 x10 =
  [⟨Rect.unit (s := S512x128) ![448, 0] S64x128.size (fits_head (by omega)), headBlock arg11 harg11 x10 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 192 7 (by omega) (by omega)⟩,
    ⟨Rect.unit (s := S512x128) ![384, 0] S64x128.size (fits_head (by omega)), headBlock arg11 harg11 x10 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 128 6 (by omega) (by omega)⟩,
    ⟨Rect.unit (s := S512x128) ![320, 0] S64x128.size (fits_head (by omega)), headBlock arg11 harg11 x10 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 64 5 (by omega) (by omega)⟩,
    ⟨Rect.unit (s := S512x128) ![256, 0] S64x128.size (fits_head (by omega)), headBlock arg11 harg11 x10 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 0 4 (by omega) (by omega)⟩,
    ⟨Rect.unit (s := S512x128) ![192, 0] S64x128.size (fits_head (by omega)), headBlock arg10 harg10 x9 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 192 3 (by omega) (by omega)⟩,
    ⟨Rect.unit (s := S512x128) ![128, 0] S64x128.size (fits_head (by omega)), headBlock arg10 harg10 x9 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 128 2 (by omega) (by omega)⟩,
    ⟨Rect.unit (s := S512x128) ![64, 0] S64x128.size (fits_head (by omega)), headBlock arg10 harg10 x9 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 64 1 (by omega) (by omega)⟩,
    ⟨Rect.unit (s := S512x128) ![0, 0] S64x128.size (fits_head (by omega)), headBlock arg10 harg10 x9 arg20 (kernelRun0_A.sl.v2135 (F := Ideal) c arg1 harg1 arg2 harg2 arg8 harg8 arg9 harg9 arg20 x0 x1 x7 x8) (kernelRun0_A.sl.HS0_128 (F := Ideal) c arg1 harg1 arg8 harg8 arg9 harg9 x0 x7 x8) 0 0 (by omega) (by omega)⟩] := rfl

theorem agrees_heads : ∀ p ∈ kernelRun0_A.sl.HS1_8 (F := Ideal) c arg1 harg1 arg2 harg2 arg8 harg8 arg9 harg9 arg10 harg10 arg11 harg11 arg20 x0 x1 x7 x8 x9 x10, ∀ i, p.2 i = met x9 x10 (kernelRun0_A.sl.v2135 (F := Ideal) c arg1 harg1 arg2 harg2 arg8 harg8 arg9 harg9 arg20 x0 x1 x7 x8) (p.1.emb i) := by
  rw [pieces_heads]
  refine List.forall_mem_cons.mpr ⟨head_agrees arg11 harg11 x10 arg20 _ _ x9 x10 (by omega) (by omega) rfl (rows_high _ _ rfl (by omega)), ?_⟩
  refine List.forall_mem_cons.mpr ⟨head_agrees arg11 harg11 x10 arg20 _ _ x9 x10 (by omega) (by omega) rfl (rows_high _ _ rfl (by omega)), ?_⟩
  refine List.forall_mem_cons.mpr ⟨head_agrees arg11 harg11 x10 arg20 _ _ x9 x10 (by omega) (by omega) rfl (rows_high _ _ rfl (by omega)), ?_⟩
  refine List.forall_mem_cons.mpr ⟨head_agrees arg11 harg11 x10 arg20 _ _ x9 x10 (by omega) (by omega) rfl (rows_high _ _ rfl (by omega)), ?_⟩
  refine List.forall_mem_cons.mpr ⟨head_agrees arg10 harg10 x9 arg20 _ _ x9 x10 (by omega) (by omega) rfl (rows_low _ _ rfl (by omega)), ?_⟩
  refine List.forall_mem_cons.mpr ⟨head_agrees arg10 harg10 x9 arg20 _ _ x9 x10 (by omega) (by omega) rfl (rows_low _ _ rfl (by omega)), ?_⟩
  refine List.forall_mem_cons.mpr ⟨head_agrees arg10 harg10 x9 arg20 _ _ x9 x10 (by omega) (by omega) rfl (rows_low _ _ rfl (by omega)), ?_⟩
  refine List.forall_mem_cons.mpr ⟨head_agrees arg10 harg10 x9 arg20 _ _ x9 x10 (by omega) (by omega) rfl (rows_low _ _ rfl (by omega)), ?_⟩
  exact List.forall_mem_nil _

theorem cover_heads (y : S512x128.Idx) : ∃ p ∈ kernelRun0_A.sl.HS1_8 (F := Ideal) c arg1 harg1 arg2 harg2 arg8 harg8 arg9 harg9 arg10 harg10 arg11 harg11 arg20 x0 x1 x7 x8 x9 x10, y ∈ p.1.set :=
  View.cover_of_tiledL (kernelRun0_A.sl.HS1_8 (F := Ideal) c arg1 harg1 arg2 harg2 arg8 harg8 arg9 harg9 arg10 harg10 arg11 harg11 arg20 x0 x1 x7 x8 x9 x10) S64x128.size (by sl_kernel_rfl) y

/-- A row of the values met with its head's weights, as the kernel reads it back. -/
theorem heads_read (q : Fin 512) (l : Fin 128) :
    (arg21.view.readCov (kernelRun0_A.sl.HS1_8 (F := Ideal) c arg1 harg1 arg2 harg2 arg8 harg8 arg9 harg9 arg10 harg10 arg11 harg11 arg20 x0 x1 x7 x8 x9 x10) (Rect.unit ![0, 0] S512x128.size inb_S512x128_S512x128_0_0).toLoadRect : Vec Ideal S512x128 .f32) (ix2 q l)
      = ∑ p : Fin 2048, rows x9 x10 q p * longWeight x7 x8 x0 x1 ⟨q.val / 64, by omega⟩ p := by
  rw [View.readCov_eq_canon']
  refine (congrArg (View.canon (kernelRun0_A.sl.HS1_8 (F := Ideal) c arg1 harg1 arg2 harg2 arg8 harg8 arg9 harg9 arg10 harg10 arg11 harg11 arg20 x0 x1 x7 x8 x9 x10)) (show _ = ix2 q l from ?_)).trans ?_
  · funext a
    refine Fin.ext ?_
    match a with
    | ⟨0, _⟩ => exact (show 0 + 1 * q.val = q.val by omega)
    | ⟨1, _⟩ => exact (show 0 + 1 * l.val = l.val by omega)
  · refine (View.canon_apply_of_pieces _ _ (agrees_heads c arg1 harg1 arg2 harg2 arg8 harg8 arg9 harg9 arg10 harg10 arg11 harg11 arg20 x0 x1 x7 x8 x9 x10) (ix2 q l) (cover_heads c arg1 harg1 arg2 harg2 arg8 harg8 arg9 harg9 arg10 harg10 arg11 harg11 arg20 x0 x1 x7 x8 x9 x10 _)).trans ?_
    refine Finset.sum_congr rfl fun p _ => ?_
    exact congrArg (fun v => rows x9 x10 q p * v) (weights_apply c arg1 harg1 arg2 harg2 arg8 harg8 arg9 harg9 arg20 x0 x1 x7 x8 ⟨q.val / 64, by omega⟩ p)

/-- Of the eight heads' entries the column's own is kept. -/
theorem pick_own (f : Fin 8 → EReal) (q : Fin 512) :
    (∑ h : Fin 8, if q.val / 64 = h.val then f h else 0) = f ⟨q.val / 64, by omega⟩ := by
  refine (Finset.sum_congr rfl fun h _ => ?_).trans (Finset.sum_ite_eq Finset.univ (⟨q.val / 64, by omega⟩ : Fin 8) f |>.trans (if_pos (Finset.mem_univ _)))
  by_cases e : q.val / 64 = h.val
  · rw [if_pos e, if_pos (Fin.ext e)]
  · rw [if_neg e, if_neg fun g => e (congrArg Fin.val g)]

/-- The new value met with its weight. -/
theorem fresh_apply (q : Fin 512) :
    kernelRun0_A.sl.v3883 (F := Ideal) c arg1 harg1 arg2 harg2 arg8 harg8 arg9 harg9 arg20 x0 x1 x7 x8 (ix2 0 q)
      = longWeightNew x7 x8 x0 x1 ⟨q.val / 64, by omega⟩ := by
  unfold kernelRun0_A.sl.v3883 kernelRun0_A.sl.v3882 kernelRun0_A.sl.v3881 kernelRun0_A.sl.v3879 kernelRun0_A.sl.v39 kernelRun0_A.sl.v3878 kernelRun0_A.sl.cst
  pointwise [weightNew_apply]
  refine Eq.trans ?_ (pick_own (longWeightNew x7 x8 x0 x1) q)
  refine Finset.sum_congr rfl fun h _ => ?_
  exact select_own h q _ 0

theorem pieces13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).1
    = [⟨Rect.unit ![0, 0, 0] S1x1x512.size inb_S1x1x512_S1x1x512_0_0_0, kernelRun0_A.sl.v3891 (F := Ideal) c arg1 harg1 arg2 harg2 arg3 harg3 arg8 harg8 arg9 harg9 arg10 harg10 arg11 harg11 arg20 arg21 x0 x1 x2 x7 x8 x9 x10⟩] := rfl

/-- The long heads' output. -/
theorem block13 (q : Fin 512) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix3 0 0 q)
      = (∑ p : Fin 2048, rows x9 x10 q p * longWeight x7 x8 x0 x1 ⟨q.val / 64, by omega⟩ p)
        + longWeightNew x7 x8 x0 x1 ⟨q.val / 64, by omega⟩ * x2 (ix3 0 0 q) := by
  unfold out0_A_13
  rw [View.read_writes_junk_eq_canon, pieces13, View.canon_cons_unit_zero (by funext a; fin_cases a <;> rfl)]
  unfold kernelRun0_A.sl.v3891 kernelRun0_A.sl.v3888 kernelRun0_A.sl.v3887 kernelRun0_A.sl.v8
  pointwise [fresh_apply]
  refine congrArg₂ (fun a b : EReal => a + b) ?_ (congrArg (fun v : EReal => longWeightNew x7 x8 x0 x1 ⟨q.val / 64, by omega⟩ * v) (row_read arg3 harg3 x2 q))
  unfold kernelRun0_A.sl.v3886 kernelRun0_A.sl.v3885 kernelRun0_A.sl.v3884
  pointwise
  exact heads_read c arg1 harg1 arg2 harg2 arg8 harg8 arg9 harg9 arg10 harg10 arg11 harg11 arg20 arg21 x0 x1 x7 x8 x9 x10 q 0

end Cert.KernelSampleIdeal.Hand
-- ==== Proof.SampShort.lean ====
/-
  The decode kernel's attention over the short windows: eight queries over two key heads, one softmax with a sink, the kept
  values met with the shares and the new value with its own.
-/
module
public import proofs.«01_k».proof.Proof.SampWeights
@[expose] public section
noncomputable section
namespace Cert.KernelSampleIdeal.Hand
open Idealize.ShloMosaic Idealize.SL.Sem Cert.KernelSampleIdeal Cert.KernelSampleIdeal.Gen Cert.Samp

/-- Sixty-four of the lanes are a head's. -/
theorem sum_half (f : Fin 128 → EReal) (g : Fin 2) :
    (∑ l : Fin 128, if l.val / 64 = g.val then f l else 0) = ∑ d : Fin 64, f ⟨64 * g.val + d.val, by omega⟩ := by
  refine sum_reach (fun l : Fin 128 => l.val / 64 = g.val) (fun d : Fin 64 => ⟨64 * g.val + d.val, by omega⟩) ?_ ?_ f
  · intro a b e
    have := Fin.mk.inj e
    exact Fin.ext (by omega)
  · intro l
    constructor
    · intro e
      exact ⟨⟨l.val % 64, by omega⟩, Fin.ext (by show 64 * g.val + l.val % 64 = l.val; omega)⟩
    · rintro ⟨d, rfl⟩
      show (64 * g.val + d.val) / 64 = g.val
      omega

variable (c : Dev nD) (i : grid0.Coords)
  (arg1 : Memref sig .tc .vmem S1x1x512 .f32) (harg1 : arg1.IsWhole)
  (arg2 : Memref sig .tc .vmem S1x1x512 .f32) (harg2 : arg2.IsWhole)
  (arg3 : Memref sig .tc .vmem S1x1x512 .f32) (harg3 : arg3.IsWhole)
  (arg4 : Memref sig .tc .vmem S1x1x512 .f32) (harg4 : arg4.IsWhole)
  (arg5 : Memref sig .tc .vmem S1x1x128 .f32) (harg5 : arg5.IsWhole)
  (arg6 : Memref sig .tc .vmem S1x1x128 .f32) (harg6 : arg6.IsWhole)
  (arg7 : Memref sig .tc .vmem S8x1 .f32) (harg7 : arg7.IsWhole)
  (arg8 : Memref sig .tc .vmem S1x256x2048 .f32) (harg8 : arg8.IsWhole)
  (arg9 : Memref sig .tc .vmem S1x256x2048 .f32) (harg9 : arg9.IsWhole)
  (arg10 : Memref sig .tc .vmem S1x256x2048 .f32) (harg10 : arg10.IsWhole)
  (arg11 : Memref sig .tc .vmem S1x256x2048 .f32) (harg11 : arg11.IsWhole)
  (arg12 : Memref sig .tc .vmem S1x128x128 .f32) (harg12 : arg12.IsWhole)
  (arg13 : Memref sig .tc .vmem S1x128x128 .f32) (harg13 : arg13.IsWhole)
  (arg14 : Memref sig .tc .vmem S1x1x512 .f32) (harg14 : arg14.IsWhole)
  (arg15 : Memref sig .tc .vmem S1x1x512 .f32) (harg15 : arg15.IsWhole)
  (arg16 : Memref sig .tc .vmem S1x512x2048 .f32) (harg16 : arg16.IsWhole)
  (arg17 : Memref sig .tc .vmem S1x512x2048 .f32) (harg17 : arg17.IsWhole)
  (arg18 : Memref sig .tc .vmem S1x128x128 .f32) (harg18 : arg18.IsWhole)
  (arg19 : Memref sig .tc .vmem S1x128x128 .f32) (harg19 : arg19.IsWhole)
  (arg20 : Memref sig .tc .vmem S8x2048 .f32) (harg20 : arg20.IsWhole)
  (arg21 : Memref sig .tc .vmem S512x128 .f32) (harg21 : arg21.IsWhole)
  (x0 : Vec Ideal S1x1x512 .f32) (x1 : Vec Ideal S1x1x512 .f32) (x2 : Vec Ideal S1x1x512 .f32) (x3 : Vec Ideal S1x1x512 .f32) (x4 : Vec Ideal S1x1x128 .f32) (x5 : Vec Ideal S1x1x128 .f32) (x6 : Vec Ideal S8x1 .f32) (x7 : Vec Ideal S1x256x2048 .f32) (x8 : Vec Ideal S1x256x2048 .f32) (x9 : Vec Ideal S1x256x2048 .f32) (x10 : Vec Ideal S1x256x2048 .f32) (x11 : Vec Ideal S1x128x128 .f32) (x12 : Vec Ideal S1x128x128 .f32)

theorem lane_first (l : Fin 128) (a b : EReal) :
    Scalar.select (cmpi .eq kernelRun0_A.sl.v3923 kernelRun0_A.sl.v3902 (ix2 0 l)) a b = if l.val / 64 = (0 : Fin 2).val then a else b := by
  have e : cmpi .eq kernelRun0_A.sl.v3923 kernelRun0_A.sl.v3902 (ix2 0 l) = if l.val / 64 = (0 : Fin 2).val then 1#1 else 0#1 := by
    unfold kernelRun0_A.sl.v3923 kernelRun0_A.sl.v3922 kernelRun0_A.sl.v3919 kernelRun0_A.sl.v3915 kernelRun0_A.sl.v3914 kernelRun0_A.sl.v3907 kernelRun0_A.sl.v3904 kernelRun0_A.sl.v3902 kernelRun0_A.sl.v3900 kernelRun0_A.sl.v0
    pointwise
    revert l
    decide +kernel
  rw [e]
  by_cases h : l.val / 64 = (0 : Fin 2).val
  · rw [if_pos h, if_pos h]; rfl
  · rw [if_neg h, if_neg h]; rfl

theorem lane_second (l : Fin 128) (a b : EReal) :
    Scalar.select (cmpi .eq kernelRun0_A.sl.v3923 kernelRun0_A.sl.v3914 (ix2 0 l)) a b = if l.val / 64 = (1 : Fin 2).val then a else b := by
  have e : cmpi .eq kernelRun0_A.sl.v3923 kernelRun0_A.sl.v3914 (ix2 0 l) = if l.val / 64 = (1 : Fin 2).val then 1#1 else 0#1 := by
    unfold kernelRun0_A.sl.v3923 kernelRun0_A.sl.v3922 kernelRun0_A.sl.v3919 kernelRun0_A.sl.v3915 kernelRun0_A.sl.v3914 kernelRun0_A.sl.v3907 kernelRun0_A.sl.v3904 kernelRun0_A.sl.v3902 kernelRun0_A.sl.v3900 kernelRun0_A.sl.v0
    pointwise
    revert l
    decide +kernel
  rw [e]
  by_cases h : l.val / 64 = (1 : Fin 2).val
  · rw [if_pos h, if_pos h]; rfl
  · rw [if_neg h, if_neg h]; rfl

/-- The queries laid out by row, each in its key head's lanes. -/
def laid (x3 : Vec Ideal S1x1x512 .f32) (n : Fin 8) (l : Fin 128) : EReal :=
  if l.val / 64 = n.val / 4 then x3 (ix3 0 0 ⟨64 * n.val + l.val % 64, by omega⟩) else 0

theorem laid0 (l : Fin 128) : kernelRun0_A.sl.v3927 (F := Ideal) c arg4 harg4 x3 (ix2 0 l) = laid x3 0 l := by
  unfold kernelRun0_A.sl.v3927 laid
  refine (lane_first l _ _).trans ?_
  by_cases h : l.val / 64 = 0
  · refine (if_pos h).trans (Eq.trans ?_ (if_pos (show l.val / 64 = ((0 : Fin 8).val) / 4 from h)).symm)
    unfold kernelRun0_A.sl.v3899 kernelRun0_A.sl.v3893
    pointwise
    refine (row_read arg4 harg4 x3 _).trans (congrArg (fun q => x3 (ix3 0 0 q)) (Fin.ext ?_))
    show l.val = l.val % 64
    omega
  · refine (if_neg h).trans (Eq.trans ?_ (if_neg (show ¬ l.val / 64 = ((0 : Fin 8).val) / 4 from h)).symm)
    unfold kernelRun0_A.sl.v3926 kernelRun0_A.sl.cst
    pointwise

theorem laid1 (l : Fin 128) : kernelRun0_A.sl.v3957 (F := Ideal) c arg4 harg4 x3 (ix2 0 l) = laid x3 1 l := by
  unfold kernelRun0_A.sl.v3957 laid
  refine (lane_first l _ _).trans ?_
  by_cases h : l.val / 64 = 0
  · refine (if_pos h).trans (Eq.trans ?_ (if_pos (show l.val / 64 = ((1 : Fin 8).val) / 4 from h)).symm)
    unfold kernelRun0_A.sl.v3929 kernelRun0_A.sl.v3899 kernelRun0_A.sl.v3893
    pointwise
    refine (row_read arg4 harg4 x3 _).trans (congrArg (fun q => x3 (ix3 0 0 q)) (Fin.ext ?_))
    dsimp only
    show _ = 64 * 1 + l.val % 64
    omega
  · refine (if_neg h).trans (Eq.trans ?_ (if_neg (show ¬ l.val / 64 = ((1 : Fin 8).val) / 4 from h)).symm)
    unfold kernelRun0_A.sl.v3926 kernelRun0_A.sl.cst
    pointwise

theorem laid2 (l : Fin 128) : kernelRun0_A.sl.v3986 (F := Ideal) c arg4 harg4 x3 (ix2 0 l) = laid x3 2 l := by
  unfold kernelRun0_A.sl.v3986 laid
  refine (lane_first l _ _).trans ?_
  by_cases h : l.val / 64 = 0
  · refine (if_pos h).trans (Eq.trans ?_ (if_pos (show l.val / 64 = ((2 : Fin 8).val) / 4 from h)).symm)
    unfold kernelRun0_A.sl.v3958 kernelRun0_A.sl.v3893
    pointwise
    refine (row_read arg4 harg4 x3 _).trans (congrArg (fun q => x3 (ix3 0 0 q)) (Fin.ext ?_))
    dsimp only
    show _ = 64 * 2 + l.val % 64
    omega
  · refine (if_neg h).trans (Eq.trans ?_ (if_neg (show ¬ l.val / 64 = ((2 : Fin 8).val) / 4 from h)).symm)
    unfold kernelRun0_A.sl.v3926 kernelRun0_A.sl.cst
    pointwise

theorem laid3 (l : Fin 128) : kernelRun0_A.sl.v4016 (F := Ideal) c arg4 harg4 x3 (ix2 0 l) = laid x3 3 l := by
  unfold kernelRun0_A.sl.v4016 laid
  refine (lane_first l _ _).trans ?_
  by_cases h : l.val / 64 = 0
  · refine (if_pos h).trans (Eq.trans ?_ (if_pos (show l.val / 64 = ((3 : Fin 8).val) / 4 from h)).symm)
    unfold kernelRun0_A.sl.v3988 kernelRun0_A.sl.v3958 kernelRun0_A.sl.v3893
    pointwise
    refine (row_read arg4 harg4 x3 _).trans (congrArg (fun q => x3 (ix3 0 0 q)) (Fin.ext ?_))
    dsimp only
    show _ = 64 * 3 + l.val % 64
    omega
  · refine (if_neg h).trans (Eq.trans ?_ (if_neg (show ¬ l.val / 64 = ((3 : Fin 8).val) / 4 from h)).symm)
    unfold kernelRun0_A.sl.v3926 kernelRun0_A.sl.cst
    pointwise

theorem laid4 (l : Fin 128) : kernelRun0_A.sl.v4046 (F := Ideal) c arg4 harg4 x3 (ix2 0 l) = laid x3 4 l := by
  unfold kernelRun0_A.sl.v4046 laid
  refine (lane_second l _ _).trans ?_
  by_cases h : l.val / 64 = 1
  · refine (if_pos h).trans (Eq.trans ?_ (if_pos (show l.val / 64 = ((4 : Fin 8).val) / 4 from h)).symm)
    unfold kernelRun0_A.sl.v4018 kernelRun0_A.sl.v4017 kernelRun0_A.sl.v3893
    pointwise
    refine (row_read arg4 harg4 x3 _).trans (congrArg (fun q => x3 (ix3 0 0 q)) (Fin.ext ?_))
    dsimp only
    show _ = 64 * 4 + l.val % 64
    omega
  · refine (if_neg h).trans (Eq.trans ?_ (if_neg (show ¬ l.val / 64 = ((4 : Fin 8).val) / 4 from h)).symm)
    unfold kernelRun0_A.sl.v3926 kernelRun0_A.sl.cst
    pointwise

theorem laid5 (l : Fin 128) : kernelRun0_A.sl.v4075 (F := Ideal) c arg4 harg4 x3 (ix2 0 l) = laid x3 5 l := by
  unfold kernelRun0_A.sl.v4075 laid
  refine (lane_second l _ _).trans ?_
  by_cases h : l.val / 64 = 1
  · refine (if_pos h).trans (Eq.trans ?_ (if_pos (show l.val / 64 = ((5 : Fin 8).val) / 4 from h)).symm)
    unfold kernelRun0_A.sl.v4017 kernelRun0_A.sl.v3893
    pointwise
    refine (row_read arg4 harg4 x3 _).trans (congrArg (fun q => x3 (ix3 0 0 q)) (Fin.ext ?_))
    dsimp only
    show _ = 64 * 5 + l.val % 64
    omega
  · refine (if_neg h).trans (Eq.trans ?_ (if_neg (show ¬ l.val / 64 = ((5 : Fin 8).val) / 4 from h)).symm)
    unfold kernelRun0_A.sl.v3926 kernelRun0_A.sl.cst
    pointwise

theorem laid6 (l : Fin 128) : kernelRun0_A.sl.v4105 (F := Ideal) c arg4 harg4 x3 (ix2 0 l) = laid x3 6 l := by
  unfold kernelRun0_A.sl.v4105 laid
  refine (lane_second l _ _).trans ?_
  by_cases h : l.val / 64 = 1
  · refine (if_pos h).trans (Eq.trans ?_ (if_pos (show l.val / 64 = ((6 : Fin 8).val) / 4 from h)).symm)
    unfold kernelRun0_A.sl.v4077 kernelRun0_A.sl.v4076 kernelRun0_A.sl.v3893
    pointwise
    refine (row_read arg4 harg4 x3 _).trans (congrArg (fun q => x3 (ix3 0 0 q)) (Fin.ext ?_))
    dsimp only
    show _ = 64 * 6 + l.val % 64
    omega
  · refine (if_neg h).trans (Eq.trans ?_ (if_neg (show ¬ l.val / 64 = ((6 : Fin 8).val) / 4 from h)).symm)
    unfold kernelRun0_A.sl.v3926 kernelRun0_A.sl.cst
    pointwise

theorem laid7 (l : Fin 128) : kernelRun0_A.sl.v4134 (F := Ideal) c arg4 harg4 x3 (ix2 0 l) = laid x3 7 l := by
  unfold kernelRun0_A.sl.v4134 laid
  refine (lane_second l _ _).trans ?_
  by_cases h : l.val / 64 = 1
  · refine (if_pos h).trans (Eq.trans ?_ (if_pos (show l.val / 64 = ((7 : Fin 8).val) / 4 from h)).symm)
    unfold kernelRun0_A.sl.v4076 kernelRun0_A.sl.v3893
    pointwise
    refine (row_read arg4 harg4 x3 _).trans (congrArg (fun q => x3 (ix3 0 0 q)) (Fin.ext ?_))
    dsimp only
    show _ = 64 * 7 + l.val % 64
    omega
  · refine (if_neg h).trans (Eq.trans ?_ (if_neg (show ¬ l.val / 64 = ((7 : Fin 8).val) / 4 from h)).symm)
    unfold kernelRun0_A.sl.v3926 kernelRun0_A.sl.cst
    pointwise

theorem laid_apply (n : Fin 8) (l : Fin 128) :
    kernelRun0_A.sl.v4135 (F := Ideal) c arg4 harg4 x3 (ix2 n l) = laid x3 n l := by
  unfold kernelRun0_A.sl.v4135
  pointwise
  fin_cases n
  · exact laid0 c arg4 harg4 x3 l
  · exact laid1 c arg4 harg4 x3 l
  · exact laid2 c arg4 harg4 x3 l
  · exact laid3 c arg4 harg4 x3 l
  · exact laid4 c arg4 harg4 x3 l
  · exact laid5 c arg4 harg4 x3 l
  · exact laid6 c arg4 harg4 x3 l
  · exact laid7 c arg4 harg4 x3 l

theorem lane_read (arg : Memref sig .tc .vmem S1x1x128 .f32) (harg : arg.IsWhole) (x : Vec Ideal S1x1x128 .f32) (l : Fin 128) :
    View.readAt (Elt Ideal) arg.view (Rect.unit (s := S1x1x128) ![0, 0, 0] ![1, 1, 128] inb_S1x1x128_S1x1x128_0_0_0).toLoadRect (harg.unread x) (ix3 0 0 l)
      = x (ix3 0 0 l) := by
  refine (congrFun (harg.read_unread x) _).trans (congrArg x ?_)
  funext a
  refine Fin.ext ?_
  match a with
  | ⟨0, _⟩ => exact (show 0 + 1 * 0 = 0 from rfl)
  | ⟨1, _⟩ => exact (show 0 + 1 * 0 = 0 from rfl)
  | ⟨2, _⟩ => exact (show 0 + 1 * l.val = l.val by omega)

/-- A sum over the lanes of a row of queries is the sum over its key head's. -/
theorem sum_laid (n : Fin 8) (f : Fin 128 → EReal) :
    (∑ l : Fin 128, laid x3 n l * f l)
      = ∑ d : Fin 64, x3 (ix3 0 0 ⟨64 * n.val + d.val, by omega⟩) * f ⟨64 * (n.val / 4) + d.val, by omega⟩ := by
  refine Eq.trans (Finset.sum_congr rfl fun l _ => ?_)
    ((sum_half (fun l => x3 (ix3 0 0 ⟨64 * n.val + l.val % 64, by omega⟩) * f l) ⟨n.val / 4, by omega⟩).trans ?_)
  · unfold laid
    by_cases h : l.val / 64 = n.val / 4
    · rw [if_pos h, if_pos h]
    · rw [if_neg h, if_neg h, zero_mul]
  · refine Finset.sum_congr rfl fun d _ => ?_
    refine congrArg (fun q => x3 (ix3 0 0 q) * f ⟨64 * (n.val / 4) + d.val, by omega⟩) (Fin.ext ?_)
    show 64 * n.val + (64 * (n.val / 4) + d.val) % 64 = 64 * n.val + d.val
    omega

/-- A query's scores of the kept positions, and of the new one. -/
def shortScore (x3 : Vec Ideal S1x1x512 .f32) (x11 : Vec Ideal S1x128x128 .f32) (n : Fin 8) (p : Fin 128) : EReal :=
  (∑ d : Fin 64, x3 (ix3 0 0 ⟨64 * n.val + d.val, by omega⟩) * x11 (ix3 0 ⟨64 * (n.val / 4) + d.val, by omega⟩ p))
    * Ideal.ofBits FTy.f32 0x3E000000#32

def shortNew (x3 : Vec Ideal S1x1x512 .f32) (x4 : Vec Ideal S1x1x128 .f32) (n : Fin 8) : EReal :=
  (∑ d : Fin 64, x3 (ix3 0 0 ⟨64 * n.val + d.val, by omega⟩) * x4 (ix3 0 0 ⟨64 * (n.val / 4) + d.val, by omega⟩))
    * Ideal.ofBits FTy.f32 0x3E000000#32

theorem shortScore_apply (n : Fin 8) (p : Fin 128) :
    kernelRun0_A.sl.v4142 (F := Ideal) c arg4 harg4 arg12 harg12 x3 x11 (ix2 n p) = shortScore x3 x11 n p := by
  unfold kernelRun0_A.sl.v4142 kernelRun0_A.sl.v4141 kernelRun0_A.sl.v4140 kernelRun0_A.sl.v4139 kernelRun0_A.sl.v4138 kernelRun0_A.sl.v4136 kernelRun0_A.sl.cst_2582 kernelRun0_A.sl.cst_13
  pointwise [laid_apply, dot_S8x128_S128x128_S8x128_1_0_0_1_n_n]
  refine congrArg (fun v : EReal => v * Ideal.ofBits FTy.f32 0x3E000000#32) (Eq.trans (Finset.sum_congr rfl fun l _ => congrArg (fun v : EReal => laid x3 n l * v) ?_) (sum_laid x3 n fun l => x11 (ix3 0 l p)))
  exact square_read arg12 harg12 x11 l p

theorem shortNew_apply (n : Fin 8) :
    kernelRun0_A.sl.v4152 (F := Ideal) c arg4 harg4 arg5 harg5 x3 x4 (ix2 n 0) = shortNew x3 x4 n := by
  unfold kernelRun0_A.sl.v4152 kernelRun0_A.sl.v4150 kernelRun0_A.sl.v4149 kernelRun0_A.sl.v4148 kernelRun0_A.sl.v4147 kernelRun0_A.sl.v4146 kernelRun0_A.sl.v4145 kernelRun0_A.sl.v4144 kernelRun0_A.sl.v4136 kernelRun0_A.sl.v3895 kernelRun0_A.sl.v43 kernelRun0_A.sl.cst_13
  pointwise [laid_apply]
  refine congrArg (fun v : EReal => v * Ideal.ofBits FTy.f32 0x3E000000#32) (Eq.trans (Finset.sum_congr rfl fun l _ => congrArg (fun v : EReal => laid x3 n l * v) ?_) (sum_laid x3 n fun l => x4 (ix3 0 0 l)))
  exact lane_read arg5 harg5 x4 l

/-- The largest of the scores, the new one and the sink, and the sum of the exponentials under it. -/
def shortTop (x3 : Vec Ideal S1x1x512 .f32) (x4 : Vec Ideal S1x1x128 .f32) (x6 : Vec Ideal S8x1 .f32) (x11 : Vec Ideal S1x128x128 .f32) (n : Fin 8) : EReal :=
  max (top (shortScore x3 x11 n) (shortNew x3 x4 n)) (x6 (ix2 n 0))

def shortTotal (x3 : Vec Ideal S1x1x512 .f32) (x4 : Vec Ideal S1x1x128 .f32) (x6 : Vec Ideal S8x1 .f32) (x11 : Vec Ideal S1x128x128 .f32) (n : Fin 8) : EReal :=
  ((∑ p : Fin 128, Ideal.exp (shortScore x3 x11 n p - shortTop x3 x4 x6 x11 n)) + Ideal.exp (shortNew x3 x4 n - shortTop x3 x4 x6 x11 n))
    + Ideal.exp (x6 (ix2 n 0) - shortTop x3 x4 x6 x11 n)

theorem sink_apply (n : Fin 8) : kernelRun0_A.sl.v4154 (F := Ideal) c arg7 harg7 x6 (ix2 n 0) = x6 (ix2 n 0) := by
  unfold kernelRun0_A.sl.v4154
  pointwise
  refine (congrFun (harg7.read_unread x6) _).trans (congrArg x6 ?_)
  funext a
  refine Fin.ext ?_
  match a with
  | ⟨0, _⟩ => exact (show 0 + 1 * n.val = n.val by omega)
  | ⟨1, _⟩ => exact (show 0 + 1 * 0 = 0 from rfl)

theorem shortTop_apply (n : Fin 8) :
    kernelRun0_A.sl.v4158 (F := Ideal) c arg4 harg4 arg5 harg5 arg7 harg7 arg12 harg12 x3 x4 x6 x11 (ix2 n 0) = shortTop x3 x4 x6 x11 n := by
  unfold kernelRun0_A.sl.v4158 kernelRun0_A.sl.v4157 kernelRun0_A.sl.v4156 kernelRun0_A.sl.v4155
  pointwise [shortScore_apply, shortNew_apply, sink_apply]
  rw [lowest, fold_max_bot]
  rfl

theorem shortExp_apply (n : Fin 8) (p : Fin 128) :
    kernelRun0_A.sl.v4161 (F := Ideal) c arg4 harg4 arg5 harg5 arg7 harg7 arg12 harg12 x3 x4 x6 x11 (ix2 n p)
      = Ideal.exp (shortScore x3 x11 n p - shortTop x3 x4 x6 x11 n) := by
  unfold kernelRun0_A.sl.v4161 kernelRun0_A.sl.v4160 kernelRun0_A.sl.v4159
  pointwise [shortScore_apply, shortTop_apply]

theorem shortExpNew_apply (n : Fin 8) :
    kernelRun0_A.sl.v4163 (F := Ideal) c arg4 harg4 arg5 harg5 arg7 harg7 arg12 harg12 x3 x4 x6 x11 (ix2 n 0)
      = Ideal.exp (shortNew x3 x4 n - shortTop x3 x4 x6 x11 n) := by
  unfold kernelRun0_A.sl.v4163 kernelRun0_A.sl.v4162
  pointwise [shortNew_apply, shortTop_apply]

theorem shortTotal_apply (n : Fin 8) :
    kernelRun0_A.sl.v4169 (F := Ideal) c arg4 harg4 arg5 harg5 arg7 harg7 arg12 harg12 x3 x4 x6 x11 (ix2 n 0) = shortTotal x3 x4 x6 x11 n := by
  unfold kernelRun0_A.sl.v4169 kernelRun0_A.sl.v4168 kernelRun0_A.sl.v4167 kernelRun0_A.sl.v4166 kernelRun0_A.sl.v4165 kernelRun0_A.sl.v4164
  pointwise [shortExp_apply, shortExpNew_apply, shortTop_apply, sink_apply]
  rfl

/-- The values met with their shares, for a row of queries and a lane of either key head. -/
def shortMix (x3 : Vec Ideal S1x1x512 .f32) (x4 x5 : Vec Ideal S1x1x128 .f32) (x6 : Vec Ideal S8x1 .f32) (x11 x12 : Vec Ideal S1x128x128 .f32)
    (n : Fin 8) (l : Fin 128) : EReal :=
  (∑ p : Fin 128, Ideal.div (Ideal.exp (shortScore x3 x11 n p - shortTop x3 x4 x6 x11 n)) (shortTotal x3 x4 x6 x11 n) * x12 (ix3 0 l p))
    + Ideal.div (Ideal.exp (shortNew x3 x4 n - shortTop x3 x4 x6 x11 n)) (shortTotal x3 x4 x6 x11 n) * x5 (ix3 0 0 l)

theorem shortMix_apply (n : Fin 8) (l : Fin 128) :
    k0_pay1100 (F := Ideal) (kernelRun0_A.sl.v3897 c arg6 harg6 x5) (kernelRun0_A.sl.v4172 c arg4 harg4 arg5 harg5 arg7 harg7 arg12 harg12 x3 x4 x6 x11)
        (kernelRun0_A.sl.v4173 c arg4 harg4 arg5 harg5 arg7 harg7 arg12 harg12 x3 x4 x6 x11) (kernelRun0_A.sl.v4175 c arg13 harg13 x12) (ix2 n l)
      = shortMix x3 x4 x5 x6 x11 x12 n l := by
  unfold k0_pay1100 kernelRun0_A.sl.v3897 kernelRun0_A.sl.v4172 kernelRun0_A.sl.v4173 kernelRun0_A.sl.v4171 kernelRun0_A.sl.v4170 kernelRun0_A.sl.v4175
  pointwise [shortExp_apply, shortExpNew_apply, shortTotal_apply, dot_S8x128_S128x128_S8x128_1_1_0_0_n_n]
  refine congrArg₂ (fun a b : EReal => a + b) (Finset.sum_congr rfl fun p _ => congrArg (fun v : EReal => Ideal.div (Ideal.exp (shortScore x3 x11 n p - shortTop x3 x4 x6 x11 n)) (shortTotal x3 x4 x6 x11 n) * v) ?_)
    (congrArg (fun v : EReal => Ideal.div (Ideal.exp (shortNew x3 x4 n - shortTop x3 x4 x6 x11 n)) (shortTotal x3 x4 x6 x11 n) * v) ?_)
  · exact square_read arg13 harg13 x12 l p
  · exact lane_read arg6 harg6 x5 l

theorem lane_half (l : Fin 128) (a b : EReal) :
    Scalar.select (IntOp.cmpi CmpIPredicate.slt (kernelRun0_A.sl.v0 (ix2 0 l)) 64#32) a b = if l.val < 64 then a else b := by
  have e : IntOp.cmpi CmpIPredicate.slt (kernelRun0_A.sl.v0 (ix2 0 l)) 64#32 = if l.val < 64 then 1#1 else 0#1 := by
    unfold kernelRun0_A.sl.v0
    pointwise
    revert l
    decide +kernel
  rw [e]
  by_cases h : l.val < 64
  · rw [if_pos h, if_pos h]; rfl
  · rw [if_neg h, if_neg h]; rfl

/-- The short heads' output, column by column. -/
def shortOut (x3 : Vec Ideal S1x1x512 .f32) (x4 x5 : Vec Ideal S1x1x128 .f32) (x6 : Vec Ideal S8x1 .f32) (x11 x12 : Vec Ideal S1x128x128 .f32)
    (i : S1x1x512.Idx) : EReal :=
  shortMix x3 x4 x5 x6 x11 x12 ⟨(i 2).val / 64, by have : (i 2).val < 512 := (i 2).isLt; omega⟩
    ⟨64 * ((i 2).val / 64 / 4) + (i 2).val % 64, by have : (i 2).val < 512 := (i 2).isLt; omega⟩

theorem fits_lanes {b : ℕ} (hb : b + 128 ≤ 512) : ∀ a, ![0, 0, b] a + S1x1x128.size a ≤ S1x1x512.size a := by
  intro a
  match a with
  | ⟨0, _⟩ => exact (show 0 + 1 ≤ 1 by omega)
  | ⟨1, _⟩ => exact (show 0 + 1 ≤ 1 by omega)
  | ⟨2, _⟩ => exact hb

theorem at_lanes {b : ℕ} (hb : b + 128 ≤ 512) (l : Fin 128) :
    (Rect.unit (s := S1x1x512) ![0, 0, b] S1x1x128.size (fits_lanes hb)).emb (ix3 0 0 l) = ix3 0 0 ⟨b + l.val, by omega⟩ := by
  funext a
  refine Fin.ext ?_
  match a with
  | ⟨0, _⟩ => exact (show 0 + 1 * 0 = 0 from rfl)
  | ⟨1, _⟩ => exact (show 0 + 1 * 0 = 0 from rfl)
  | ⟨2, _⟩ => exact (show b + 1 * l.val = b + l.val by omega)

theorem only_row (i : S1x1x128.Idx) : ∃ l : Fin 128, i = ix3 0 0 l := by
  refine ⟨⟨(i 2).val, (i 2).isLt⟩, ?_⟩
  funext a
  match a with
  | ⟨0, _⟩ => exact Subsingleton.elim (α := Fin 1) _ _
  | ⟨1, _⟩ => exact Subsingleton.elim (α := Fin 1) _ _
  | ⟨2, _⟩ => rfl

theorem lanes0 : ∀ i, k0_pay1101 (F := Ideal) (kernelRun0_A.sl.v3897 c arg6 harg6 x5) kernelRun0_A.sl.v0 (kernelRun0_A.sl.v4172 c arg4 harg4 arg5 harg5 arg7 harg7 arg12 harg12 x3 x4 x6 x11) (kernelRun0_A.sl.v4173 c arg4 harg4 arg5 harg5 arg7 harg7 arg12 harg12 x3 x4 x6 x11) (kernelRun0_A.sl.v4175 c arg13 harg13 x12) i
      = shortOut x3 x4 x5 x6 x11 x12 ((Rect.unit (s := S1x1x512) ![0, 0, 0] S1x1x128.size (fits_lanes (by omega))).emb i) := by
  intro i
  obtain ⟨l, rfl⟩ := only_row i
  rw [at_lanes (by omega) l]
  unfold k0_pay1101
  pointwise [shortMix_apply, lane_half]
  unfold shortOut
  by_cases h : l.val < 64
  · refine (if_pos h).trans (congrArg₂ (shortMix x3 x4 x5 x6 x11 x12) (Fin.ext ?_) (Fin.ext ?_))
    · show 0 = l.val / 64
      omega
    · show l.val = 64 * (l.val / 64 / 4) + l.val % 64
      omega
  · refine (if_neg h).trans (congrArg₂ (shortMix x3 x4 x5 x6 x11 x12) (Fin.ext ?_) (Fin.ext ?_))
    · show 1 = l.val / 64
      omega
    · show (l.val + 128 - 64) % 128 = 64 * (l.val / 64 / 4) + l.val % 64
      omega

theorem lanes1 : ∀ i, k0_pay1102 (F := Ideal) (kernelRun0_A.sl.v3897 c arg6 harg6 x5) kernelRun0_A.sl.v0 (kernelRun0_A.sl.v4172 c arg4 harg4 arg5 harg5 arg7 harg7 arg12 harg12 x3 x4 x6 x11) (kernelRun0_A.sl.v4173 c arg4 harg4 arg5 harg5 arg7 harg7 arg12 harg12 x3 x4 x6 x11) (kernelRun0_A.sl.v4175 c arg13 harg13 x12) i
      = shortOut x3 x4 x5 x6 x11 x12 ((Rect.unit (s := S1x1x512) ![0, 0, 128] S1x1x128.size (fits_lanes (by omega))).emb i) := by
  intro i
  obtain ⟨l, rfl⟩ := only_row i
  rw [at_lanes (by omega) l]
  unfold k0_pay1102
  pointwise [shortMix_apply, lane_half]
  unfold shortOut
  by_cases h : l.val < 64
  · refine (if_pos h).trans (congrArg₂ (shortMix x3 x4 x5 x6 x11 x12) (Fin.ext ?_) (Fin.ext ?_))
    · show 2 = (128 + l.val) / 64
      omega
    · show l.val = 64 * ((128 + l.val) / 64 / 4) + (128 + l.val) % 64
      omega
  · refine (if_neg h).trans (congrArg₂ (shortMix x3 x4 x5 x6 x11 x12) (Fin.ext ?_) (Fin.ext ?_))
    · show 3 = (128 + l.val) / 64
      omega
    · show (l.val + 128 - 64) % 128 = 64 * ((128 + l.val) / 64 / 4) + (128 + l.val) % 64
      omega

theorem lanes2 : ∀ i, k0_pay1103 (F := Ideal) (kernelRun0_A.sl.v3897 c arg6 harg6 x5) kernelRun0_A.sl.v0 (kernelRun0_A.sl.v4172 c arg4 harg4 arg5 harg5 arg7 harg7 arg12 harg12 x3 x4 x6 x11) (kernelRun0_A.sl.v4173 c arg4 harg4 arg5 harg5 arg7 harg7 arg12 harg12 x3 x4 x6 x11) (kernelRun0_A.sl.v4175 c arg13 harg13 x12) i
      = shortOut x3 x4 x5 x6 x11 x12 ((Rect.unit (s := S1x1x512) ![0, 0, 256] S1x1x128.size (fits_lanes (by omega))).emb i) := by
  intro i
  obtain ⟨l, rfl⟩ := only_row i
  rw [at_lanes (by omega) l]
  unfold k0_pay1103
  pointwise [shortMix_apply, lane_half]
  unfold shortOut
  by_cases h : l.val < 64
  · refine (if_pos h).trans (congrArg₂ (shortMix x3 x4 x5 x6 x11 x12) (Fin.ext ?_) (Fin.ext ?_))
    · show 4 = (256 + l.val) / 64
      omega
    · show (l.val + 128 - 64) % 128 = 64 * ((256 + l.val) / 64 / 4) + (256 + l.val) % 64
      omega
  · refine (if_neg h).trans (congrArg₂ (shortMix x3 x4 x5 x6 x11 x12) (Fin.ext ?_) (Fin.ext ?_))
    · show 5 = (256 + l.val) / 64
      omega
    · show l.val = 64 * ((256 + l.val) / 64 / 4) + (256 + l.val) % 64
      omega

theorem lanes3 : ∀ i, k0_pay1 (F := Ideal) kernelRun0_A.sl.v0 (kernelRun0_A.sl.r_25 c arg4 harg4 arg5 harg5 arg6 harg6 arg7 harg7 arg12 harg12 arg13 harg13 x3 x4 x5 x6 x11 x12) (kernelRun0_A.sl.r_26 c arg4 harg4 arg5 harg5 arg6 harg6 arg7 harg7 arg12 harg12 arg13 harg13 x3 x4 x5 x6 x11 x12) i
      = shortOut x3 x4 x5 x6 x11 x12 ((Rect.unit (s := S1x1x512) ![0, 0, 384] S1x1x128.size (fits_lanes (by omega))).emb i) := by
  intro i
  obtain ⟨l, rfl⟩ := only_row i
  rw [at_lanes (by omega) l]
  unfold k0_pay1 kernelRun0_A.sl.r_25 kernelRun0_A.sl.r_26 k0_pay1104 k0_pay1105
  pointwise [shortMix_apply, lane_half]
  unfold shortOut
  by_cases h : l.val < 64
  · refine (if_pos h).trans (congrArg₂ (shortMix x3 x4 x5 x6 x11 x12) (Fin.ext ?_) (Fin.ext ?_))
    · show 6 = (384 + l.val) / 64
      omega
    · show (l.val + 128 - 64) % 128 = 64 * ((384 + l.val) / 64 / 4) + (384 + l.val) % 64
      omega
  · refine (if_neg h).trans (congrArg₂ (shortMix x3 x4 x5 x6 x11 x12) (Fin.ext ?_) (Fin.ext ?_))
    · show 7 = (384 + l.val) / 64
      omega
    · show l.val = 64 * ((384 + l.val) / 64 / 4) + (384 + l.val) % 64
      omega

theorem pieces14 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12).2.1 =
  [⟨Rect.unit (s := S1x1x512) ![0, 0, 384] S1x1x128.size (fits_lanes (by omega)), k0_pay1 (F := Ideal) kernelRun0_A.sl.v0 (kernelRun0_A.sl.r_25 c arg4 harg4 arg5 harg5 arg6 harg6 arg7 harg7 arg12 harg12 arg13 harg13 x3 x4 x5 x6 x11 x12) (kernelRun0_A.sl.r_26 c arg4 harg4 arg5 harg5 arg6 harg6 arg7 harg7 arg12 harg12 arg13 harg13 x3 x4 x5 x6 x11 x12)⟩,
    ⟨Rect.unit (s := S1x1x512) ![0, 0, 256] S1x1x128.size (fits_lanes (by omega)), k0_pay1103 (F := Ideal) (kernelRun0_A.sl.v3897 c arg6 harg6 x5) kernelRun0_A.sl.v0 (kernelRun0_A.sl.v4172 c arg4 harg4 arg5 harg5 arg7 harg7 arg12 harg12 x3 x4 x6 x11) (kernelRun0_A.sl.v4173 c arg4 harg4 arg5 harg5 arg7 harg7 arg12 harg12 x3 x4 x6 x11) (kernelRun0_A.sl.v4175 c arg13 harg13 x12)⟩,
    ⟨Rect.unit (s := S1x1x512) ![0, 0, 128] S1x1x128.size (fits_lanes (by omega)), k0_pay1102 (F := Ideal) (kernelRun0_A.sl.v3897 c arg6 harg6 x5) kernelRun0_A.sl.v0 (kernelRun0_A.sl.v4172 c arg4 harg4 arg5 harg5 arg7 harg7 arg12 harg12 x3 x4 x6 x11) (kernelRun0_A.sl.v4173 c arg4 harg4 arg5 harg5 arg7 harg7 arg12 harg12 x3 x4 x6 x11) (kernelRun0_A.sl.v4175 c arg13 harg13 x12)⟩,
    ⟨Rect.unit (s := S1x1x512) ![0, 0, 0] S1x1x128.size (fits_lanes (by omega)), k0_pay1101 (F := Ideal) (kernelRun0_A.sl.v3897 c arg6 harg6 x5) kernelRun0_A.sl.v0 (kernelRun0_A.sl.v4172 c arg4 harg4 arg5 harg5 arg7 harg7 arg12 harg12 x3 x4 x6 x11) (kernelRun0_A.sl.v4173 c arg4 harg4 arg5 harg5 arg7 harg7 arg12 harg12 x3 x4 x6 x11) (kernelRun0_A.sl.v4175 c arg13 harg13 x12)⟩]
    := rfl

/-- The short heads' output. -/
theorem block14 (q : Fin 512) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 (ix3 0 0 q)
      = shortMix x3 x4 x5 x6 x11 x12 ⟨q.val / 64, by omega⟩ ⟨64 * (q.val / 64 / 4) + q.val % 64, by omega⟩ := by
  unfold out0_A_14
  rw [View.read_writes_junk_eq_canon]
  refine View.canon_apply_of_pieces (shortOut x3 x4 x5 x6 x11 x12) _ ?_ (ix3 0 0 q) (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 _)
  rw [pieces14]
  refine List.forall_mem_cons.mpr ⟨lanes3 c arg4 harg4 arg5 harg5 arg6 harg6 arg7 harg7 arg12 harg12 arg13 harg13 x3 x4 x5 x6 x11 x12, ?_⟩
  refine List.forall_mem_cons.mpr ⟨lanes2 c arg4 harg4 arg5 harg5 arg6 harg6 arg7 harg7 arg12 harg12 arg13 harg13 x3 x4 x5 x6 x11 x12, ?_⟩
  refine List.forall_mem_cons.mpr ⟨lanes1 c arg4 harg4 arg5 harg5 arg6 harg6 arg7 harg7 arg12 harg12 arg13 harg13 x3 x4 x5 x6 x11 x12, ?_⟩
  refine List.forall_mem_cons.mpr ⟨lanes0 c arg4 harg4 arg5 harg5 arg6 harg6 arg7 harg7 arg12 harg12 arg13 harg13 x3 x4 x5 x6 x11 x12, ?_⟩
  exact List.forall_mem_nil _

end Cert.KernelSampleIdeal.Hand
-- ==== Proof.SampMix.lean ====
/-
  The two decode heads' outputs: the kernel's one weighting of the whole window is the reference's three softmaxes mixed.
-/
module
public import proofs.«01_k».proof.Proof.SampArray
public import proofs.«01_k».proof.Proof.SampLong
public import proofs.«01_k».proof.Proof.SampShort
@[expose] public section
noncomputable section
namespace Cert.KernelSampleIdeal.Hand
open Idealize.ShloMosaic Idealize.ShloMosaic.TcCoe Cert.KernelSampleIdeal Cert.KernelSampleIdeal.Gen Cert.ReferenceSampleIdeal.Hand Cert.Samp

/-- The position of a reach's entry. -/
def pos (start step : ℕ) (h : start + step * 127 < 2048) (j : Fin 128) : Fin 2048 :=
  ⟨start + step * j.val, lt_of_le_of_lt (Nat.add_le_add_left (Nat.mul_le_mul_left step (by omega)) start) h⟩

theorem pos_injective (start step : ℕ) (h : start + step * 127 < 2048) (hs : 0 < step) : Function.Injective (pos start step h) := by
  intro a b e
  have e' : start + step * a.val = start + step * b.val := congrArg Fin.val e
  exact Fin.ext (Nat.eq_of_mul_eq_mul_left hs (by omega))

theorem reached1 (p : Fin 2048) : Reached 1920 1 p ↔ ∃ j, pos 1920 1 (by omega) j = p := by
  constructor
  · rintro ⟨h, _⟩
    refine ⟨⟨p.val - 1920, by omega⟩, Fin.ext ?_⟩
    show 1920 + 1 * (p.val - 1920) = p.val
    omega
  · rintro ⟨j, rfl⟩
    refine ⟨?_, ?_⟩
    · show 1920 ≤ 1920 + 1 * j.val; omega
    · show (1920 + 1 * j.val) % 1 = 0; omega

theorem reached4 (p : Fin 2048) : Reached 1536 4 p ↔ ∃ j, pos 1536 4 (by omega) j = p := by
  constructor
  · rintro ⟨h, h4⟩
    refine ⟨⟨(p.val - 1536) / 4, by omega⟩, Fin.ext ?_⟩
    show 1536 + 4 * ((p.val - 1536) / 4) = p.val
    omega
  · rintro ⟨j, rfl⟩
    refine ⟨?_, ?_⟩
    · show 1536 ≤ 1536 + 4 * j.val; omega
    · show (1536 + 4 * j.val) % 4 = 0; omega

theorem reached16 (p : Fin 2048) : Reached 0 16 p ↔ ∃ j, pos 0 16 (by omega) j = p := by
  constructor
  · rintro ⟨h, h4⟩
    refine ⟨⟨p.val / 16, by omega⟩, Fin.ext ?_⟩
    show 0 + 16 * (p.val / 16) = p.val
    omega
  · rintro ⟨j, rfl⟩
    refine ⟨?_, ?_⟩
    · show 0 ≤ 0 + 16 * j.val; omega
    · show (0 + 16 * j.val) % 16 = 0; omega

/-- One weighting of the whole window, met with the values, is the three reaches' softmaxes mixed. -/
theorem whole_mix (s v : Fin 2048 → EReal) (z u : EReal) (hs : ∀ p, s p ≠ ⊤) (hz : IsReal z)
    {r1 r2 r3 : Fin 2048 → Prop} [DecidablePred r1] [DecidablePred r2] [DecidablePred r3] {q1 q2 q3 : Fin 128 → Fin 2048}
    (i1 : Function.Injective q1) (i2 : Function.Injective q2) (i3 : Function.Injective q3)
    (h1 : ∀ p, r1 p ↔ ∃ j, q1 j = p) (h2 : ∀ p, r2 p ↔ ∃ j, q2 j = p) (h3 : ∀ p, r3 p ↔ ∃ j, q3 j = p)
    {l1 l2 l3 : EReal} (e1 : lse (masked r1 s) z = l1) (e2 : lse (masked r2 s) z = l2) (e3 : lse (masked r3 s) z = l3) :
    (∑ p, v p * ((expTop l1 l2 l3 l1 * share (masked r1 s) z p + expTop l1 l2 l3 l2 * share (masked r2 s) z p
          + expTop l1 l2 l3 l3 * share (masked r3 s) z p) * Ideal.div 1 (expSum l1 l2 l3)))
      + ((expTop l1 l2 l3 l1 * shareNew (masked r1 s) z + expTop l1 l2 l3 l2 * shareNew (masked r2 s) z
          + expTop l1 l2 l3 l3 * shareNew (masked r3 s) z) * Ideal.div 1 (expSum l1 l2 l3)) * u
      = Ideal.div (expTop l1 l2 l3 l1) (expSum l1 l2 l3)
          * ((∑ j, share (fun j => s (q1 j)) z j * v (q1 j)) + shareNew (fun j => s (q1 j)) z * u)
        + Ideal.div (expTop l1 l2 l3 l2) (expSum l1 l2 l3)
          * ((∑ j, share (fun j => s (q2 j)) z j * v (q2 j)) + shareNew (fun j => s (q2 j)) z * u)
        + Ideal.div (expTop l1 l2 l3 l3) (expSum l1 l2 l3)
          * ((∑ j, share (fun j => s (q3 j)) z j * v (q3 j)) + shareNew (fun j => s (q3 j)) z * u) := by
  have g1 := masked_ne_top r1 s hs
  have g2 := masked_ne_top r2 s hs
  have g3 := masked_ne_top r3 s hs
  have k1 : IsReal l1 := e1 ▸ lse_real _ z g1 hz
  have k2 : IsReal l2 := e2 ▸ lse_real _ z g2 hz
  have k3 : IsReal l3 := e3 ▸ lse_real _ z g3 hz
  have hne := (expSum_pos k1 k2 k3).ne'
  refine (mix_sum (expTop_weight k1 k2 k3 k1) (expTop_weight k1 k2 k3 k2) (expTop_weight k1 k2 k3 k3) (inv_weight k1 k2 k3)
    _ _ _ (share_weight _ z g1 hz) (share_weight _ z g2 hz) (share_weight _ z g3 hz)
    (shareNew_weight _ z g1 hz) (shareNew_weight _ z g2 hz) (shareNew_weight _ z g3 hz) v u).trans ?_
  rw [sum_share_masked r1 q1 i1 h1 s z hs hz v, sum_share_masked r2 q2 i2 h2 s z hs hz v, sum_share_masked r3 q3 i3 h3 s z hs hz v,
    shareNew_masked r1 q1 i1 h1 s z, shareNew_masked r2 q2 i2 h2 s z, shareNew_masked r3 q3 i3 h3 s z,
    div_eq_mul_div_one (x := expTop l1 l2 l3 l1) hne, div_eq_mul_div_one (x := expTop l1 l2 l3 l2) hne,
    div_eq_mul_div_one (x := expTop l1 l2 l3 l3) hne]

theorem kept_old (x : (⟨S128x2048x8x64, .f32⟩ : BufTy).Contents (Elt Ideal)) (y : (⟨S128x512, .f32⟩ : BufTy).Contents (Elt Ideal)) (b : Fin 128) (h : Fin 8) (d : Fin 64) (p : Fin 2048) :
    kept x y b h d p.castSucc = x (ix4 b p h d) := dif_pos p.isLt

theorem kept_new (x : (⟨S128x2048x8x64, .f32⟩ : BufTy).Contents (Elt Ideal)) (y : (⟨S128x512, .f32⟩ : BufTy).Contents (Elt Ideal)) (b : Fin 128) (h : Fin 8) (d : Fin 64) :
    kept x y b h d (Fin.last 2048) = y (ix2 b ⟨64 * h.val + d.val, by omega⟩) := dif_neg (lt_irrefl 2048)

theorem keptB_old (x : (⟨S128x128x2x64, .f32⟩ : BufTy).Contents (Elt Ideal)) (y : (⟨S128x128, .f32⟩ : BufTy).Contents (Elt Ideal)) (b : Fin 128) (h : Fin 2) (d : Fin 64) (p : Fin 128) :
    keptB x y b h d p.castSucc = x (ix4 b p h d) := dif_pos p.isLt

theorem keptB_new (x : (⟨S128x128x2x64, .f32⟩ : BufTy).Contents (Elt Ideal)) (y : (⟨S128x128, .f32⟩ : BufTy).Contents (Elt Ideal)) (b : Fin 128) (h : Fin 2) (d : Fin 64) :
    keptB x y b h d (Fin.last 128) = y (ix2 b ⟨64 * h.val + d.val, by omega⟩) := dif_neg (lt_irrefl 128)

variable (m : (ℓ : Loc nD τ sig) → Buf (Elt Ideal) ℓ) (c : Dev nD)

theorem rows_keys (t : Fin cfg0.N) (w : Fin 512) (p : Fin 2048) : rows (iblk m c 7 t) (iblk m c 8 t) w p
    = m ((c : Thread nD τ).loc main_arg7) (ix4 (token t) p ⟨w.val / 64, by omega⟩ ⟨w.val % 64, by omega⟩) := by
  unfold rows
  by_cases h : w.val < 256
  · exact (dif_pos h).trans (blk7 m c t ⟨w.val, h⟩ p)
  · refine (dif_neg h).trans ((blk8 m c t ⟨w.val - 256, by omega⟩ p).trans ?_)
    refine congrArg₂ (fun a b => m ((c : Thread nD τ).loc main_arg7) (ix4 (token t) p a b)) (Fin.ext ?_) (Fin.ext ?_)
    · show (256 + (w.val - 256)) / 64 = w.val / 64; omega
    · show (256 + (w.val - 256)) % 64 = w.val % 64; omega

theorem rows_values (t : Fin cfg0.N) (w : Fin 512) (p : Fin 2048) : rows (iblk m c 9 t) (iblk m c 10 t) w p
    = m ((c : Thread nD τ).loc main_arg8) (ix4 (token t) p ⟨w.val / 64, by omega⟩ ⟨w.val % 64, by omega⟩) := by
  unfold rows
  by_cases h : w.val < 256
  · exact (dif_pos h).trans (blk9 m c t ⟨w.val, h⟩ p)
  · refine (dif_neg h).trans ((blk10 m c t ⟨w.val - 256, by omega⟩ p).trans ?_)
    refine congrArg₂ (fun a b => m ((c : Thread nD τ).loc main_arg8) (ix4 (token t) p a b)) (Fin.ext ?_) (Fin.ext ?_)
    · show (256 + (w.val - 256)) / 64 = w.val / 64; omega
    · show (256 + (w.val - 256)) % 64 = w.val % 64; omega

/-- The reference's score, of this memory. -/
abbrev long (b : Fin 128) (h : Fin 8) (p : Fin 2049) : EReal :=
  scoreA (m ((c : Thread nD τ).loc main_arg0)) (m ((c : Thread nD τ).loc main_arg1)) (m ((c : Thread nD τ).loc main_arg7)) b h p

theorem longScore_eq (t : Fin cfg0.N) (h : Fin 8) :
    longScore (iblk m c 7 t) (iblk m c 8 t) (iblk m c 0 t) h = fun p => long m c (token t) h p.castSucc := by
  funext p
  unfold longScore dots long scoreA
  refine congrArg (fun a => a * _) (Finset.sum_congr rfl fun d _ => ?_)
  refine (mul_comm _ _).trans ?_
  refine congrArg₂ (fun a b => a * b) (blk0 m c t _) ((rows_keys m c t _ _).trans ?_)
  refine Eq.trans ?_ (kept_old _ _ _ _ _ p).symm
  refine congrArg₂ (fun a b => m ((c : Thread nD τ).loc main_arg7) (ix4 (token t) p a b)) (Fin.ext ?_) (Fin.ext ?_)
  · show (64 * h.val + d.val) / 64 = h.val; omega
  · show (64 * h.val + d.val) % 64 = d.val; omega

theorem longNew_eq (t : Fin cfg0.N) (h : Fin 8) :
    longNew (iblk m c 0 t) (iblk m c 1 t) h = long m c (token t) h (Fin.last 2048) := by
  unfold longNew long scoreA
  refine congrArg (fun a => a * _) (Finset.sum_congr rfl fun d _ => ?_)
  refine congrArg₂ (fun a b => a * b) (blk0 m c t _) ((blk1 m c t _).trans ?_)
  exact (kept_new _ _ _ _ _).symm

/-- Every long-window score is a real number. -/
def Real : Prop := ∀ b h p, IsReal (long m c b h p)

/-- The array of the long heads' output. -/
def arr13 (i : S128x1x512.Idx) : EReal :=
  mixA (m ((c : Thread nD τ).loc main_arg0)) (m ((c : Thread nD τ).loc main_arg1)) (m ((c : Thread nD τ).loc main_arg2))
    (m ((c : Thread nD τ).loc main_arg7)) (m ((c : Thread nD τ).loc main_arg8)) (i 0)
    ⟨(i 2).val / 64, by have : (i 2).val < 512 := (i 2).isLt; omega⟩ ⟨(i 2).val % 64, by omega⟩

theorem mixed_value (hr : Real m c) (t : Fin cfg0.N) (q : Fin 512) :
    (∑ p : Fin 2048, rows (iblk m c 9 t) (iblk m c 10 t) q p * longWeight (iblk m c 7 t) (iblk m c 8 t) (iblk m c 0 t) (iblk m c 1 t) ⟨q.val / 64, by omega⟩ p)
        + longWeightNew (iblk m c 7 t) (iblk m c 8 t) (iblk m c 0 t) (iblk m c 1 t) ⟨q.val / 64, by omega⟩ * iblk m c 2 t (ix3 0 0 q)
      = arr13 m c (ix3 (token t) 0 q) := by
  unfold longWeight longWeightNew longLse
  rw [longScore_eq, longNew_eq, blk2]
  refine (whole_mix (fun p => long m c (token t) ⟨q.val / 64, by omega⟩ p.castSucc) (fun p => rows (iblk m c 9 t) (iblk m c 10 t) q p)
    (long m c (token t) ⟨q.val / 64, by omega⟩ (Fin.last 2048)) _
    (fun p => (hr (token t) ⟨q.val / 64, by omega⟩ p.castSucc).ne_top) (hr (token t) ⟨q.val / 64, by omega⟩ (Fin.last 2048))
    (pos_injective 1920 1 (by omega) (by omega)) (pos_injective 1536 4 (by omega) (by omega)) (pos_injective 0 16 (by omega) (by omega))
    reached1 reached4 reached16 rfl rfl rfl).trans ?_
  rw [lse_masked _ _ (pos_injective 1920 1 (by omega) (by omega)) reached1, lse_masked _ _ (pos_injective 1536 4 (by omega) (by omega)) reached4,
    lse_masked _ _ (pos_injective 0 16 (by omega) (by omega)) reached16]
  have ev : ∀ p : Fin 2048, rows (iblk m c 9 t) (iblk m c 10 t) q p
      = kept (m ((c : Thread nD τ).loc main_arg8)) (m ((c : Thread nD τ).loc main_arg2)) (token t) ⟨q.val / 64, by omega⟩ ⟨q.val % 64, by omega⟩ p.castSucc :=
    fun p => (rows_values m c t q p).trans (kept_old _ _ _ _ _ p).symm
  have eu : m ((c : Thread nD τ).loc main_arg2) (ix2 (token t) q)
      = kept (m ((c : Thread nD τ).loc main_arg8)) (m ((c : Thread nD τ).loc main_arg2)) (token t) ⟨q.val / 64, by omega⟩ ⟨q.val % 64, by omega⟩ (Fin.last 2048) := by
    refine Eq.trans ?_ (kept_new _ _ _ _ _).symm
    refine congrArg (fun a => m ((c : Thread nD τ).loc main_arg2) (ix2 (token t) a)) (Fin.ext ?_)
    show q.val = 64 * (q.val / 64) + q.val % 64
    omega
  simp only [ev]
  rw [eu]
  rfl

/-- The reference's score of a short-window head, of this memory. -/
abbrev short (b : Fin 128) (g : Fin 2) (r : Fin 4) (p : Fin 129) : EReal :=
  scoreB (m ((c : Thread nD τ).loc main_arg3)) (m ((c : Thread nD τ).loc main_arg4)) (m ((c : Thread nD τ).loc main_arg9)) b g r p

/-- The array of the short heads' output. -/
def arr14 (i : S128x1x512.Idx) : EReal :=
  mixB (m ((c : Thread nD τ).loc main_arg3)) (m ((c : Thread nD τ).loc main_arg4)) (m ((c : Thread nD τ).loc main_arg5))
    (m ((c : Thread nD τ).loc main_arg6)) (m ((c : Thread nD τ).loc main_arg9)) (m ((c : Thread nD τ).loc main_arg10)) (i 0)
    ⟨(i 2).val / 256, by have : (i 2).val < 512 := (i 2).isLt; omega⟩ ⟨(i 2).val / 64 % 4, by omega⟩ ⟨(i 2).val % 64, by omega⟩

/-- A short-window head by its key head and its place under it. -/
abbrev head (g : Fin 2) (r : Fin 4) : Fin 8 := ⟨4 * g.val + r.val, by omega⟩

theorem shortScore_eq (t : Fin cfg0.N) (g : Fin 2) (r : Fin 4) :
    shortScore (iblk m c 3 t) (iblk m c 11 t) (head g r) = fun p => short m c (token t) g r p.castSucc := by
  funext p
  unfold shortScore short scoreB
  refine congrArg (fun a => a * _) (Finset.sum_congr rfl fun d _ => ?_)
  refine congrArg₂ (fun a b => a * b) ((blk3 m c t _).trans ?_) ((blk11 m c t _ _).trans (Eq.trans ?_ (keptB_old _ _ _ _ _ p).symm))
  · refine congrArg (fun a => m ((c : Thread nD τ).loc main_arg3) (ix2 (token t) a)) (Fin.ext ?_)
    show 64 * (4 * g.val + r.val) + d.val = 256 * g.val + 64 * r.val + d.val
    omega
  · refine congrArg₂ (fun a b => m ((c : Thread nD τ).loc main_arg9) (ix4 (token t) p a b)) (Fin.ext ?_) (Fin.ext ?_)
    · show (64 * ((4 * g.val + r.val) / 4) + d.val) / 64 = g.val; omega
    · show (64 * ((4 * g.val + r.val) / 4) + d.val) % 64 = d.val; omega

theorem shortNew_eq (t : Fin cfg0.N) (g : Fin 2) (r : Fin 4) :
    shortNew (iblk m c 3 t) (iblk m c 4 t) (head g r) = short m c (token t) g r (Fin.last 128) := by
  unfold shortNew short scoreB
  refine congrArg (fun a => a * _) (Finset.sum_congr rfl fun d _ => ?_)
  refine congrArg₂ (fun a b => a * b) ((blk3 m c t _).trans ?_) ((blk4 m c t _).trans (Eq.trans ?_ (keptB_new _ _ _ _ _).symm))
  · refine congrArg (fun a => m ((c : Thread nD τ).loc main_arg3) (ix2 (token t) a)) (Fin.ext ?_)
    show 64 * (4 * g.val + r.val) + d.val = 256 * g.val + 64 * r.val + d.val
    omega
  · refine congrArg (fun a => m ((c : Thread nD τ).loc main_arg4) (ix2 (token t) a)) (Fin.ext ?_)
    show 64 * ((4 * g.val + r.val) / 4) + d.val = 64 * g.val + d.val
    omega

theorem shortTop_eq (t : Fin cfg0.N) (g : Fin 2) (r : Fin 4) :
    shortTop (iblk m c 3 t) (iblk m c 4 t) (iblk m c 6 t) (iblk m c 11 t) (head g r)
      = topB (m ((c : Thread nD τ).loc main_arg3)) (m ((c : Thread nD τ).loc main_arg4)) (m ((c : Thread nD τ).loc main_arg6))
          (m ((c : Thread nD τ).loc main_arg9)) (token t) g r := by
  unfold shortTop
  rw [shortScore_eq, shortNew_eq, blk6]
  rfl

theorem shortTotal_eq (t : Fin cfg0.N) (g : Fin 2) (r : Fin 4) :
    shortTotal (iblk m c 3 t) (iblk m c 4 t) (iblk m c 6 t) (iblk m c 11 t) (head g r)
      = totalB (m ((c : Thread nD τ).loc main_arg3)) (m ((c : Thread nD τ).loc main_arg4)) (m ((c : Thread nD τ).loc main_arg6))
          (m ((c : Thread nD τ).loc main_arg9)) (token t) g r := by
  unfold shortTotal
  rw [shortScore_eq, shortNew_eq, shortTop_eq, blk6]
  rfl

theorem shortMix_eq (t : Fin cfg0.N) (g : Fin 2) (r : Fin 4) (d : Fin 64) :
    shortMix (iblk m c 3 t) (iblk m c 4 t) (iblk m c 5 t) (iblk m c 6 t) (iblk m c 11 t) (iblk m c 12 t) (head g r)
        ⟨64 * g.val + d.val, by omega⟩
      = mixB (m ((c : Thread nD τ).loc main_arg3)) (m ((c : Thread nD τ).loc main_arg4)) (m ((c : Thread nD τ).loc main_arg5))
          (m ((c : Thread nD τ).loc main_arg6)) (m ((c : Thread nD τ).loc main_arg9)) (m ((c : Thread nD τ).loc main_arg10)) (token t) g r d := by
  unfold shortMix mixB
  rw [shortScore_eq, shortNew_eq, shortTop_eq, shortTotal_eq]
  refine congrArg₂ (fun a b => a + b) (Finset.sum_congr rfl fun p _ => congrArg₂ (fun a b => a * b) rfl ?_) (congrArg₂ (fun a b => a * b) rfl ?_)
  · refine (blk12 m c t _ _).trans (Eq.trans ?_ (keptB_old _ _ _ _ _ p).symm)
    refine congrArg₂ (fun a b => m ((c : Thread nD τ).loc main_arg10) (ix4 (token t) p a b)) (Fin.ext ?_) (Fin.ext ?_)
    · show (64 * g.val + d.val) / 64 = g.val; omega
    · show (64 * g.val + d.val) % 64 = d.val; omega
  · exact (blk5 m c t _).trans (keptB_new _ _ _ _ _).symm

theorem short_value (t : Fin cfg0.N) (q : Fin 512) :
    shortMix (iblk m c 3 t) (iblk m c 4 t) (iblk m c 5 t) (iblk m c 6 t) (iblk m c 11 t) (iblk m c 12 t) ⟨q.val / 64, by omega⟩
        ⟨64 * (q.val / 64 / 4) + q.val % 64, by omega⟩ = arr14 m c (ix3 (token t) 0 q) := by
  refine Eq.trans (congrArg₂ _ (Fin.ext ?_) (Fin.ext ?_))
    (shortMix_eq m c t ⟨q.val / 256, by omega⟩ ⟨q.val / 64 % 4, by omega⟩ ⟨q.val % 64, by omega⟩)
  · show q.val / 64 = 4 * (q.val / 256) + q.val / 64 % 4; omega
  · show 64 * (q.val / 64 / 4) + q.val % 64 = 64 * (q.val / 256) + q.val % 64; omega

theorem value13 (hr : Real m c) (t : Fin cfg0.N) (q : Fin 512) :
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 0 q) = arr13 m c (ix3 (token t) 0 q) :=
  (block13 _ _ _ _ _ _ _ _ _ _ _ _ _ _ _ _ _ _ _ _ _ _ _ _ _ _ _ _ _ _ _ _ _ _ _ _ _ _ _ _ _ _ _ _ _ _ _ _ _ _ _ _ _ _ _ _ _ q).trans (mixed_value m c hr t q)

theorem flushed13_eq (hr : Real m c) (t : Fin cfg0.N) : (dats m 0 c).flushed 13 t = ((cfg0.win 13).blk t).view.read (Elt Ideal) (arr13 m c) := by
  rw [Value.flushed13_A]
  funext y
  have hy : y = ix3 (0 : Fin 1) (0 : Fin 1) (y 2) := by
    refine (eq_ix3 (n0 := 1) (n1 := 1) (n2 := 512) y).trans ?_
    exact congrArg₂ (fun u v => ix3 u v (y 2)) (Subsingleton.elim (α := Fin 1) _ _) (Subsingleton.elim (α := Fin 1) _ _)
  refine (congrArg _ hy).trans ((value13 m c hr t (y 2)).trans ?_)
  rw [View.read_apply]
  have hi := (index_facts t).2.2.2.2.2.2.2.2.2.2.2.2.2.1
  show arr13 m c (ix3 (token t) 0 (y 2)) = arr13 m c _
  congr 1
  funext a
  apply Fin.ext
  match a with
  | ⟨0, _⟩ => show t.val = win0_13.index t 0 * 1 + 1 * (y 0).val; rw [hi.1]; have h0 : (y 0).val < 1 := (y 0).isLt; omega
  | ⟨1, _⟩ => show 0 = win0_13.index t 1 * 1 + 1 * (y 1).val; rw [hi.2.1]; have h1 : (y 1).val < 1 := (y 1).isLt; omega
  | ⟨2, _⟩ => show (y 2).val = win0_13.index t 2 * 512 + 1 * (y 2).val; rw [hi.2.2]; omega

theorem cover13 (i : S128x1x512.Idx) : ∃ t : Fin cfg0.N, (cfg0.win 13).flush t = true ∧ i ∈ ((cfg0.win 13).blk t).view.set := by
  have h0 : (i 0).val < 128 := (i 0).isLt
  have h1 : (i 1).val < 1 := (i 1).isLt
  have h2 : (i 2).val < 512 := (i 2).isLt
  have hN : cfg0.N = 128 := N_0
  let t : Fin cfg0.N := ⟨(i 0).val, by omega⟩
  refine ⟨t, flush0_13 _, ?_⟩
  show i ∈ ((View.whole main_v15_0).slice (win0_13.rect t)).set
  rw [View.set_slice_whole, Rect.mem_set_unit]
  have hi := (index_facts t).2.2.2.2.2.2.2.2.2.2.2.2.2.1
  intro a
  match a with
  | ⟨0, _⟩ => show win0_13.index t 0 * 1 ≤ (i 0).val ∧ (i 0).val < win0_13.index t 0 * 1 + 1; rw [hi.1]; show (i 0).val * 1 ≤ (i 0).val ∧ (i 0).val < (i 0).val * 1 + 1; omega
  | ⟨1, _⟩ => show win0_13.index t 1 * 1 ≤ (i 1).val ∧ (i 1).val < win0_13.index t 1 * 1 + 1; rw [hi.2.1]; omega
  | ⟨2, _⟩ => show win0_13.index t 2 * 512 ≤ (i 2).val ∧ (i 2).val < win0_13.index t 2 * 512 + 512; rw [hi.2.2]; omega

theorem final13 (hr : Real m c) : (dats m 0 c).arrAt 13 cfg0.N = arr13 m c :=
  (dats m 0 c).arrAt_eq_of_cover 13 (arr13 m c) (fun t _ => flushed13_eq m c hr t) cover13

theorem value14 (t : Fin cfg0.N) (q : Fin 512) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 0 q) = arr14 m c (ix3 (token t) 0 q) :=
  (block14 _ _ _ _ _ _ _ _ _ _ _ _ _ _ _ _ _ _ _ _ _ _ _ _ _ _ _ _ _ _ _ _ _ _ _ _ _ _ _ _ _ _ _ _ _ _ _ _ _ _ _ _ _ _ _ _ _ q).trans (short_value m c t q)

theorem flushed14_eq (t : Fin cfg0.N) : (dats m 0 c).flushed 14 t = ((cfg0.win 14).blk t).view.read (Elt Ideal) (arr14 m c) := by
  rw [Value.flushed14_A]
  funext y
  have hy : y = ix3 (0 : Fin 1) (0 : Fin 1) (y 2) := by
    refine (eq_ix3 (n0 := 1) (n1 := 1) (n2 := 512) y).trans ?_
    exact congrArg₂ (fun u v => ix3 u v (y 2)) (Subsingleton.elim (α := Fin 1) _ _) (Subsingleton.elim (α := Fin 1) _ _)
  refine (congrArg _ hy).trans ((value14 m c t (y 2)).trans ?_)
  rw [View.read_apply]
  have hi := (index_facts t).2.2.2.2.2.2.2.2.2.2.2.2.2.2.1
  show arr14 m c (ix3 (token t) 0 (y 2)) = arr14 m c _
  congr 1
  funext a
  apply Fin.ext
  match a with
  | ⟨0, _⟩ => show t.val = win0_14.index t 0 * 1 + 1 * (y 0).val; rw [hi.1]; have h0 : (y 0).val < 1 := (y 0).isLt; omega
  | ⟨1, _⟩ => show 0 = win0_14.index t 1 * 1 + 1 * (y 1).val; rw [hi.2.1]; have h1 : (y 1).val < 1 := (y 1).isLt; omega
  | ⟨2, _⟩ => show (y 2).val = win0_14.index t 2 * 512 + 1 * (y 2).val; rw [hi.2.2]; omega

theorem cover14 (i : S128x1x512.Idx) : ∃ t : Fin cfg0.N, (cfg0.win 14).flush t = true ∧ i ∈ ((cfg0.win 14).blk t).view.set := by
  have h0 : (i 0).val < 128 := (i 0).isLt
  have h1 : (i 1).val < 1 := (i 1).isLt
  have h2 : (i 2).val < 512 := (i 2).isLt
  have hN : cfg0.N = 128 := N_0
  let t : Fin cfg0.N := ⟨(i 0).val, by omega⟩
  refine ⟨t, flush0_14 _, ?_⟩
  show i ∈ ((View.whole main_v15_1).slice (win0_14.rect t)).set
  rw [View.set_slice_whole, Rect.mem_set_unit]
  have hi := (index_facts t).2.2.2.2.2.2.2.2.2.2.2.2.2.2.1
  intro a
  match a with
  | ⟨0, _⟩ => show win0_14.index t 0 * 1 ≤ (i 0).val ∧ (i 0).val < win0_14.index t 0 * 1 + 1; rw [hi.1]; show (i 0).val * 1 ≤ (i 0).val ∧ (i 0).val < (i 0).val * 1 + 1; omega
  | ⟨1, _⟩ => show win0_14.index t 1 * 1 ≤ (i 1).val ∧ (i 1).val < win0_14.index t 1 * 1 + 1; rw [hi.2.1]; omega
  | ⟨2, _⟩ => show win0_14.index t 2 * 512 ≤ (i 2).val ∧ (i 2).val < win0_14.index t 2 * 512 + 512; rw [hi.2.2]; omega

theorem final14 : (dats m 0 c).arrAt 14 cfg0.N = arr14 m c :=
  (dats m 0 c).arrAt_eq_of_cover 14 (arr14 m c) (fun t _ => flushed14_eq m c t) cover14

end Cert.KernelSampleIdeal.Hand
-- ==== Proof.SampClaim.lean ====
/-
  The decode launch's six results equal the reference's.
-/
module
public import proofs.«01_k».proof.Defs
public import proofs.«01_k».proof.Proof.SampMix
public import proofs.«01_k».proof.Proof.Gen.KernelSampleIdeal.Value
public import proofs.«01_k».proof.Proof.Gen.ReferenceSampleIdeal.Run
public import proofs.«01_k».proof.Proof.Gen.ReferenceSampleIdeal.Read
@[expose] public section
noncomputable section
namespace Cert.SampClaim
open Idealize.ShloMosaic Idealize.ShloMosaic.TcCoe Idealize.SL.Sem

instance facts_pre : Cert.Pre_finite_scores.Facts where
  bcast_S_S128x512 := by decide
  bcast_S_S128x2048x8x64 := by decide

theorem infinity : Ideal.ofBits FTy.f32 2139095040#32 = ⊤ := by simp [Ideal.ofBits, Ideal.ieee]

/-- A comparison that came out one held. -/
theorem real_of_one {x : EReal} (h : FloatOps.cmpf (F := Ideal) CmpFPredicate.olt (φ := .f32) (max x (-x)) (Ideal.ofBits FTy.f32 2139095040#32) = 1#1) :
    Cert.Samp.IsReal x := by
  rw [infinity] at h
  refine Cert.Samp.isReal_of_abs_lt ?_
  by_contra hn
  have e : FloatOps.cmpf (F := Ideal) CmpFPredicate.olt (φ := .f32) (max x (-x)) ⊤ = 0#1 := by
    show Ideal.cmp CmpFPredicate.olt (max x (-x)) ⊤ = 0#1
    unfold Ideal.cmp
    simp [hn]
  rw [e] at h
  exact absurd h (by decide)

section Arrays

open Cert.KernelSampleIdeal Cert.KernelSampleIdeal.Hand Cert.ReferenceSampleIdeal.Hand Cert.ReferenceSampleIdeal.Read Cert.Samp

variable (m : (ℓ : Loc nD τ sig) → Buf (Elt Ideal) ℓ) (c : Dev nD)

theorem array13 : val_main_v107 (F := Ideal) (m ((c : Thread nD τ).loc main_arg0)) (m ((c : Thread nD τ).loc main_arg1)) (m ((c : Thread nD τ).loc main_arg2)) (m ((c : Thread nD τ).loc main_arg7)) (m ((c : Thread nD τ).loc main_arg8)) = arr13 m c := by
  funext i
  have hi : i = ix3 (i 0) (0 : Fin 1) (i 2) :=
    (ValueIdx.eq_ix3 (n0 := 128) (n1 := 1) (n2 := 512) i).trans
      (congrArg (fun v => ix3 (i 0) v (i 2)) (Subsingleton.elim (α := Fin 1) _ _))
  exact (congrArg _ hi).trans (result0 _ _ _ _ _ (i 0) (i 2))

theorem array14 : val_main_v108 (F := Ideal) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) = arr14 m c := by
  funext i
  have hi : i = ix3 (i 0) (0 : Fin 1) (i 2) :=
    (ValueIdx.eq_ix3 (n0 := 128) (n1 := 1) (n2 := 512) i).trans
      (congrArg (fun v => ix3 (i 0) v (i 2)) (Subsingleton.elim (α := Fin 1) _ _))
  exact (congrArg _ hi).trans (result1 _ _ _ _ _ _ (i 0) (i 2))

theorem array15 : val_main_v111 (F := Ideal) (m ((c : Thread nD τ).loc main_arg1)) (m ((c : Thread nD τ).loc main_arg7)) = arr15 m c := by
  funext i
  exact (congrArg _ (ValueIdx.eq_ix3 (n0 := 128) (n1 := 512) (n2 := 2048) i)).trans (result2 _ _ (i 0) (i 1) (i 2))

theorem array16 : val_main_v114 (F := Ideal) (m ((c : Thread nD τ).loc main_arg2)) (m ((c : Thread nD τ).loc main_arg8)) = arr16 m c := by
  funext i
  exact (congrArg _ (ValueIdx.eq_ix3 (n0 := 128) (n1 := 512) (n2 := 2048) i)).trans (result3 _ _ (i 0) (i 1) (i 2))

theorem array17 : val_main_v117 (F := Ideal) (m ((c : Thread nD τ).loc main_arg4)) (m ((c : Thread nD τ).loc main_arg9)) = arr17 m c := by
  funext i
  exact (congrArg _ (ValueIdx.eq_ix3 (n0 := 128) (n1 := 128) (n2 := 128) i)).trans (result4 _ _ (i 0) (i 1) (i 2))

theorem array18 : val_main_v120 (F := Ideal) (m ((c : Thread nD τ).loc main_arg5)) (m ((c : Thread nD τ).loc main_arg10)) = arr18 m c := by
  funext i
  exact (congrArg _ (ValueIdx.eq_ix3 (n0 := 128) (n1 := 128) (n2 := 128) i)).trans (result5 _ _ (i 0) (i 1) (i 2))

/-- The precondition makes every long-window score a real number. -/
theorem real_scores (hpre : Cert.Pre_KernelSampleIdeal_finite_scores (hPre_finite_scores := facts_pre) m) : Real m c := by
  intro b h p
  have r0 : ∀ i, IsReal (m ((c : Thread nD τ).loc main_arg0) i) := fun i => real_of_one (congrFun (hpre c).1 i)
  have r1 : ∀ i, IsReal (m ((c : Thread nD τ).loc main_arg1) i) := fun i => real_of_one (congrFun (hpre c).2.1 i)
  have r7 : ∀ i, IsReal (m ((c : Thread nD τ).loc main_arg7) i) := fun i => real_of_one (congrFun (hpre c).2.2 i)
  unfold long scoreA
  refine IsReal.mul (IsReal.sum _ _ fun d => (r0 _).mul ?_) ?_
  · unfold kept
    by_cases hp : p.val < 2048
    · rw [dif_pos hp]; exact r7 _
    · rw [dif_neg hp]; exact r1 _
  · simp [Ideal.ofBits, Ideal.ieee]
    exact IsReal.mul ⟨_, rfl⟩ ⟨_, rfl⟩

end Arrays

theorem algebraic : Cert.algebraic_KernelSampleIdeal_ReferenceSampleIdeal_pre_finite_scores (hKernelSampleIdeal := Cert.KernelSampleIdeal.Gen.facts)
    (hReferenceSampleIdeal := Cert.ReferenceSampleIdeal.Gen.facts) (hPre_finite_scores := facts_pre) := by
  intro m g m' g' hpre hagree
  refine ⟨fun c => Cert.KernelSampleIdeal.Hand.arr13 m c, fun c => Cert.KernelSampleIdeal.Hand.arr14 m c, fun c => Cert.KernelSampleIdeal.Hand.arr15 m c, fun c => Cert.KernelSampleIdeal.Hand.arr16 m c, fun c => Cert.KernelSampleIdeal.Hand.arr17 m c, fun c => Cert.KernelSampleIdeal.Hand.arr18 m c, ?_, ?_⟩
  · refine (θ_run Cert.KernelSampleIdeal.defs _ _).mono (fun r h c => ?_) (Cert.KernelSampleIdeal.Value.run_blocks (F := Ideal) m g)
    obtain ⟨h13, h14, h15, h16, h17, h18, hrest⟩ := h c
    exact ⟨h13.trans (Cert.KernelSampleIdeal.Hand.final13 m c (real_scores m c hpre)), h14.trans (Cert.KernelSampleIdeal.Hand.final14 m c), h15.trans (Cert.KernelSampleIdeal.Hand.final15 m c), h16.trans (Cert.KernelSampleIdeal.Hand.final16 m c), h17.trans (Cert.KernelSampleIdeal.Hand.final17 m c), h18.trans (Cert.KernelSampleIdeal.Hand.final18 m c), hrest⟩
  · refine (θ_run Cert.ReferenceSampleIdeal.defs _ _).mono (fun r h c => ?_) (Cert.ReferenceSampleIdeal.Value.run (F := Ideal) m' g')
    obtain ⟨h13, h14, h15, h16, h17, h18, hrest⟩ := h c
    obtain ⟨e0, e1, e2, e3, e4, e5, e6, e7, e8, e9, e10⟩ := hagree c
    refine ⟨h13.trans ?_, h14.trans ?_, h15.trans ?_, h16.trans ?_, h17.trans ?_, h18.trans ?_, hrest⟩
    · refine (Cert.ReferenceSampleIdeal.Read.val_main_v107_eq _ _).trans ?_
      exact (congr (congr (congr (congr (congrArg (Cert.ReferenceSampleIdeal.Read.val_main_v107 (F := Ideal)) e0) e1) e2) e7) e8).trans (array13 m c)
    · refine (Cert.ReferenceSampleIdeal.Read.val_main_v108_eq _ _).trans ?_
      exact (congr (congr (congr (congr (congr (congrArg (Cert.ReferenceSampleIdeal.Read.val_main_v108 (F := Ideal)) e3) e4) e5) e6) e9) e10).trans (array14 m c)
    · refine (Cert.ReferenceSampleIdeal.Read.val_main_v111_eq _ _).trans ?_
      exact (congr (congrArg (Cert.ReferenceSampleIdeal.Read.val_main_v111 (F := Ideal)) e1) e7).trans (array15 m c)
    · refine (Cert.ReferenceSampleIdeal.Read.val_main_v114_eq _ _).trans ?_
      exact (congr (congrArg (Cert.ReferenceSampleIdeal.Read.val_main_v114 (F := Ideal)) e2) e8).trans (array16 m c)
    · refine (Cert.ReferenceSampleIdeal.Read.val_main_v117_eq _ _).trans ?_
      exact (congr (congrArg (Cert.ReferenceSampleIdeal.Read.val_main_v117 (F := Ideal)) e4) e9).trans (array17 m c)
    · refine (Cert.ReferenceSampleIdeal.Read.val_main_v120_eq _ _).trans ?_
      exact (congr (congrArg (Cert.ReferenceSampleIdeal.Read.val_main_v120 (F := Ideal)) e5) e10).trans (array18 m c)

end Cert.SampClaim
-- ==== Proof.StepInBlock.lean ====
/-
  What one grid point of the decode step's input projection leaves in its output blocks, read at an index.
-/
module
public import proofs.«01_k».proof.Proof.Gen.KernelStepInIdeal.Value
public import proofs.«01_k».proof.Proof.Rows
public import Idealize.ShloMosaic.Lib.Pointwise
public import Idealize.ShloMosaic.Lib.ValueIdx
@[expose] public section
noncomputable section
namespace Cert.KernelStepInIdeal.Hand
open Idealize.ShloMosaic Cert.KernelStepInIdeal Cert.KernelStepInIdeal.Gen Cert.Rows

/-- The lane test of the rotary rotation, as the body spells it. -/
def low : IVec S1x128 1 := k0_pay15

theorem low_apply : ∀ l : Fin 128, low (ix2 0 l) = if l.val % 64 < 32 then 1#1 else 0#1 := by
  decide +kernel

/-- One slab of 128 lanes after the rotation. -/
def turn (cs sn z : FVec Ideal S128x128 .f32) : FVec Ideal S128x128 .f32 :=
  addf (mulf z cs) (mulf (select (broadcastTo S128x128 (shapeCast S1x128 low shapeCasts_S1x128_S1x128) broadcasts_S1x128_S128x128)
    (dynamicRotate 1 96#32 none z rotates_S128x128_d1) (dynamicRotate 1 32#32 none z rotates_S128x128_d1)) sn)

theorem turn_apply (cs sn z : FVec Ideal S128x128 .f32) (i : Fin 128) (l : Fin 128) :
    turn cs sn z (ix2 i l) = z (ix2 i l) * cs (ix2 i l)
      + z (ix2 i ⟨swap l.val, swap_lt (n := 2) l.isLt⟩) * sn (ix2 i l) := by
  unfold turn
  pointwise
  rw [low_apply]
  by_cases h : l.val % 64 < 32
  · rw [if_pos h, show ∀ a b : EReal, Scalar.select (1#1) a b = a from fun _ _ => rfl]
    congr 5
    show (l.val + 128 - 96) % 128 = swap l.val
    unfold swap; rw [if_pos h]; omega
  · rw [if_neg h, show ∀ a b : EReal, Scalar.select (0#1) a b = b from fun _ _ => rfl]
    congr 5
    show (l.val + 128 - 32) % 128 = swap l.val
    unfold swap; rw [if_neg h]; omega

theorem slab_congr {N : ℕ} (cs sn : FVec Ideal S128x128 .f32) (z : FVec Ideal ⟨2, ![128, N]⟩ .f32) (i : Fin 128)
    (a a' b b' : Fin N) (l l' : Fin 128) (ha : a.val = a'.val) (hl : l.val = l'.val) (hb : b.val = b'.val) :
    z (ix2 i a) * cs (ix2 i l) + z (ix2 i b) * sn (ix2 i l) = z (ix2 i a') * cs (ix2 i l') + z (ix2 i b') * sn (ix2 i l') := by
  rw [Fin.ext ha, Fin.ext hl, Fin.ext hb]

/-- Four slabs side by side. -/
def turns (cs sn : FVec Ideal S128x128 .f32) (z : FVec Ideal S128x512 .f32) : FVec Ideal S128x512 .f32 :=
  concatenate S128x512 1 [⟨S128x128, turn cs sn (extractStridedSlice S128x128 ![0, 0] z slices_S128x512_o0_0_S128x128)⟩,
    ⟨S128x128, turn cs sn (extractStridedSlice S128x128 ![0, 128] z slices_S128x512_o0_128_S128x128)⟩,
    ⟨S128x128, turn cs sn (extractStridedSlice S128x128 ![0, 256] z slices_S128x512_o0_256_S128x128)⟩,
    ⟨S128x128, turn cs sn (extractStridedSlice S128x128 ![0, 384] z slices_S128x512_o0_384_S128x128)⟩]
    concatenates_S128x128_S128x128_S128x128_S128x128_S128x512_d1

theorem turns_apply (cs sn : FVec Ideal S128x128 .f32) (z : FVec Ideal S128x512 .f32) (i : Fin 128) (j : Fin 512) :
    turns cs sn z (ix2 i j) = z (ix2 i j) * cs (ix2 i ⟨j.val % 128, by omega⟩)
      + z (ix2 i ⟨swap j.val, swap_lt (n := 8) j.isLt⟩) * sn (ix2 i ⟨j.val % 128, by omega⟩) := by
  unfold turns
  pointwise [turn_apply]
  have hs := swap_lt (n := 8) j.isLt
  by_cases h1 : j.val < 128
  · rw [dif_pos h1]
    exact slab_congr cs sn z _ _ _ _ _ _ _ rfl (by dsimp only; omega) rfl
  rw [dif_neg h1]
  by_cases h2 : j.val - 128 < 128
  · rw [dif_pos h2]
    exact slab_congr cs sn z _ _ _ _ _ _ _ (by dsimp only; omega) (by dsimp only; omega) (by dsimp only; unfold swap; split <;> split <;> omega)
  rw [dif_neg h2]
  by_cases h3 : j.val - 128 - 128 < 128
  · rw [dif_pos h3]
    exact slab_congr cs sn z _ _ _ _ _ _ _ (by dsimp only; omega) (by dsimp only; omega) (by dsimp only; unfold swap; split <;> split <;> omega)
  rw [dif_neg h3]
  exact slab_congr cs sn z _ _ _ _ _ _ _ (by dsimp only; omega) (by dsimp only; omega) (by dsimp only; unfold swap; split <;> split <;> omega)

variable (x0 : Vec Ideal S128x1024 .f32) (x1 : Vec Ideal S1x1024 .f32) (x2 : Vec Ideal S1024x2304 .bf16)
  (x3 : Vec Ideal S128x128 .f32) (x4 : Vec Ideal S128x128 .f32)

/-- Columns `o`, `o + 1`, … of the projection of a row. -/
theorem proj5 (i : Fin 128) (j : Fin 512) : k0_pay48 (F := Ideal) x0 x1 x2 x3 x4 (ix2 i j)
    = proj (fun k => x0 (ix2 i k)) (fun k => x1 (ix2 0 k)) (fun k (n : Fin 512) => x2 (ix2 k ⟨n.val, by omega⟩)) j := by
  unfold k0_pay48
  unfold_payloads
  pointwise [dot_S128x1024_S1024x512_S128x512_1_0_0_1_n_n]
  rfl
theorem proj6 (i : Fin 128) (j : Fin 512) : k0_pay49 (F := Ideal) x0 x1 x2 x3 x4 (ix2 i j)
    = proj (fun k => x0 (ix2 i k)) (fun k => x1 (ix2 0 k)) (fun k (n : Fin 512) => x2 (ix2 k ⟨512 + n.val, by omega⟩)) j := by
  unfold k0_pay49 k0_pay45
  unfold_payloads
  pointwise [dot_S128x1024_S1024x512_S128x512_1_0_0_1_n_n]
  rfl
theorem proj8 (i : Fin 128) (j : Fin 512) : k0_pay50 (F := Ideal) x0 x1 x2 x3 x4 (ix2 i j)
    = proj (fun k => x0 (ix2 i k)) (fun k => x1 (ix2 0 k)) (fun k (n : Fin 512) => x2 (ix2 k ⟨1536 + n.val, by omega⟩)) j := by
  unfold k0_pay50 k0_pay45
  unfold_payloads
  pointwise [dot_S128x1024_S1024x512_S128x512_1_0_0_1_n_n]
  rfl
/-- The value columns of the first attention. -/
theorem proj7 (i : Fin 128) (j : Fin 512) : out0_7 (F := Ideal) x0 x1 x2 x3 x4 (ix2 i j)
    = proj (fun k => x0 (ix2 i k)) (fun k => x1 (ix2 0 k)) (fun k (n : Fin 512) => x2 (ix2 k ⟨1024 + n.val, by omega⟩)) j := by
  unfold out0_7
  rw [View.canon_unit_zero (by funext a; fin_cases a <;> rfl)]
  unfold k0_pay45
  unfold_payloads
  pointwise [dot_S128x1024_S1024x512_S128x512_1_0_0_1_n_n]
  rfl
/-- The key columns of the second attention before the rotation. -/
def keys : FVec Ideal S128x128 .f32 := k0_pay41 (F := Ideal) (k0_pay45 x0 x1 x2 x3 x4) (View.ld x2 r0_7)
theorem proj9 (i : Fin 128) (j : Fin 128) : keys x0 x1 x2 x3 x4 (ix2 i j)
    = proj (fun k => x0 (ix2 i k)) (fun k => x1 (ix2 0 k)) (fun k (n : Fin 128) => x2 (ix2 k ⟨2048 + n.val, by omega⟩)) j := by
  unfold keys k0_pay45
  unfold_payloads
  pointwise [dot_S128x1024_S1024x128_S128x128_1_0_0_1_n_n]
  rfl
/-- The value columns of the second attention. -/
theorem proj10 (i : Fin 128) (j : Fin 128) : out0_10 (F := Ideal) x0 x1 x2 x3 x4 (ix2 i j)
    = proj (fun k => x0 (ix2 i k)) (fun k => x1 (ix2 0 k)) (fun k (n : Fin 128) => x2 (ix2 k ⟨2176 + n.val, by omega⟩)) j := by
  unfold out0_10
  rw [View.canon_unit_zero (by funext a; fin_cases a <;> rfl)]
  unfold k0_pay45
  unfold_payloads
  pointwise [dot_S128x1024_S1024x128_S128x128_1_0_0_1_n_n]
  rfl

theorem cs_eq : k0_pay46 (F := Ideal) x0 x1 x2 x3 x4 = x3 := by
  funext y
  obtain ⟨a, b, rfl⟩ : ∃ a b, y = ix2 a b := ⟨_, _, ValueIdx.eq_ix2 (n0 := 128) (n1 := 128) y⟩
  unfold k0_pay46; unfold_payloads
  pointwise
theorem sn_eq : k0_pay47 (F := Ideal) x0 x1 x2 x3 x4 = x4 := by
  funext y
  obtain ⟨a, b, rfl⟩ : ∃ a b, y = ix2 a b := ⟨_, _, ValueIdx.eq_ix2 (n0 := 128) (n1 := 128) y⟩
  unfold k0_pay47; unfold_payloads
  pointwise

theorem out5_eq : out0_5 (F := Ideal) x0 x1 x2 x3 x4 = turns x3 x4 (k0_pay48 x0 x1 x2 x3 x4) := by
  unfold out0_5
  rw [View.canon_unit_zero (by funext a; fin_cases a <;> rfl)]
  exact (show _ = turns (k0_pay46 x0 x1 x2 x3 x4) (k0_pay47 x0 x1 x2 x3 x4) (k0_pay48 x0 x1 x2 x3 x4) from rfl).trans
    (by rw [cs_eq, sn_eq])

theorem out6_eq : out0_6 (F := Ideal) x0 x1 x2 x3 x4 = turns x3 x4 (k0_pay49 x0 x1 x2 x3 x4) := by
  unfold out0_6
  rw [View.canon_unit_zero (by funext a; fin_cases a <;> rfl)]
  exact (show _ = turns (k0_pay46 x0 x1 x2 x3 x4) (k0_pay47 x0 x1 x2 x3 x4) (k0_pay49 x0 x1 x2 x3 x4) from rfl).trans
    (by rw [cs_eq, sn_eq])

theorem out8_eq : out0_8 (F := Ideal) x0 x1 x2 x3 x4 = turns x3 x4 (k0_pay50 x0 x1 x2 x3 x4) := by
  unfold out0_8
  rw [View.canon_unit_zero (by funext a; fin_cases a <;> rfl)]
  exact (show _ = turns (k0_pay46 x0 x1 x2 x3 x4) (k0_pay47 x0 x1 x2 x3 x4) (k0_pay50 x0 x1 x2 x3 x4) from rfl).trans
    (by rw [cs_eq, sn_eq])

theorem out9_eq : out0_9 (F := Ideal) x0 x1 x2 x3 x4 = turn x3 x4 (keys x0 x1 x2 x3 x4) := by
  unfold out0_9
  rw [View.canon_unit_zero (by funext a; fin_cases a <;> rfl)]
  exact (show _ = turn (k0_pay46 x0 x1 x2 x3 x4) (k0_pay47 x0 x1 x2 x3 x4) (keys x0 x1 x2 x3 x4) from rfl).trans
    (by rw [cs_eq, sn_eq])

end Cert.KernelStepInIdeal.Hand
-- ==== Proof.StepInArray.lean ====
/-
  The six arrays of the decode step's input projection, as functions of the arguments. One grid point handles all 128
  tokens, which all stand at position 8192: its blocks are the whole arrays.
-/
module
public import proofs.«01_k».proof.Proof.StepInBlock
public import proofs.«01_k».proof.Proof.Reads
@[expose] public section
noncomputable section
namespace Cert.KernelStepInIdeal.Hand
open Idealize.ShloMosaic Idealize.ShloMosaic.TcCoe Cert.KernelStepInIdeal Cert.KernelStepInIdeal.Gen Cert.Rows

variable (m : (ℓ : Loc nD τ sig) → Buf (Elt Ideal) ℓ) (c : Dev nD)

/-! ## What the host operations before the launch leave -/

theorem host_x (r : Fin 128) (k : Fin 1024) : V m c main_v30 (ix2 r k)
    = m ((c : Thread nD τ).loc main_arg0) (ix3 r 0 k) := by
  have h : V m c main_v30 = shapeCast S128x1024 (m ((c : Thread nD τ).loc main_arg0)) shapeCasts_S128x1x1024_S128x1024 := by
    unfold V hostOps0
    after_results
    rfl
  rw [h]
  exact Reads.cast_3_2 _ _ _ _ _ _ _ (by simp)

theorem host_g (k : Fin 1024) : V m c main_v31 (ix2 0 k) = m ((c : Thread nD τ).loc main_arg1) (ix1 k) := by
  have h : V m c main_v31 = shapeCast S1x1024 (m ((c : Thread nD τ).loc main_arg1)) shapeCasts_S1024_S1x1024 := by
    unfold V hostOps0
    after_results
    rfl
  rw [h]
  refine shapeCast_apply _ _ (ix2 0 k) (ix1 k) ?_
  rw [Shape.rowMajor_val_one, Shape.rowMajor_val_two]
  show k.val = 0 * 1024 + k.val
  omega

/-- The weight's projection columns. -/
def qkv : FVec Ideal S1024x2304 .bf16 :=
  extractStridedSlice S1024x2304 ![0, 0] (truncf .bf16 (m ((c : Thread nD τ).loc main_arg2)) bitsLt_bf16_f32) slices_S1024x4352_S1024x2304_0_0

theorem host_w (r : Fin 1024) (n : Fin 2304) :
    V m c main_v1 (ix2 r n) = m ((c : Thread nD τ).loc main_arg2) (ix2 r ⟨n.val, by omega⟩) := by
  have h : V m c main_v1 = qkv m c := by
    unfold V hostOps0
    after_results
    rfl
  rw [h]
  unfold qkv
  pointwise

/-- The angles: every token stands at position 8192. -/
def angles : FVec Ideal S128x32 .f32 :=
  mulf (broadcastInDim S128x32 ![0, 1] bcast_S128x1_S128x32_0_1 (broadcastInDim S128x1 ![0] bcast_S128_S128x1_0
      (sitofp .f32 (broadcastInDim S128 ![] bcast_S_S128 (constantI S_ 32 0x00002000#32)))))
    (broadcastInDim S128x32 ![0, 1] bcast_S1x32_S128x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))

theorem angles_apply (r : Fin 128) (k : Fin 32) : angles (ix2 r k) = angle 8192 k.val := by
  unfold angles
  pointwise
  rfl

/-- A table of 32 lanes, then 32 more, laid out twice. -/
theorem tiled (a b : FVec Ideal S128x32 .f32) (r : Fin 128) (l : Fin 128) :
    shapeCast S128x128 (broadcastInDim S1x128x2x64 ![0, 1, 2, 3] bcast_S1x128x1x64_S1x128x2x64_0_1_2_3
      (shapeCast S1x128x1x64 (concatenate S128x64 1 [⟨S128x32, a⟩, ⟨S128x32, b⟩] concatenates_S128x32_S128x32_S128x64_d1)
        shapeCasts_S128x64_S1x128x1x64)) shapeCasts_S1x128x2x64_S128x128 (ix2 r l)
      = if l.val % 64 < 32 then a (ix2 r ⟨l.val % 32, by omega⟩) else b (ix2 r ⟨l.val % 32, by omega⟩) := by
  refine (Reads.cast_4_2 _ _ r l 0 r ⟨l.val / 64, by omega⟩ ⟨l.val % 64, by omega⟩ (by simp; omega)).trans ?_
  have h := fun (s : Fin 64) => Reads.cast_2_4 (a := 1) (b := 128) (c := 1) (d := 64)
    (concatenate S128x64 1 [⟨S128x32, a⟩, ⟨S128x32, b⟩] concatenates_S128x32_S128x32_S128x64_d1)
    shapeCasts_S128x64_S1x128x1x64 0 r 0 s r s (by simp)
  generalize shapeCast S1x128x1x64 _ _ = y at h ⊢
  pointwise
  refine (h _).trans ?_
  pointwise
  by_cases hl : l.val % 64 < 32
  · rw [dif_pos hl, if_pos hl]
    congr 2; apply Fin.ext; dsimp only; omega
  · rw [dif_neg hl, if_neg hl]
    congr 2; apply Fin.ext; dsimp only; omega

theorem host_cos (r : Fin 128) (l : Fin 128) :
    V m c main_v24 (ix2 r l) = Ideal.cos (angle 8192 (l.val % 32)) := by
  have h : V m c main_v24 = shapeCast S128x128 (broadcastInDim S1x128x2x64 ![0, 1, 2, 3] bcast_S1x128x1x64_S1x128x2x64_0_1_2_3
      (shapeCast S1x128x1x64 (concatenate S128x64 1 [⟨S128x32, Host.cos angles⟩, ⟨S128x32, Host.cos angles⟩]
        concatenates_S128x32_S128x32_S128x64_d1) shapeCasts_S128x64_S1x128x1x64)) shapeCasts_S1x128x2x64_S128x128 := by
    unfold V hostOps0
    after_results
    rfl
  rw [h]
  refine (tiled _ _ r l).trans ?_
  rw [ite_self]
  pointwise [angles_apply]

theorem host_sin (r : Fin 128) (l : Fin 128) :
    V m c main_v29 (ix2 r l) = if l.val % 64 < 32 then -Ideal.sin (angle 8192 (l.val % 32))
      else Ideal.sin (angle 8192 (l.val % 32)) := by
  have h : V m c main_v29 = shapeCast S128x128 (broadcastInDim S1x128x2x64 ![0, 1, 2, 3] bcast_S1x128x1x64_S1x128x2x64_0_1_2_3
      (shapeCast S1x128x1x64 (concatenate S128x64 1 [⟨S128x32, Host.negf (Host.sin angles)⟩, ⟨S128x32, Host.sin angles⟩]
        concatenates_S128x32_S128x32_S128x64_d1) shapeCasts_S128x64_S1x128x1x64)) shapeCasts_S1x128x2x64_S128x128 := by
    unfold V hostOps0
    after_results
    rfl
  rw [h]
  refine (tiled _ _ r l).trans ?_
  pointwise [angles_apply]

/-! ## The blocks, from the arguments -/

theorem npoints (t : Fin cfg0.N) : t.val = 0 := by have := t.isLt; have h : cfg0.N = 1 := N_0; omega

theorem index_facts : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) := by decide +kernel

theorem blk0 (t : Fin cfg0.N) (i : Fin 128) (k : Fin 1024) : iblk m c 0 t (ix2 i k) = V m c main_v30 (ix2 i k) := by
  have hi := (index_facts t).1
  unfold iblk
  rw [View.read_apply]
  show V m c main_v30 _ = V m c main_v30 _
  congr 1
  funext a
  apply Fin.ext
  match a with
  | ⟨0, _⟩ => show win0_0.index t 0 * 128 + 1 * i.val = i.val; rw [hi.1]; omega
  | ⟨1, _⟩ => show win0_0.index t 1 * 1024 + 1 * k.val = k.val; rw [hi.2]; omega

theorem blk1 (t : Fin cfg0.N) (i : Fin 1) (k : Fin 1024) : iblk m c 1 t (ix2 i k) = V m c main_v31 (ix2 i k) := by
  have hi := (index_facts t).2.1
  unfold iblk
  rw [View.read_apply]
  show V m c main_v31 _ = V m c main_v31 _
  congr 1
  funext a
  apply Fin.ext
  match a with
  | ⟨0, _⟩ => show win0_1.index t 0 * 1 + 1 * i.val = i.val; rw [hi.1]; omega
  | ⟨1, _⟩ => show win0_1.index t 1 * 1024 + 1 * k.val = k.val; rw [hi.2]; omega

theorem blk2 (t : Fin cfg0.N) (i : Fin 1024) (k : Fin 2304) : iblk m c 2 t (ix2 i k) = V m c main_v1 (ix2 i k) := by
  have hi := (index_facts t).2.2.1
  unfold iblk
  rw [View.read_apply]
  show V m c main_v1 _ = V m c main_v1 _
  congr 1
  funext a
  apply Fin.ext
  match a with
  | ⟨0, _⟩ => show win0_2.index t 0 * 1024 + 1 * i.val = i.val; rw [hi.1]; omega
  | ⟨1, _⟩ => show win0_2.index t 1 * 2304 + 1 * k.val = k.val; rw [hi.2]; omega

theorem blk3 (t : Fin cfg0.N) (i : Fin 128) (k : Fin 128) : iblk m c 3 t (ix2 i k) = V m c main_v24 (ix2 i k) := by
  have hi := (index_facts t).2.2.2.1
  unfold iblk
  rw [View.read_apply]
  show V m c main_v24 _ = V m c main_v24 _
  congr 1
  funext a
  apply Fin.ext
  match a with
  | ⟨0, _⟩ => show win0_3.index t 0 * 128 + 1 * i.val = i.val; rw [hi.1]; omega
  | ⟨1, _⟩ => show win0_3.index t 1 * 128 + 1 * k.val = k.val; rw [hi.2]; omega

theorem blk4 (t : Fin cfg0.N) (i : Fin 128) (k : Fin 128) : iblk m c 4 t (ix2 i k) = V m c main_v29 (ix2 i k) := by
  have hi := (index_facts t).2.2.2.2.1
  unfold iblk
  rw [View.read_apply]
  show V m c main_v29 _ = V m c main_v29 _
  congr 1
  funext a
  apply Fin.ext
  match a with
  | ⟨0, _⟩ => show win0_4.index t 0 * 128 + 1 * i.val = i.val; rw [hi.1]; omega
  | ⟨1, _⟩ => show win0_4.index t 1 * 128 + 1 * k.val = k.val; rw [hi.2]; omega

theorem read0 (t : Fin cfg0.N) (i : Fin 128) (k : Fin 1024) : iblk m c 0 t (ix2 i k)
    = m ((c : Thread nD τ).loc main_arg0) (ix3 i 0 k) := (blk0 m c t i k).trans (host_x m c _ _)
theorem read1 (t : Fin cfg0.N) (k : Fin 1024) : iblk m c 1 t (ix2 0 k) = m ((c : Thread nD τ).loc main_arg1) (ix1 k) :=
  (blk1 m c t 0 k).trans (host_g m c _)
theorem read2 (t : Fin cfg0.N) (r : Fin 1024) (n : Fin 2304) :
    iblk m c 2 t (ix2 r n) = m ((c : Thread nD τ).loc main_arg2) (ix2 r ⟨n.val, by omega⟩) := (blk2 m c t r n).trans (host_w m c _ _)
theorem read3 (t : Fin cfg0.N) (i : Fin 128) (l : Fin 128) : iblk m c 3 t (ix2 i l)
    = Ideal.cos (angle 8192 (l.val % 32)) := (blk3 m c t i l).trans (host_cos m c _ _)
theorem read4 (t : Fin cfg0.N) (i : Fin 128) (l : Fin 128) : iblk m c 4 t (ix2 i l)
    = if l.val % 64 < 32 then -Ideal.sin (angle 8192 (l.val % 32)) else Ideal.sin (angle 8192 (l.val % 32)) :=
  (blk4 m c t i l).trans (host_sin m c _ _)

/-- A token's projections, one for each column of the weight. -/
def zrow (b : Fin 128) : Fin 4352 → EReal :=
  proj (fun j => m ((c : Thread nD τ).loc main_arg0) (ix3 b 0 j)) (fun j => m ((c : Thread nD τ).loc main_arg1) (ix1 j))
    (fun k n => m ((c : Thread nD τ).loc main_arg2) (ix2 k n))

theorem z5 (t : Fin cfg0.N) (i : Fin 128) (j : Fin 512) : k0_pay48 (F := Ideal) (iblk m c 0 t) (iblk m c 1 t) (iblk m c 2 t) (iblk m c 3 t) (iblk m c 4 t) (ix2 i j)
    = zrow m c i ⟨0 + j.val, by omega⟩ := by
  rw [proj5]
  simp only [read0, read1, read2]
  unfold zrow proj
  simp only [Nat.zero_add]

theorem z6 (t : Fin cfg0.N) (i : Fin 128) (j : Fin 512) : k0_pay49 (F := Ideal) (iblk m c 0 t) (iblk m c 1 t) (iblk m c 2 t) (iblk m c 3 t) (iblk m c 4 t) (ix2 i j)
    = zrow m c i ⟨512 + j.val, by omega⟩ := by
  rw [proj6]
  simp only [read0, read1, read2]
  unfold zrow proj
  rfl

theorem z7 (t : Fin cfg0.N) (i : Fin 128) (j : Fin 512) : out0_7 (F := Ideal) (iblk m c 0 t) (iblk m c 1 t) (iblk m c 2 t) (iblk m c 3 t) (iblk m c 4 t) (ix2 i j)
    = zrow m c i ⟨1024 + j.val, by omega⟩ := by
  rw [proj7]
  simp only [read0, read1, read2]
  unfold zrow proj
  rfl

theorem z8 (t : Fin cfg0.N) (i : Fin 128) (j : Fin 512) : k0_pay50 (F := Ideal) (iblk m c 0 t) (iblk m c 1 t) (iblk m c 2 t) (iblk m c 3 t) (iblk m c 4 t) (ix2 i j)
    = zrow m c i ⟨1536 + j.val, by omega⟩ := by
  rw [proj8]
  simp only [read0, read1, read2]
  unfold zrow proj
  rfl

theorem z9 (t : Fin cfg0.N) (i : Fin 128) (j : Fin 128) : keys (iblk m c 0 t) (iblk m c 1 t) (iblk m c 2 t) (iblk m c 3 t) (iblk m c 4 t) (ix2 i j)
    = zrow m c i ⟨2048 + j.val, by omega⟩ := by
  rw [proj9]
  simp only [read0, read1, read2]
  unfold zrow proj
  rfl

theorem z10 (t : Fin cfg0.N) (i : Fin 128) (j : Fin 128) : out0_10 (F := Ideal) (iblk m c 0 t) (iblk m c 1 t) (iblk m c 2 t) (iblk m c 3 t) (iblk m c 4 t) (ix2 i j)
    = zrow m c i ⟨2176 + j.val, by omega⟩ := by
  rw [proj10]
  simp only [read0, read1, read2]
  unfold zrow proj
  rfl

/-! ## The six arrays -/

def at5 (r : Fin 128) (j : Fin 512) : EReal :=
  spun (zrow m c r) 8192 ⟨0 + j.val, by omega⟩ ⟨0 + swap j.val, by have := swap_lt (n := 8) j.isLt; omega⟩ j.val
def arr5 : Buf (Elt Ideal) ((c : Thread nD τ).loc main_v32_0) := fun i : S128x512.Idx => at5 m c (i 0) (i 1)

def at6 (r : Fin 128) (j : Fin 512) : EReal :=
  spun (zrow m c r) 8192 ⟨512 + j.val, by omega⟩ ⟨512 + swap j.val, by have := swap_lt (n := 8) j.isLt; omega⟩ j.val
def arr6 : Buf (Elt Ideal) ((c : Thread nD τ).loc main_v32_1) := fun i : S128x512.Idx => at6 m c (i 0) (i 1)

def at7 (r : Fin 128) (j : Fin 512) : EReal :=
  zrow m c r ⟨1024 + j.val, by omega⟩
def arr7 : Buf (Elt Ideal) ((c : Thread nD τ).loc main_v32_2) := fun i : S128x512.Idx => at7 m c (i 0) (i 1)

def at8 (r : Fin 128) (j : Fin 512) : EReal :=
  spun (zrow m c r) 8192 ⟨1536 + j.val, by omega⟩ ⟨1536 + swap j.val, by have := swap_lt (n := 8) j.isLt; omega⟩ j.val
def arr8 : Buf (Elt Ideal) ((c : Thread nD τ).loc main_v32_3) := fun i : S128x512.Idx => at8 m c (i 0) (i 1)

def at9 (r : Fin 128) (j : Fin 128) : EReal :=
  spun (zrow m c r) 8192 ⟨2048 + j.val, by omega⟩ ⟨2048 + swap j.val, by have := swap_lt (n := 2) j.isLt; omega⟩ j.val
def arr9 : Buf (Elt Ideal) ((c : Thread nD τ).loc main_v32_4) := fun i : S128x128.Idx => at9 m c (i 0) (i 1)

def at10 (r : Fin 128) (j : Fin 128) : EReal :=
  zrow m c r ⟨2176 + j.val, by omega⟩
def arr10 : Buf (Elt Ideal) ((c : Thread nD τ).loc main_v32_5) := fun i : S128x128.Idx => at10 m c (i 0) (i 1)

theorem block5 (t : Fin cfg0.N) (i : Fin 128) (j : Fin 512) : out0_5 (F := Ideal) (iblk m c 0 t) (iblk m c 1 t) (iblk m c 2 t) (iblk m c 3 t) (iblk m c 4 t) (ix2 i j) = at5 m c i j := by
  rw [out5_eq, turns_apply]
  simp only [z5, read3, read4]
  unfold at5 spun
  rw [show j.val % 128 % 32 = j.val % 32 by omega, show j.val % 128 % 64 = j.val % 64 by omega]

theorem block6 (t : Fin cfg0.N) (i : Fin 128) (j : Fin 512) : out0_6 (F := Ideal) (iblk m c 0 t) (iblk m c 1 t) (iblk m c 2 t) (iblk m c 3 t) (iblk m c 4 t) (ix2 i j) = at6 m c i j := by
  rw [out6_eq, turns_apply]
  simp only [z6, read3, read4]
  unfold at6 spun
  rw [show j.val % 128 % 32 = j.val % 32 by omega, show j.val % 128 % 64 = j.val % 64 by omega]

theorem block7 (t : Fin cfg0.N) (i : Fin 128) (j : Fin 512) : out0_7 (F := Ideal) (iblk m c 0 t) (iblk m c 1 t) (iblk m c 2 t) (iblk m c 3 t) (iblk m c 4 t) (ix2 i j) = at7 m c i j :=
  z7 m c t i j

theorem block8 (t : Fin cfg0.N) (i : Fin 128) (j : Fin 512) : out0_8 (F := Ideal) (iblk m c 0 t) (iblk m c 1 t) (iblk m c 2 t) (iblk m c 3 t) (iblk m c 4 t) (ix2 i j) = at8 m c i j := by
  rw [out8_eq, turns_apply]
  simp only [z8, read3, read4]
  unfold at8 spun
  rw [show j.val % 128 % 32 = j.val % 32 by omega, show j.val % 128 % 64 = j.val % 64 by omega]

theorem block9 (t : Fin cfg0.N) (i : Fin 128) (j : Fin 128) : out0_9 (F := Ideal) (iblk m c 0 t) (iblk m c 1 t) (iblk m c 2 t) (iblk m c 3 t) (iblk m c 4 t) (ix2 i j) = at9 m c i j := by
  rw [out9_eq, turn_apply]
  simp only [z9, read3, read4]
  rfl

theorem block10 (t : Fin cfg0.N) (i : Fin 128) (j : Fin 128) : out0_10 (F := Ideal) (iblk m c 0 t) (iblk m c 1 t) (iblk m c 2 t) (iblk m c 3 t) (iblk m c 4 t) (ix2 i j) = at10 m c i j :=
  z10 m c t i j

theorem flushed5_eq (t : Fin cfg0.N) : (dats m 0 c).flushed 5 t = ((cfg0.win 5).blk t).view.read (Elt Ideal) (arr5 m c) := by
  rw [Value.flushed5]
  funext y
  refine (congrArg _ (eq_ix2 (n0 := 128) (n1 := 512) y)).trans ((block5 m c t (y 0) (y 1)).trans ?_)
  rw [View.read_apply]
  have hi := (index_facts t).2.2.2.2.2.1
  show arr5 m c (ix2 (y 0) (y 1)) = arr5 m c _
  congr 1
  funext a
  apply Fin.ext
  match a with
  | ⟨0, _⟩ => show (y 0).val = win0_5.index t 0 * 128 + 1 * (y 0).val; rw [hi.1]; omega
  | ⟨1, _⟩ => show (y 1).val = win0_5.index t 1 * 512 + 1 * (y 1).val; rw [hi.2]; omega

theorem cover5 (i : S128x512.Idx) : ∃ t : Fin cfg0.N, (cfg0.win 5).flush t = true ∧ i ∈ ((cfg0.win 5).blk t).view.set := by
  have h0 := Idealize.ShloMosaic.ValueIdx.idx2_lt0 i
  have h1 := Idealize.ShloMosaic.ValueIdx.idx2_lt1 i
  have hN : cfg0.N = 1 := N_0
  let t : Fin cfg0.N := ⟨0, by omega⟩
  refine ⟨t, flush0_5 _, ?_⟩
  show i ∈ ((View.whole main_v32_0).slice (win0_5.rect t)).set
  rw [View.set_slice_whole, Rect.mem_set_unit]
  have hi := (index_facts t).2.2.2.2.2.1
  intro a
  match a with
  | ⟨0, _⟩ => show win0_5.index t 0 * 128 ≤ (i 0).val ∧ (i 0).val < win0_5.index t 0 * 128 + 128; rw [hi.1]; omega
  | ⟨1, _⟩ => show win0_5.index t 1 * 512 ≤ (i 1).val ∧ (i 1).val < win0_5.index t 1 * 512 + 512; rw [hi.2]; omega

theorem final5 : (dats m 0 c).arrAt 5 cfg0.N = arr5 m c :=
  (dats m 0 c).arrAt_eq_of_cover 5 (arr5 m c) (fun t _ => flushed5_eq m c t) cover5

theorem flushed6_eq (t : Fin cfg0.N) : (dats m 0 c).flushed 6 t = ((cfg0.win 6).blk t).view.read (Elt Ideal) (arr6 m c) := by
  rw [Value.flushed6]
  funext y
  refine (congrArg _ (eq_ix2 (n0 := 128) (n1 := 512) y)).trans ((block6 m c t (y 0) (y 1)).trans ?_)
  rw [View.read_apply]
  have hi := (index_facts t).2.2.2.2.2.2.1
  show arr6 m c (ix2 (y 0) (y 1)) = arr6 m c _
  congr 1
  funext a
  apply Fin.ext
  match a with
  | ⟨0, _⟩ => show (y 0).val = win0_6.index t 0 * 128 + 1 * (y 0).val; rw [hi.1]; omega
  | ⟨1, _⟩ => show (y 1).val = win0_6.index t 1 * 512 + 1 * (y 1).val; rw [hi.2]; omega

theorem cover6 (i : S128x512.Idx) : ∃ t : Fin cfg0.N, (cfg0.win 6).flush t = true ∧ i ∈ ((cfg0.win 6).blk t).view.set := by
  have h0 := Idealize.ShloMosaic.ValueIdx.idx2_lt0 i
  have h1 := Idealize.ShloMosaic.ValueIdx.idx2_lt1 i
  have hN : cfg0.N = 1 := N_0
  let t : Fin cfg0.N := ⟨0, by omega⟩
  refine ⟨t, flush0_6 _, ?_⟩
  show i ∈ ((View.whole main_v32_1).slice (win0_6.rect t)).set
  rw [View.set_slice_whole, Rect.mem_set_unit]
  have hi := (index_facts t).2.2.2.2.2.2.1
  intro a
  match a with
  | ⟨0, _⟩ => show win0_6.index t 0 * 128 ≤ (i 0).val ∧ (i 0).val < win0_6.index t 0 * 128 + 128; rw [hi.1]; omega
  | ⟨1, _⟩ => show win0_6.index t 1 * 512 ≤ (i 1).val ∧ (i 1).val < win0_6.index t 1 * 512 + 512; rw [hi.2]; omega

theorem final6 : (dats m 0 c).arrAt 6 cfg0.N = arr6 m c :=
  (dats m 0 c).arrAt_eq_of_cover 6 (arr6 m c) (fun t _ => flushed6_eq m c t) cover6

theorem flushed7_eq (t : Fin cfg0.N) : (dats m 0 c).flushed 7 t = ((cfg0.win 7).blk t).view.read (Elt Ideal) (arr7 m c) := by
  rw [Value.flushed7]
  funext y
  refine (congrArg _ (eq_ix2 (n0 := 128) (n1 := 512) y)).trans ((block7 m c t (y 0) (y 1)).trans ?_)
  rw [View.read_apply]
  have hi := (index_facts t).2.2.2.2.2.2.2.1
  show arr7 m c (ix2 (y 0) (y 1)) = arr7 m c _
  congr 1
  funext a
  apply Fin.ext
  match a with
  | ⟨0, _⟩ => show (y 0).val = win0_7.index t 0 * 128 + 1 * (y 0).val; rw [hi.1]; omega
  | ⟨1, _⟩ => show (y 1).val = win0_7.index t 1 * 512 + 1 * (y 1).val; rw [hi.2]; omega

theorem cover7 (i : S128x512.Idx) : ∃ t : Fin cfg0.N, (cfg0.win 7).flush t = true ∧ i ∈ ((cfg0.win 7).blk t).view.set := by
  have h0 := Idealize.ShloMosaic.ValueIdx.idx2_lt0 i
  have h1 := Idealize.ShloMosaic.ValueIdx.idx2_lt1 i
  have hN : cfg0.N = 1 := N_0
  let t : Fin cfg0.N := ⟨0, by omega⟩
  refine ⟨t, flush0_7 _, ?_⟩
  show i ∈ ((View.whole main_v32_2).slice (win0_7.rect t)).set
  rw [View.set_slice_whole, Rect.mem_set_unit]
  have hi := (index_facts t).2.2.2.2.2.2.2.1
  intro a
  match a with
  | ⟨0, _⟩ => show win0_7.index t 0 * 128 ≤ (i 0).val ∧ (i 0).val < win0_7.index t 0 * 128 + 128; rw [hi.1]; omega
  | ⟨1, _⟩ => show win0_7.index t 1 * 512 ≤ (i 1).val ∧ (i 1).val < win0_7.index t 1 * 512 + 512; rw [hi.2]; omega

theorem final7 : (dats m 0 c).arrAt 7 cfg0.N = arr7 m c :=
  (dats m 0 c).arrAt_eq_of_cover 7 (arr7 m c) (fun t _ => flushed7_eq m c t) cover7

theorem flushed8_eq (t : Fin cfg0.N) : (dats m 0 c).flushed 8 t = ((cfg0.win 8).blk t).view.read (Elt Ideal) (arr8 m c) := by
  rw [Value.flushed8]
  funext y
  refine (congrArg _ (eq_ix2 (n0 := 128) (n1 := 512) y)).trans ((block8 m c t (y 0) (y 1)).trans ?_)
  rw [View.read_apply]
  have hi := (index_facts t).2.2.2.2.2.2.2.2.1
  show arr8 m c (ix2 (y 0) (y 1)) = arr8 m c _
  congr 1
  funext a
  apply Fin.ext
  match a with
  | ⟨0, _⟩ => show (y 0).val = win0_8.index t 0 * 128 + 1 * (y 0).val; rw [hi.1]; omega
  | ⟨1, _⟩ => show (y 1).val = win0_8.index t 1 * 512 + 1 * (y 1).val; rw [hi.2]; omega

theorem cover8 (i : S128x512.Idx) : ∃ t : Fin cfg0.N, (cfg0.win 8).flush t = true ∧ i ∈ ((cfg0.win 8).blk t).view.set := by
  have h0 := Idealize.ShloMosaic.ValueIdx.idx2_lt0 i
  have h1 := Idealize.ShloMosaic.ValueIdx.idx2_lt1 i
  have hN : cfg0.N = 1 := N_0
  let t : Fin cfg0.N := ⟨0, by omega⟩
  refine ⟨t, flush0_8 _, ?_⟩
  show i ∈ ((View.whole main_v32_3).slice (win0_8.rect t)).set
  rw [View.set_slice_whole, Rect.mem_set_unit]
  have hi := (index_facts t).2.2.2.2.2.2.2.2.1
  intro a
  match a with
  | ⟨0, _⟩ => show win0_8.index t 0 * 128 ≤ (i 0).val ∧ (i 0).val < win0_8.index t 0 * 128 + 128; rw [hi.1]; omega
  | ⟨1, _⟩ => show win0_8.index t 1 * 512 ≤ (i 1).val ∧ (i 1).val < win0_8.index t 1 * 512 + 512; rw [hi.2]; omega

theorem final8 : (dats m 0 c).arrAt 8 cfg0.N = arr8 m c :=
  (dats m 0 c).arrAt_eq_of_cover 8 (arr8 m c) (fun t _ => flushed8_eq m c t) cover8

theorem flushed9_eq (t : Fin cfg0.N) : (dats m 0 c).flushed 9 t = ((cfg0.win 9).blk t).view.read (Elt Ideal) (arr9 m c) := by
  rw [Value.flushed9]
  funext y
  refine (congrArg _ (eq_ix2 (n0 := 128) (n1 := 128) y)).trans ((block9 m c t (y 0) (y 1)).trans ?_)
  rw [View.read_apply]
  have hi := (index_facts t).2.2.2.2.2.2.2.2.2.1
  show arr9 m c (ix2 (y 0) (y 1)) = arr9 m c _
  congr 1
  funext a
  apply Fin.ext
  match a with
  | ⟨0, _⟩ => show (y 0).val = win0_9.index t 0 * 128 + 1 * (y 0).val; rw [hi.1]; omega
  | ⟨1, _⟩ => show (y 1).val = win0_9.index t 1 * 128 + 1 * (y 1).val; rw [hi.2]; omega

theorem cover9 (i : S128x128.Idx) : ∃ t : Fin cfg0.N, (cfg0.win 9).flush t = true ∧ i ∈ ((cfg0.win 9).blk t).view.set := by
  have h0 := Idealize.ShloMosaic.ValueIdx.idx2_lt0 i
  have h1 := Idealize.ShloMosaic.ValueIdx.idx2_lt1 i
  have hN : cfg0.N = 1 := N_0
  let t : Fin cfg0.N := ⟨0, by omega⟩
  refine ⟨t, flush0_9 _, ?_⟩
  show i ∈ ((View.whole main_v32_4).slice (win0_9.rect t)).set
  rw [View.set_slice_whole, Rect.mem_set_unit]
  have hi := (index_facts t).2.2.2.2.2.2.2.2.2.1
  intro a
  match a with
  | ⟨0, _⟩ => show win0_9.index t 0 * 128 ≤ (i 0).val ∧ (i 0).val < win0_9.index t 0 * 128 + 128; rw [hi.1]; omega
  | ⟨1, _⟩ => show win0_9.index t 1 * 128 ≤ (i 1).val ∧ (i 1).val < win0_9.index t 1 * 128 + 128; rw [hi.2]; omega

theorem final9 : (dats m 0 c).arrAt 9 cfg0.N = arr9 m c :=
  (dats m 0 c).arrAt_eq_of_cover 9 (arr9 m c) (fun t _ => flushed9_eq m c t) cover9

theorem flushed10_eq (t : Fin cfg0.N) : (dats m 0 c).flushed 10 t = ((cfg0.win 10).blk t).view.read (Elt Ideal) (arr10 m c) := by
  rw [Value.flushed10]
  funext y
  refine (congrArg _ (eq_ix2 (n0 := 128) (n1 := 128) y)).trans ((block10 m c t (y 0) (y 1)).trans ?_)
  rw [View.read_apply]
  have hi := (index_facts t).2.2.2.2.2.2.2.2.2.2
  show arr10 m c (ix2 (y 0) (y 1)) = arr10 m c _
  congr 1
  funext a
  apply Fin.ext
  match a with
  | ⟨0, _⟩ => show (y 0).val = win0_10.index t 0 * 128 + 1 * (y 0).val; rw [hi.1]; omega
  | ⟨1, _⟩ => show (y 1).val = win0_10.index t 1 * 128 + 1 * (y 1).val; rw [hi.2]; omega

theorem cover10 (i : S128x128.Idx) : ∃ t : Fin cfg0.N, (cfg0.win 10).flush t = true ∧ i ∈ ((cfg0.win 10).blk t).view.set := by
  have h0 := Idealize.ShloMosaic.ValueIdx.idx2_lt0 i
  have h1 := Idealize.ShloMosaic.ValueIdx.idx2_lt1 i
  have hN : cfg0.N = 1 := N_0
  let t : Fin cfg0.N := ⟨0, by omega⟩
  refine ⟨t, flush0_10 _, ?_⟩
  show i ∈ ((View.whole main_v32_5).slice (win0_10.rect t)).set
  rw [View.set_slice_whole, Rect.mem_set_unit]
  have hi := (index_facts t).2.2.2.2.2.2.2.2.2.2
  intro a
  match a with
  | ⟨0, _⟩ => show win0_10.index t 0 * 128 ≤ (i 0).val ∧ (i 0).val < win0_10.index t 0 * 128 + 128; rw [hi.1]; omega
  | ⟨1, _⟩ => show win0_10.index t 1 * 128 ≤ (i 1).val ∧ (i 1).val < win0_10.index t 1 * 128 + 128; rw [hi.2]; omega

theorem final10 : (dats m 0 c).arrAt 10 cfg0.N = arr10 m c :=
  (dats m 0 c).arrAt_eq_of_cover 10 (arr10 m c) (fun t _ => flushed10_eq m c t) cover10

end Cert.KernelStepInIdeal.Hand
-- ==== Proof.StepInRef.lean ====
/-
  The reference's decode input projection, result by result: each entry is a token's projection of Rows.lean, rotated where the
  layer rotates it.
-/
module
public import proofs.«01_k».proof.Proof.Gen.ReferenceStepInIdeal.Read
public import proofs.«01_k».proof.Proof.Rows
public import proofs.«01_k».proof.Proof.Reads
public import Idealize.ShloMosaic.Lib.Pointwise
public import Idealize.ShloMosaic.Lib.ValueIdx
@[expose] public section
noncomputable section
namespace Cert.ReferenceStepInIdeal.Hand
open Idealize.ShloMosaic Cert.ReferenceStepInIdeal Cert.ReferenceStepInIdeal.Gen Cert.Rows
open Cert.ReferenceStepInIdeal.Read

variable (x0 : (⟨S128x1x1024, .f32⟩ : BufTy).Contents (Elt Ideal)) (x1 : (⟨S1024, .f32⟩ : BufTy).Contents (Elt Ideal))
  (x2 : (⟨S1024x4352, .f32⟩ : BufTy).Contents (Elt Ideal))

theorem normed (b : Fin 128) (k : Fin 1024) :
    val_main_v15 (F := Ideal) x0 x1 (ix3 b 0 k) = rms (fun j => x0 (ix3 b 0 j)) (fun j => x1 (ix1 j)) k := by
  unfold val_main_v15 val_main_v14 val_main_v13 val_main_v12 val_main_v11 val_main_v10 val_main_v9 val_main_v8 val_main_v7 val_main_v6 val_main_v5 val_main_v4 val_main_v3 val_main_cst val_main_cst_0 val_main_cst_1
  pointwise
  rfl

/-- A token's projections, one for each column of the weight. -/
def zrow (b : Fin 128) : Fin 4352 → EReal :=
  proj (fun j => x0 (ix3 b 0 j)) (fun j => x1 (ix1 j)) (fun k n => x2 (ix2 k n))

theorem projected (b : Fin 128) (n : Fin 4352) : val_main_v16 (F := Ideal) x0 x1 x2 (ix3 b 0 n) = zrow x0 x1 x2 b n := by
  unfold val_main_v16
  pointwise [normed, dot_S128x1x1024_S1024x4352_S128x1x4352_2_0_01_1_n_n]
  rfl

theorem heads25 (b : Fin 128) (h : Fin 8) (d : Fin 64) : val_main_v25 (F := Ideal) x0 x1 x2 (ix4 b 0 h d)
    = zrow x0 x1 x2 b ⟨0 + (64 * h.val + d.val), by omega⟩ := by
  unfold val_main_v25
  refine (Reads.cast_3_4 _ _ b 0 h d b 0 ⟨64 * h.val + d.val, by omega⟩ (by simp; omega)).trans ?_
  unfold val_main_v17
  pointwise [projected]

theorem heads62 (b : Fin 128) (h : Fin 8) (d : Fin 64) : val_main_v62 (F := Ideal) x0 x1 x2 (ix4 b 0 h d)
    = zrow x0 x1 x2 b ⟨512 + (64 * h.val + d.val), by omega⟩ := by
  unfold val_main_v62
  refine (Reads.cast_3_4 _ _ b 0 h d b 0 ⟨64 * h.val + d.val, by omega⟩ (by simp; omega)).trans ?_
  unfold val_main_v18
  pointwise [projected]

theorem heads99 (b : Fin 128) (h : Fin 8) (d : Fin 64) : val_main_v99 (F := Ideal) x0 x1 x2 (ix4 b 0 h d)
    = zrow x0 x1 x2 b ⟨1024 + (64 * h.val + d.val), by omega⟩ := by
  unfold val_main_v99
  refine (Reads.cast_3_4 _ _ b 0 h d b 0 ⟨64 * h.val + d.val, by omega⟩ (by simp; omega)).trans ?_
  unfold val_main_v19
  pointwise [projected]

theorem heads100 (b : Fin 128) (h : Fin 8) (d : Fin 64) : val_main_v100 (F := Ideal) x0 x1 x2 (ix4 b 0 h d)
    = zrow x0 x1 x2 b ⟨1536 + (64 * h.val + d.val), by omega⟩ := by
  unfold val_main_v100
  refine (Reads.cast_3_4 _ _ b 0 h d b 0 ⟨64 * h.val + d.val, by omega⟩ (by simp; omega)).trans ?_
  unfold val_main_v20
  pointwise [projected]

theorem heads137 (b : Fin 128) (h : Fin 2) (d : Fin 64) : val_main_v137 (F := Ideal) x0 x1 x2 (ix4 b 0 h d)
    = zrow x0 x1 x2 b ⟨2048 + (64 * h.val + d.val), by omega⟩ := by
  unfold val_main_v137
  refine (Reads.cast_3_4 _ _ b 0 h d b 0 ⟨64 * h.val + d.val, by omega⟩ (by simp; omega)).trans ?_
  unfold val_main_v21
  pointwise [projected]

theorem heads174 (b : Fin 128) (h : Fin 2) (d : Fin 64) : val_main_v174 (F := Ideal) x0 x1 x2 (ix4 b 0 h d)
    = zrow x0 x1 x2 b ⟨2176 + (64 * h.val + d.val), by omega⟩ := by
  unfold val_main_v174
  refine (Reads.cast_3_4 _ _ b 0 h d b 0 ⟨64 * h.val + d.val, by omega⟩ (by simp; omega)).trans ?_
  unfold val_main_v22
  pointwise [projected]

theorem angle40 (k : Fin 32) : val_main_v40 (F := Ideal) (ix2 0 k) = angle 8192 k.val := by
  unfold val_main_v40 val_main_v39 val_main_v38 val_main_v37 val_main_v36 val_main_v35 val_main_v34 val_main_v33 val_main_v32 val_main_v31 val_main_v30 val_main_v29 val_main_v28 val_main_v27 val_main_v26 val_main_v2 val_main_v1 val_main_v0 val_main_c val_main_cst_2 val_main_cst_3 val_main_cst_4 val_main_cst_5
  pointwise
  rfl

theorem rotated61 (b : Fin 128) (h : Fin 8) (d : Fin 64) : val_main_v61 (F := Ideal) x0 x1 x2 (ix4 b 0 h d)
    = val_main_v25 (F := Ideal) x0 x1 x2 (ix4 b 0 h d) * Ideal.cos (angle 8192 (d.val % 32))
      + val_main_v25 (F := Ideal) x0 x1 x2 (ix4 b 0 h ⟨swap d.val, swap_lt (n := 1) d.isLt⟩)
        * (if d.val < 32 then -Ideal.sin (angle 8192 (d.val % 32)) else Ideal.sin (angle 8192 (d.val % 32))) := by
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41
  generalize val_main_v25 (F := Ideal) x0 x1 x2 = z
  pointwise [angle40]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun61 (b : Fin 128) (h : Fin 8) (d : Fin 64) (j l : ℕ) (hj : j = 64 * h.val + d.val) (hl : l % 64 = d.val) :
    val_main_v61 (F := Ideal) x0 x1 x2 (ix4 b 0 h d)
      = spun (zrow x0 x1 x2 b) 8192 ⟨0 + j, by omega⟩ ⟨0 + swap j, by unfold swap; split <;> omega⟩ l := by
  rw [rotated61]
  simp only [heads25]
  unfold spun
  have e1 : l % 32 = d.val % 32 := by omega
  rw [e1, hl]
  subst hj
  have e2 : 64 * h.val + swap d.val = swap (64 * h.val + d.val) := by unfold swap; split <;> split <;> omega
  simp only [e2]

theorem angle77 (k : Fin 32) : val_main_v77 (F := Ideal) (ix2 0 k) = angle 8192 k.val := by
  unfold val_main_v77 val_main_v76 val_main_v75 val_main_v74 val_main_v73 val_main_v72 val_main_v71 val_main_v70 val_main_v69 val_main_v68 val_main_v67 val_main_v66 val_main_v65 val_main_v64 val_main_v63 val_main_v2 val_main_v1 val_main_v0 val_main_c val_main_cst_6 val_main_cst_7 val_main_cst_8 val_main_cst_9
  pointwise
  rfl

theorem rotated98 (b : Fin 128) (h : Fin 8) (d : Fin 64) : val_main_v98 (F := Ideal) x0 x1 x2 (ix4 b 0 h d)
    = val_main_v62 (F := Ideal) x0 x1 x2 (ix4 b 0 h d) * Ideal.cos (angle 8192 (d.val % 32))
      + val_main_v62 (F := Ideal) x0 x1 x2 (ix4 b 0 h ⟨swap d.val, swap_lt (n := 1) d.isLt⟩)
        * (if d.val < 32 then -Ideal.sin (angle 8192 (d.val % 32)) else Ideal.sin (angle 8192 (d.val % 32))) := by
  unfold val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78
  generalize val_main_v62 (F := Ideal) x0 x1 x2 = z
  pointwise [angle77]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun98 (b : Fin 128) (h : Fin 8) (d : Fin 64) (j l : ℕ) (hj : j = 64 * h.val + d.val) (hl : l % 64 = d.val) :
    val_main_v98 (F := Ideal) x0 x1 x2 (ix4 b 0 h d)
      = spun (zrow x0 x1 x2 b) 8192 ⟨512 + j, by omega⟩ ⟨512 + swap j, by unfold swap; split <;> omega⟩ l := by
  rw [rotated98]
  simp only [heads62]
  unfold spun
  have e1 : l % 32 = d.val % 32 := by omega
  rw [e1, hl]
  subst hj
  have e2 : 64 * h.val + swap d.val = swap (64 * h.val + d.val) := by unfold swap; split <;> split <;> omega
  simp only [e2]

theorem angle115 (k : Fin 32) : val_main_v115 (F := Ideal) (ix2 0 k) = angle 8192 k.val := by
  unfold val_main_v115 val_main_v114 val_main_v113 val_main_v112 val_main_v111 val_main_v110 val_main_v109 val_main_v108 val_main_v107 val_main_v106 val_main_v105 val_main_v104 val_main_v103 val_main_v102 val_main_v101 val_main_v2 val_main_v1 val_main_v0 val_main_c val_main_cst_10 val_main_cst_11 val_main_cst_12 val_main_cst_13
  pointwise
  rfl

theorem rotated136 (b : Fin 128) (h : Fin 8) (d : Fin 64) : val_main_v136 (F := Ideal) x0 x1 x2 (ix4 b 0 h d)
    = val_main_v100 (F := Ideal) x0 x1 x2 (ix4 b 0 h d) * Ideal.cos (angle 8192 (d.val % 32))
      + val_main_v100 (F := Ideal) x0 x1 x2 (ix4 b 0 h ⟨swap d.val, swap_lt (n := 1) d.isLt⟩)
        * (if d.val < 32 then -Ideal.sin (angle 8192 (d.val % 32)) else Ideal.sin (angle 8192 (d.val % 32))) := by
  unfold val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116
  generalize val_main_v100 (F := Ideal) x0 x1 x2 = z
  pointwise [angle115]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun136 (b : Fin 128) (h : Fin 8) (d : Fin 64) (j l : ℕ) (hj : j = 64 * h.val + d.val) (hl : l % 64 = d.val) :
    val_main_v136 (F := Ideal) x0 x1 x2 (ix4 b 0 h d)
      = spun (zrow x0 x1 x2 b) 8192 ⟨1536 + j, by omega⟩ ⟨1536 + swap j, by unfold swap; split <;> omega⟩ l := by
  rw [rotated136]
  simp only [heads100]
  unfold spun
  have e1 : l % 32 = d.val % 32 := by omega
  rw [e1, hl]
  subst hj
  have e2 : 64 * h.val + swap d.val = swap (64 * h.val + d.val) := by unfold swap; split <;> split <;> omega
  simp only [e2]

theorem angle152 (k : Fin 32) : val_main_v152 (F := Ideal) (ix2 0 k) = angle 8192 k.val := by
  unfold val_main_v152 val_main_v151 val_main_v150 val_main_v149 val_main_v148 val_main_v147 val_main_v146 val_main_v145 val_main_v144 val_main_v143 val_main_v142 val_main_v141 val_main_v140 val_main_v139 val_main_v138 val_main_v2 val_main_v1 val_main_v0 val_main_c val_main_cst_14 val_main_cst_15 val_main_cst_16 val_main_cst_17
  pointwise
  rfl

theorem rotated173 (b : Fin 128) (h : Fin 2) (d : Fin 64) : val_main_v173 (F := Ideal) x0 x1 x2 (ix4 b 0 h d)
    = val_main_v137 (F := Ideal) x0 x1 x2 (ix4 b 0 h d) * Ideal.cos (angle 8192 (d.val % 32))
      + val_main_v137 (F := Ideal) x0 x1 x2 (ix4 b 0 h ⟨swap d.val, swap_lt (n := 1) d.isLt⟩)
        * (if d.val < 32 then -Ideal.sin (angle 8192 (d.val % 32)) else Ideal.sin (angle 8192 (d.val % 32))) := by
  unfold val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153
  generalize val_main_v137 (F := Ideal) x0 x1 x2 = z
  pointwise [angle152]
  by_cases hd : d.val < 32
  · have e1 : d.val % 32 = d.val := by omega
    have e2 : (⟨32 + d.val, by omega⟩ : Fin 64) = ⟨swap d.val, swap_lt (n := 1) d.isLt⟩ :=
      Fin.ext (by show 32 + d.val = swap d.val; unfold swap; rw [if_pos (by omega)]; omega)
    rw [dif_pos hd, if_pos hd, e1, e2, mul_neg, sub_eq_add_neg]
  · have e1 : d.val % 32 = d.val - 32 := by omega
    have e2 : (⟨d.val - 32, by omega⟩ : Fin 64) = ⟨swap d.val, swap_lt (n := 1) d.isLt⟩ :=
      Fin.ext (by show d.val - 32 = swap d.val; unfold swap; rw [if_neg (by omega)])
    have e3 : (⟨32 + (d.val - 32), by omega⟩ : Fin 64) = d := Fin.ext (by dsimp only; omega)
    rw [dif_neg hd, if_neg hd, e1, ← e2, e3]

theorem spun173 (b : Fin 128) (h : Fin 2) (d : Fin 64) (j l : ℕ) (hj : j = 64 * h.val + d.val) (hl : l % 64 = d.val) :
    val_main_v173 (F := Ideal) x0 x1 x2 (ix4 b 0 h d)
      = spun (zrow x0 x1 x2 b) 8192 ⟨2048 + j, by omega⟩ ⟨2048 + swap j, by unfold swap; split <;> omega⟩ l := by
  rw [rotated173]
  simp only [heads137]
  unfold spun
  have e1 : l % 32 = d.val % 32 := by omega
  rw [e1, hl]
  subst hj
  have e2 : 64 * h.val + swap d.val = swap (64 * h.val + d.val) := by unfold swap; split <;> split <;> omega
  simp only [e2]

theorem result175 (r : Fin 128) (j : Fin 512) : val_main_v175 (F := Ideal) x0 x1 x2 (ix2 r j)
    = spun (zrow x0 x1 x2 r) 8192 ⟨0 + j.val, by omega⟩ ⟨0 + swap j.val, by have := swap_lt (n := 8) j.isLt; omega⟩ j.val := by
  unfold val_main_v175
  refine (Reads.cast_4_2 _ _ r j r 0 ⟨j.val / 64, by omega⟩ ⟨j.val % 64, by omega⟩ (by simp; omega)).trans ?_
  exact spun61 x0 x1 x2 _ _ _ j.val j.val (by dsimp only; omega) rfl

theorem result176 (r : Fin 128) (j : Fin 512) : val_main_v176 (F := Ideal) x0 x1 x2 (ix2 r j)
    = spun (zrow x0 x1 x2 r) 8192 ⟨512 + j.val, by omega⟩ ⟨512 + swap j.val, by have := swap_lt (n := 8) j.isLt; omega⟩ j.val := by
  unfold val_main_v176
  refine (Reads.cast_4_2 _ _ r j r 0 ⟨j.val / 64, by omega⟩ ⟨j.val % 64, by omega⟩ (by simp; omega)).trans ?_
  exact spun98 x0 x1 x2 _ _ _ j.val j.val (by dsimp only; omega) rfl

theorem result177 (r : Fin 128) (j : Fin 512) : val_main_v177 (F := Ideal) x0 x1 x2 (ix2 r j)
    = zrow x0 x1 x2 r ⟨1024 + j.val, by omega⟩ := by
  unfold val_main_v177
  refine (Reads.cast_4_2 _ _ r j r 0 ⟨j.val / 64, by omega⟩ ⟨j.val % 64, by omega⟩ (by simp; omega)).trans ?_
  refine (heads99 x0 x1 x2 _ _ _).trans (congrArg _ (Fin.ext ?_))
  dsimp only; omega

theorem result178 (r : Fin 128) (j : Fin 512) : val_main_v178 (F := Ideal) x0 x1 x2 (ix2 r j)
    = spun (zrow x0 x1 x2 r) 8192 ⟨1536 + j.val, by omega⟩ ⟨1536 + swap j.val, by have := swap_lt (n := 8) j.isLt; omega⟩ j.val := by
  unfold val_main_v178
  refine (Reads.cast_4_2 _ _ r j r 0 ⟨j.val / 64, by omega⟩ ⟨j.val % 64, by omega⟩ (by simp; omega)).trans ?_
  exact spun136 x0 x1 x2 _ _ _ j.val j.val (by dsimp only; omega) rfl

theorem result179 (r : Fin 128) (j : Fin 128) : val_main_v179 (F := Ideal) x0 x1 x2 (ix2 r j)
    = spun (zrow x0 x1 x2 r) 8192 ⟨2048 + j.val, by omega⟩ ⟨2048 + swap j.val, by have := swap_lt (n := 2) j.isLt; omega⟩ j.val := by
  unfold val_main_v179
  refine (Reads.cast_4_2 _ _ r j r 0 ⟨j.val / 64, by omega⟩ ⟨j.val % 64, by omega⟩ (by simp; omega)).trans ?_
  exact spun173 x0 x1 x2 _ _ _ j.val j.val (by dsimp only; omega) rfl

theorem result180 (r : Fin 128) (j : Fin 128) : val_main_v180 (F := Ideal) x0 x1 x2 (ix2 r j)
    = zrow x0 x1 x2 r ⟨2176 + j.val, by omega⟩ := by
  unfold val_main_v180
  refine (Reads.cast_4_2 _ _ r j r 0 ⟨j.val / 64, by omega⟩ ⟨j.val % 64, by omega⟩ (by simp; omega)).trans ?_
  refine (heads174 x0 x1 x2 _ _ _).trans (congrArg _ (Fin.ext ?_))
  dsimp only; omega

end Cert.ReferenceStepInIdeal.Hand
-- ==== Proof.StepInClaim.lean ====
/-
  The decode step's input projection: the kernel's six arrays and the reference's are the same functions of the arguments.
-/
module
public import proofs.«01_k».proof.Defs
public import proofs.«01_k».proof.Proof.StepInArray
public import proofs.«01_k».proof.Proof.StepInRef
public import proofs.«01_k».proof.Proof.Gen.KernelStepInIdeal
public import proofs.«01_k».proof.Proof.Gen.ReferenceStepInIdeal
public import proofs.«01_k».proof.Proof.Gen.ReferenceStepInIdeal.Run
@[expose] public section
noncomputable section
namespace Cert.StepInClaim
open Idealize.ShloMosaic Idealize.ShloMosaic.TcCoe Idealize.SL.Sem

theorem array5 (m : (ℓ : Loc Cert.KernelStepInIdeal.nD Cert.KernelStepInIdeal.τ Cert.KernelStepInIdeal.sig) → Buf (Elt Ideal) ℓ) (c : Dev Cert.KernelStepInIdeal.nD) :
    Cert.ReferenceStepInIdeal.Read.val_main_v175 (F := Ideal) (m ((c.tc : Thread Cert.KernelStepInIdeal.nD Cert.KernelStepInIdeal.τ).loc Cert.KernelStepInIdeal.main_arg0))
      (m ((c.tc : Thread Cert.KernelStepInIdeal.nD Cert.KernelStepInIdeal.τ).loc Cert.KernelStepInIdeal.main_arg1))
      (m ((c.tc : Thread Cert.KernelStepInIdeal.nD Cert.KernelStepInIdeal.τ).loc Cert.KernelStepInIdeal.main_arg2)) = Cert.KernelStepInIdeal.Hand.arr5 m c := by
  funext i
  exact (congrArg _ (ValueIdx.eq_ix2 (n0 := 128) (n1 := 512) i)).trans (Cert.ReferenceStepInIdeal.Hand.result175 _ _ _ _ _)

theorem array6 (m : (ℓ : Loc Cert.KernelStepInIdeal.nD Cert.KernelStepInIdeal.τ Cert.KernelStepInIdeal.sig) → Buf (Elt Ideal) ℓ) (c : Dev Cert.KernelStepInIdeal.nD) :
    Cert.ReferenceStepInIdeal.Read.val_main_v176 (F := Ideal) (m ((c.tc : Thread Cert.KernelStepInIdeal.nD Cert.KernelStepInIdeal.τ).loc Cert.KernelStepInIdeal.main_arg0))
      (m ((c.tc : Thread Cert.KernelStepInIdeal.nD Cert.KernelStepInIdeal.τ).loc Cert.KernelStepInIdeal.main_arg1))
      (m ((c.tc : Thread Cert.KernelStepInIdeal.nD Cert.KernelStepInIdeal.τ).loc Cert.KernelStepInIdeal.main_arg2)) = Cert.KernelStepInIdeal.Hand.arr6 m c := by
  funext i
  exact (congrArg _ (ValueIdx.eq_ix2 (n0 := 128) (n1 := 512) i)).trans (Cert.ReferenceStepInIdeal.Hand.result176 _ _ _ _ _)

theorem array7 (m : (ℓ : Loc Cert.KernelStepInIdeal.nD Cert.KernelStepInIdeal.τ Cert.KernelStepInIdeal.sig) → Buf (Elt Ideal) ℓ) (c : Dev Cert.KernelStepInIdeal.nD) :
    Cert.ReferenceStepInIdeal.Read.val_main_v177 (F := Ideal) (m ((c.tc : Thread Cert.KernelStepInIdeal.nD Cert.KernelStepInIdeal.τ).loc Cert.KernelStepInIdeal.main_arg0))
      (m ((c.tc : Thread Cert.KernelStepInIdeal.nD Cert.KernelStepInIdeal.τ).loc Cert.KernelStepInIdeal.main_arg1))
      (m ((c.tc : Thread Cert.KernelStepInIdeal.nD Cert.KernelStepInIdeal.τ).loc Cert.KernelStepInIdeal.main_arg2)) = Cert.KernelStepInIdeal.Hand.arr7 m c := by
  funext i
  exact (congrArg _ (ValueIdx.eq_ix2 (n0 := 128) (n1 := 512) i)).trans (Cert.ReferenceStepInIdeal.Hand.result177 _ _ _ _ _)

theorem array8 (m : (ℓ : Loc Cert.KernelStepInIdeal.nD Cert.KernelStepInIdeal.τ Cert.KernelStepInIdeal.sig) → Buf (Elt Ideal) ℓ) (c : Dev Cert.KernelStepInIdeal.nD) :
    Cert.ReferenceStepInIdeal.Read.val_main_v178 (F := Ideal) (m ((c.tc : Thread Cert.KernelStepInIdeal.nD Cert.KernelStepInIdeal.τ).loc Cert.KernelStepInIdeal.main_arg0))
      (m ((c.tc : Thread Cert.KernelStepInIdeal.nD Cert.KernelStepInIdeal.τ).loc Cert.KernelStepInIdeal.main_arg1))
      (m ((c.tc : Thread Cert.KernelStepInIdeal.nD Cert.KernelStepInIdeal.τ).loc Cert.KernelStepInIdeal.main_arg2)) = Cert.KernelStepInIdeal.Hand.arr8 m c := by
  funext i
  exact (congrArg _ (ValueIdx.eq_ix2 (n0 := 128) (n1 := 512) i)).trans (Cert.ReferenceStepInIdeal.Hand.result178 _ _ _ _ _)

theorem array9 (m : (ℓ : Loc Cert.KernelStepInIdeal.nD Cert.KernelStepInIdeal.τ Cert.KernelStepInIdeal.sig) → Buf (Elt Ideal) ℓ) (c : Dev Cert.KernelStepInIdeal.nD) :
    Cert.ReferenceStepInIdeal.Read.val_main_v179 (F := Ideal) (m ((c.tc : Thread Cert.KernelStepInIdeal.nD Cert.KernelStepInIdeal.τ).loc Cert.KernelStepInIdeal.main_arg0))
      (m ((c.tc : Thread Cert.KernelStepInIdeal.nD Cert.KernelStepInIdeal.τ).loc Cert.KernelStepInIdeal.main_arg1))
      (m ((c.tc : Thread Cert.KernelStepInIdeal.nD Cert.KernelStepInIdeal.τ).loc Cert.KernelStepInIdeal.main_arg2)) = Cert.KernelStepInIdeal.Hand.arr9 m c := by
  funext i
  exact (congrArg _ (ValueIdx.eq_ix2 (n0 := 128) (n1 := 128) i)).trans (Cert.ReferenceStepInIdeal.Hand.result179 _ _ _ _ _)

theorem array10 (m : (ℓ : Loc Cert.KernelStepInIdeal.nD Cert.KernelStepInIdeal.τ Cert.KernelStepInIdeal.sig) → Buf (Elt Ideal) ℓ) (c : Dev Cert.KernelStepInIdeal.nD) :
    Cert.ReferenceStepInIdeal.Read.val_main_v180 (F := Ideal) (m ((c.tc : Thread Cert.KernelStepInIdeal.nD Cert.KernelStepInIdeal.τ).loc Cert.KernelStepInIdeal.main_arg0))
      (m ((c.tc : Thread Cert.KernelStepInIdeal.nD Cert.KernelStepInIdeal.τ).loc Cert.KernelStepInIdeal.main_arg1))
      (m ((c.tc : Thread Cert.KernelStepInIdeal.nD Cert.KernelStepInIdeal.τ).loc Cert.KernelStepInIdeal.main_arg2)) = Cert.KernelStepInIdeal.Hand.arr10 m c := by
  funext i
  exact (congrArg _ (ValueIdx.eq_ix2 (n0 := 128) (n1 := 128) i)).trans (Cert.ReferenceStepInIdeal.Hand.result180 _ _ _ _ _)

theorem algebraic : Cert.algebraic_KernelStepInIdeal_ReferenceStepInIdeal
    (hKernelStepInIdeal := Cert.KernelStepInIdeal.Gen.facts) (hReferenceStepInIdeal := Cert.ReferenceStepInIdeal.Gen.facts) := by
  intro m g m' g' _ hagree
  refine ⟨fun c => Cert.KernelStepInIdeal.Hand.arr5 m c, fun c => Cert.KernelStepInIdeal.Hand.arr6 m c, fun c => Cert.KernelStepInIdeal.Hand.arr7 m c, fun c => Cert.KernelStepInIdeal.Hand.arr8 m c, fun c => Cert.KernelStepInIdeal.Hand.arr9 m c, fun c => Cert.KernelStepInIdeal.Hand.arr10 m c, ?_, ?_⟩
  · refine (θ_run Cert.KernelStepInIdeal.defs _ _).mono (fun r h c => ?_) (Cert.KernelStepInIdeal.Value.run_blocks (F := Ideal) m g)
    obtain ⟨h5, h6, h7, h8, h9, h10, hrest⟩ := h c
    exact ⟨h5.trans (Cert.KernelStepInIdeal.Hand.final5 m c), h6.trans (Cert.KernelStepInIdeal.Hand.final6 m c), h7.trans (Cert.KernelStepInIdeal.Hand.final7 m c), h8.trans (Cert.KernelStepInIdeal.Hand.final8 m c), h9.trans (Cert.KernelStepInIdeal.Hand.final9 m c), h10.trans (Cert.KernelStepInIdeal.Hand.final10 m c), hrest⟩
  · refine (θ_run Cert.ReferenceStepInIdeal.defs _ _).mono (fun r h c => ?_) (Cert.ReferenceStepInIdeal.Value.run (F := Ideal) m' g')
    obtain ⟨h5, h6, h7, h8, h9, h10, hrest⟩ := h c
    obtain ⟨e0, e1, e2⟩ := hagree c
    refine ⟨h5.trans ?_, h6.trans ?_, h7.trans ?_, h8.trans ?_, h9.trans ?_, h10.trans ?_, hrest⟩
    · refine (Cert.ReferenceStepInIdeal.Read.val_main_v175_eq (Idealize.ShloMosaic.StableHlo.launchContents m' c)).trans ?_
      exact (congr (congr (congrArg (Cert.ReferenceStepInIdeal.Read.val_main_v175 (F := Ideal)) e0) e1) e2).trans (array5 m c)
    · refine (Cert.ReferenceStepInIdeal.Read.val_main_v176_eq (Idealize.ShloMosaic.StableHlo.launchContents m' c)).trans ?_
      exact (congr (congr (congrArg (Cert.ReferenceStepInIdeal.Read.val_main_v176 (F := Ideal)) e0) e1) e2).trans (array6 m c)
    · refine (Cert.ReferenceStepInIdeal.Read.val_main_v177_eq (Idealize.ShloMosaic.StableHlo.launchContents m' c)).trans ?_
      exact (congr (congr (congrArg (Cert.ReferenceStepInIdeal.Read.val_main_v177 (F := Ideal)) e0) e1) e2).trans (array7 m c)
    · refine (Cert.ReferenceStepInIdeal.Read.val_main_v178_eq (Idealize.ShloMosaic.StableHlo.launchContents m' c)).trans ?_
      exact (congr (congr (congrArg (Cert.ReferenceStepInIdeal.Read.val_main_v178 (F := Ideal)) e0) e1) e2).trans (array8 m c)
    · refine (Cert.ReferenceStepInIdeal.Read.val_main_v179_eq (Idealize.ShloMosaic.StableHlo.launchContents m' c)).trans ?_
      exact (congr (congr (congrArg (Cert.ReferenceStepInIdeal.Read.val_main_v179 (F := Ideal)) e0) e1) e2).trans (array9 m c)
    · refine (Cert.ReferenceStepInIdeal.Read.val_main_v180_eq (Idealize.ShloMosaic.StableHlo.launchContents m' c)).trans ?_
      exact (congr (congr (congrArg (Cert.ReferenceStepInIdeal.Read.val_main_v180 (F := Ideal)) e0) e1) e2).trans (array10 m c)

end Cert.StepInClaim
-- ==== Proof.StepOutBlock.lean ====
/-
  What the decode step's output projection leaves in its two output blocks, row by row: the hidden row of
  Rows.lean, and its norm laid out by columns.
-/
module
public import proofs.«01_k».proof.Proof.Gen.KernelStepOutIdeal.Value
public import proofs.«01_k».proof.Proof.Rows
public import Idealize.ShloMosaic.Lib.Pointwise
public import Idealize.ShloMosaic.Lib.ValueIdx
@[expose] public section
noncomputable section
namespace Cert.KernelStepOutIdeal.Hand
open Idealize.ShloMosaic Cert.KernelStepOutIdeal Cert.KernelStepOutIdeal.Gen Cert.Rows

variable (x0 : Vec Ideal S128x1024 .f32) (x1 : Vec Ideal S128x512 .f32) (x2 : Vec Ideal S128x512 .f32) (x3 : Vec Ideal S1x1024 .f32)
  (x4 : Vec Ideal S1024x2048 .bf16) (x5 : Vec Ideal S512x1024 .bf16) (x6 : Vec Ideal S512x1024 .bf16) (x7 : Vec Ideal S1024x1024 .bf16)
  (x8 : Vec Ideal S1x1024 .f32)

/-- The first output block, at a row and a column. -/
theorem out9_apply (i : Fin 128) (k : Fin 1024) :
    out0_9 (F := Ideal) x0 x1 x2 x3 x4 x5 x6 x7 x8 (ix2 i k)
      = hidden (fun j => x0 (ix2 i j)) (fun j => x3 (ix2 0 j)) (fun d => x1 (ix2 i d)) (fun d => x2 (ix2 i d))
          (fun a b => x4 (ix2 a ⟨b.val, by omega⟩)) (fun a b => x4 (ix2 a ⟨1024 + b.val, by omega⟩))
          (fun a b => x5 (ix2 a b)) (fun a b => x6 (ix2 a b)) (fun a b => x7 (ix2 a b)) k := by
  unfold_out out0_9
  rw [View.canon_unit_zero (by funext a; fin_cases a <;> rfl)]
  unfold_payloads
  pointwise [dot_S128x1024_S1024x1024_S128x1024_1_0_0_1_n_n, dot_S128x512_S512x1024_S128x1024_1_0_0_1_n_n]
  rfl

/-- The second output block is the norm of the first one's rows, transposed. -/
theorem out10_apply (i : Fin 128) (k : Fin 1024) :
    out0_10 (F := Ideal) x0 x1 x2 x3 x4 x5 x6 x7 x8 (ix2 k i)
      = rms (fun j => out0_9 (F := Ideal) x0 x1 x2 x3 x4 x5 x6 x7 x8 (ix2 i j)) (fun j => x8 (ix2 0 j)) k := by
  unfold out0_10 out0_9
  rw [View.canon_unit_zero (by funext a; fin_cases a <;> rfl), View.canon_unit_zero (by funext a; fin_cases a <;> rfl)]
  unfold k0_pay2
  generalize k0_pay1 (F := Ideal) _ _ _ _ _ _ _ = H
  pointwise
  rfl

end Cert.KernelStepOutIdeal.Hand
-- ==== Proof.StepOutArray.lean ====
/-
  The two arrays the decode step's output projection leaves, as functions of the arguments. One grid point handles all
  128 tokens: its blocks are the whole arrays.
-/
module
public import proofs.«01_k».proof.Proof.StepOutBlock
public import proofs.«01_k».proof.Proof.Reads
@[expose] public section
noncomputable section
namespace Cert.KernelStepOutIdeal.Hand
open Idealize.ShloMosaic Idealize.ShloMosaic.TcCoe Cert.KernelStepOutIdeal Cert.KernelStepOutIdeal.Gen Cert.Rows

variable (m : (ℓ : Loc nD τ sig) → Buf (Elt Ideal) ℓ) (c : Dev nD)

theorem npoints (t : Fin cfg0.N) : t.val < 1 := by have := t.isLt; have h : cfg0.N = 1 := N_0; omega

/-- The array row of row `i` of point `t`'s block. -/
abbrev row (t : Fin cfg0.N) (i : Fin 128) : Fin 128 := ⟨t.val * 128 + i.val, by have := npoints t; omega⟩

theorem index_facts : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0)
    ∧ (win0_10.index t 0 = 0 ∧ win0_10.index t 1 = t.val) := by decide +kernel

theorem blk0 (t : Fin cfg0.N) (i : Fin 128) (k : Fin 1024) : iblk m c 0 t (ix2 i k) = V m c main_v11 (ix2 (row t i) k) := by
  have hi := (index_facts t).1
  unfold iblk
  rw [View.read_apply]
  show V m c main_v11 _ = V m c main_v11 _
  congr 1
  funext a
  apply Fin.ext
  match a with
  | ⟨0, _⟩ => show win0_0.index t 0 * 128 + 1 * i.val = t.val * 128 + i.val; rw [hi.1]; omega
  | ⟨1, _⟩ => show win0_0.index t 1 * 1024 + 1 * k.val = k.val; rw [hi.2]; omega

theorem blk1 (t : Fin cfg0.N) (i : Fin 128) (k : Fin 512) : iblk m c 1 t (ix2 i k) = V m c main_v12 (ix2 (row t i) k) := by
  have hi := (index_facts t).2.1
  unfold iblk
  rw [View.read_apply]
  show V m c main_v12 _ = V m c main_v12 _
  congr 1
  funext a
  apply Fin.ext
  match a with
  | ⟨0, _⟩ => show win0_1.index t 0 * 128 + 1 * i.val = t.val * 128 + i.val; rw [hi.1]; omega
  | ⟨1, _⟩ => show win0_1.index t 1 * 512 + 1 * k.val = k.val; rw [hi.2]; omega

theorem blk2 (t : Fin cfg0.N) (i : Fin 128) (k : Fin 512) : iblk m c 2 t (ix2 i k) = V m c main_v13 (ix2 (row t i) k) := by
  have hi := (index_facts t).2.2.1
  unfold iblk
  rw [View.read_apply]
  show V m c main_v13 _ = V m c main_v13 _
  congr 1
  funext a
  apply Fin.ext
  match a with
  | ⟨0, _⟩ => show win0_2.index t 0 * 128 + 1 * i.val = t.val * 128 + i.val; rw [hi.1]; omega
  | ⟨1, _⟩ => show win0_2.index t 1 * 512 + 1 * k.val = k.val; rw [hi.2]; omega

theorem blk3 (t : Fin cfg0.N) (i : Fin 1) (k : Fin 1024) : iblk m c 3 t (ix2 i k) = V m c main_v14 (ix2 i k) := by
  have hi := (index_facts t).2.2.2.1
  unfold iblk
  rw [View.read_apply]
  show V m c main_v14 _ = V m c main_v14 _
  congr 1
  funext a
  apply Fin.ext
  match a with
  | ⟨0, _⟩ => show win0_3.index t 0 * 1 + 1 * i.val = i.val; rw [hi.1]; omega
  | ⟨1, _⟩ => show win0_3.index t 1 * 1024 + 1 * k.val = k.val; rw [hi.2]; omega

theorem blk4 (t : Fin cfg0.N) (i : Fin 1024) (k : Fin 2048) : iblk m c 4 t (ix2 i k) = V m c main_v2 (ix2 i k) := by
  have hi := (index_facts t).2.2.2.2.1
  unfold iblk
  rw [View.read_apply]
  show V m c main_v2 _ = V m c main_v2 _
  congr 1
  funext a
  apply Fin.ext
  match a with
  | ⟨0, _⟩ => show win0_4.index t 0 * 1024 + 1 * i.val = i.val; rw [hi.1]; omega
  | ⟨1, _⟩ => show win0_4.index t 1 * 2048 + 1 * k.val = k.val; rw [hi.2]; omega

theorem blk5 (t : Fin cfg0.N) (i : Fin 512) (k : Fin 1024) : iblk m c 5 t (ix2 i k) = V m c main_v5 (ix2 i k) := by
  have hi := (index_facts t).2.2.2.2.2.1
  unfold iblk
  rw [View.read_apply]
  show V m c main_v5 _ = V m c main_v5 _
  congr 1
  funext a
  apply Fin.ext
  match a with
  | ⟨0, _⟩ => show win0_5.index t 0 * 512 + 1 * i.val = i.val; rw [hi.1]; omega
  | ⟨1, _⟩ => show win0_5.index t 1 * 1024 + 1 * k.val = k.val; rw [hi.2]; omega

theorem blk6 (t : Fin cfg0.N) (i : Fin 512) (k : Fin 1024) : iblk m c 6 t (ix2 i k) = V m c main_v7 (ix2 i k) := by
  have hi := (index_facts t).2.2.2.2.2.2.1
  unfold iblk
  rw [View.read_apply]
  show V m c main_v7 _ = V m c main_v7 _
  congr 1
  funext a
  apply Fin.ext
  match a with
  | ⟨0, _⟩ => show win0_6.index t 0 * 512 + 1 * i.val = i.val; rw [hi.1]; omega
  | ⟨1, _⟩ => show win0_6.index t 1 * 1024 + 1 * k.val = k.val; rw [hi.2]; omega

theorem blk7 (t : Fin cfg0.N) (i : Fin 1024) (k : Fin 1024) : iblk m c 7 t (ix2 i k) = V m c main_v9 (ix2 i k) := by
  have hi := (index_facts t).2.2.2.2.2.2.2.1
  unfold iblk
  rw [View.read_apply]
  show V m c main_v9 _ = V m c main_v9 _
  congr 1
  funext a
  apply Fin.ext
  match a with
  | ⟨0, _⟩ => show win0_7.index t 0 * 1024 + 1 * i.val = i.val; rw [hi.1]; omega
  | ⟨1, _⟩ => show win0_7.index t 1 * 1024 + 1 * k.val = k.val; rw [hi.2]; omega

theorem blk8 (t : Fin cfg0.N) (i : Fin 1) (k : Fin 1024) : iblk m c 8 t (ix2 i k) = V m c main_v15 (ix2 i k) := by
  have hi := (index_facts t).2.2.2.2.2.2.2.2.1
  unfold iblk
  rw [View.read_apply]
  show V m c main_v15 _ = V m c main_v15 _
  congr 1
  funext a
  apply Fin.ext
  match a with
  | ⟨0, _⟩ => show win0_8.index t 0 * 1 + 1 * i.val = i.val; rw [hi.1]; omega
  | ⟨1, _⟩ => show win0_8.index t 1 * 1024 + 1 * k.val = k.val; rw [hi.2]; omega

/-! ## What the host operations before the launch leave -/

theorem host_x (r : Fin 128) (k : Fin 1024) : V m c main_v11 (ix2 r k)
    = m ((c : Thread nD τ).loc main_arg0) (ix3 r 0 k) := by
  have h : V m c main_v11 = shapeCast S128x1024 (m ((c : Thread nD τ).loc main_arg0)) shapeCasts_S128x1x1024_S128x1024 := by
    unfold V hostOps0
    after_results
    rfl
  rw [h]
  exact Reads.cast_3_2 _ _ _ _ _ _ _ (by simp)

theorem host_oa (r : Fin 128) (k : Fin 512) : V m c main_v12 (ix2 r k)
    = m ((c : Thread nD τ).loc main_arg1) (ix3 r 0 k) := by
  have h : V m c main_v12 = shapeCast S128x512 (m ((c : Thread nD τ).loc main_arg1)) shapeCasts_S128x1x512_S128x512 := by
    unfold V hostOps0
    after_results
    rfl
  rw [h]
  exact Reads.cast_3_2 _ _ _ _ _ _ _ (by simp)

theorem host_ob (r : Fin 128) (k : Fin 512) : V m c main_v13 (ix2 r k)
    = m ((c : Thread nD τ).loc main_arg2) (ix3 r 0 k) := by
  have h : V m c main_v13 = shapeCast S128x512 (m ((c : Thread nD τ).loc main_arg2)) shapeCasts_S128x1x512_S128x512 := by
    unfold V hostOps0
    after_results
    rfl
  rw [h]
  exact Reads.cast_3_2 _ _ _ _ _ _ _ (by simp)

theorem host_wg (r : Fin 1024) (k : Fin 2048) : V m c main_v2 (ix2 r k)
    = m ((c : Thread nD τ).loc main_arg4) (ix3 0 r ⟨2304 + k.val, by omega⟩) := by
  have h : V m c main_v2 = extractStridedSlice S1024x2048 ![0, 2304]
      (shapeCast S1024x4352 (m ((c : Thread nD τ).loc main_arg4)) shapeCasts_S1x1024x4352_S1024x4352)
      slices_S1024x4352_S1024x2048_0_2304 := by
    unfold V hostOps0
    after_results
    rfl
  rw [h]
  refine (extractStridedSlice_apply ![0, 2304] _ _ (ix2 r k) (ix2 r ⟨2304 + k.val, by omega⟩)
    (fun a => match a with
      | ⟨0, _⟩ => by show r.val = 0 + r.val; omega
      | ⟨1, _⟩ => rfl)).trans ?_
  exact Reads.cast_3_2 _ _ _ _ _ _ _ (by simp)

theorem host_wa (r : Fin 512) (k : Fin 1024) : V m c main_v5 (ix2 r k) = m ((c : Thread nD τ).loc main_arg5) (ix3 0 r k) := by
  have h : V m c main_v5 = shapeCast S512x1024 (m ((c : Thread nD τ).loc main_arg5)) shapeCasts_S1x512x1024_S512x1024 := by
    unfold V hostOps0
    after_results
    rfl
  rw [h]
  exact Reads.cast_3_2 _ _ _ _ _ _ _ (by simp)

theorem host_wb (r : Fin 512) (k : Fin 1024) : V m c main_v7 (ix2 r k) = m ((c : Thread nD τ).loc main_arg6) (ix3 0 r k) := by
  have h : V m c main_v7 = shapeCast S512x1024 (m ((c : Thread nD τ).loc main_arg6)) shapeCasts_S1x512x1024_S512x1024 := by
    unfold V hostOps0
    after_results
    rfl
  rw [h]
  exact Reads.cast_3_2 _ _ _ _ _ _ _ (by simp)

theorem host_wo (r : Fin 1024) (k : Fin 1024) : V m c main_v9 (ix2 r k) = m ((c : Thread nD τ).loc main_arg7) (ix3 0 r k) := by
  have h : V m c main_v9 = shapeCast S1024x1024 (m ((c : Thread nD τ).loc main_arg7)) shapeCasts_S1x1024x1024_S1024x1024 := by
    unfold V hostOps0
    after_results
    rfl
  rw [h]
  exact Reads.cast_3_2 _ _ _ _ _ _ _ (by simp)

theorem host_gm (k : Fin 1024) : V m c main_v14 (ix2 0 k) = m ((c : Thread nD τ).loc main_arg3) (ix2 0 k) := by
  have h : V m c main_v14 = shapeCast S1x1024 (shapeCast S1024 (m ((c : Thread nD τ).loc main_arg3)) shapeCasts_S1x1024_S1024)
      shapeCasts_S1024_S1x1024 := by
    unfold V hostOps0
    after_results
    rfl
  rw [h, shapeCast_shapeCast]

theorem host_gf (k : Fin 1024) : V m c main_v15 (ix2 0 k) = m ((c : Thread nD τ).loc main_arg8) (ix2 0 k) := by
  have h : V m c main_v15 = shapeCast S1x1024 (shapeCast S1024 (m ((c : Thread nD τ).loc main_arg8)) shapeCasts_S1x1024_S1024)
      shapeCasts_S1024_S1x1024 := by
    unfold V hostOps0
    after_results
    rfl
  rw [h, shapeCast_shapeCast]

/-! ## The blocks, from the arguments -/

theorem read0 (t : Fin cfg0.N) (i : Fin 128) (k : Fin 1024) : iblk m c 0 t (ix2 i k)
    = m ((c : Thread nD τ).loc main_arg0) (ix3 (row t i) 0 k) :=
  (blk0 m c t i k).trans (host_x m c _ _)
theorem read1 (t : Fin cfg0.N) (i : Fin 128) (k : Fin 512) : iblk m c 1 t (ix2 i k)
    = m ((c : Thread nD τ).loc main_arg1) (ix3 (row t i) 0 k) :=
  (blk1 m c t i k).trans (host_oa m c _ _)
theorem read2 (t : Fin cfg0.N) (i : Fin 128) (k : Fin 512) : iblk m c 2 t (ix2 i k)
    = m ((c : Thread nD τ).loc main_arg2) (ix3 (row t i) 0 k) :=
  (blk2 m c t i k).trans (host_ob m c _ _)
theorem read3 (t : Fin cfg0.N) (k : Fin 1024) : iblk m c 3 t (ix2 0 k) = m ((c : Thread nD τ).loc main_arg3) (ix2 0 k) :=
  (blk3 m c t 0 k).trans (host_gm m c _)
theorem read4 (t : Fin cfg0.N) (r : Fin 1024) (k : Fin 2048) : iblk m c 4 t (ix2 r k)
    = m ((c : Thread nD τ).loc main_arg4) (ix3 0 r ⟨2304 + k.val, by omega⟩) :=
  (blk4 m c t r k).trans (host_wg m c _ _)
theorem read5 (t : Fin cfg0.N) (r : Fin 512) (k : Fin 1024) : iblk m c 5 t (ix2 r k) = m ((c : Thread nD τ).loc main_arg5) (ix3 0 r k) :=
  (blk5 m c t r k).trans (host_wa m c _ _)
theorem read6 (t : Fin cfg0.N) (r : Fin 512) (k : Fin 1024) : iblk m c 6 t (ix2 r k) = m ((c : Thread nD τ).loc main_arg6) (ix3 0 r k) :=
  (blk6 m c t r k).trans (host_wb m c _ _)
theorem read7 (t : Fin cfg0.N) (r : Fin 1024) (k : Fin 1024) : iblk m c 7 t (ix2 r k) = m ((c : Thread nD τ).loc main_arg7) (ix3 0 r k) :=
  (blk7 m c t r k).trans (host_wo m c _ _)
theorem read8 (t : Fin cfg0.N) (k : Fin 1024) : iblk m c 8 t (ix2 0 k) = m ((c : Thread nD τ).loc main_arg8) (ix2 0 k) :=
  (blk8 m c t 0 k).trans (host_gf m c _)

/-! ## The two arrays -/

/-- A token's hidden row, from the arguments. -/
def tokenHidden (b : Fin 128) (n : Fin 1024) : EReal :=
  hidden (fun j => m ((c : Thread nD τ).loc main_arg0) (ix3 b 0 j)) (fun j => m ((c : Thread nD τ).loc main_arg3) (ix2 0 j))
    (fun d => m ((c : Thread nD τ).loc main_arg1) (ix3 b 0 d)) (fun d => m ((c : Thread nD τ).loc main_arg2) (ix3 b 0 d))
    (fun k n => m ((c : Thread nD τ).loc main_arg4) (ix3 0 k ⟨2304 + n.val, by omega⟩))
    (fun k n => m ((c : Thread nD τ).loc main_arg4) (ix3 0 k ⟨3328 + n.val, by omega⟩))
    (fun d n => m ((c : Thread nD τ).loc main_arg5) (ix3 0 d n)) (fun d n => m ((c : Thread nD τ).loc main_arg6) (ix3 0 d n))
    (fun k n => m ((c : Thread nD τ).loc main_arg7) (ix3 0 k n)) n

/-- The hidden array: one row a token, the sequences one after another. -/
def hArr : Buf (Elt Ideal) ((c : Thread nD τ).loc main_v16_0) := fun i : S128x1024.Idx =>
  tokenHidden m c (i 0) (i 1)

/-- The normed array: one column a token. -/
def hnArr : Buf (Elt Ideal) ((c : Thread nD τ).loc main_v16_1) := fun i : S1024x128.Idx =>
  rms (tokenHidden m c (i 1))
    (fun j => m ((c : Thread nD τ).loc main_arg8) (ix2 0 j)) (i 0)

theorem block9 (t : Fin cfg0.N) (i : Fin 128) (k : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 i k)
      = hArr m c (ix2 (row t i) k) := by
  rw [out9_apply]
  simp only [read0, read1, read2, read3, read4, read5, read6, read7]
  unfold hArr tokenHidden
  congr 1
  funext a b
  congr 2
  apply Fin.ext
  show 2304 + (1024 + b.val) = 3328 + b.val
  omega

theorem block10 (t : Fin cfg0.N) (i : Fin 128) (k : Fin 1024) :
    out0_10 (F := Ideal) (iblk m c 0 t) (iblk m c 1 t) (iblk m c 2 t) (iblk m c 3 t) (iblk m c 4 t) (iblk m c 5 t) (iblk m c 6 t) (iblk m c 7 t) (iblk m c 8 t) (ix2 k i)
      = hnArr m c (ix2 k (row t i)) := by
  rw [out10_apply]
  simp only [block9, read8]
  rfl

theorem flushed9_eq (t : Fin cfg0.N) : (dats m 0 c).flushed 9 t = ((cfg0.win 9).blk t).view.read (Elt Ideal) (hArr m c) := by
  rw [Value.flushed9]
  funext y
  refine (congrArg _ (eq_ix2 (n0 := 128) (n1 := 1024) y)).trans ((block9 m c t (y 0) (y 1)).trans ?_)
  rw [View.read_apply]
  have hi := (index_facts t).2.2.2.2.2.2.2.2.2.1
  congr 1
  funext a
  apply Fin.ext
  match a with
  | ⟨0, _⟩ => show t.val * 128 + (y 0).val = win0_9.index t 0 * 128 + 1 * (y 0).val; rw [hi.1]; omega
  | ⟨1, _⟩ => show (y 1).val = win0_9.index t 1 * 1024 + 1 * (y 1).val; rw [hi.2]; omega

theorem flushed10_eq (t : Fin cfg0.N) : (dats m 0 c).flushed 10 t = ((cfg0.win 10).blk t).view.read (Elt Ideal) (hnArr m c) := by
  rw [Value.flushed10]
  funext y
  refine (congrArg _ (eq_ix2 (n0 := 1024) (n1 := 128) y)).trans ((block10 m c t (y 1) (y 0)).trans ?_)
  rw [View.read_apply]
  have hi := (index_facts t).2.2.2.2.2.2.2.2.2.2
  congr 1
  funext a
  apply Fin.ext
  match a with
  | ⟨0, _⟩ => show (y 0).val = win0_10.index t 0 * 1024 + 1 * (y 0).val; rw [hi.1]; omega
  | ⟨1, _⟩ => show t.val * 128 + (y 1).val = win0_10.index t 1 * 128 + 1 * (y 1).val; rw [hi.2]; omega

theorem cover9 (i : S128x1024.Idx) : ∃ t : Fin cfg0.N, (cfg0.win 9).flush t = true ∧ i ∈ ((cfg0.win 9).blk t).view.set := by
  have h0 := Idealize.ShloMosaic.ValueIdx.idx2_lt0 i
  have h1 := Idealize.ShloMosaic.ValueIdx.idx2_lt1 i
  have hN : cfg0.N = 1 := N_0
  let t : Fin cfg0.N := ⟨(i 0).val / 128, by omega⟩
  refine ⟨t, flush0_9 _, ?_⟩
  show i ∈ ((View.whole main_v16_0).slice (win0_9.rect t)).set
  rw [View.set_slice_whole, Rect.mem_set_unit]
  have hi := (index_facts t).2.2.2.2.2.2.2.2.2.1
  intro a
  match a with
  | ⟨0, _⟩ => show win0_9.index t 0 * 128 ≤ (i 0).val ∧ (i 0).val < win0_9.index t 0 * 128 + 128
              rw [hi.1]; show (i 0).val / 128 * 128 ≤ (i 0).val ∧ (i 0).val < (i 0).val / 128 * 128 + 128; omega
  | ⟨1, _⟩ => show win0_9.index t 1 * 1024 ≤ (i 1).val ∧ (i 1).val < win0_9.index t 1 * 1024 + 1024; rw [hi.2]; omega

theorem cover10 (i : S1024x128.Idx) : ∃ t : Fin cfg0.N, (cfg0.win 10).flush t = true ∧ i ∈ ((cfg0.win 10).blk t).view.set := by
  have h0 := Idealize.ShloMosaic.ValueIdx.idx2_lt0 i
  have h1 := Idealize.ShloMosaic.ValueIdx.idx2_lt1 i
  have hN : cfg0.N = 1 := N_0
  let t : Fin cfg0.N := ⟨(i 1).val / 128, by omega⟩
  refine ⟨t, flush0_10 _, ?_⟩
  show i ∈ ((View.whole main_v16_1).slice (win0_10.rect t)).set
  rw [View.set_slice_whole, Rect.mem_set_unit]
  have hi := (index_facts t).2.2.2.2.2.2.2.2.2.2
  intro a
  match a with
  | ⟨0, _⟩ => show win0_10.index t 0 * 1024 ≤ (i 0).val ∧ (i 0).val < win0_10.index t 0 * 1024 + 1024; rw [hi.1]; omega
  | ⟨1, _⟩ => show win0_10.index t 1 * 128 ≤ (i 1).val ∧ (i 1).val < win0_10.index t 1 * 128 + 128
              rw [hi.2]; show (i 1).val / 128 * 128 ≤ (i 1).val ∧ (i 1).val < (i 1).val / 128 * 128 + 128; omega

theorem final9 : (dats m 0 c).arrAt 9 cfg0.N = hArr m c :=
  (dats m 0 c).arrAt_eq_of_cover 9 (hArr m c) (fun t _ => flushed9_eq m c t) cover9

theorem final10 : (dats m 0 c).arrAt 10 cfg0.N = hnArr m c :=
  (dats m 0 c).arrAt_eq_of_cover 10 (hnArr m c) (fun t _ => flushed10_eq m c t) cover10

end Cert.KernelStepOutIdeal.Hand
-- ==== Proof.StepOutRef.lean ====
/-
  The reference's two arrays, token by token: the hidden row of Rows.lean and its norm.
-/
module
public import proofs.«01_k».proof.Proof.Gen.ReferenceStepOutIdeal.Read
public import proofs.«01_k».proof.Proof.Rows
public import proofs.«01_k».proof.Proof.Reads
@[expose] public section
noncomputable section
namespace Cert.ReferenceStepOutIdeal.Hand
open Idealize.ShloMosaic Cert.ReferenceStepOutIdeal Cert.ReferenceStepOutIdeal.Gen Cert.Rows
open Cert.ReferenceStepOutIdeal.Read

variable (x0 : (⟨S128x1x1024, .f32⟩ : BufTy).Contents (Elt Ideal)) (x1 x2 : (⟨S128x1x512, .f32⟩ : BufTy).Contents (Elt Ideal))
  (x3 : (⟨S1x1024, .f32⟩ : BufTy).Contents (Elt Ideal)) (x4 : (⟨S1x1024x4352, .f32⟩ : BufTy).Contents (Elt Ideal))
  (x5 x6 : (⟨S1x512x1024, .f32⟩ : BufTy).Contents (Elt Ideal)) (x7 : (⟨S1x1024x1024, .f32⟩ : BufTy).Contents (Elt Ideal))
  (x8 : (⟨S1x1024, .f32⟩ : BufTy).Contents (Elt Ideal))

theorem normed (b : Fin 128) (k : Fin 1024) :
    val_main_v13 (F := Ideal) x0 x3 (ix3 b 0 k) = rms (fun j => x0 (ix3 b 0 j)) (fun j => x3 (ix2 0 j)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem projected (b : Fin 128) (n : Fin 4352) :
    val_main_v15 (F := Ideal) x0 x3 x4 (ix3 b 0 n) = proj (fun j => x0 (ix3 b 0 j)) (fun j => x3 (ix2 0 j)) (fun a b => x4 (ix3 0 a b)) n := by
  unfold val_main_v15 val_main_v14
  pointwise [normed, dot_S128x1x1024_S1024x4352_S128x1x4352_2_0_01_1_n_n]
  rfl

/-- The reference's token row, from its arguments. -/
def tokenHidden (b : Fin 128) (n : Fin 1024) : EReal :=
  hidden (fun j => x0 (ix3 b 0 j)) (fun j => x3 (ix2 0 j)) (fun d => x1 (ix3 b 0 d)) (fun d => x2 (ix3 b 0 d))
    (fun k n => x4 (ix3 0 k ⟨2304 + n.val, by omega⟩)) (fun k n => x4 (ix3 0 k ⟨3328 + n.val, by omega⟩))
    (fun d n => x5 (ix3 0 d n)) (fun d n => x6 (ix3 0 d n)) (fun k n => x7 (ix3 0 k n)) n

theorem gate_a (b : Fin 128) (n : Fin 1024) :
    val_main_v23 (F := Ideal) x0 x3 x4 (ix3 b 0 n)
      = Ideal.logistic (proj (fun j => x0 (ix3 b 0 j)) (fun j => x3 (ix2 0 j)) (fun k n => x4 (ix3 0 k ⟨2304 + n.val, by omega⟩)) n) := by
  unfold val_main_v23 val_main_v22 val_main_v21 val_main_v20 val_main_v19 val_main_v18 val_main_v16 val_main_cst_2 val_main_cst_3
  pointwise [projected]
  rfl

theorem gate_b (b : Fin 128) (n : Fin 1024) :
    val_main_v32 (F := Ideal) x0 x3 x4 (ix3 b 0 n)
      = Ideal.logistic (proj (fun j => x0 (ix3 b 0 j)) (fun j => x3 (ix2 0 j)) (fun k n => x4 (ix3 0 k ⟨3328 + n.val, by omega⟩)) n) := by
  unfold val_main_v32 val_main_v31 val_main_v30 val_main_v29 val_main_v28 val_main_v27 val_main_v17 val_main_cst_4 val_main_cst_5
  pointwise [projected]
  rfl

theorem hidden_apply (b : Fin 128) (n : Fin 1024) :
    val_main_v39 (F := Ideal) x0 x1 x2 x3 x4 x5 x6 x7 (ix3 b 0 n) = tokenHidden x0 x1 x2 x3 x4 x5 x6 x7 b n := by
  unfold val_main_v39 val_main_v38 val_main_v37 val_main_v36 val_main_v35 val_main_v34 val_main_v33 val_main_v26 val_main_v25 val_main_v24
  pointwise [gate_a, gate_b, dot_S128x1x1024_S1024x1024_S128x1x1024_2_0_01_1_n_n, dot_S128x1x512_S512x1024_S128x1x1024_2_0_01_1_n_n]
  rfl

theorem hidden_normed (b : Fin 128) (n : Fin 1024) :
    val_main_v53 (F := Ideal) x0 x1 x2 x3 x4 x5 x6 x7 x8 (ix3 b 0 n)
      = rms (tokenHidden x0 x1 x2 x3 x4 x5 x6 x7 b) (fun j => x8 (ix2 0 j)) n := by
  unfold val_main_v53 val_main_v52 val_main_v51 val_main_v50 val_main_v49 val_main_v48 val_main_v47 val_main_v46 val_main_v45 val_main_v44 val_main_v43 val_main_v42 val_main_v41 val_main_v40 val_main_cst_6 val_main_cst_7 val_main_cst_8
  pointwise [hidden_apply]
  rfl

theorem result_h (i : Fin 128) (n : Fin 1024) :
    val_main_v54 (F := Ideal) x0 x1 x2 x3 x4 x5 x6 x7 (ix2 i n)
      = tokenHidden x0 x1 x2 x3 x4 x5 x6 x7 i n :=
  (Reads.cast_3_2 _ _ _ _ _ _ _ (by simp)).trans (hidden_apply _ _ _ _ _ _ _ _ _ _)

theorem result_hn (n : Fin 1024) (i : Fin 128) :
    val_main_v57 (F := Ideal) x0 x1 x2 x3 x4 x5 x6 x7 x8 (ix2 n i)
      = rms (tokenHidden x0 x1 x2 x3 x4 x5 x6 x7 i) (fun j => x8 (ix2 0 j)) n := by
  unfold val_main_v57 val_main_v56
  pointwise
  exact (Reads.cast_3_2 _ _ _ _ _ _ _ (by simp)).trans (hidden_normed _ _ _ _ _ _ _ _ _ _ _)

end Cert.ReferenceStepOutIdeal.Hand
-- ==== Proof.StepOutClaim.lean ====
/-
  The decode step's output projection: the kernel's two arrays and the reference's are the same functions of the arguments.
-/
module
public import proofs.«01_k».proof.Defs
public import proofs.«01_k».proof.Proof.StepOutArray
public import proofs.«01_k».proof.Proof.StepOutRef
public import proofs.«01_k».proof.Proof.Gen.KernelStepOutIdeal
public import proofs.«01_k».proof.Proof.Gen.ReferenceStepOutIdeal
public import proofs.«01_k».proof.Proof.Gen.ReferenceStepOutIdeal.Run
@[expose] public section
noncomputable section
namespace Cert.StepOutClaim
open Idealize.ShloMosaic Idealize.ShloMosaic.TcCoe Idealize.SL.Sem

theorem algebraic : Cert.algebraic_KernelStepOutIdeal_ReferenceStepOutIdeal
    (hKernelStepOutIdeal := Cert.KernelStepOutIdeal.Gen.facts) (hReferenceStepOutIdeal := Cert.ReferenceStepOutIdeal.Gen.facts) := by
  intro m g m' g' _ hagree
  refine ⟨fun c => Cert.KernelStepOutIdeal.Hand.hArr m c, fun c => Cert.KernelStepOutIdeal.Hand.hnArr m c, ?_, ?_⟩
  · refine (θ_run Cert.KernelStepOutIdeal.defs _ _).mono (fun r h c => ?_) (Cert.KernelStepOutIdeal.Value.run_blocks (F := Ideal) m g)
    obtain ⟨h1, h2, hrest⟩ := h c
    exact ⟨h1.trans (Cert.KernelStepOutIdeal.Hand.final9 m c), h2.trans (Cert.KernelStepOutIdeal.Hand.final10 m c), hrest⟩
  · refine (θ_run Cert.ReferenceStepOutIdeal.defs _ _).mono (fun r h c => ?_) (Cert.ReferenceStepOutIdeal.Value.run (F := Ideal) m' g')
    obtain ⟨h1, h2, hrest⟩ := h c
    obtain ⟨e0, e1, e2, e3, e4, e5, e6, e7, e8⟩ := hagree c
    refine ⟨h1.trans ?_, h2.trans ?_, hrest⟩
    · refine (Cert.ReferenceStepOutIdeal.Read.val_main_v54_eq _ _ _ _ _ _ _ _).trans ?_
      rw [e0, e1, e2, e3, e4, e5, e6, e7]
      funext i
      exact (congrArg _ (ValueIdx.eq_ix2 (n0 := 128) (n1 := 1024) i)).trans (Cert.ReferenceStepOutIdeal.Hand.result_h _ _ _ _ _ _ _ _ _ _)
    · refine (Cert.ReferenceStepOutIdeal.Read.val_main_v57_eq m' c).trans ?_
      rw [e0, e1, e2, e3, e4, e5, e6, e7, e8]
      funext i
      exact (congrArg _ (ValueIdx.eq_ix2 (n0 := 1024) (n1 := 128) i)).trans (Cert.ReferenceStepOutIdeal.Hand.result_hn _ _ _ _ _ _ _ _ _ _ _)

end Cert.StepOutClaim
-- ==== Proof.RefFrames.lean ====
/-
  The references' own runs: they end, their arguments are unchanged, and they have no semaphore to leave behind.
-/
module
public import proofs.«01_k».proof.Defs
public import proofs.«01_k».proof.Proof.Gen.ReferenceInIdeal
public import proofs.«01_k».proof.Proof.Gen.ReferenceInIdeal.Run
public import proofs.«01_k».proof.Proof.Gen.ReferenceOutIdeal
public import proofs.«01_k».proof.Proof.Gen.ReferenceOutIdeal.Run
public import proofs.«01_k».proof.Proof.Gen.ReferenceSampleIdeal
public import proofs.«01_k».proof.Proof.Gen.ReferenceSampleIdeal.Run
public import proofs.«01_k».proof.Proof.Gen.ReferenceStepInIdeal
public import proofs.«01_k».proof.Proof.Gen.ReferenceStepInIdeal.Run
public import proofs.«01_k».proof.Proof.Gen.ReferenceStepOutIdeal
public import proofs.«01_k».proof.Proof.Gen.ReferenceStepOutIdeal.Run
public import Idealize.ShloMosaic.Lib.Quiescent
@[expose] public section
noncomputable section
namespace Cert.RefFrames
open Idealize.ShloMosaic Idealize.ShloMosaic.TcCoe Idealize.SL.Sem

theorem frame_in : Cert.quiescent_ReferenceInIdeal (hReferenceInIdeal := Cert.ReferenceInIdeal.Gen.facts) := by
  intro m g _
  refine (θ_run Cert.ReferenceInIdeal.defs _ _).mono (fun r h => ⟨fun c => ?_, sem_eq_zero_of_no_sems (by decide) r.2⟩)
    (Cert.ReferenceInIdeal.Value.run (F := Ideal) m g)
  obtain ⟨_, _, _, _, _, _, _, _, _, _, hrest⟩ := h c
  exact hrest

theorem frame_out : Cert.quiescent_ReferenceOutIdeal (hReferenceOutIdeal := Cert.ReferenceOutIdeal.Gen.facts) := by
  intro m g _
  refine (θ_run Cert.ReferenceOutIdeal.defs _ _).mono (fun r h => ⟨fun c => ?_, sem_eq_zero_of_no_sems (by decide) r.2⟩)
    (Cert.ReferenceOutIdeal.Value.run (F := Ideal) m g)
  obtain ⟨_, _, hrest⟩ := h c
  exact hrest

theorem frame_sample : Cert.quiescent_ReferenceSampleIdeal (hReferenceSampleIdeal := Cert.ReferenceSampleIdeal.Gen.facts) := by
  intro m g _
  refine (θ_run Cert.ReferenceSampleIdeal.defs _ _).mono (fun r h => ⟨fun c => ?_, sem_eq_zero_of_no_sems (by decide) r.2⟩)
    (Cert.ReferenceSampleIdeal.Value.run (F := Ideal) m g)
  obtain ⟨_, _, _, _, _, _, hrest⟩ := h c
  exact hrest

theorem frame_step_in : Cert.quiescent_ReferenceStepInIdeal (hReferenceStepInIdeal := Cert.ReferenceStepInIdeal.Gen.facts) := by
  intro m g _
  refine (θ_run Cert.ReferenceStepInIdeal.defs _ _).mono (fun r h => ⟨fun c => ?_, sem_eq_zero_of_no_sems (by decide) r.2⟩)
    (Cert.ReferenceStepInIdeal.Value.run (F := Ideal) m g)
  obtain ⟨_, _, _, _, _, _, hrest⟩ := h c
  exact hrest

theorem frame_step_out : Cert.quiescent_ReferenceStepOutIdeal (hReferenceStepOutIdeal := Cert.ReferenceStepOutIdeal.Gen.facts) := by
  intro m g _
  refine (θ_run Cert.ReferenceStepOutIdeal.defs _ _).mono (fun r h => ⟨fun c => ?_, sem_eq_zero_of_no_sems (by decide) r.2⟩)
    (Cert.ReferenceStepOutIdeal.Value.run (F := Ideal) m g)
  obtain ⟨_, _, hrest⟩ := h c
  exact hrest

end Cert.RefFrames
-- ==== Proof.lean ====
module

public import proofs.«01_k».proof.Defs
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelSample
public import proofs.«01_k».proof.Proof.Gen.KernelSample.Skeleton
public import proofs.«01_k».proof.Proof.Gen.KernelSample.Launch
public import proofs.«01_k».proof.Proof.Gen.KernelSample.Points
public import proofs.«01_k».proof.Proof.Gen.KernelSample.Frame
public import proofs.«01_k».proof.Proof.Gen.KernelSampleIdeal
public import proofs.«01_k».proof.Proof.Gen.KernelSampleIdeal.Skeleton
public import proofs.«01_k».proof.Proof.Gen.KernelSampleIdeal.Launch
public import proofs.«01_k».proof.Proof.Gen.KernelSampleIdeal.Points
public import proofs.«01_k».proof.Proof.Gen.KernelSampleIdeal.Frame
public import proofs.«01_k».proof.Proof.Gen.ReferenceSampleIdeal
public import proofs.«01_k».proof.Proof.Gen.KernelInIdeal.Value
public import proofs.«01_k».proof.Proof.Gen.KernelSampleIdeal.Value
public import proofs.«01_k».proof.Proof.Gen.ReferenceSampleIdeal.Run
public import proofs.«01_k».proof.Proof.Gen.ReferenceSampleIdeal.Read
public import proofs.«01_k».proof.Proof.Gen.KernelOutIdeal.Value
public import proofs.«01_k».proof.Proof.Gen.ReferenceInIdeal.Run
public import proofs.«01_k».proof.Proof.Gen.ReferenceInIdeal.Read
public import proofs.«01_k».proof.Proof.Gen.ReferenceOutIdeal.Run
public import proofs.«01_k».proof.Proof.Gen.ReferenceOutIdeal.Read
public import proofs.«01_k».proof.Proof.Gen.KernelStepIn
public import proofs.«01_k».proof.Proof.Gen.KernelStepIn.Skeleton
public import proofs.«01_k».proof.Proof.Gen.KernelStepIn.Launch
public import proofs.«01_k».proof.Proof.Gen.KernelStepIn.Points
public import proofs.«01_k».proof.Proof.Gen.KernelStepIn.Frame
public import proofs.«01_k».proof.Proof.Gen.KernelStepInIdeal
public import proofs.«01_k».proof.Proof.Gen.KernelStepInIdeal.Skeleton
public import proofs.«01_k».proof.Proof.Gen.KernelStepInIdeal.Launch
public import proofs.«01_k».proof.Proof.Gen.KernelStepInIdeal.Points
public import proofs.«01_k».proof.Proof.Gen.KernelStepInIdeal.Frame
public import proofs.«01_k».proof.Proof.Gen.KernelStepInIdeal.Value
public import proofs.«01_k».proof.Proof.Gen.ReferenceStepInIdeal
public import proofs.«01_k».proof.Proof.Gen.ReferenceStepInIdeal.Run
public import proofs.«01_k».proof.Proof.Gen.ReferenceStepInIdeal.Read
public import proofs.«01_k».proof.Proof.Gen.KernelStepOut
public import proofs.«01_k».proof.Proof.Gen.KernelStepOut.Skeleton
public import proofs.«01_k».proof.Proof.Gen.KernelStepOut.Launch
public import proofs.«01_k».proof.Proof.Gen.KernelStepOut.Points
public import proofs.«01_k».proof.Proof.Gen.KernelStepOut.Frame
public import proofs.«01_k».proof.Proof.Gen.KernelStepOutIdeal
public import proofs.«01_k».proof.Proof.Gen.KernelStepOutIdeal.Skeleton
public import proofs.«01_k».proof.Proof.Gen.KernelStepOutIdeal.Launch
public import proofs.«01_k».proof.Proof.Gen.KernelStepOutIdeal.Points
public import proofs.«01_k».proof.Proof.Gen.KernelStepOutIdeal.Frame
public import proofs.«01_k».proof.Proof.Gen.KernelStepOutIdeal.Value
public import proofs.«01_k».proof.Proof.Gen.ReferenceStepOutIdeal
public import proofs.«01_k».proof.Proof.Gen.ReferenceStepOutIdeal.Run
public import proofs.«01_k».proof.Proof.Gen.ReferenceStepOutIdeal.Read
public import proofs.«01_k».proof.Proof.InClaim
public import proofs.«01_k».proof.Proof.OutClaim
public import proofs.«01_k».proof.Proof.SampClaim
public import proofs.«01_k».proof.Proof.StepInClaim
public import proofs.«01_k».proof.Proof.StepOutClaim
public import proofs.«01_k».proof.Proof.RefFrames
public import Idealize.ShloMosaic.Adequacy
public import Idealize.ShloMosaic.Init

@[expose] public section

noncomputable section

namespace Cert.Proof

open Idealize.ShloMosaic Idealize.SL.Sem Cert.KernelIn

theorem claim : Cert.Claim := ⟨Cert.KernelIn.Gen.facts, Cert.KernelInIdeal.Gen.facts, Cert.ReferenceInIdeal.Gen.facts, Cert.KernelOut.Gen.facts, Cert.KernelOutIdeal.Gen.facts, Cert.ReferenceOutIdeal.Gen.facts,
  Cert.KernelSample.Gen.facts, Cert.KernelSampleIdeal.Gen.facts, Cert.ReferenceSampleIdeal.Gen.facts,
  Cert.KernelStepIn.Gen.facts, Cert.KernelStepInIdeal.Gen.facts, Cert.ReferenceStepInIdeal.Gen.facts, Cert.KernelStepOut.Gen.facts, Cert.KernelStepOutIdeal.Gen.facts, Cert.ReferenceStepOutIdeal.Gen.facts,
  Cert.SampClaim.facts_pre,
  fun m ρ _ => Cert.KernelIn.Gen.frame m ρ, fun m ρ _ => Cert.KernelInIdeal.Gen.frame m ρ, Cert.RefFrames.frame_in,
  fun m ρ _ => Cert.KernelOut.Gen.frame m ρ, fun m ρ _ => Cert.KernelOutIdeal.Gen.frame m ρ, Cert.RefFrames.frame_out,
  fun m ρ _ => Cert.KernelSample.Gen.frame m ρ, fun m ρ _ => Cert.KernelSampleIdeal.Gen.frame m ρ,
  fun m ρ _ => Cert.KernelSampleIdeal.Gen.frame m ρ, Cert.RefFrames.frame_sample, fun m ρ _ => Cert.RefFrames.frame_sample m ρ True.intro,
  fun m ρ _ => Cert.KernelStepIn.Gen.frame m ρ, fun m ρ _ => Cert.KernelStepInIdeal.Gen.frame m ρ, Cert.RefFrames.frame_step_in,
  fun m ρ _ => Cert.KernelStepOut.Gen.frame m ρ, fun m ρ _ => Cert.KernelStepOutIdeal.Gen.frame m ρ, Cert.RefFrames.frame_step_out,
  trivial, Cert.InClaim.algebraic, trivial, Cert.OutClaim.algebraic, Idealize.ShloMosaic.IdealRules.named_const.statement _ _ _ _ _ rfl, Cert.SampClaim.algebraic,
  trivial, Cert.StepInClaim.algebraic, trivial, Cert.StepOutClaim.algebraic⟩

end Cert.Proof

end
